-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_GateUpDx (m : (ℓ : Loc Cert.GateUpDx.nD Cert.GateUpDx.τ Cert.GateUpDx.sig) → Buf (Elt Bits) ℓ) : Prop :=
  True

def Pre_GateUpDxIdeal (m : (ℓ : Loc Cert.GateUpDxIdeal.nD Cert.GateUpDxIdeal.τ Cert.GateUpDxIdeal.sig) → Buf (Elt Ideal) ℓ) : Prop :=
  True

def Pre_GateUpDxRefIdeal (m : (ℓ : Loc Cert.GateUpDxRefIdeal.nD Cert.GateUpDxRefIdeal.τ Cert.GateUpDxRefIdeal.sig) → Buf (Elt Ideal) ℓ) : Prop :=
  True

def Pre_GateUpDw (m : (ℓ : Loc Cert.GateUpDw.nD Cert.GateUpDw.τ Cert.GateUpDw.sig) → Buf (Elt Bits) ℓ) : Prop :=
  True

def Pre_GateUpDwIdeal (m : (ℓ : Loc Cert.GateUpDwIdeal.nD Cert.GateUpDwIdeal.τ Cert.GateUpDwIdeal.sig) → Buf (Elt Ideal) ℓ) : Prop :=
  True

def Pre_GateUpDwRefIdeal (m : (ℓ : Loc Cert.GateUpDwRefIdeal.nD Cert.GateUpDwRefIdeal.τ Cert.GateUpDwRefIdeal.sig) → Buf (Elt Ideal) ℓ) : Prop :=
  True

def Pre_WoDx (m : (ℓ : Loc Cert.WoDx.nD Cert.WoDx.τ Cert.WoDx.sig) → Buf (Elt Bits) ℓ) : Prop :=
  True

def Pre_WoDxIdeal (m : (ℓ : Loc Cert.WoDxIdeal.nD Cert.WoDxIdeal.τ Cert.WoDxIdeal.sig) → Buf (Elt Ideal) ℓ) : Prop :=
  True

def Pre_WoDxRefIdeal (m : (ℓ : Loc Cert.WoDxRefIdeal.nD Cert.WoDxRefIdeal.τ Cert.WoDxRefIdeal.sig) → Buf (Elt Ideal) ℓ) : Prop :=
  True

def Pre_WoDw (m : (ℓ : Loc Cert.WoDw.nD Cert.WoDw.τ Cert.WoDw.sig) → Buf (Elt Bits) ℓ) : Prop :=
  True

def Pre_WoDwIdeal (m : (ℓ : Loc Cert.WoDwIdeal.nD Cert.WoDwIdeal.τ Cert.WoDwIdeal.sig) → Buf (Elt Ideal) ℓ) : Prop :=
  True

def Pre_WoDwRefIdeal (m : (ℓ : Loc Cert.WoDwRefIdeal.nD Cert.WoDwRefIdeal.τ Cert.WoDwRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_BranchFwdRefIdeal (m : (ℓ : Loc Cert.BranchFwdRefIdeal.nD Cert.BranchFwdRefIdeal.τ Cert.BranchFwdRefIdeal.sig) → Buf (Elt Ideal) ℓ) : Prop :=
  True

def Pre_WoFwd (m : (ℓ : Loc Cert.WoFwd.nD Cert.WoFwd.τ Cert.WoFwd.sig) → Buf (Elt Bits) ℓ) : Prop :=
  True

def Pre_WoFwdIdeal (m : (ℓ : Loc Cert.WoFwdIdeal.nD Cert.WoFwdIdeal.τ Cert.WoFwdIdeal.sig) → Buf (Elt Ideal) ℓ) : Prop :=
  True

def Pre_WoFwdRefIdeal (m : (ℓ : Loc Cert.WoFwdRefIdeal.nD Cert.WoFwdRefIdeal.τ Cert.WoFwdRefIdeal.sig) → Buf (Elt Ideal) ℓ) : Prop :=
  True

def Pre_GateUpFwd (m : (ℓ : Loc Cert.GateUpFwd.nD Cert.GateUpFwd.τ Cert.GateUpFwd.sig) → Buf (Elt Bits) ℓ) : Prop :=
  True

def Pre_GateUpFwdIdeal (m : (ℓ : Loc Cert.GateUpFwdIdeal.nD Cert.GateUpFwdIdeal.τ Cert.GateUpFwdIdeal.sig) → Buf (Elt Ideal) ℓ) : Prop :=
  True

def Pre_GateUpFwdRefIdeal (m : (ℓ : Loc Cert.GateUpFwdRefIdeal.nD Cert.GateUpFwdRefIdeal.τ Cert.GateUpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdRefIdeal (m : (ℓ : Loc Cert.SwigluFwdRefIdeal.nD Cert.SwigluFwdRefIdeal.τ Cert.SwigluFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamGateUp (m : (ℓ : Loc Cert.AdamGateUp.nD Cert.AdamGateUp.τ Cert.AdamGateUp.sig) → Buf (Elt Bits) ℓ) : Prop :=
  True

def Pre_AdamGateUpIdeal (m : (ℓ : Loc Cert.AdamGateUpIdeal.nD Cert.AdamGateUpIdeal.τ Cert.AdamGateUpIdeal.sig) → Buf (Elt Ideal) ℓ) : Prop :=
  True

def Pre_AdamGateUpRefIdeal (m : (ℓ : Loc Cert.AdamGateUpRefIdeal.nD Cert.AdamGateUpRefIdeal.τ Cert.AdamGateUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamWo (m : (ℓ : Loc Cert.AdamWo.nD Cert.AdamWo.τ Cert.AdamWo.sig) → Buf (Elt Bits) ℓ) : Prop :=
  True

def Pre_AdamWoIdeal (m : (ℓ : Loc Cert.AdamWoIdeal.nD Cert.AdamWoIdeal.τ Cert.AdamWoIdeal.sig) → Buf (Elt Ideal) ℓ) : Prop :=
  True

def Pre_AdamWoRefIdeal (m : (ℓ : Loc Cert.AdamWoRefIdeal.nD Cert.AdamWoRefIdeal.τ Cert.AdamWoRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamLora (m : (ℓ : Loc Cert.AdamLora.nD Cert.AdamLora.τ Cert.AdamLora.sig) → Buf (Elt Bits) ℓ) : Prop :=
  True

def Pre_AdamLoraIdeal (m : (ℓ : Loc Cert.AdamLoraIdeal.nD Cert.AdamLoraIdeal.τ Cert.AdamLoraIdeal.sig) → Buf (Elt Ideal) ℓ) : Prop :=
  True

def Pre_AdamLoraRefIdeal (m : (ℓ : Loc Cert.AdamLoraRefIdeal.nD Cert.AdamLoraRefIdeal.τ Cert.AdamLoraRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamMeta (m : (ℓ : Loc Cert.AdamMeta.nD Cert.AdamMeta.τ Cert.AdamMeta.sig) → Buf (Elt Bits) ℓ) : Prop :=
  True

def Pre_AdamMetaIdeal (m : (ℓ : Loc Cert.AdamMetaIdeal.nD Cert.AdamMetaIdeal.τ Cert.AdamMetaIdeal.sig) → Buf (Elt Ideal) ℓ) : Prop :=
  True

def Pre_AdamMetaRefIdeal (m : (ℓ : Loc Cert.AdamMetaRefIdeal.nD Cert.AdamMetaRefIdeal.τ Cert.AdamMetaRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_GateUpDx [hGateUpDx : Cert.GateUpDx.Facts] : Prop :=
  ∀ (m : (ℓ : Loc Cert.GateUpDx.nD Cert.GateUpDx.τ Cert.GateUpDx.sig) → Buf (Elt Bits) ℓ) (g : Dev Cert.GateUpDx.nD → PrngReg), Pre_GateUpDx m →
    θ_run (Cert.GateUpDx.defs (F := Bits)) (onTc (τ := Cert.GateUpDx.τ) (Cert.GateUpDx.main (F := Bits))) ⟨m, fun _ => 0, g⟩ (fun r => (∀ c : Dev Cert.GateUpDx.nD,
      r.2.mem ((c.tc : Thread Cert.GateUpDx.nD Cert.GateUpDx.τ).loc Cert.GateUpDx.main_arg0) = m ((c.tc : Thread Cert.GateUpDx.nD Cert.GateUpDx.τ).loc Cert.GateUpDx.main_arg0)
      ∧ r.2.mem ((c.tc : Thread Cert.GateUpDx.nD Cert.GateUpDx.τ).loc Cert.GateUpDx.main_arg1) = m ((c.tc : Thread Cert.GateUpDx.nD Cert.GateUpDx.τ).loc Cert.GateUpDx.main_arg1)
      ∧ r.2.mem ((c.tc : Thread Cert.GateUpDx.nD Cert.GateUpDx.τ).loc Cert.GateUpDx.main_arg2) = m ((c.tc : Thread Cert.GateUpDx.nD Cert.GateUpDx.τ).loc Cert.GateUpDx.main_arg2))
      ∧ r.2.sem = fun _ => 0)

def quiescent_GateUpDxIdeal [hGateUpDxIdeal : Cert.GateUpDxIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg), Pre_GateUpDxIdeal m →
    θ_run (Cert.GateUpDxIdeal.defs (F := Ideal)) (onTc (τ := Cert.GateUpDxIdeal.τ) (Cert.GateUpDxIdeal.main (F := Ideal))) ⟨m, fun _ => 0, g⟩ (fun r => (∀ c : Dev Cert.GateUpDxIdeal.nD,
      r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
      ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1)
      ∧ r.2.mem ((c.tc : Thread Cert.GateUpDxIdeal.nD Cert.GateUpDxIdeal.τ).loc Cert.GateUpDxIdeal.main_arg2) = m ((c.tc : Thread Cert.GateUpDxIdeal.nD Cert.GateUpDxIdeal.τ).loc Cert.GateUpDxIdeal.main_arg2))
      ∧ r.2.sem = fun _ => 0)

def quiescent_GateUpDxRefIdeal [hGateUpDxRefIdeal : Cert.GateUpDxRefIdeal.Facts] : Prop :=
  ∀ (m : (ℓ : Loc Cert.GateUpDxRefIdeal.nD Cert.GateUpDxRefIdeal.τ Cert.GateUpDxRefIdeal.sig) → Buf (Elt Ideal) ℓ) (g : Dev Cert.GateUpDxRefIdeal.nD → PrngReg), Pre_GateUpDxRefIdeal m →
    θ_run (Cert.GateUpDxRefIdeal.defs (F := Ideal)) (onTc (τ := Cert.GateUpDxRefIdeal.τ) (Cert.GateUpDxRefIdeal.main (F := Ideal))) ⟨m, fun _ => 0, g⟩ (fun r => (∀ c : Dev Cert.GateUpDxRefIdeal.nD,
      r.2.mem ((c.tc : Thread Cert.GateUpDxRefIdeal.nD Cert.GateUpDxRefIdeal.τ).loc Cert.GateUpDxRefIdeal.main_arg0) = m ((c.tc : Thread Cert.GateUpDxRefIdeal.nD Cert.GateUpDxRefIdeal.τ).loc Cert.GateUpDxRefIdeal.main_arg0)
      ∧ r.2.mem ((c.tc : Thread Cert.GateUpDxRefIdeal.nD Cert.GateUpDxRefIdeal.τ).loc Cert.GateUpDxRefIdeal.main_arg1) = m ((c.tc : Thread Cert.GateUpDxRefIdeal.nD Cert.GateUpDxRefIdeal.τ).loc Cert.GateUpDxRefIdeal.main_arg1)
      ∧ r.2.mem ((c.tc : Thread Cert.GateUpDxRefIdeal.nD Cert.GateUpDxRefIdeal.τ).loc Cert.GateUpDxRefIdeal.main_arg2) = m ((c.tc : Thread Cert.GateUpDxRefIdeal.nD Cert.GateUpDxRefIdeal.τ).loc Cert.GateUpDxRefIdeal.main_arg2))
      ∧ r.2.sem = fun _ => 0)

def quiescent_GateUpDw [hGateUpDw : Cert.GateUpDw.Facts] : Prop :=
  ∀ (m : (ℓ : Loc Cert.GateUpDw.nD Cert.GateUpDw.τ Cert.GateUpDw.sig) → Buf (Elt Bits) ℓ) (g : Dev Cert.GateUpDw.nD → PrngReg), Pre_GateUpDw m →
    θ_run (Cert.GateUpDw.defs (F := Bits)) (onTc (τ := Cert.GateUpDw.τ) (Cert.GateUpDw.main (F := Bits))) ⟨m, fun _ => 0, g⟩ (fun r => (∀ c : Dev Cert.GateUpDw.nD,
      r.2.mem ((c.tc : Thread Cert.GateUpDw.nD Cert.GateUpDw.τ).loc Cert.GateUpDw.main_arg0) = m ((c.tc : Thread Cert.GateUpDw.nD Cert.GateUpDw.τ).loc Cert.GateUpDw.main_arg0)
      ∧ r.2.mem ((c.tc : Thread Cert.GateUpDw.nD Cert.GateUpDw.τ).loc Cert.GateUpDw.main_arg1) = m ((c.tc : Thread Cert.GateUpDw.nD Cert.GateUpDw.τ).loc Cert.GateUpDw.main_arg1)
      ∧ r.2.mem ((c.tc : Thread Cert.GateUpDw.nD Cert.GateUpDw.τ).loc Cert.GateUpDw.main_arg2) = m ((c.tc : Thread Cert.GateUpDw.nD Cert.GateUpDw.τ).loc Cert.GateUpDw.main_arg2))
      ∧ r.2.sem = fun _ => 0)

def quiescent_GateUpDwIdeal [hGateUpDwIdeal : Cert.GateUpDwIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg), Pre_GateUpDwIdeal m →
    θ_run (Cert.GateUpDwIdeal.defs (F := Ideal)) (onTc (τ := Cert.GateUpDwIdeal.τ) (Cert.GateUpDwIdeal.main (F := Ideal))) ⟨m, fun _ => 0, g⟩ (fun r => (∀ c : Dev Cert.GateUpDwIdeal.nD,
      r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
      ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1)
      ∧ r.2.mem ((c.tc : Thread Cert.GateUpDwIdeal.nD Cert.GateUpDwIdeal.τ).loc Cert.GateUpDwIdeal.main_arg2) = m ((c.tc : Thread Cert.GateUpDwIdeal.nD Cert.GateUpDwIdeal.τ).loc Cert.GateUpDwIdeal.main_arg2))
      ∧ r.2.sem = fun _ => 0)

def quiescent_GateUpDwRefIdeal [hGateUpDwRefIdeal : Cert.GateUpDwRefIdeal.Facts] : Prop :=
  ∀ (m : (ℓ : Loc Cert.GateUpDwRefIdeal.nD Cert.GateUpDwRefIdeal.τ Cert.GateUpDwRefIdeal.sig) → Buf (Elt Ideal) ℓ) (g : Dev Cert.GateUpDwRefIdeal.nD → PrngReg), Pre_GateUpDwRefIdeal m →
    θ_run (Cert.GateUpDwRefIdeal.defs (F := Ideal)) (onTc (τ := Cert.GateUpDwRefIdeal.τ) (Cert.GateUpDwRefIdeal.main (F := Ideal))) ⟨m, fun _ => 0, g⟩ (fun r => (∀ c : Dev Cert.GateUpDwRefIdeal.nD,
      r.2.mem ((c.tc : Thread Cert.GateUpDwRefIdeal.nD Cert.GateUpDwRefIdeal.τ).loc Cert.GateUpDwRefIdeal.main_arg0) = m ((c.tc : Thread Cert.GateUpDwRefIdeal.nD Cert.GateUpDwRefIdeal.τ).loc Cert.GateUpDwRefIdeal.main_arg0)
      ∧ r.2.mem ((c.tc : Thread Cert.GateUpDwRefIdeal.nD Cert.GateUpDwRefIdeal.τ).loc Cert.GateUpDwRefIdeal.main_arg1) = m ((c.tc : Thread Cert.GateUpDwRefIdeal.nD Cert.GateUpDwRefIdeal.τ).loc Cert.GateUpDwRefIdeal.main_arg1)
      ∧ r.2.mem ((c.tc : Thread Cert.GateUpDwRefIdeal.nD Cert.GateUpDwRefIdeal.τ).loc Cert.GateUpDwRefIdeal.main_arg2) = m ((c.tc : Thread Cert.GateUpDwRefIdeal.nD Cert.GateUpDwRefIdeal.τ).loc Cert.GateUpDwRefIdeal.main_arg2))
      ∧ r.2.sem = fun _ => 0)

def quiescent_WoDx [hWoDx : Cert.WoDx.Facts] : Prop :=
  ∀ (m : (ℓ : Loc Cert.WoDx.nD Cert.WoDx.τ Cert.WoDx.sig) → Buf (Elt Bits) ℓ) (g : Dev Cert.WoDx.nD → PrngReg), Pre_WoDx m →
    θ_run (Cert.WoDx.defs (F := Bits)) (onTc (τ := Cert.WoDx.τ) (Cert.WoDx.main (F := Bits))) ⟨m, fun _ => 0, g⟩ (fun r => (∀ c : Dev Cert.WoDx.nD,
      r.2.mem ((c.tc : Thread Cert.WoDx.nD Cert.WoDx.τ).loc Cert.WoDx.main_arg0) = m ((c.tc : Thread Cert.WoDx.nD Cert.WoDx.τ).loc Cert.WoDx.main_arg0)
      ∧ r.2.mem ((c.tc : Thread Cert.WoDx.nD Cert.WoDx.τ).loc Cert.WoDx.main_arg1) = m ((c.tc : Thread Cert.WoDx.nD Cert.WoDx.τ).loc Cert.WoDx.main_arg1)
      ∧ r.2.mem ((c.tc : Thread Cert.WoDx.nD Cert.WoDx.τ).loc Cert.WoDx.main_arg2) = m ((c.tc : Thread Cert.WoDx.nD Cert.WoDx.τ).loc Cert.WoDx.main_arg2))
      ∧ r.2.sem = fun _ => 0)

def quiescent_WoDxIdeal [hWoDxIdeal : Cert.WoDxIdeal.Facts] : Prop :=
  ∀ (m : (ℓ : Loc Cert.WoDxIdeal.nD Cert.WoDxIdeal.τ Cert.WoDxIdeal.sig) → Buf (Elt Ideal) ℓ) (g : Dev Cert.WoDxIdeal.nD → PrngReg), Pre_WoDxIdeal m →
    θ_run (Cert.WoDxIdeal.defs (F := Ideal)) (onTc (τ := Cert.WoDxIdeal.τ) (Cert.WoDxIdeal.main (F := Ideal))) ⟨m, fun _ => 0, g⟩ (fun r => (∀ c : Dev Cert.WoDxIdeal.nD,
      r.2.mem ((c.tc : Thread Cert.WoDxIdeal.nD Cert.WoDxIdeal.τ).loc Cert.WoDxIdeal.main_arg0) = m ((c.tc : Thread Cert.WoDxIdeal.nD Cert.WoDxIdeal.τ).loc Cert.WoDxIdeal.main_arg0)
      ∧ r.2.mem ((c.tc : Thread Cert.WoDxIdeal.nD Cert.WoDxIdeal.τ).loc Cert.WoDxIdeal.main_arg1) = m ((c.tc : Thread Cert.WoDxIdeal.nD Cert.WoDxIdeal.τ).loc Cert.WoDxIdeal.main_arg1)
      ∧ r.2.mem ((c.tc : Thread Cert.WoDxIdeal.nD Cert.WoDxIdeal.τ).loc Cert.WoDxIdeal.main_arg2) = m ((c.tc : Thread Cert.WoDxIdeal.nD Cert.WoDxIdeal.τ).loc Cert.WoDxIdeal.main_arg2))
      ∧ r.2.sem = fun _ => 0)

def quiescent_WoDxRefIdeal [hWoDxRefIdeal : Cert.WoDxRefIdeal.Facts] : Prop :=
  ∀ (m : (ℓ : Loc Cert.WoDxRefIdeal.nD Cert.WoDxRefIdeal.τ Cert.WoDxRefIdeal.sig) → Buf (Elt Ideal) ℓ) (g : Dev Cert.WoDxRefIdeal.nD → PrngReg), Pre_WoDxRefIdeal m →
    θ_run (Cert.WoDxRefIdeal.defs (F := Ideal)) (onTc (τ := Cert.WoDxRefIdeal.τ) (Cert.WoDxRefIdeal.main (F := Ideal))) ⟨m, fun _ => 0, g⟩ (fun r => (∀ c : Dev Cert.WoDxRefIdeal.nD,
      r.2.mem ((c.tc : Thread Cert.WoDxRefIdeal.nD Cert.WoDxRefIdeal.τ).loc Cert.WoDxRefIdeal.main_arg0) = m ((c.tc : Thread Cert.WoDxRefIdeal.nD Cert.WoDxRefIdeal.τ).loc Cert.WoDxRefIdeal.main_arg0)
      ∧ r.2.mem ((c.tc : Thread Cert.WoDxRefIdeal.nD Cert.WoDxRefIdeal.τ).loc Cert.WoDxRefIdeal.main_arg1) = m ((c.tc : Thread Cert.WoDxRefIdeal.nD Cert.WoDxRefIdeal.τ).loc Cert.WoDxRefIdeal.main_arg1)
      ∧ r.2.mem ((c.tc : Thread Cert.WoDxRefIdeal.nD Cert.WoDxRefIdeal.τ).loc Cert.WoDxRefIdeal.main_arg2) = m ((c.tc : Thread Cert.WoDxRefIdeal.nD Cert.WoDxRefIdeal.τ).loc Cert.WoDxRefIdeal.main_arg2))
      ∧ r.2.sem = fun _ => 0)

def quiescent_WoDw [hWoDw : Cert.WoDw.Facts] : Prop :=
  ∀ (m : (ℓ : Loc Cert.WoDw.nD Cert.WoDw.τ Cert.WoDw.sig) → Buf (Elt Bits) ℓ) (g : Dev Cert.WoDw.nD → PrngReg), Pre_WoDw m →
    θ_run (Cert.WoDw.defs (F := Bits)) (onTc (τ := Cert.WoDw.τ) (Cert.WoDw.main (F := Bits))) ⟨m, fun _ => 0, g⟩ (fun r => (∀ c : Dev Cert.WoDw.nD,
      r.2.mem ((c.tc : Thread Cert.WoDw.nD Cert.WoDw.τ).loc Cert.WoDw.main_arg0) = m ((c.tc : Thread Cert.WoDw.nD Cert.WoDw.τ).loc Cert.WoDw.main_arg0)
      ∧ r.2.mem ((c.tc : Thread Cert.WoDw.nD Cert.WoDw.τ).loc Cert.WoDw.main_arg1) = m ((c.tc : Thread Cert.WoDw.nD Cert.WoDw.τ).loc Cert.WoDw.main_arg1)
      ∧ r.2.mem ((c.tc : Thread Cert.WoDw.nD Cert.WoDw.τ).loc Cert.WoDw.main_arg2) = m ((c.tc : Thread Cert.WoDw.nD Cert.WoDw.τ).loc Cert.WoDw.main_arg2))
      ∧ r.2.sem = fun _ => 0)

def quiescent_WoDwIdeal [hWoDwIdeal : Cert.WoDwIdeal.Facts] : Prop :=
  ∀ (m : (ℓ : Loc Cert.WoDwIdeal.nD Cert.WoDwIdeal.τ Cert.WoDwIdeal.sig) → Buf (Elt Ideal) ℓ) (g : Dev Cert.WoDwIdeal.nD → PrngReg), Pre_WoDwIdeal m →
    θ_run (Cert.WoDwIdeal.defs (F := Ideal)) (onTc (τ := Cert.WoDwIdeal.τ) (Cert.WoDwIdeal.main (F := Ideal))) ⟨m, fun _ => 0, g⟩ (fun r => (∀ c : Dev Cert.WoDwIdeal.nD,
      r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
      ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1)
      ∧ r.2.mem ((c.tc : Thread Cert.WoDwIdeal.nD Cert.WoDwIdeal.τ).loc Cert.WoDwIdeal.main_arg2) = m ((c.tc : Thread Cert.WoDwIdeal.nD Cert.WoDwIdeal.τ).loc Cert.WoDwIdeal.main_arg2))
      ∧ r.2.sem = fun _ => 0)

def quiescent_WoDwRefIdeal [hWoDwRefIdeal : Cert.WoDwRefIdeal.Facts] : Prop :=
  ∀ (m : (ℓ : Loc Cert.WoDwRefIdeal.nD Cert.WoDwRefIdeal.τ Cert.WoDwRefIdeal.sig) → Buf (Elt Ideal) ℓ) (g : Dev Cert.WoDwRefIdeal.nD → PrngReg), Pre_WoDwRefIdeal m →
    θ_run (Cert.WoDwRefIdeal.defs (F := Ideal)) (onTc (τ := Cert.WoDwRefIdeal.τ) (Cert.WoDwRefIdeal.main (F := Ideal))) ⟨m, fun _ => 0, g⟩ (fun r => (∀ c : Dev Cert.WoDwRefIdeal.nD,
      r.2.mem ((c.tc : Thread Cert.WoDwRefIdeal.nD Cert.WoDwRefIdeal.τ).loc Cert.WoDwRefIdeal.main_arg0) = m ((c.tc : Thread Cert.WoDwRefIdeal.nD Cert.WoDwRefIdeal.τ).loc Cert.WoDwRefIdeal.main_arg0)
      ∧ r.2.mem ((c.tc : Thread Cert.WoDwRefIdeal.nD Cert.WoDwRefIdeal.τ).loc Cert.WoDwRefIdeal.main_arg1) = m ((c.tc : Thread Cert.WoDwRefIdeal.nD Cert.WoDwRefIdeal.τ).loc Cert.WoDwRefIdeal.main_arg1)
      ∧ r.2.mem ((c.tc : Thread Cert.WoDwRefIdeal.nD Cert.WoDwRefIdeal.τ).loc Cert.WoDwRefIdeal.main_arg2) = m ((c.tc : Thread Cert.WoDwRefIdeal.nD Cert.WoDwRefIdeal.τ).loc Cert.WoDwRefIdeal.main_arg2))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1)
      ∧ r.2.mem ((c.tc : Thread Cert.BranchDx.nD Cert.BranchDx.τ).loc Cert.BranchDx.main_arg2) = m ((c.tc : Thread Cert.BranchDx.nD Cert.BranchDx.τ).loc Cert.BranchDx.main_arg2))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1)
      ∧ r.2.mem ((c.tc : Thread Cert.BranchDxIdeal.nD Cert.BranchDxIdeal.τ).loc Cert.BranchDxIdeal.main_arg2) = m ((c.tc : Thread Cert.BranchDxIdeal.nD Cert.BranchDxIdeal.τ).loc Cert.BranchDxIdeal.main_arg2))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1)
      ∧ r.2.mem ((c.tc : Thread Cert.BranchDxRefIdeal.nD Cert.BranchDxRefIdeal.τ).loc Cert.BranchDxRefIdeal.main_arg2) = m ((c.tc : Thread Cert.BranchDxRefIdeal.nD Cert.BranchDxRefIdeal.τ).loc Cert.BranchDxRefIdeal.main_arg2))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1)
      ∧ r.2.mem ((c.tc : Thread Cert.BranchDw.nD Cert.BranchDw.τ).loc Cert.BranchDw.main_arg2) = m ((c.tc : Thread Cert.BranchDw.nD Cert.BranchDw.τ).loc Cert.BranchDw.main_arg2))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1)
      ∧ r.2.mem ((c.tc : Thread Cert.BranchDwIdeal.nD Cert.BranchDwIdeal.τ).loc Cert.BranchDwIdeal.main_arg2) = m ((c.tc : Thread Cert.BranchDwIdeal.nD Cert.BranchDwIdeal.τ).loc Cert.BranchDwIdeal.main_arg2))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1)
      ∧ r.2.mem ((c.tc : Thread Cert.BranchDwRefIdeal.nD Cert.BranchDwRefIdeal.τ).loc Cert.BranchDwRefIdeal.main_arg2) = m ((c.tc : Thread Cert.BranchDwRefIdeal.nD Cert.BranchDwRefIdeal.τ).loc Cert.BranchDwRefIdeal.main_arg2))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1)
      ∧ r.2.mem ((c.tc : Thread Cert.ProjDw.nD Cert.ProjDw.τ).loc Cert.ProjDw.main_arg2) = m ((c.tc : Thread Cert.ProjDw.nD Cert.ProjDw.τ).loc Cert.ProjDw.main_arg2))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
      ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1)
      ∧ r.2.mem ((c.tc : Thread Cert.ProjDwRefIdeal.nD Cert.ProjDwRefIdeal.τ).loc Cert.ProjDwRefIdeal.main_arg2) = m ((c.tc : Thread Cert.ProjDwRefIdeal.nD Cert.ProjDwRefIdeal.τ).loc Cert.ProjDwRefIdeal.main_arg2))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ r.2.sem = fun _ => 0)

def quiescent_BranchFwdRefIdeal [hBranchFwdRefIdeal : Cert.BranchFwdRefIdeal.Facts] : Prop :=
  ∀ (m : (ℓ : Loc Cert.BranchFwdRefIdeal.nD Cert.BranchFwdRefIdeal.τ Cert.BranchFwdRefIdeal.sig) → Buf (Elt Ideal) ℓ) (g : Dev Cert.BranchFwdRefIdeal.nD → PrngReg), Pre_BranchFwdRefIdeal m →
    θ_run (Cert.BranchFwdRefIdeal.defs (F := Ideal)) (onTc (τ := Cert.BranchFwdRefIdeal.τ) (Cert.BranchFwdRefIdeal.main (F := Ideal))) ⟨m, fun _ => 0, g⟩ (fun r => (∀ c : Dev Cert.BranchFwdRefIdeal.nD,
      r.2.mem ((c.tc : Thread Cert.BranchFwdRefIdeal.nD Cert.BranchFwdRefIdeal.τ).loc Cert.BranchFwdRefIdeal.main_arg0) = m ((c.tc : Thread Cert.BranchFwdRefIdeal.nD Cert.BranchFwdRefIdeal.τ).loc Cert.BranchFwdRefIdeal.main_arg0)
      ∧ r.2.mem ((c.tc : Thread Cert.BranchFwdRefIdeal.nD Cert.BranchFwdRefIdeal.τ).loc Cert.BranchFwdRefIdeal.main_arg1) = m ((c.tc : Thread Cert.BranchFwdRefIdeal.nD Cert.BranchFwdRefIdeal.τ).loc Cert.BranchFwdRefIdeal.main_arg1))
      ∧ r.2.sem = fun _ => 0)

def quiescent_WoFwd [hWoFwd : Cert.WoFwd.Facts] : Prop :=
  ∀ (m : (ℓ : Loc Cert.WoFwd.nD Cert.WoFwd.τ Cert.WoFwd.sig) → Buf (Elt Bits) ℓ) (g : Dev Cert.WoFwd.nD → PrngReg), Pre_WoFwd m →
    θ_run (Cert.WoFwd.defs (F := Bits)) (onTc (τ := Cert.WoFwd.τ) (Cert.WoFwd.main (F := Bits))) ⟨m, fun _ => 0, g⟩ (fun r => (∀ c : Dev Cert.WoFwd.nD,
      r.2.mem ((c.tc : Thread Cert.WoFwd.nD Cert.WoFwd.τ).loc Cert.WoFwd.main_arg0) = m ((c.tc : Thread Cert.WoFwd.nD Cert.WoFwd.τ).loc Cert.WoFwd.main_arg0)
      ∧ r.2.mem ((c.tc : Thread Cert.WoFwd.nD Cert.WoFwd.τ).loc Cert.WoFwd.main_arg1) = m ((c.tc : Thread Cert.WoFwd.nD Cert.WoFwd.τ).loc Cert.WoFwd.main_arg1)
      ∧ r.2.mem ((c.tc : Thread Cert.WoFwd.nD Cert.WoFwd.τ).loc Cert.WoFwd.main_arg2) = m ((c.tc : Thread Cert.WoFwd.nD Cert.WoFwd.τ).loc Cert.WoFwd.main_arg2))
      ∧ r.2.sem = fun _ => 0)

def quiescent_WoFwdIdeal [hWoFwdIdeal : Cert.WoFwdIdeal.Facts] : Prop :=
  ∀ (m : (ℓ : Loc Cert.WoFwdIdeal.nD Cert.WoFwdIdeal.τ Cert.WoFwdIdeal.sig) → Buf (Elt Ideal) ℓ) (g : Dev Cert.WoFwdIdeal.nD → PrngReg), Pre_WoFwdIdeal m →
    θ_run (Cert.WoFwdIdeal.defs (F := Ideal)) (onTc (τ := Cert.WoFwdIdeal.τ) (Cert.WoFwdIdeal.main (F := Ideal))) ⟨m, fun _ => 0, g⟩ (fun r => (∀ c : Dev Cert.WoFwdIdeal.nD,
      r.2.mem ((c.tc : Thread Cert.WoFwdIdeal.nD Cert.WoFwdIdeal.τ).loc Cert.WoFwdIdeal.main_arg0) = m ((c.tc : Thread Cert.WoFwdIdeal.nD Cert.WoFwdIdeal.τ).loc Cert.WoFwdIdeal.main_arg0)
      ∧ r.2.mem ((c.tc : Thread Cert.WoFwdIdeal.nD Cert.WoFwdIdeal.τ).loc Cert.WoFwdIdeal.main_arg1) = m ((c.tc : Thread Cert.WoFwdIdeal.nD Cert.WoFwdIdeal.τ).loc Cert.WoFwdIdeal.main_arg1)
      ∧ r.2.mem ((c.tc : Thread Cert.WoFwdIdeal.nD Cert.WoFwdIdeal.τ).loc Cert.WoFwdIdeal.main_arg2) = m ((c.tc : Thread Cert.WoFwdIdeal.nD Cert.WoFwdIdeal.τ).loc Cert.WoFwdIdeal.main_arg2))
      ∧ r.2.sem = fun _ => 0)

def quiescent_WoFwdRefIdeal [hWoFwdRefIdeal : Cert.WoFwdRefIdeal.Facts] : Prop :=
  ∀ (m : (ℓ : Loc Cert.WoFwdRefIdeal.nD Cert.WoFwdRefIdeal.τ Cert.WoFwdRefIdeal.sig) → Buf (Elt Ideal) ℓ) (g : Dev Cert.WoFwdRefIdeal.nD → PrngReg), Pre_WoFwdRefIdeal m →
    θ_run (Cert.WoFwdRefIdeal.defs (F := Ideal)) (onTc (τ := Cert.WoFwdRefIdeal.τ) (Cert.WoFwdRefIdeal.main (F := Ideal))) ⟨m, fun _ => 0, g⟩ (fun r => (∀ c : Dev Cert.WoFwdRefIdeal.nD,
      r.2.mem ((c.tc : Thread Cert.WoFwdRefIdeal.nD Cert.WoFwdRefIdeal.τ).loc Cert.WoFwdRefIdeal.main_arg0) = m ((c.tc : Thread Cert.WoFwdRefIdeal.nD Cert.WoFwdRefIdeal.τ).loc Cert.WoFwdRefIdeal.main_arg0)
      ∧ r.2.mem ((c.tc : Thread Cert.WoFwdRefIdeal.nD Cert.WoFwdRefIdeal.τ).loc Cert.WoFwdRefIdeal.main_arg1) = m ((c.tc : Thread Cert.WoFwdRefIdeal.nD Cert.WoFwdRefIdeal.τ).loc Cert.WoFwdRefIdeal.main_arg1)
      ∧ r.2.mem ((c.tc : Thread Cert.WoFwdRefIdeal.nD Cert.WoFwdRefIdeal.τ).loc Cert.WoFwdRefIdeal.main_arg2) = m ((c.tc : Thread Cert.WoFwdRefIdeal.nD Cert.WoFwdRefIdeal.τ).loc Cert.WoFwdRefIdeal.main_arg2))
      ∧ r.2.sem = fun _ => 0)

def quiescent_GateUpFwd [hGateUpFwd : Cert.GateUpFwd.Facts] : Prop :=
  ∀ (m : (ℓ : Loc Cert.GateUpFwd.nD Cert.GateUpFwd.τ Cert.GateUpFwd.sig) → Buf (Elt Bits) ℓ) (g : Dev Cert.GateUpFwd.nD → PrngReg), Pre_GateUpFwd m →
    θ_run (Cert.GateUpFwd.defs (F := Bits)) (onTc (τ := Cert.GateUpFwd.τ) (Cert.GateUpFwd.main (F := Bits))) ⟨m, fun _ => 0, g⟩ (fun r => (∀ c : Dev Cert.GateUpFwd.nD,
      r.2.mem ((c.tc : Thread Cert.GateUpFwd.nD Cert.GateUpFwd.τ).loc Cert.GateUpFwd.main_arg0) = m ((c.tc : Thread Cert.GateUpFwd.nD Cert.GateUpFwd.τ).loc Cert.GateUpFwd.main_arg0)
      ∧ r.2.mem ((c.tc : Thread Cert.GateUpFwd.nD Cert.GateUpFwd.τ).loc Cert.GateUpFwd.main_arg1) = m ((c.tc : Thread Cert.GateUpFwd.nD Cert.GateUpFwd.τ).loc Cert.GateUpFwd.main_arg1))
      ∧ r.2.sem = fun _ => 0)

def quiescent_GateUpFwdIdeal [hGateUpFwdIdeal : Cert.GateUpFwdIdeal.Facts] : Prop :=
  ∀ (m : (ℓ : Loc Cert.GateUpFwdIdeal.nD Cert.GateUpFwdIdeal.τ Cert.GateUpFwdIdeal.sig) → Buf (Elt Ideal) ℓ) (g : Dev Cert.GateUpFwdIdeal.nD → PrngReg), Pre_GateUpFwdIdeal m →
    θ_run (Cert.GateUpFwdIdeal.defs (F := Ideal)) (onTc (τ := Cert.GateUpFwdIdeal.τ) (Cert.GateUpFwdIdeal.main (F := Ideal))) ⟨m, fun _ => 0, g⟩ (fun r => (∀ c : Dev Cert.GateUpFwdIdeal.nD,
      r.2.mem ((c.tc : Thread Cert.GateUpFwdIdeal.nD Cert.GateUpFwdIdeal.τ).loc Cert.GateUpFwdIdeal.main_arg0) = m ((c.tc : Thread Cert.GateUpFwdIdeal.nD Cert.GateUpFwdIdeal.τ).loc Cert.GateUpFwdIdeal.main_arg0)
      ∧ r.2.mem ((c.tc : Thread Cert.GateUpFwdIdeal.nD Cert.GateUpFwdIdeal.τ).loc Cert.GateUpFwdIdeal.main_arg1) = m ((c.tc : Thread Cert.GateUpFwdIdeal.nD Cert.GateUpFwdIdeal.τ).loc Cert.GateUpFwdIdeal.main_arg1))
      ∧ r.2.sem = fun _ => 0)

def quiescent_GateUpFwdRefIdeal [hGateUpFwdRefIdeal : Cert.GateUpFwdRefIdeal.Facts] : Prop :=
  ∀ (m : (ℓ : Loc Cert.GateUpFwdRefIdeal.nD Cert.GateUpFwdRefIdeal.τ Cert.GateUpFwdRefIdeal.sig) → Buf (Elt Ideal) ℓ) (g : Dev Cert.GateUpFwdRefIdeal.nD → PrngReg), Pre_GateUpFwdRefIdeal m →
    θ_run (Cert.GateUpFwdRefIdeal.defs (F := Ideal)) (onTc (τ := Cert.GateUpFwdRefIdeal.τ) (Cert.GateUpFwdRefIdeal.main (F := Ideal))) ⟨m, fun _ => 0, g⟩ (fun r => (∀ c : Dev Cert.GateUpFwdRefIdeal.nD,
      r.2.mem ((c.tc : Thread Cert.GateUpFwdRefIdeal.nD Cert.GateUpFwdRefIdeal.τ).loc Cert.GateUpFwdRefIdeal.main_arg0) = m ((c.tc : Thread Cert.GateUpFwdRefIdeal.nD Cert.GateUpFwdRefIdeal.τ).loc Cert.GateUpFwdRefIdeal.main_arg0)
      ∧ r.2.mem ((c.tc : Thread Cert.GateUpFwdRefIdeal.nD Cert.GateUpFwdRefIdeal.τ).loc Cert.GateUpFwdRefIdeal.main_arg1) = m ((c.tc : Thread Cert.GateUpFwdRefIdeal.nD Cert.GateUpFwdRefIdeal.τ).loc Cert.GateUpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0))
      ∧ r.2.sem = fun _ => 0)

def quiescent_SwigluFwdRefIdeal [hSwigluFwdRefIdeal : Cert.SwigluFwdRefIdeal.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamGateUp [hAdamGateUp : Cert.AdamGateUp.Facts] : Prop :=
  ∀ (m : (ℓ : Loc Cert.AdamGateUp.nD Cert.AdamGateUp.τ Cert.AdamGateUp.sig) → Buf (Elt Bits) ℓ) (g : Dev Cert.AdamGateUp.nD → PrngReg), Pre_AdamGateUp m →
    θ_run (Cert.AdamGateUp.defs (F := Bits)) (onTc (τ := Cert.AdamGateUp.τ) (Cert.AdamGateUp.main (F := Bits))) ⟨m, fun _ => 0, g⟩ (fun r => (∀ c : Dev Cert.AdamGateUp.nD,
      r.2.mem ((c.tc : Thread Cert.AdamGateUp.nD Cert.AdamGateUp.τ).loc Cert.AdamGateUp.main_arg0) = m ((c.tc : Thread Cert.AdamGateUp.nD Cert.AdamGateUp.τ).loc Cert.AdamGateUp.main_arg0)
      ∧ r.2.mem ((c.tc : Thread Cert.AdamGateUp.nD Cert.AdamGateUp.τ).loc Cert.AdamGateUp.main_arg1) = m ((c.tc : Thread Cert.AdamGateUp.nD Cert.AdamGateUp.τ).loc Cert.AdamGateUp.main_arg1)
      ∧ r.2.mem ((c.tc : Thread Cert.AdamGateUp.nD Cert.AdamGateUp.τ).loc Cert.AdamGateUp.main_arg2) = m ((c.tc : Thread Cert.AdamGateUp.nD Cert.AdamGateUp.τ).loc Cert.AdamGateUp.main_arg2)
      ∧ r.2.mem ((c.tc : Thread Cert.AdamGateUp.nD Cert.AdamGateUp.τ).loc Cert.AdamGateUp.main_arg3) = m ((c.tc : Thread Cert.AdamGateUp.nD Cert.AdamGateUp.τ).loc Cert.AdamGateUp.main_arg3))
      ∧ r.2.sem = fun _ => 0)

def quiescent_AdamGateUpIdeal [hAdamGateUpIdeal : Cert.AdamGateUpIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg), Pre_AdamGateUpIdeal m →
    θ_run (Cert.AdamGateUpIdeal.defs (F := Ideal)) (onTc (τ := Cert.AdamGateUpIdeal.τ) (Cert.AdamGateUpIdeal.main (F := Ideal))) ⟨m, fun _ => 0, g⟩ (fun r => (∀ c : Dev Cert.AdamGateUpIdeal.nD,
      r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
      ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
      ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
      ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ r.2.sem = fun _ => 0)

def quiescent_AdamGateUpRefIdeal [hAdamGateUpRefIdeal : Cert.AdamGateUpRefIdeal.Facts] : Prop :=
  ∀ (m : (ℓ : Loc Cert.AdamGateUpRefIdeal.nD Cert.AdamGateUpRefIdeal.τ Cert.AdamGateUpRefIdeal.sig) → Buf (Elt Ideal) ℓ) (g : Dev Cert.AdamGateUpRefIdeal.nD → PrngReg), Pre_AdamGateUpRefIdeal m →
    θ_run (Cert.AdamGateUpRefIdeal.defs (F := Ideal)) (onTc (τ := Cert.AdamGateUpRefIdeal.τ) (Cert.AdamGateUpRefIdeal.main (F := Ideal))) ⟨m, fun _ => 0, g⟩ (fun r => (∀ c : Dev Cert.AdamGateUpRefIdeal.nD,
      r.2.mem ((c.tc : Thread Cert.AdamGateUpRefIdeal.nD Cert.AdamGateUpRefIdeal.τ).loc Cert.AdamGateUpRefIdeal.main_arg0) = m ((c.tc : Thread Cert.AdamGateUpRefIdeal.nD Cert.AdamGateUpRefIdeal.τ).loc Cert.AdamGateUpRefIdeal.main_arg0)
      ∧ r.2.mem ((c.tc : Thread Cert.AdamGateUpRefIdeal.nD Cert.AdamGateUpRefIdeal.τ).loc Cert.AdamGateUpRefIdeal.main_arg1) = m ((c.tc : Thread Cert.AdamGateUpRefIdeal.nD Cert.AdamGateUpRefIdeal.τ).loc Cert.AdamGateUpRefIdeal.main_arg1)
      ∧ r.2.mem ((c.tc : Thread Cert.AdamGateUpRefIdeal.nD Cert.AdamGateUpRefIdeal.τ).loc Cert.AdamGateUpRefIdeal.main_arg2) = m ((c.tc : Thread Cert.AdamGateUpRefIdeal.nD Cert.AdamGateUpRefIdeal.τ).loc Cert.AdamGateUpRefIdeal.main_arg2)
      ∧ r.2.mem ((c.tc : Thread Cert.AdamGateUpRefIdeal.nD Cert.AdamGateUpRefIdeal.τ).loc Cert.AdamGateUpRefIdeal.main_arg3) = m ((c.tc : Thread Cert.AdamGateUpRefIdeal.nD Cert.AdamGateUpRefIdeal.τ).loc Cert.AdamGateUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamWo [hAdamWo : Cert.AdamWo.Facts] : Prop :=
  ∀ (m : (ℓ : Loc Cert.AdamWo.nD Cert.AdamWo.τ Cert.AdamWo.sig) → Buf (Elt Bits) ℓ) (g : Dev Cert.AdamWo.nD → PrngReg), Pre_AdamWo m →
    θ_run (Cert.AdamWo.defs (F := Bits)) (onTc (τ := Cert.AdamWo.τ) (Cert.AdamWo.main (F := Bits))) ⟨m, fun _ => 0, g⟩ (fun r => (∀ c : Dev Cert.AdamWo.nD,
      r.2.mem ((c.tc : Thread Cert.AdamWo.nD Cert.AdamWo.τ).loc Cert.AdamWo.main_arg0) = m ((c.tc : Thread Cert.AdamWo.nD Cert.AdamWo.τ).loc Cert.AdamWo.main_arg0)
      ∧ r.2.mem ((c.tc : Thread Cert.AdamWo.nD Cert.AdamWo.τ).loc Cert.AdamWo.main_arg1) = m ((c.tc : Thread Cert.AdamWo.nD Cert.AdamWo.τ).loc Cert.AdamWo.main_arg1)
      ∧ r.2.mem ((c.tc : Thread Cert.AdamWo.nD Cert.AdamWo.τ).loc Cert.AdamWo.main_arg2) = m ((c.tc : Thread Cert.AdamWo.nD Cert.AdamWo.τ).loc Cert.AdamWo.main_arg2)
      ∧ r.2.mem ((c.tc : Thread Cert.AdamWo.nD Cert.AdamWo.τ).loc Cert.AdamWo.main_arg3) = m ((c.tc : Thread Cert.AdamWo.nD Cert.AdamWo.τ).loc Cert.AdamWo.main_arg3))
      ∧ r.2.sem = fun _ => 0)

def quiescent_AdamWoIdeal [hAdamWoIdeal : Cert.AdamWoIdeal.Facts] : Prop :=
  ∀ (m : (ℓ : Loc Cert.AdamWoIdeal.nD Cert.AdamWoIdeal.τ Cert.AdamWoIdeal.sig) → Buf (Elt Ideal) ℓ) (g : Dev Cert.AdamWoIdeal.nD → PrngReg), Pre_AdamWoIdeal m →
    θ_run (Cert.AdamWoIdeal.defs (F := Ideal)) (onTc (τ := Cert.AdamWoIdeal.τ) (Cert.AdamWoIdeal.main (F := Ideal))) ⟨m, fun _ => 0, g⟩ (fun r => (∀ c : Dev Cert.AdamWoIdeal.nD,
      r.2.mem ((c.tc : Thread Cert.AdamWoIdeal.nD Cert.AdamWoIdeal.τ).loc Cert.AdamWoIdeal.main_arg0) = m ((c.tc : Thread Cert.AdamWoIdeal.nD Cert.AdamWoIdeal.τ).loc Cert.AdamWoIdeal.main_arg0)
      ∧ r.2.mem ((c.tc : Thread Cert.AdamWoIdeal.nD Cert.AdamWoIdeal.τ).loc Cert.AdamWoIdeal.main_arg1) = m ((c.tc : Thread Cert.AdamWoIdeal.nD Cert.AdamWoIdeal.τ).loc Cert.AdamWoIdeal.main_arg1)
      ∧ r.2.mem ((c.tc : Thread Cert.AdamWoIdeal.nD Cert.AdamWoIdeal.τ).loc Cert.AdamWoIdeal.main_arg2) = m ((c.tc : Thread Cert.AdamWoIdeal.nD Cert.AdamWoIdeal.τ).loc Cert.AdamWoIdeal.main_arg2)
      ∧ r.2.mem ((c.tc : Thread Cert.AdamWoIdeal.nD Cert.AdamWoIdeal.τ).loc Cert.AdamWoIdeal.main_arg3) = m ((c.tc : Thread Cert.AdamWoIdeal.nD Cert.AdamWoIdeal.τ).loc Cert.AdamWoIdeal.main_arg3))
      ∧ r.2.sem = fun _ => 0)

def quiescent_AdamWoRefIdeal [hAdamWoRefIdeal : Cert.AdamWoRefIdeal.Facts] : Prop :=
  ∀ (m : (ℓ : Loc Cert.AdamWoRefIdeal.nD Cert.AdamWoRefIdeal.τ Cert.AdamWoRefIdeal.sig) → Buf (Elt Ideal) ℓ) (g : Dev Cert.AdamWoRefIdeal.nD → PrngReg), Pre_AdamWoRefIdeal m →
    θ_run (Cert.AdamWoRefIdeal.defs (F := Ideal)) (onTc (τ := Cert.AdamWoRefIdeal.τ) (Cert.AdamWoRefIdeal.main (F := Ideal))) ⟨m, fun _ => 0, g⟩ (fun r => (∀ c : Dev Cert.AdamWoRefIdeal.nD,
      r.2.mem ((c.tc : Thread Cert.AdamWoRefIdeal.nD Cert.AdamWoRefIdeal.τ).loc Cert.AdamWoRefIdeal.main_arg0) = m ((c.tc : Thread Cert.AdamWoRefIdeal.nD Cert.AdamWoRefIdeal.τ).loc Cert.AdamWoRefIdeal.main_arg0)
      ∧ r.2.mem ((c.tc : Thread Cert.AdamWoRefIdeal.nD Cert.AdamWoRefIdeal.τ).loc Cert.AdamWoRefIdeal.main_arg1) = m ((c.tc : Thread Cert.AdamWoRefIdeal.nD Cert.AdamWoRefIdeal.τ).loc Cert.AdamWoRefIdeal.main_arg1)
      ∧ r.2.mem ((c.tc : Thread Cert.AdamWoRefIdeal.nD Cert.AdamWoRefIdeal.τ).loc Cert.AdamWoRefIdeal.main_arg2) = m ((c.tc : Thread Cert.AdamWoRefIdeal.nD Cert.AdamWoRefIdeal.τ).loc Cert.AdamWoRefIdeal.main_arg2)
      ∧ r.2.mem ((c.tc : Thread Cert.AdamWoRefIdeal.nD Cert.AdamWoRefIdeal.τ).loc Cert.AdamWoRefIdeal.main_arg3) = m ((c.tc : Thread Cert.AdamWoRefIdeal.nD Cert.AdamWoRefIdeal.τ).loc Cert.AdamWoRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamLora [hAdamLora : Cert.AdamLora.Facts] : Prop :=
  ∀ (m : (ℓ : Loc Cert.AdamLora.nD Cert.AdamLora.τ Cert.AdamLora.sig) → Buf (Elt Bits) ℓ) (g : Dev Cert.AdamLora.nD → PrngReg), Pre_AdamLora m →
    θ_run (Cert.AdamLora.defs (F := Bits)) (onTc (τ := Cert.AdamLora.τ) (Cert.AdamLora.main (F := Bits))) ⟨m, fun _ => 0, g⟩ (fun r => (∀ c : Dev Cert.AdamLora.nD,
      r.2.mem ((c.tc : Thread Cert.AdamLora.nD Cert.AdamLora.τ).loc Cert.AdamLora.main_arg0) = m ((c.tc : Thread Cert.AdamLora.nD Cert.AdamLora.τ).loc Cert.AdamLora.main_arg0)
      ∧ r.2.mem ((c.tc : Thread Cert.AdamLora.nD Cert.AdamLora.τ).loc Cert.AdamLora.main_arg1) = m ((c.tc : Thread Cert.AdamLora.nD Cert.AdamLora.τ).loc Cert.AdamLora.main_arg1)
      ∧ r.2.mem ((c.tc : Thread Cert.AdamLora.nD Cert.AdamLora.τ).loc Cert.AdamLora.main_arg2) = m ((c.tc : Thread Cert.AdamLora.nD Cert.AdamLora.τ).loc Cert.AdamLora.main_arg2)
      ∧ r.2.mem ((c.tc : Thread Cert.AdamLora.nD Cert.AdamLora.τ).loc Cert.AdamLora.main_arg3) = m ((c.tc : Thread Cert.AdamLora.nD Cert.AdamLora.τ).loc Cert.AdamLora.main_arg3))
      ∧ r.2.sem = fun _ => 0)

def quiescent_AdamLoraIdeal [hAdamLoraIdeal : Cert.AdamLoraIdeal.Facts] : Prop :=
  ∀ (m : (ℓ : Loc Cert.AdamLoraIdeal.nD Cert.AdamLoraIdeal.τ Cert.AdamLoraIdeal.sig) → Buf (Elt Ideal) ℓ) (g : Dev Cert.AdamLoraIdeal.nD → PrngReg), Pre_AdamLoraIdeal m →
    θ_run (Cert.AdamLoraIdeal.defs (F := Ideal)) (onTc (τ := Cert.AdamLoraIdeal.τ) (Cert.AdamLoraIdeal.main (F := Ideal))) ⟨m, fun _ => 0, g⟩ (fun r => (∀ c : Dev Cert.AdamLoraIdeal.nD,
      r.2.mem ((c.tc : Thread Cert.AdamLoraIdeal.nD Cert.AdamLoraIdeal.τ).loc Cert.AdamLoraIdeal.main_arg0) = m ((c.tc : Thread Cert.AdamLoraIdeal.nD Cert.AdamLoraIdeal.τ).loc Cert.AdamLoraIdeal.main_arg0)
      ∧ r.2.mem ((c.tc : Thread Cert.AdamLoraIdeal.nD Cert.AdamLoraIdeal.τ).loc Cert.AdamLoraIdeal.main_arg1) = m ((c.tc : Thread Cert.AdamLoraIdeal.nD Cert.AdamLoraIdeal.τ).loc Cert.AdamLoraIdeal.main_arg1)
      ∧ r.2.mem ((c.tc : Thread Cert.AdamLoraIdeal.nD Cert.AdamLoraIdeal.τ).loc Cert.AdamLoraIdeal.main_arg2) = m ((c.tc : Thread Cert.AdamLoraIdeal.nD Cert.AdamLoraIdeal.τ).loc Cert.AdamLoraIdeal.main_arg2)
      ∧ r.2.mem ((c.tc : Thread Cert.AdamLoraIdeal.nD Cert.AdamLoraIdeal.τ).loc Cert.AdamLoraIdeal.main_arg3) = m ((c.tc : Thread Cert.AdamLoraIdeal.nD Cert.AdamLoraIdeal.τ).loc Cert.AdamLoraIdeal.main_arg3))
      ∧ r.2.sem = fun _ => 0)

def quiescent_AdamLoraRefIdeal [hAdamLoraRefIdeal : Cert.AdamLoraRefIdeal.Facts] : Prop :=
  ∀ (m : (ℓ : Loc Cert.AdamLoraRefIdeal.nD Cert.AdamLoraRefIdeal.τ Cert.AdamLoraRefIdeal.sig) → Buf (Elt Ideal) ℓ) (g : Dev Cert.AdamLoraRefIdeal.nD → PrngReg), Pre_AdamLoraRefIdeal m →
    θ_run (Cert.AdamLoraRefIdeal.defs (F := Ideal)) (onTc (τ := Cert.AdamLoraRefIdeal.τ) (Cert.AdamLoraRefIdeal.main (F := Ideal))) ⟨m, fun _ => 0, g⟩ (fun r => (∀ c : Dev Cert.AdamLoraRefIdeal.nD,
      r.2.mem ((c.tc : Thread Cert.AdamLoraRefIdeal.nD Cert.AdamLoraRefIdeal.τ).loc Cert.AdamLoraRefIdeal.main_arg0) = m ((c.tc : Thread Cert.AdamLoraRefIdeal.nD Cert.AdamLoraRefIdeal.τ).loc Cert.AdamLoraRefIdeal.main_arg0)
      ∧ r.2.mem ((c.tc : Thread Cert.AdamLoraRefIdeal.nD Cert.AdamLoraRefIdeal.τ).loc Cert.AdamLoraRefIdeal.main_arg1) = m ((c.tc : Thread Cert.AdamLoraRefIdeal.nD Cert.AdamLoraRefIdeal.τ).loc Cert.AdamLoraRefIdeal.main_arg1)
      ∧ r.2.mem ((c.tc : Thread Cert.AdamLoraRefIdeal.nD Cert.AdamLoraRefIdeal.τ).loc Cert.AdamLoraRefIdeal.main_arg2) = m ((c.tc : Thread Cert.AdamLoraRefIdeal.nD Cert.AdamLoraRefIdeal.τ).loc Cert.AdamLoraRefIdeal.main_arg2)
      ∧ r.2.mem ((c.tc : Thread Cert.AdamLoraRefIdeal.nD Cert.AdamLoraRefIdeal.τ).loc Cert.AdamLoraRefIdeal.main_arg3) = m ((c.tc : Thread Cert.AdamLoraRefIdeal.nD Cert.AdamLoraRefIdeal.τ).loc Cert.AdamLoraRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamMeta [hAdamMeta : Cert.AdamMeta.Facts] : Prop :=
  ∀ (m : (ℓ : Loc Cert.AdamMeta.nD Cert.AdamMeta.τ Cert.AdamMeta.sig) → Buf (Elt Bits) ℓ) (g : Dev Cert.AdamMeta.nD → PrngReg), Pre_AdamMeta m →
    θ_run (Cert.AdamMeta.defs (F := Bits)) (onTc (τ := Cert.AdamMeta.τ) (Cert.AdamMeta.main (F := Bits))) ⟨m, fun _ => 0, g⟩ (fun r => (∀ c : Dev Cert.AdamMeta.nD,
      r.2.mem ((c.tc : Thread Cert.AdamMeta.nD Cert.AdamMeta.τ).loc Cert.AdamMeta.main_arg0) = m ((c.tc : Thread Cert.AdamMeta.nD Cert.AdamMeta.τ).loc Cert.AdamMeta.main_arg0)
      ∧ r.2.mem ((c.tc : Thread Cert.AdamMeta.nD Cert.AdamMeta.τ).loc Cert.AdamMeta.main_arg1) = m ((c.tc : Thread Cert.AdamMeta.nD Cert.AdamMeta.τ).loc Cert.AdamMeta.main_arg1)
      ∧ r.2.mem ((c.tc : Thread Cert.AdamMeta.nD Cert.AdamMeta.τ).loc Cert.AdamMeta.main_arg2) = m ((c.tc : Thread Cert.AdamMeta.nD Cert.AdamMeta.τ).loc Cert.AdamMeta.main_arg2)
      ∧ r.2.mem ((c.tc : Thread Cert.AdamMeta.nD Cert.AdamMeta.τ).loc Cert.AdamMeta.main_arg3) = m ((c.tc : Thread Cert.AdamMeta.nD Cert.AdamMeta.τ).loc Cert.AdamMeta.main_arg3))
      ∧ r.2.sem = fun _ => 0)

def quiescent_AdamMetaIdeal [hAdamMetaIdeal : Cert.AdamMetaIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg), Pre_AdamMetaIdeal m →
    θ_run (Cert.AdamMetaIdeal.defs (F := Ideal)) (onTc (τ := Cert.AdamMetaIdeal.τ) (Cert.AdamMetaIdeal.main (F := Ideal))) ⟨m, fun _ => 0, g⟩ (fun r => (∀ c : Dev Cert.AdamMetaIdeal.nD,
      r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
      ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
      ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
      ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ r.2.sem = fun _ => 0)

def quiescent_AdamMetaRefIdeal [hAdamMetaRefIdeal : Cert.AdamMetaRefIdeal.Facts] : Prop :=
  ∀ (m : (ℓ : Loc Cert.AdamMetaRefIdeal.nD Cert.AdamMetaRefIdeal.τ Cert.AdamMetaRefIdeal.sig) → Buf (Elt Ideal) ℓ) (g : Dev Cert.AdamMetaRefIdeal.nD → PrngReg), Pre_AdamMetaRefIdeal m →
    θ_run (Cert.AdamMetaRefIdeal.defs (F := Ideal)) (onTc (τ := Cert.AdamMetaRefIdeal.τ) (Cert.AdamMetaRefIdeal.main (F := Ideal))) ⟨m, fun _ => 0, g⟩ (fun r => (∀ c : Dev Cert.AdamMetaRefIdeal.nD,
      r.2.mem ((c.tc : Thread Cert.AdamMetaRefIdeal.nD Cert.AdamMetaRefIdeal.τ).loc Cert.AdamMetaRefIdeal.main_arg0) = m ((c.tc : Thread Cert.AdamMetaRefIdeal.nD Cert.AdamMetaRefIdeal.τ).loc Cert.AdamMetaRefIdeal.main_arg0)
      ∧ r.2.mem ((c.tc : Thread Cert.AdamMetaRefIdeal.nD Cert.AdamMetaRefIdeal.τ).loc Cert.AdamMetaRefIdeal.main_arg1) = m ((c.tc : Thread Cert.AdamMetaRefIdeal.nD Cert.AdamMetaRefIdeal.τ).loc Cert.AdamMetaRefIdeal.main_arg1)
      ∧ r.2.mem ((c.tc : Thread Cert.AdamMetaRefIdeal.nD Cert.AdamMetaRefIdeal.τ).loc Cert.AdamMetaRefIdeal.main_arg2) = m ((c.tc : Thread Cert.AdamMetaRefIdeal.nD Cert.AdamMetaRefIdeal.τ).loc Cert.AdamMetaRefIdeal.main_arg2)
      ∧ r.2.mem ((c.tc : Thread Cert.AdamMetaRefIdeal.nD Cert.AdamMetaRefIdeal.τ).loc Cert.AdamMetaRefIdeal.main_arg3) = m ((c.tc : Thread Cert.AdamMetaRefIdeal.nD Cert.AdamMetaRefIdeal.τ).loc Cert.AdamMetaRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v46_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v46_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v6) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_GateUpDx_GateUpDxIdeal : Prop :=
  True

def algebraic_GateUpDxIdeal_GateUpDxRefIdeal [hGateUpDxIdeal : Cert.GateUpDxIdeal.Facts] [hGateUpDxRefIdeal : Cert.GateUpDxRefIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg)
    (m' : (ℓ : Loc Cert.GateUpDxRefIdeal.nD Cert.GateUpDxRefIdeal.τ Cert.GateUpDxRefIdeal.sig) → Buf (Elt Ideal) ℓ) (g' : Dev Cert.GateUpDxRefIdeal.nD → PrngReg), Pre_GateUpDxIdeal m →
    (∀ c : Dev Cert.GateUpDxIdeal.nD,
      m' ((c.tc : Thread Cert.GateUpDxRefIdeal.nD Cert.GateUpDxRefIdeal.τ).loc Cert.GateUpDxRefIdeal.main_arg0) = m ((c.tc : Thread Cert.GateUpDxIdeal.nD Cert.GateUpDxIdeal.τ).loc Cert.GateUpDxIdeal.main_arg0)
      ∧ m' ((c.tc : Thread Cert.GateUpDxRefIdeal.nD Cert.GateUpDxRefIdeal.τ).loc Cert.GateUpDxRefIdeal.main_arg1) = m ((c.tc : Thread Cert.GateUpDxIdeal.nD Cert.GateUpDxIdeal.τ).loc Cert.GateUpDxIdeal.main_arg1)
      ∧ m' ((c.tc : Thread Cert.GateUpDxRefIdeal.nD Cert.GateUpDxRefIdeal.τ).loc Cert.GateUpDxRefIdeal.main_arg2) = m ((c.tc : Thread Cert.GateUpDxIdeal.nD Cert.GateUpDxIdeal.τ).loc Cert.GateUpDxIdeal.main_arg2)) →
    ∃ (v0 : (c : Dev Cert.GateUpDxIdeal.nD) → Buf (Elt Ideal) ((c.tc : Thread Cert.GateUpDxIdeal.nD Cert.GateUpDxIdeal.τ).loc Cert.GateUpDxIdeal.main_v0)),
      θ_run (Cert.GateUpDxIdeal.defs (F := Ideal)) (onTc (τ := Cert.GateUpDxIdeal.τ) (Cert.GateUpDxIdeal.main (F := Ideal))) ⟨m, fun _ => 0, g⟩ (fun r => ∀ c : Dev Cert.GateUpDxIdeal.nD,
          r.2.mem ((c.tc : Thread Cert.GateUpDxIdeal.nD Cert.GateUpDxIdeal.τ).loc Cert.GateUpDxIdeal.main_v0) = v0 c
          ∧ r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
          ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1)
          ∧ r.2.mem ((c.tc : Thread Cert.GateUpDxIdeal.nD Cert.GateUpDxIdeal.τ).loc Cert.GateUpDxIdeal.main_arg2) = m ((c.tc : Thread Cert.GateUpDxIdeal.nD Cert.GateUpDxIdeal.τ).loc Cert.GateUpDxIdeal.main_arg2))
      ∧ θ_run (Cert.GateUpDxRefIdeal.defs (F := Ideal)) (onTc (τ := Cert.GateUpDxRefIdeal.τ) (Cert.GateUpDxRefIdeal.main (F := Ideal))) ⟨m', fun _ => 0, g'⟩ (fun r => ∀ c : Dev Cert.GateUpDxRefIdeal.nD,
          r.2.mem ((c.tc : Thread Cert.GateUpDxRefIdeal.nD Cert.GateUpDxRefIdeal.τ).loc Cert.GateUpDxRefIdeal.main_v6) = v0 c
          ∧ r.2.mem ((c.tc : Thread Cert.GateUpDxRefIdeal.nD Cert.GateUpDxRefIdeal.τ).loc Cert.GateUpDxRefIdeal.main_arg0) = m' ((c.tc : Thread Cert.GateUpDxRefIdeal.nD Cert.GateUpDxRefIdeal.τ).loc Cert.GateUpDxRefIdeal.main_arg0)
          ∧ r.2.mem ((c.tc : Thread Cert.GateUpDxRefIdeal.nD Cert.GateUpDxRefIdeal.τ).loc Cert.GateUpDxRefIdeal.main_arg1) = m' ((c.tc : Thread Cert.GateUpDxRefIdeal.nD Cert.GateUpDxRefIdeal.τ).loc Cert.GateUpDxRefIdeal.main_arg1)
          ∧ r.2.mem ((c.tc : Thread Cert.GateUpDxRefIdeal.nD Cert.GateUpDxRefIdeal.τ).loc Cert.GateUpDxRefIdeal.main_arg2) = m' ((c.tc : Thread Cert.GateUpDxRefIdeal.nD Cert.GateUpDxRefIdeal.τ).loc Cert.GateUpDxRefIdeal.main_arg2))

def preserves_GateUpDw_GateUpDwIdeal : Prop :=
  True

def algebraic_GateUpDwIdeal_GateUpDwRefIdeal [hGateUpDwIdeal : Cert.GateUpDwIdeal.Facts] [hGateUpDwRefIdeal : Cert.GateUpDwRefIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg)
    (m' : (ℓ : Loc Cert.GateUpDwRefIdeal.nD Cert.GateUpDwRefIdeal.τ Cert.GateUpDwRefIdeal.sig) → Buf (Elt Ideal) ℓ) (g' : Dev Cert.GateUpDwRefIdeal.nD → PrngReg), Pre_GateUpDwIdeal m →
    (∀ c : Dev Cert.GateUpDwIdeal.nD,
      m' ((c.tc : Thread Cert.GateUpDwRefIdeal.nD Cert.GateUpDwRefIdeal.τ).loc Cert.GateUpDwRefIdeal.main_arg0) = m ((c.tc : Thread Cert.GateUpDwIdeal.nD Cert.GateUpDwIdeal.τ).loc Cert.GateUpDwIdeal.main_arg0)
      ∧ m' ((c.tc : Thread Cert.GateUpDwRefIdeal.nD Cert.GateUpDwRefIdeal.τ).loc Cert.GateUpDwRefIdeal.main_arg1) = m ((c.tc : Thread Cert.GateUpDwIdeal.nD Cert.GateUpDwIdeal.τ).loc Cert.GateUpDwIdeal.main_arg1)
      ∧ m' ((c.tc : Thread Cert.GateUpDwRefIdeal.nD Cert.GateUpDwRefIdeal.τ).loc Cert.GateUpDwRefIdeal.main_arg2) = m ((c.tc : Thread Cert.GateUpDwIdeal.nD Cert.GateUpDwIdeal.τ).loc Cert.GateUpDwIdeal.main_arg2)) →
    ∃ (v0 : (c : Dev Cert.GateUpDwIdeal.nD) → Buf (Elt Ideal) ((c.tc : Thread Cert.GateUpDwIdeal.nD Cert.GateUpDwIdeal.τ).loc Cert.GateUpDwIdeal.main_v0)),
      θ_run (Cert.GateUpDwIdeal.defs (F := Ideal)) (onTc (τ := Cert.GateUpDwIdeal.τ) (Cert.GateUpDwIdeal.main (F := Ideal))) ⟨m, fun _ => 0, g⟩ (fun r => ∀ c : Dev Cert.GateUpDwIdeal.nD,
          r.2.mem ((c.tc : Thread Cert.GateUpDwIdeal.nD Cert.GateUpDwIdeal.τ).loc Cert.GateUpDwIdeal.main_v0) = v0 c
          ∧ r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
          ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1)
          ∧ r.2.mem ((c.tc : Thread Cert.GateUpDwIdeal.nD Cert.GateUpDwIdeal.τ).loc Cert.GateUpDwIdeal.main_arg2) = m ((c.tc : Thread Cert.GateUpDwIdeal.nD Cert.GateUpDwIdeal.τ).loc Cert.GateUpDwIdeal.main_arg2))
      ∧ θ_run (Cert.GateUpDwRefIdeal.defs (F := Ideal)) (onTc (τ := Cert.GateUpDwRefIdeal.τ) (Cert.GateUpDwRefIdeal.main (F := Ideal))) ⟨m', fun _ => 0, g'⟩ (fun r => ∀ c : Dev Cert.GateUpDwRefIdeal.nD,
          r.2.mem ((c.tc : Thread Cert.GateUpDwRefIdeal.nD Cert.GateUpDwRefIdeal.τ).loc Cert.GateUpDwRefIdeal.main_v8) = v0 c
          ∧ r.2.mem ((c.tc : Thread Cert.GateUpDwRefIdeal.nD Cert.GateUpDwRefIdeal.τ).loc Cert.GateUpDwRefIdeal.main_arg0) = m' ((c.tc : Thread Cert.GateUpDwRefIdeal.nD Cert.GateUpDwRefIdeal.τ).loc Cert.GateUpDwRefIdeal.main_arg0)
          ∧ r.2.mem ((c.tc : Thread Cert.GateUpDwRefIdeal.nD Cert.GateUpDwRefIdeal.τ).loc Cert.GateUpDwRefIdeal.main_arg1) = m' ((c.tc : Thread Cert.GateUpDwRefIdeal.nD Cert.GateUpDwRefIdeal.τ).loc Cert.GateUpDwRefIdeal.main_arg1)
          ∧ r.2.mem ((c.tc : Thread Cert.GateUpDwRefIdeal.nD Cert.GateUpDwRefIdeal.τ).loc Cert.GateUpDwRefIdeal.main_arg2) = m' ((c.tc : Thread Cert.GateUpDwRefIdeal.nD Cert.GateUpDwRefIdeal.τ).loc Cert.GateUpDwRefIdeal.main_arg2))

def preserves_WoDx_WoDxIdeal : Prop :=
  True

def algebraic_WoDxIdeal_WoDxRefIdeal [hWoDxIdeal : Cert.WoDxIdeal.Facts] [hWoDxRefIdeal : Cert.WoDxRefIdeal.Facts] : Prop :=
  ∀ (m : (ℓ : Loc Cert.WoDxIdeal.nD Cert.WoDxIdeal.τ Cert.WoDxIdeal.sig) → Buf (Elt Ideal) ℓ) (g : Dev Cert.WoDxIdeal.nD → PrngReg)
    (m' : (ℓ : Loc Cert.WoDxRefIdeal.nD Cert.WoDxRefIdeal.τ Cert.WoDxRefIdeal.sig) → Buf (Elt Ideal) ℓ) (g' : Dev Cert.WoDxRefIdeal.nD → PrngReg), Pre_WoDxIdeal m →
    (∀ c : Dev Cert.WoDxIdeal.nD,
      m' ((c.tc : Thread Cert.WoDxRefIdeal.nD Cert.WoDxRefIdeal.τ).loc Cert.WoDxRefIdeal.main_arg0) = m ((c.tc : Thread Cert.WoDxIdeal.nD Cert.WoDxIdeal.τ).loc Cert.WoDxIdeal.main_arg0)
      ∧ m' ((c.tc : Thread Cert.WoDxRefIdeal.nD Cert.WoDxRefIdeal.τ).loc Cert.WoDxRefIdeal.main_arg1) = m ((c.tc : Thread Cert.WoDxIdeal.nD Cert.WoDxIdeal.τ).loc Cert.WoDxIdeal.main_arg1)
      ∧ m' ((c.tc : Thread Cert.WoDxRefIdeal.nD Cert.WoDxRefIdeal.τ).loc Cert.WoDxRefIdeal.main_arg2) = m ((c.tc : Thread Cert.WoDxIdeal.nD Cert.WoDxIdeal.τ).loc Cert.WoDxIdeal.main_arg2)) →
    ∃ (v0 : (c : Dev Cert.WoDxIdeal.nD) → Buf (Elt Ideal) ((c.tc : Thread Cert.WoDxIdeal.nD Cert.WoDxIdeal.τ).loc Cert.WoDxIdeal.main_v0)),
      θ_run (Cert.WoDxIdeal.defs (F := Ideal)) (onTc (τ := Cert.WoDxIdeal.τ) (Cert.WoDxIdeal.main (F := Ideal))) ⟨m, fun _ => 0, g⟩ (fun r => ∀ c : Dev Cert.WoDxIdeal.nD,
          r.2.mem ((c.tc : Thread Cert.WoDxIdeal.nD Cert.WoDxIdeal.τ).loc Cert.WoDxIdeal.main_v0) = v0 c
          ∧ r.2.mem ((c.tc : Thread Cert.WoDxIdeal.nD Cert.WoDxIdeal.τ).loc Cert.WoDxIdeal.main_arg0) = m ((c.tc : Thread Cert.WoDxIdeal.nD Cert.WoDxIdeal.τ).loc Cert.WoDxIdeal.main_arg0)
          ∧ r.2.mem ((c.tc : Thread Cert.WoDxIdeal.nD Cert.WoDxIdeal.τ).loc Cert.WoDxIdeal.main_arg1) = m ((c.tc : Thread Cert.WoDxIdeal.nD Cert.WoDxIdeal.τ).loc Cert.WoDxIdeal.main_arg1)
          ∧ r.2.mem ((c.tc : Thread Cert.WoDxIdeal.nD Cert.WoDxIdeal.τ).loc Cert.WoDxIdeal.main_arg2) = m ((c.tc : Thread Cert.WoDxIdeal.nD Cert.WoDxIdeal.τ).loc Cert.WoDxIdeal.main_arg2))
      ∧ θ_run (Cert.WoDxRefIdeal.defs (F := Ideal)) (onTc (τ := Cert.WoDxRefIdeal.τ) (Cert.WoDxRefIdeal.main (F := Ideal))) ⟨m', fun _ => 0, g'⟩ (fun r => ∀ c : Dev Cert.WoDxRefIdeal.nD,
          r.2.mem ((c.tc : Thread Cert.WoDxRefIdeal.nD Cert.WoDxRefIdeal.τ).loc Cert.WoDxRefIdeal.main_v6) = v0 c
          ∧ r.2.mem ((c.tc : Thread Cert.WoDxRefIdeal.nD Cert.WoDxRefIdeal.τ).loc Cert.WoDxRefIdeal.main_arg0) = m' ((c.tc : Thread Cert.WoDxRefIdeal.nD Cert.WoDxRefIdeal.τ).loc Cert.WoDxRefIdeal.main_arg0)
          ∧ r.2.mem ((c.tc : Thread Cert.WoDxRefIdeal.nD Cert.WoDxRefIdeal.τ).loc Cert.WoDxRefIdeal.main_arg1) = m' ((c.tc : Thread Cert.WoDxRefIdeal.nD Cert.WoDxRefIdeal.τ).loc Cert.WoDxRefIdeal.main_arg1)
          ∧ r.2.mem ((c.tc : Thread Cert.WoDxRefIdeal.nD Cert.WoDxRefIdeal.τ).loc Cert.WoDxRefIdeal.main_arg2) = m' ((c.tc : Thread Cert.WoDxRefIdeal.nD Cert.WoDxRefIdeal.τ).loc Cert.WoDxRefIdeal.main_arg2))

def preserves_WoDw_WoDwIdeal : Prop :=
  True

def algebraic_WoDwIdeal_WoDwRefIdeal [hWoDwIdeal : Cert.WoDwIdeal.Facts] [hWoDwRefIdeal : Cert.WoDwRefIdeal.Facts] : Prop :=
  ∀ (m : (ℓ : Loc Cert.WoDwIdeal.nD Cert.WoDwIdeal.τ Cert.WoDwIdeal.sig) → Buf (Elt Ideal) ℓ) (g : Dev Cert.WoDwIdeal.nD → PrngReg)
    (m' : (ℓ : Loc Cert.WoDwRefIdeal.nD Cert.WoDwRefIdeal.τ Cert.WoDwRefIdeal.sig) → Buf (Elt Ideal) ℓ) (g' : Dev Cert.WoDwRefIdeal.nD → PrngReg), Pre_WoDwIdeal m →
    (∀ c : Dev Cert.WoDwIdeal.nD,
      m' ((c.tc : Thread Cert.WoDwRefIdeal.nD Cert.WoDwRefIdeal.τ).loc Cert.WoDwRefIdeal.main_arg0) = m ((c.tc : Thread Cert.WoDwIdeal.nD Cert.WoDwIdeal.τ).loc Cert.WoDwIdeal.main_arg0)
      ∧ m' ((c.tc : Thread Cert.WoDwRefIdeal.nD Cert.WoDwRefIdeal.τ).loc Cert.WoDwRefIdeal.main_arg1) = m ((c.tc : Thread Cert.WoDwIdeal.nD Cert.WoDwIdeal.τ).loc Cert.WoDwIdeal.main_arg1)
      ∧ m' ((c.tc : Thread Cert.WoDwRefIdeal.nD Cert.WoDwRefIdeal.τ).loc Cert.WoDwRefIdeal.main_arg2) = m ((c.tc : Thread Cert.WoDwIdeal.nD Cert.WoDwIdeal.τ).loc Cert.WoDwIdeal.main_arg2)) →
    ∃ (v0 : (c : Dev Cert.WoDwIdeal.nD) → Buf (Elt Ideal) ((c.tc : Thread Cert.WoDwIdeal.nD Cert.WoDwIdeal.τ).loc Cert.WoDwIdeal.main_v0)),
      θ_run (Cert.WoDwIdeal.defs (F := Ideal)) (onTc (τ := Cert.WoDwIdeal.τ) (Cert.WoDwIdeal.main (F := Ideal))) ⟨m, fun _ => 0, g⟩ (fun r => ∀ c : Dev Cert.WoDwIdeal.nD,
          r.2.mem ((c.tc : Thread Cert.WoDwIdeal.nD Cert.WoDwIdeal.τ).loc Cert.WoDwIdeal.main_v0) = v0 c
          ∧ r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
          ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1)
          ∧ r.2.mem ((c.tc : Thread Cert.WoDwIdeal.nD Cert.WoDwIdeal.τ).loc Cert.WoDwIdeal.main_arg2) = m ((c.tc : Thread Cert.WoDwIdeal.nD Cert.WoDwIdeal.τ).loc Cert.WoDwIdeal.main_arg2))
      ∧ θ_run (Cert.WoDwRefIdeal.defs (F := Ideal)) (onTc (τ := Cert.WoDwRefIdeal.τ) (Cert.WoDwRefIdeal.main (F := Ideal))) ⟨m', fun _ => 0, g'⟩ (fun r => ∀ c : Dev Cert.WoDwRefIdeal.nD,
          r.2.mem ((c.tc : Thread Cert.WoDwRefIdeal.nD Cert.WoDwRefIdeal.τ).loc Cert.WoDwRefIdeal.main_v5) = v0 c
          ∧ r.2.mem ((c.tc : Thread Cert.WoDwRefIdeal.nD Cert.WoDwRefIdeal.τ).loc Cert.WoDwRefIdeal.main_arg0) = m' ((c.tc : Thread Cert.WoDwRefIdeal.nD Cert.WoDwRefIdeal.τ).loc Cert.WoDwRefIdeal.main_arg0)
          ∧ r.2.mem ((c.tc : Thread Cert.WoDwRefIdeal.nD Cert.WoDwRefIdeal.τ).loc Cert.WoDwRefIdeal.main_arg1) = m' ((c.tc : Thread Cert.WoDwRefIdeal.nD Cert.WoDwRefIdeal.τ).loc Cert.WoDwRefIdeal.main_arg1)
          ∧ r.2.mem ((c.tc : Thread Cert.WoDwRefIdeal.nD Cert.WoDwRefIdeal.τ).loc Cert.WoDwRefIdeal.main_arg2) = m' ((c.tc : Thread Cert.WoDwRefIdeal.nD Cert.WoDwRefIdeal.τ).loc Cert.WoDwRefIdeal.main_arg2))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)
      ∧ m' ((c.tc : Thread Cert.BranchDxRefIdeal.nD Cert.BranchDxRefIdeal.τ).loc Cert.BranchDxRefIdeal.main_arg2) = m ((c.tc : Thread Cert.BranchDxIdeal.nD Cert.BranchDxIdeal.τ).loc Cert.BranchDxIdeal.main_arg2)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1)
          ∧ r.2.mem ((c.tc : Thread Cert.BranchDxIdeal.nD Cert.BranchDxIdeal.τ).loc Cert.BranchDxIdeal.main_arg2) = m ((c.tc : Thread Cert.BranchDxIdeal.nD Cert.BranchDxIdeal.τ).loc Cert.BranchDxIdeal.main_arg2))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v6) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1)
          ∧ r.2.mem ((c.tc : Thread Cert.BranchDxRefIdeal.nD Cert.BranchDxRefIdeal.τ).loc Cert.BranchDxRefIdeal.main_arg2) = m' ((c.tc : Thread Cert.BranchDxRefIdeal.nD Cert.BranchDxRefIdeal.τ).loc Cert.BranchDxRefIdeal.main_arg2))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)
      ∧ m' ((c.tc : Thread Cert.BranchDwRefIdeal.nD Cert.BranchDwRefIdeal.τ).loc Cert.BranchDwRefIdeal.main_arg2) = m ((c.tc : Thread Cert.BranchDwIdeal.nD Cert.BranchDwIdeal.τ).loc Cert.BranchDwIdeal.main_arg2)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1)
          ∧ r.2.mem ((c.tc : Thread Cert.BranchDwIdeal.nD Cert.BranchDwIdeal.τ).loc Cert.BranchDwIdeal.main_arg2) = m ((c.tc : Thread Cert.BranchDwIdeal.nD Cert.BranchDwIdeal.τ).loc Cert.BranchDwIdeal.main_arg2))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v8) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1)
          ∧ r.2.mem ((c.tc : Thread Cert.BranchDwRefIdeal.nD Cert.BranchDwRefIdeal.τ).loc Cert.BranchDwRefIdeal.main_arg2) = m' ((c.tc : Thread Cert.BranchDwRefIdeal.nD Cert.BranchDwRefIdeal.τ).loc Cert.BranchDwRefIdeal.main_arg2))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)
      ∧ m' ((c.tc : Thread Cert.ProjDxRefIdeal.nD Cert.ProjDxRefIdeal.τ).loc Cert.ProjDxRefIdeal.main_arg2) = m ((c.tc : Thread Cert.ProjDxIdeal.nD Cert.ProjDxIdeal.τ).loc Cert.ProjDxIdeal.main_arg2)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v6) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
          ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)
      ∧ m' ((c.tc : Thread Cert.ProjDwRefIdeal.nD Cert.ProjDwRefIdeal.τ).loc Cert.ProjDwRefIdeal.main_arg2) = m ((c.tc : Thread Cert.ProjDwIdeal.nD Cert.ProjDwIdeal.τ).loc Cert.ProjDwIdeal.main_arg2)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
          ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v8) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1)
          ∧ r.2.mem ((c.tc : Thread Cert.ProjDwRefIdeal.nD Cert.ProjDwRefIdeal.τ).loc Cert.ProjDwRefIdeal.main_arg2) = m' ((c.tc : Thread Cert.ProjDwRefIdeal.nD Cert.ProjDwRefIdeal.τ).loc Cert.ProjDwRefIdeal.main_arg2))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)) →
    ∃ (v0 : (c : Dev Cert.ProjFwdIdeal.nD) → Buf (Elt Ideal) ((c.tc : Thread Cert.ProjFwdIdeal.nD Cert.ProjFwdIdeal.τ).loc Cert.ProjFwdIdeal.main_v0)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v0) = v0 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v2) = v0 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1))

def preserves_BranchFwd_BranchFwdIdeal : Prop :=
  True

def algebraic_BranchFwdIdeal_BranchFwdRefIdeal [hBranchFwdIdeal : Cert.BranchFwdIdeal.Facts] [hBranchFwdRefIdeal : Cert.BranchFwdRefIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg)
    (m' : (ℓ : Loc Cert.BranchFwdRefIdeal.nD Cert.BranchFwdRefIdeal.τ Cert.BranchFwdRefIdeal.sig) → Buf (Elt Ideal) ℓ) (g' : Dev Cert.BranchFwdRefIdeal.nD → PrngReg), Pre_BranchFwdIdeal m →
    (∀ c : Dev Cert.BranchFwdIdeal.nD,
      m' ((c.tc : Thread Cert.BranchFwdRefIdeal.nD Cert.BranchFwdRefIdeal.τ).loc Cert.BranchFwdRefIdeal.main_arg0) = m ((c.tc : Thread Cert.BranchFwdIdeal.nD Cert.BranchFwdIdeal.τ).loc Cert.BranchFwdIdeal.main_arg0)
      ∧ m' ((c.tc : Thread Cert.BranchFwdRefIdeal.nD Cert.BranchFwdRefIdeal.τ).loc Cert.BranchFwdRefIdeal.main_arg1) = m ((c.tc : Thread Cert.BranchFwdIdeal.nD Cert.BranchFwdIdeal.τ).loc Cert.BranchFwdIdeal.main_arg1)) →
    ∃ (v0 : (c : Dev Cert.BranchFwdIdeal.nD) → Buf (Elt Ideal) ((c.tc : Thread Cert.BranchFwdIdeal.nD Cert.BranchFwdIdeal.τ).loc Cert.BranchFwdIdeal.main_v0)),
      θ_run (Cert.BranchFwdIdeal.defs (F := Ideal)) (onTc (τ := Cert.BranchFwdIdeal.τ) (Cert.BranchFwdIdeal.main (F := Ideal))) ⟨m, fun _ => 0, g⟩ (fun r => ∀ c : Dev Cert.BranchFwdIdeal.nD,
          r.2.mem ((c.tc : Thread Cert.BranchFwdIdeal.nD Cert.BranchFwdIdeal.τ).loc Cert.BranchFwdIdeal.main_v0) = v0 c
          ∧ r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
          ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ θ_run (Cert.BranchFwdRefIdeal.defs (F := Ideal)) (onTc (τ := Cert.BranchFwdRefIdeal.τ) (Cert.BranchFwdRefIdeal.main (F := Ideal))) ⟨m', fun _ => 0, g'⟩ (fun r => ∀ c : Dev Cert.BranchFwdRefIdeal.nD,
          r.2.mem ((c.tc : Thread Cert.BranchFwdRefIdeal.nD Cert.BranchFwdRefIdeal.τ).loc Cert.BranchFwdRefIdeal.main_v2) = v0 c
          ∧ r.2.mem ((c.tc : Thread Cert.BranchFwdRefIdeal.nD Cert.BranchFwdRefIdeal.τ).loc Cert.BranchFwdRefIdeal.main_arg0) = m' ((c.tc : Thread Cert.BranchFwdRefIdeal.nD Cert.BranchFwdRefIdeal.τ).loc Cert.BranchFwdRefIdeal.main_arg0)
          ∧ r.2.mem ((c.tc : Thread Cert.BranchFwdRefIdeal.nD Cert.BranchFwdRefIdeal.τ).loc Cert.BranchFwdRefIdeal.main_arg1) = m' ((c.tc : Thread Cert.BranchFwdRefIdeal.nD Cert.BranchFwdRefIdeal.τ).loc Cert.BranchFwdRefIdeal.main_arg1))

def preserves_WoFwd_WoFwdIdeal : Prop :=
  True

def algebraic_WoFwdIdeal_WoFwdRefIdeal [hWoFwdIdeal : Cert.WoFwdIdeal.Facts] [hWoFwdRefIdeal : Cert.WoFwdRefIdeal.Facts] : Prop :=
  ∀ (m : (ℓ : Loc Cert.WoFwdIdeal.nD Cert.WoFwdIdeal.τ Cert.WoFwdIdeal.sig) → Buf (Elt Ideal) ℓ) (g : Dev Cert.WoFwdIdeal.nD → PrngReg)
    (m' : (ℓ : Loc Cert.WoFwdRefIdeal.nD Cert.WoFwdRefIdeal.τ Cert.WoFwdRefIdeal.sig) → Buf (Elt Ideal) ℓ) (g' : Dev Cert.WoFwdRefIdeal.nD → PrngReg), Pre_WoFwdIdeal m →
    (∀ c : Dev Cert.WoFwdIdeal.nD,
      m' ((c.tc : Thread Cert.WoFwdRefIdeal.nD Cert.WoFwdRefIdeal.τ).loc Cert.WoFwdRefIdeal.main_arg0) = m ((c.tc : Thread Cert.WoFwdIdeal.nD Cert.WoFwdIdeal.τ).loc Cert.WoFwdIdeal.main_arg0)
      ∧ m' ((c.tc : Thread Cert.WoFwdRefIdeal.nD Cert.WoFwdRefIdeal.τ).loc Cert.WoFwdRefIdeal.main_arg1) = m ((c.tc : Thread Cert.WoFwdIdeal.nD Cert.WoFwdIdeal.τ).loc Cert.WoFwdIdeal.main_arg1)
      ∧ m' ((c.tc : Thread Cert.WoFwdRefIdeal.nD Cert.WoFwdRefIdeal.τ).loc Cert.WoFwdRefIdeal.main_arg2) = m ((c.tc : Thread Cert.WoFwdIdeal.nD Cert.WoFwdIdeal.τ).loc Cert.WoFwdIdeal.main_arg2)) →
    ∃ (v0 : (c : Dev Cert.WoFwdIdeal.nD) → Buf (Elt Ideal) ((c.tc : Thread Cert.WoFwdIdeal.nD Cert.WoFwdIdeal.τ).loc Cert.WoFwdIdeal.main_v0)),
      θ_run (Cert.WoFwdIdeal.defs (F := Ideal)) (onTc (τ := Cert.WoFwdIdeal.τ) (Cert.WoFwdIdeal.main (F := Ideal))) ⟨m, fun _ => 0, g⟩ (fun r => ∀ c : Dev Cert.WoFwdIdeal.nD,
          r.2.mem ((c.tc : Thread Cert.WoFwdIdeal.nD Cert.WoFwdIdeal.τ).loc Cert.WoFwdIdeal.main_v0) = v0 c
          ∧ r.2.mem ((c.tc : Thread Cert.WoFwdIdeal.nD Cert.WoFwdIdeal.τ).loc Cert.WoFwdIdeal.main_arg0) = m ((c.tc : Thread Cert.WoFwdIdeal.nD Cert.WoFwdIdeal.τ).loc Cert.WoFwdIdeal.main_arg0)
          ∧ r.2.mem ((c.tc : Thread Cert.WoFwdIdeal.nD Cert.WoFwdIdeal.τ).loc Cert.WoFwdIdeal.main_arg1) = m ((c.tc : Thread Cert.WoFwdIdeal.nD Cert.WoFwdIdeal.τ).loc Cert.WoFwdIdeal.main_arg1)
          ∧ r.2.mem ((c.tc : Thread Cert.WoFwdIdeal.nD Cert.WoFwdIdeal.τ).loc Cert.WoFwdIdeal.main_arg2) = m ((c.tc : Thread Cert.WoFwdIdeal.nD Cert.WoFwdIdeal.τ).loc Cert.WoFwdIdeal.main_arg2))
      ∧ θ_run (Cert.WoFwdRefIdeal.defs (F := Ideal)) (onTc (τ := Cert.WoFwdRefIdeal.τ) (Cert.WoFwdRefIdeal.main (F := Ideal))) ⟨m', fun _ => 0, g'⟩ (fun r => ∀ c : Dev Cert.WoFwdRefIdeal.nD,
          r.2.mem ((c.tc : Thread Cert.WoFwdRefIdeal.nD Cert.WoFwdRefIdeal.τ).loc Cert.WoFwdRefIdeal.main_v3) = v0 c
          ∧ r.2.mem ((c.tc : Thread Cert.WoFwdRefIdeal.nD Cert.WoFwdRefIdeal.τ).loc Cert.WoFwdRefIdeal.main_arg0) = m' ((c.tc : Thread Cert.WoFwdRefIdeal.nD Cert.WoFwdRefIdeal.τ).loc Cert.WoFwdRefIdeal.main_arg0)
          ∧ r.2.mem ((c.tc : Thread Cert.WoFwdRefIdeal.nD Cert.WoFwdRefIdeal.τ).loc Cert.WoFwdRefIdeal.main_arg1) = m' ((c.tc : Thread Cert.WoFwdRefIdeal.nD Cert.WoFwdRefIdeal.τ).loc Cert.WoFwdRefIdeal.main_arg1)
          ∧ r.2.mem ((c.tc : Thread Cert.WoFwdRefIdeal.nD Cert.WoFwdRefIdeal.τ).loc Cert.WoFwdRefIdeal.main_arg2) = m' ((c.tc : Thread Cert.WoFwdRefIdeal.nD Cert.WoFwdRefIdeal.τ).loc Cert.WoFwdRefIdeal.main_arg2))

def preserves_GateUpFwd_GateUpFwdIdeal : Prop :=
  True

def algebraic_GateUpFwdIdeal_GateUpFwdRefIdeal [hGateUpFwdIdeal : Cert.GateUpFwdIdeal.Facts] [hGateUpFwdRefIdeal : Cert.GateUpFwdRefIdeal.Facts] : Prop :=
  ∀ (m : (ℓ : Loc Cert.GateUpFwdIdeal.nD Cert.GateUpFwdIdeal.τ Cert.GateUpFwdIdeal.sig) → Buf (Elt Ideal) ℓ) (g : Dev Cert.GateUpFwdIdeal.nD → PrngReg)
    (m' : (ℓ : Loc Cert.GateUpFwdRefIdeal.nD Cert.GateUpFwdRefIdeal.τ Cert.GateUpFwdRefIdeal.sig) → Buf (Elt Ideal) ℓ) (g' : Dev Cert.GateUpFwdRefIdeal.nD → PrngReg), Pre_GateUpFwdIdeal m →
    (∀ c : Dev Cert.GateUpFwdIdeal.nD,
      m' ((c.tc : Thread Cert.GateUpFwdRefIdeal.nD Cert.GateUpFwdRefIdeal.τ).loc Cert.GateUpFwdRefIdeal.main_arg0) = m ((c.tc : Thread Cert.GateUpFwdIdeal.nD Cert.GateUpFwdIdeal.τ).loc Cert.GateUpFwdIdeal.main_arg0)
      ∧ m' ((c.tc : Thread Cert.GateUpFwdRefIdeal.nD Cert.GateUpFwdRefIdeal.τ).loc Cert.GateUpFwdRefIdeal.main_arg1) = m ((c.tc : Thread Cert.GateUpFwdIdeal.nD Cert.GateUpFwdIdeal.τ).loc Cert.GateUpFwdIdeal.main_arg1)) →
    ∃ (v0 : (c : Dev Cert.GateUpFwdIdeal.nD) → Buf (Elt Ideal) ((c.tc : Thread Cert.GateUpFwdIdeal.nD Cert.GateUpFwdIdeal.τ).loc Cert.GateUpFwdIdeal.main_v0)),
      θ_run (Cert.GateUpFwdIdeal.defs (F := Ideal)) (onTc (τ := Cert.GateUpFwdIdeal.τ) (Cert.GateUpFwdIdeal.main (F := Ideal))) ⟨m, fun _ => 0, g⟩ (fun r => ∀ c : Dev Cert.GateUpFwdIdeal.nD,
          r.2.mem ((c.tc : Thread Cert.GateUpFwdIdeal.nD Cert.GateUpFwdIdeal.τ).loc Cert.GateUpFwdIdeal.main_v0) = v0 c
          ∧ r.2.mem ((c.tc : Thread Cert.GateUpFwdIdeal.nD Cert.GateUpFwdIdeal.τ).loc Cert.GateUpFwdIdeal.main_arg0) = m ((c.tc : Thread Cert.GateUpFwdIdeal.nD Cert.GateUpFwdIdeal.τ).loc Cert.GateUpFwdIdeal.main_arg0)
          ∧ r.2.mem ((c.tc : Thread Cert.GateUpFwdIdeal.nD Cert.GateUpFwdIdeal.τ).loc Cert.GateUpFwdIdeal.main_arg1) = m ((c.tc : Thread Cert.GateUpFwdIdeal.nD Cert.GateUpFwdIdeal.τ).loc Cert.GateUpFwdIdeal.main_arg1))
      ∧ θ_run (Cert.GateUpFwdRefIdeal.defs (F := Ideal)) (onTc (τ := Cert.GateUpFwdRefIdeal.τ) (Cert.GateUpFwdRefIdeal.main (F := Ideal))) ⟨m', fun _ => 0, g'⟩ (fun r => ∀ c : Dev Cert.GateUpFwdRefIdeal.nD,
          r.2.mem ((c.tc : Thread Cert.GateUpFwdRefIdeal.nD Cert.GateUpFwdRefIdeal.τ).loc Cert.GateUpFwdRefIdeal.main_v2) = v0 c
          ∧ r.2.mem ((c.tc : Thread Cert.GateUpFwdRefIdeal.nD Cert.GateUpFwdRefIdeal.τ).loc Cert.GateUpFwdRefIdeal.main_arg0) = m' ((c.tc : Thread Cert.GateUpFwdRefIdeal.nD Cert.GateUpFwdRefIdeal.τ).loc Cert.GateUpFwdRefIdeal.main_arg0)
          ∧ r.2.mem ((c.tc : Thread Cert.GateUpFwdRefIdeal.nD Cert.GateUpFwdRefIdeal.τ).loc Cert.GateUpFwdRefIdeal.main_arg1) = m' ((c.tc : Thread Cert.GateUpFwdRefIdeal.nD Cert.GateUpFwdRefIdeal.τ).loc Cert.GateUpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v3) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_SwigluBwd_SwigluBwdIdeal : Prop :=
  True

def algebraic_SwigluBwdIdeal_SwigluBwdRefIdeal [hSwigluBwdIdeal : Cert.SwigluBwdIdeal.Facts] [hSwigluBwdRefIdeal : Cert.SwigluBwdRefIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)) →
    ∃ (v0 : (c : Dev Cert.SwigluBwdIdeal.nD) → Buf (Elt Ideal) ((c.tc : Thread Cert.SwigluBwdIdeal.nD Cert.SwigluBwdIdeal.τ).loc Cert.SwigluBwdIdeal.main_v0_0)) (v1 : (c : Dev Cert.SwigluBwdIdeal.nD) → Buf (Elt Ideal) ((c.tc : Thread Cert.SwigluBwdIdeal.nD Cert.SwigluBwdIdeal.τ).loc Cert.SwigluBwdIdeal.main_v0_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0_0) = v0 c
          ∧ r.2.mem ((c.tc : Thread Cert.SwigluBwdIdeal.nD Cert.SwigluBwdIdeal.τ).loc Cert.SwigluBwdIdeal.main_v0_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v10) = v0 c
          ∧ r.2.mem ((c.tc : Thread Cert.SwigluBwdRefIdeal.nD Cert.SwigluBwdRefIdeal.τ).loc Cert.SwigluBwdRefIdeal.main_v11) = v1 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v25) = v0 c
          ∧ r.2.mem ((c.tc : Thread Cert.MergeBwdRefIdeal.nD Cert.MergeBwdRefIdeal.τ).loc Cert.MergeBwdRefIdeal.main_v26) = v1 c
          ∧ r.2.mem ((c.tc : Thread Cert.MergeBwdRefIdeal.nD Cert.MergeBwdRefIdeal.τ).loc Cert.MergeBwdRefIdeal.main_v27) = v2 c
          ∧ r.2.mem ((c.tc : Thread Cert.MergeBwdRefIdeal.nD Cert.MergeBwdRefIdeal.τ).loc Cert.MergeBwdRefIdeal.main_v28) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v34) = v0 c
          ∧ r.2.mem ((c.tc : Thread Cert.RmsBwdRefIdeal.nD Cert.RmsBwdRefIdeal.τ).loc Cert.RmsBwdRefIdeal.main_v17) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_SwigluFwd_SwigluFwdIdeal : Prop :=
  True

def algebraic_SwigluFwdIdeal_SwigluFwdRefIdeal [hSwigluFwdIdeal : Cert.SwigluFwdIdeal.Facts] [hSwigluFwdRefIdeal : Cert.SwigluFwdRefIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdRefIdeal.nD Cert.SwigluFwdRefIdeal.τ Cert.SwigluFwdRefIdeal.sig) → Buf (Elt Ideal) ℓ) (g' : Dev Cert.SwigluFwdRefIdeal.nD → PrngReg), Pre_SwigluFwdIdeal m →
    (∀ c : Dev Cert.SwigluFwdIdeal.nD,
      m' ((c.tc : Thread Cert.SwigluFwdRefIdeal.nD Cert.SwigluFwdRefIdeal.τ).loc Cert.SwigluFwdRefIdeal.main_arg0) = m ((c.tc : Thread Cert.SwigluFwdIdeal.nD Cert.SwigluFwdIdeal.τ).loc Cert.SwigluFwdIdeal.main_arg0)) →
    ∃ (v0 : (c : Dev Cert.SwigluFwdIdeal.nD) → Buf (Elt Ideal) ((c.tc : Thread Cert.SwigluFwdIdeal.nD Cert.SwigluFwdIdeal.τ).loc Cert.SwigluFwdIdeal.main_v0)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v0) = v0 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0))
      ∧ θ_run (Cert.SwigluFwdRefIdeal.defs (F := Ideal)) (onTc (τ := Cert.SwigluFwdRefIdeal.τ) (Cert.SwigluFwdRefIdeal.main (F := Ideal))) ⟨m', fun _ => 0, g'⟩ (fun r => ∀ c : Dev Cert.SwigluFwdRefIdeal.nD,
          r.2.mem ((c.tc : Thread Cert.SwigluFwdRefIdeal.nD Cert.SwigluFwdRefIdeal.τ).loc Cert.SwigluFwdRefIdeal.main_v4) = v0 c
          ∧ r.2.mem ((c.tc : Thread Cert.SwigluFwdRefIdeal.nD Cert.SwigluFwdRefIdeal.τ).loc Cert.SwigluFwdRefIdeal.main_arg0) = m' ((c.tc : Thread Cert.SwigluFwdRefIdeal.nD Cert.SwigluFwdRefIdeal.τ).loc Cert.SwigluFwdRefIdeal.main_arg0))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v12) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v16) = v0 c
          ∧ r.2.mem ((c.tc : Thread Cert.LossRefIdeal.nD Cert.LossRefIdeal.τ).loc Cert.LossRefIdeal.main_v17) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamGateUp_AdamGateUpIdeal : Prop :=
  True

def algebraic_AdamGateUpIdeal_AdamGateUpRefIdeal [hAdamGateUpIdeal : Cert.AdamGateUpIdeal.Facts] [hAdamGateUpRefIdeal : Cert.AdamGateUpRefIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg)
    (m' : (ℓ : Loc Cert.AdamGateUpRefIdeal.nD Cert.AdamGateUpRefIdeal.τ Cert.AdamGateUpRefIdeal.sig) → Buf (Elt Ideal) ℓ) (g' : Dev Cert.AdamGateUpRefIdeal.nD → PrngReg), Pre_AdamGateUpIdeal m →
    (∀ c : Dev Cert.AdamGateUpIdeal.nD,
      m' ((c.tc : Thread Cert.AdamGateUpRefIdeal.nD Cert.AdamGateUpRefIdeal.τ).loc Cert.AdamGateUpRefIdeal.main_arg0) = m ((c.tc : Thread Cert.AdamGateUpIdeal.nD Cert.AdamGateUpIdeal.τ).loc Cert.AdamGateUpIdeal.main_arg0)
      ∧ m' ((c.tc : Thread Cert.AdamGateUpRefIdeal.nD Cert.AdamGateUpRefIdeal.τ).loc Cert.AdamGateUpRefIdeal.main_arg1) = m ((c.tc : Thread Cert.AdamGateUpIdeal.nD Cert.AdamGateUpIdeal.τ).loc Cert.AdamGateUpIdeal.main_arg1)
      ∧ m' ((c.tc : Thread Cert.AdamGateUpRefIdeal.nD Cert.AdamGateUpRefIdeal.τ).loc Cert.AdamGateUpRefIdeal.main_arg2) = m ((c.tc : Thread Cert.AdamGateUpIdeal.nD Cert.AdamGateUpIdeal.τ).loc Cert.AdamGateUpIdeal.main_arg2)
      ∧ m' ((c.tc : Thread Cert.AdamGateUpRefIdeal.nD Cert.AdamGateUpRefIdeal.τ).loc Cert.AdamGateUpRefIdeal.main_arg3) = m ((c.tc : Thread Cert.AdamGateUpIdeal.nD Cert.AdamGateUpIdeal.τ).loc Cert.AdamGateUpIdeal.main_arg3)) →
    ∃ (v0 : (c : Dev Cert.AdamGateUpIdeal.nD) → Buf (Elt Ideal) ((c.tc : Thread Cert.AdamGateUpIdeal.nD Cert.AdamGateUpIdeal.τ).loc Cert.AdamGateUpIdeal.main_v0_0)) (v1 : (c : Dev Cert.AdamGateUpIdeal.nD) → Buf (Elt Ideal) ((c.tc : Thread Cert.AdamGateUpIdeal.nD Cert.AdamGateUpIdeal.τ).loc Cert.AdamGateUpIdeal.main_v0_1)) (v2 : (c : Dev Cert.AdamGateUpIdeal.nD) → Buf (Elt Ideal) ((c.tc : Thread Cert.AdamGateUpIdeal.nD Cert.AdamGateUpIdeal.τ).loc Cert.AdamGateUpIdeal.main_v0_2)),
      θ_run (Cert.AdamGateUpIdeal.defs (F := Ideal)) (onTc (τ := Cert.AdamGateUpIdeal.τ) (Cert.AdamGateUpIdeal.main (F := Ideal))) ⟨m, fun _ => 0, g⟩ (fun r => ∀ c : Dev Cert.AdamGateUpIdeal.nD,
          r.2.mem ((c.tc : Thread Cert.AdamGateUpIdeal.nD Cert.AdamGateUpIdeal.τ).loc Cert.AdamGateUpIdeal.main_v0_0) = v0 c
          ∧ r.2.mem ((c.tc : Thread Cert.AdamGateUpIdeal.nD Cert.AdamGateUpIdeal.τ).loc Cert.AdamGateUpIdeal.main_v0_1) = v1 c
          ∧ r.2.mem ((c.tc : Thread Cert.AdamGateUpIdeal.nD Cert.AdamGateUpIdeal.τ).loc Cert.AdamGateUpIdeal.main_v0_2) = v2 c
          ∧ r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
          ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
          ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
          ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ θ_run (Cert.AdamGateUpRefIdeal.defs (F := Ideal)) (onTc (τ := Cert.AdamGateUpRefIdeal.τ) (Cert.AdamGateUpRefIdeal.main (F := Ideal))) ⟨m', fun _ => 0, g'⟩ (fun r => ∀ c : Dev Cert.AdamGateUpRefIdeal.nD,
          r.2.mem ((c.tc : Thread Cert.AdamGateUpRefIdeal.nD Cert.AdamGateUpRefIdeal.τ).loc Cert.AdamGateUpRefIdeal.main_v23) = v0 c
          ∧ r.2.mem ((c.tc : Thread Cert.AdamGateUpRefIdeal.nD Cert.AdamGateUpRefIdeal.τ).loc Cert.AdamGateUpRefIdeal.main_v4) = v1 c
          ∧ r.2.mem ((c.tc : Thread Cert.AdamGateUpRefIdeal.nD Cert.AdamGateUpRefIdeal.τ).loc Cert.AdamGateUpRefIdeal.main_v10) = v2 c
          ∧ r.2.mem ((c.tc : Thread Cert.AdamGateUpRefIdeal.nD Cert.AdamGateUpRefIdeal.τ).loc Cert.AdamGateUpRefIdeal.main_arg0) = m' ((c.tc : Thread Cert.AdamGateUpRefIdeal.nD Cert.AdamGateUpRefIdeal.τ).loc Cert.AdamGateUpRefIdeal.main_arg0)
          ∧ r.2.mem ((c.tc : Thread Cert.AdamGateUpRefIdeal.nD Cert.AdamGateUpRefIdeal.τ).loc Cert.AdamGateUpRefIdeal.main_arg1) = m' ((c.tc : Thread Cert.AdamGateUpRefIdeal.nD Cert.AdamGateUpRefIdeal.τ).loc Cert.AdamGateUpRefIdeal.main_arg1)
          ∧ r.2.mem ((c.tc : Thread Cert.AdamGateUpRefIdeal.nD Cert.AdamGateUpRefIdeal.τ).loc Cert.AdamGateUpRefIdeal.main_arg2) = m' ((c.tc : Thread Cert.AdamGateUpRefIdeal.nD Cert.AdamGateUpRefIdeal.τ).loc Cert.AdamGateUpRefIdeal.main_arg2)
          ∧ r.2.mem ((c.tc : Thread Cert.AdamGateUpRefIdeal.nD Cert.AdamGateUpRefIdeal.τ).loc Cert.AdamGateUpRefIdeal.main_arg3) = m' ((c.tc : Thread Cert.AdamGateUpRefIdeal.nD Cert.AdamGateUpRefIdeal.τ).loc Cert.AdamGateUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamWo_AdamWoIdeal : Prop :=
  True

def algebraic_AdamWoIdeal_AdamWoRefIdeal [hAdamWoIdeal : Cert.AdamWoIdeal.Facts] [hAdamWoRefIdeal : Cert.AdamWoRefIdeal.Facts] : Prop :=
  ∀ (m : (ℓ : Loc Cert.AdamWoIdeal.nD Cert.AdamWoIdeal.τ Cert.AdamWoIdeal.sig) → Buf (Elt Ideal) ℓ) (g : Dev Cert.AdamWoIdeal.nD → PrngReg)
    (m' : (ℓ : Loc Cert.AdamWoRefIdeal.nD Cert.AdamWoRefIdeal.τ Cert.AdamWoRefIdeal.sig) → Buf (Elt Ideal) ℓ) (g' : Dev Cert.AdamWoRefIdeal.nD → PrngReg), Pre_AdamWoIdeal m →
    (∀ c : Dev Cert.AdamWoIdeal.nD,
      m' ((c.tc : Thread Cert.AdamWoRefIdeal.nD Cert.AdamWoRefIdeal.τ).loc Cert.AdamWoRefIdeal.main_arg0) = m ((c.tc : Thread Cert.AdamWoIdeal.nD Cert.AdamWoIdeal.τ).loc Cert.AdamWoIdeal.main_arg0)
      ∧ m' ((c.tc : Thread Cert.AdamWoRefIdeal.nD Cert.AdamWoRefIdeal.τ).loc Cert.AdamWoRefIdeal.main_arg1) = m ((c.tc : Thread Cert.AdamWoIdeal.nD Cert.AdamWoIdeal.τ).loc Cert.AdamWoIdeal.main_arg1)
      ∧ m' ((c.tc : Thread Cert.AdamWoRefIdeal.nD Cert.AdamWoRefIdeal.τ).loc Cert.AdamWoRefIdeal.main_arg2) = m ((c.tc : Thread Cert.AdamWoIdeal.nD Cert.AdamWoIdeal.τ).loc Cert.AdamWoIdeal.main_arg2)
      ∧ m' ((c.tc : Thread Cert.AdamWoRefIdeal.nD Cert.AdamWoRefIdeal.τ).loc Cert.AdamWoRefIdeal.main_arg3) = m ((c.tc : Thread Cert.AdamWoIdeal.nD Cert.AdamWoIdeal.τ).loc Cert.AdamWoIdeal.main_arg3)) →
    ∃ (v0 : (c : Dev Cert.AdamWoIdeal.nD) → Buf (Elt Ideal) ((c.tc : Thread Cert.AdamWoIdeal.nD Cert.AdamWoIdeal.τ).loc Cert.AdamWoIdeal.main_v0_0)) (v1 : (c : Dev Cert.AdamWoIdeal.nD) → Buf (Elt Ideal) ((c.tc : Thread Cert.AdamWoIdeal.nD Cert.AdamWoIdeal.τ).loc Cert.AdamWoIdeal.main_v0_1)) (v2 : (c : Dev Cert.AdamWoIdeal.nD) → Buf (Elt Ideal) ((c.tc : Thread Cert.AdamWoIdeal.nD Cert.AdamWoIdeal.τ).loc Cert.AdamWoIdeal.main_v0_2)),
      θ_run (Cert.AdamWoIdeal.defs (F := Ideal)) (onTc (τ := Cert.AdamWoIdeal.τ) (Cert.AdamWoIdeal.main (F := Ideal))) ⟨m, fun _ => 0, g⟩ (fun r => ∀ c : Dev Cert.AdamWoIdeal.nD,
          r.2.mem ((c.tc : Thread Cert.AdamWoIdeal.nD Cert.AdamWoIdeal.τ).loc Cert.AdamWoIdeal.main_v0_0) = v0 c
          ∧ r.2.mem ((c.tc : Thread Cert.AdamWoIdeal.nD Cert.AdamWoIdeal.τ).loc Cert.AdamWoIdeal.main_v0_1) = v1 c
          ∧ r.2.mem ((c.tc : Thread Cert.AdamWoIdeal.nD Cert.AdamWoIdeal.τ).loc Cert.AdamWoIdeal.main_v0_2) = v2 c
          ∧ r.2.mem ((c.tc : Thread Cert.AdamWoIdeal.nD Cert.AdamWoIdeal.τ).loc Cert.AdamWoIdeal.main_arg0) = m ((c.tc : Thread Cert.AdamWoIdeal.nD Cert.AdamWoIdeal.τ).loc Cert.AdamWoIdeal.main_arg0)
          ∧ r.2.mem ((c.tc : Thread Cert.AdamWoIdeal.nD Cert.AdamWoIdeal.τ).loc Cert.AdamWoIdeal.main_arg1) = m ((c.tc : Thread Cert.AdamWoIdeal.nD Cert.AdamWoIdeal.τ).loc Cert.AdamWoIdeal.main_arg1)
          ∧ r.2.mem ((c.tc : Thread Cert.AdamWoIdeal.nD Cert.AdamWoIdeal.τ).loc Cert.AdamWoIdeal.main_arg2) = m ((c.tc : Thread Cert.AdamWoIdeal.nD Cert.AdamWoIdeal.τ).loc Cert.AdamWoIdeal.main_arg2)
          ∧ r.2.mem ((c.tc : Thread Cert.AdamWoIdeal.nD Cert.AdamWoIdeal.τ).loc Cert.AdamWoIdeal.main_arg3) = m ((c.tc : Thread Cert.AdamWoIdeal.nD Cert.AdamWoIdeal.τ).loc Cert.AdamWoIdeal.main_arg3))
      ∧ θ_run (Cert.AdamWoRefIdeal.defs (F := Ideal)) (onTc (τ := Cert.AdamWoRefIdeal.τ) (Cert.AdamWoRefIdeal.main (F := Ideal))) ⟨m', fun _ => 0, g'⟩ (fun r => ∀ c : Dev Cert.AdamWoRefIdeal.nD,
          r.2.mem ((c.tc : Thread Cert.AdamWoRefIdeal.nD Cert.AdamWoRefIdeal.τ).loc Cert.AdamWoRefIdeal.main_v23) = v0 c
          ∧ r.2.mem ((c.tc : Thread Cert.AdamWoRefIdeal.nD Cert.AdamWoRefIdeal.τ).loc Cert.AdamWoRefIdeal.main_v4) = v1 c
          ∧ r.2.mem ((c.tc : Thread Cert.AdamWoRefIdeal.nD Cert.AdamWoRefIdeal.τ).loc Cert.AdamWoRefIdeal.main_v10) = v2 c
          ∧ r.2.mem ((c.tc : Thread Cert.AdamWoRefIdeal.nD Cert.AdamWoRefIdeal.τ).loc Cert.AdamWoRefIdeal.main_arg0) = m' ((c.tc : Thread Cert.AdamWoRefIdeal.nD Cert.AdamWoRefIdeal.τ).loc Cert.AdamWoRefIdeal.main_arg0)
          ∧ r.2.mem ((c.tc : Thread Cert.AdamWoRefIdeal.nD Cert.AdamWoRefIdeal.τ).loc Cert.AdamWoRefIdeal.main_arg1) = m' ((c.tc : Thread Cert.AdamWoRefIdeal.nD Cert.AdamWoRefIdeal.τ).loc Cert.AdamWoRefIdeal.main_arg1)
          ∧ r.2.mem ((c.tc : Thread Cert.AdamWoRefIdeal.nD Cert.AdamWoRefIdeal.τ).loc Cert.AdamWoRefIdeal.main_arg2) = m' ((c.tc : Thread Cert.AdamWoRefIdeal.nD Cert.AdamWoRefIdeal.τ).loc Cert.AdamWoRefIdeal.main_arg2)
          ∧ r.2.mem ((c.tc : Thread Cert.AdamWoRefIdeal.nD Cert.AdamWoRefIdeal.τ).loc Cert.AdamWoRefIdeal.main_arg3) = m' ((c.tc : Thread Cert.AdamWoRefIdeal.nD Cert.AdamWoRefIdeal.τ).loc Cert.AdamWoRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v23) = v0 c
          ∧ r.2.mem ((c.tc : Thread Cert.AdamBranchRefIdeal.nD Cert.AdamBranchRefIdeal.τ).loc Cert.AdamBranchRefIdeal.main_v4) = v1 c
          ∧ r.2.mem ((c.tc : Thread Cert.AdamBranchRefIdeal.nD Cert.AdamBranchRefIdeal.τ).loc Cert.AdamBranchRefIdeal.main_v10) = v2 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamLora_AdamLoraIdeal : Prop :=
  True

def algebraic_AdamLoraIdeal_AdamLoraRefIdeal [hAdamLoraIdeal : Cert.AdamLoraIdeal.Facts] [hAdamLoraRefIdeal : Cert.AdamLoraRefIdeal.Facts] : Prop :=
  ∀ (m : (ℓ : Loc Cert.AdamLoraIdeal.nD Cert.AdamLoraIdeal.τ Cert.AdamLoraIdeal.sig) → Buf (Elt Ideal) ℓ) (g : Dev Cert.AdamLoraIdeal.nD → PrngReg)
    (m' : (ℓ : Loc Cert.AdamLoraRefIdeal.nD Cert.AdamLoraRefIdeal.τ Cert.AdamLoraRefIdeal.sig) → Buf (Elt Ideal) ℓ) (g' : Dev Cert.AdamLoraRefIdeal.nD → PrngReg), Pre_AdamLoraIdeal m →
    (∀ c : Dev Cert.AdamLoraIdeal.nD,
      m' ((c.tc : Thread Cert.AdamLoraRefIdeal.nD Cert.AdamLoraRefIdeal.τ).loc Cert.AdamLoraRefIdeal.main_arg0) = m ((c.tc : Thread Cert.AdamLoraIdeal.nD Cert.AdamLoraIdeal.τ).loc Cert.AdamLoraIdeal.main_arg0)
      ∧ m' ((c.tc : Thread Cert.AdamLoraRefIdeal.nD Cert.AdamLoraRefIdeal.τ).loc Cert.AdamLoraRefIdeal.main_arg1) = m ((c.tc : Thread Cert.AdamLoraIdeal.nD Cert.AdamLoraIdeal.τ).loc Cert.AdamLoraIdeal.main_arg1)
      ∧ m' ((c.tc : Thread Cert.AdamLoraRefIdeal.nD Cert.AdamLoraRefIdeal.τ).loc Cert.AdamLoraRefIdeal.main_arg2) = m ((c.tc : Thread Cert.AdamLoraIdeal.nD Cert.AdamLoraIdeal.τ).loc Cert.AdamLoraIdeal.main_arg2)
      ∧ m' ((c.tc : Thread Cert.AdamLoraRefIdeal.nD Cert.AdamLoraRefIdeal.τ).loc Cert.AdamLoraRefIdeal.main_arg3) = m ((c.tc : Thread Cert.AdamLoraIdeal.nD Cert.AdamLoraIdeal.τ).loc Cert.AdamLoraIdeal.main_arg3)) →
    ∃ (v0 : (c : Dev Cert.AdamLoraIdeal.nD) → Buf (Elt Ideal) ((c.tc : Thread Cert.AdamLoraIdeal.nD Cert.AdamLoraIdeal.τ).loc Cert.AdamLoraIdeal.main_v0_0)) (v1 : (c : Dev Cert.AdamLoraIdeal.nD) → Buf (Elt Ideal) ((c.tc : Thread Cert.AdamLoraIdeal.nD Cert.AdamLoraIdeal.τ).loc Cert.AdamLoraIdeal.main_v0_1)) (v2 : (c : Dev Cert.AdamLoraIdeal.nD) → Buf (Elt Ideal) ((c.tc : Thread Cert.AdamLoraIdeal.nD Cert.AdamLoraIdeal.τ).loc Cert.AdamLoraIdeal.main_v0_2)),
      θ_run (Cert.AdamLoraIdeal.defs (F := Ideal)) (onTc (τ := Cert.AdamLoraIdeal.τ) (Cert.AdamLoraIdeal.main (F := Ideal))) ⟨m, fun _ => 0, g⟩ (fun r => ∀ c : Dev Cert.AdamLoraIdeal.nD,
          r.2.mem ((c.tc : Thread Cert.AdamLoraIdeal.nD Cert.AdamLoraIdeal.τ).loc Cert.AdamLoraIdeal.main_v0_0) = v0 c
          ∧ r.2.mem ((c.tc : Thread Cert.AdamLoraIdeal.nD Cert.AdamLoraIdeal.τ).loc Cert.AdamLoraIdeal.main_v0_1) = v1 c
          ∧ r.2.mem ((c.tc : Thread Cert.AdamLoraIdeal.nD Cert.AdamLoraIdeal.τ).loc Cert.AdamLoraIdeal.main_v0_2) = v2 c
          ∧ r.2.mem ((c.tc : Thread Cert.AdamLoraIdeal.nD Cert.AdamLoraIdeal.τ).loc Cert.AdamLoraIdeal.main_arg0) = m ((c.tc : Thread Cert.AdamLoraIdeal.nD Cert.AdamLoraIdeal.τ).loc Cert.AdamLoraIdeal.main_arg0)
          ∧ r.2.mem ((c.tc : Thread Cert.AdamLoraIdeal.nD Cert.AdamLoraIdeal.τ).loc Cert.AdamLoraIdeal.main_arg1) = m ((c.tc : Thread Cert.AdamLoraIdeal.nD Cert.AdamLoraIdeal.τ).loc Cert.AdamLoraIdeal.main_arg1)
          ∧ r.2.mem ((c.tc : Thread Cert.AdamLoraIdeal.nD Cert.AdamLoraIdeal.τ).loc Cert.AdamLoraIdeal.main_arg2) = m ((c.tc : Thread Cert.AdamLoraIdeal.nD Cert.AdamLoraIdeal.τ).loc Cert.AdamLoraIdeal.main_arg2)
          ∧ r.2.mem ((c.tc : Thread Cert.AdamLoraIdeal.nD Cert.AdamLoraIdeal.τ).loc Cert.AdamLoraIdeal.main_arg3) = m ((c.tc : Thread Cert.AdamLoraIdeal.nD Cert.AdamLoraIdeal.τ).loc Cert.AdamLoraIdeal.main_arg3))
      ∧ θ_run (Cert.AdamLoraRefIdeal.defs (F := Ideal)) (onTc (τ := Cert.AdamLoraRefIdeal.τ) (Cert.AdamLoraRefIdeal.main (F := Ideal))) ⟨m', fun _ => 0, g'⟩ (fun r => ∀ c : Dev Cert.AdamLoraRefIdeal.nD,
          r.2.mem ((c.tc : Thread Cert.AdamLoraRefIdeal.nD Cert.AdamLoraRefIdeal.τ).loc Cert.AdamLoraRefIdeal.main_v23) = v0 c
          ∧ r.2.mem ((c.tc : Thread Cert.AdamLoraRefIdeal.nD Cert.AdamLoraRefIdeal.τ).loc Cert.AdamLoraRefIdeal.main_v4) = v1 c
          ∧ r.2.mem ((c.tc : Thread Cert.AdamLoraRefIdeal.nD Cert.AdamLoraRefIdeal.τ).loc Cert.AdamLoraRefIdeal.main_v10) = v2 c
          ∧ r.2.mem ((c.tc : Thread Cert.AdamLoraRefIdeal.nD Cert.AdamLoraRefIdeal.τ).loc Cert.AdamLoraRefIdeal.main_arg0) = m' ((c.tc : Thread Cert.AdamLoraRefIdeal.nD Cert.AdamLoraRefIdeal.τ).loc Cert.AdamLoraRefIdeal.main_arg0)
          ∧ r.2.mem ((c.tc : Thread Cert.AdamLoraRefIdeal.nD Cert.AdamLoraRefIdeal.τ).loc Cert.AdamLoraRefIdeal.main_arg1) = m' ((c.tc : Thread Cert.AdamLoraRefIdeal.nD Cert.AdamLoraRefIdeal.τ).loc Cert.AdamLoraRefIdeal.main_arg1)
          ∧ r.2.mem ((c.tc : Thread Cert.AdamLoraRefIdeal.nD Cert.AdamLoraRefIdeal.τ).loc Cert.AdamLoraRefIdeal.main_arg2) = m' ((c.tc : Thread Cert.AdamLoraRefIdeal.nD Cert.AdamLoraRefIdeal.τ).loc Cert.AdamLoraRefIdeal.main_arg2)
          ∧ r.2.mem ((c.tc : Thread Cert.AdamLoraRefIdeal.nD Cert.AdamLoraRefIdeal.τ).loc Cert.AdamLoraRefIdeal.main_arg3) = m' ((c.tc : Thread Cert.AdamLoraRefIdeal.nD Cert.AdamLoraRefIdeal.τ).loc Cert.AdamLoraRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamMeta_AdamMetaIdeal : Prop :=
  True

def algebraic_AdamMetaIdeal_AdamMetaRefIdeal [hAdamMetaIdeal : Cert.AdamMetaIdeal.Facts] [hAdamMetaRefIdeal : Cert.AdamMetaRefIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg)
    (m' : (ℓ : Loc Cert.AdamMetaRefIdeal.nD Cert.AdamMetaRefIdeal.τ Cert.AdamMetaRefIdeal.sig) → Buf (Elt Ideal) ℓ) (g' : Dev Cert.AdamMetaRefIdeal.nD → PrngReg), Pre_AdamMetaIdeal m →
    (∀ c : Dev Cert.AdamMetaIdeal.nD,
      m' ((c.tc : Thread Cert.AdamMetaRefIdeal.nD Cert.AdamMetaRefIdeal.τ).loc Cert.AdamMetaRefIdeal.main_arg0) = m ((c.tc : Thread Cert.AdamMetaIdeal.nD Cert.AdamMetaIdeal.τ).loc Cert.AdamMetaIdeal.main_arg0)
      ∧ m' ((c.tc : Thread Cert.AdamMetaRefIdeal.nD Cert.AdamMetaRefIdeal.τ).loc Cert.AdamMetaRefIdeal.main_arg1) = m ((c.tc : Thread Cert.AdamMetaIdeal.nD Cert.AdamMetaIdeal.τ).loc Cert.AdamMetaIdeal.main_arg1)
      ∧ m' ((c.tc : Thread Cert.AdamMetaRefIdeal.nD Cert.AdamMetaRefIdeal.τ).loc Cert.AdamMetaRefIdeal.main_arg2) = m ((c.tc : Thread Cert.AdamMetaIdeal.nD Cert.AdamMetaIdeal.τ).loc Cert.AdamMetaIdeal.main_arg2)
      ∧ m' ((c.tc : Thread Cert.AdamMetaRefIdeal.nD Cert.AdamMetaRefIdeal.τ).loc Cert.AdamMetaRefIdeal.main_arg3) = m ((c.tc : Thread Cert.AdamMetaIdeal.nD Cert.AdamMetaIdeal.τ).loc Cert.AdamMetaIdeal.main_arg3)) →
    ∃ (v0 : (c : Dev Cert.AdamMetaIdeal.nD) → Buf (Elt Ideal) ((c.tc : Thread Cert.AdamMetaIdeal.nD Cert.AdamMetaIdeal.τ).loc Cert.AdamMetaIdeal.main_v0_0)) (v1 : (c : Dev Cert.AdamMetaIdeal.nD) → Buf (Elt Ideal) ((c.tc : Thread Cert.AdamMetaIdeal.nD Cert.AdamMetaIdeal.τ).loc Cert.AdamMetaIdeal.main_v0_1)) (v2 : (c : Dev Cert.AdamMetaIdeal.nD) → Buf (Elt Ideal) ((c.tc : Thread Cert.AdamMetaIdeal.nD Cert.AdamMetaIdeal.τ).loc Cert.AdamMetaIdeal.main_v0_2)),
      θ_run (Cert.AdamMetaIdeal.defs (F := Ideal)) (onTc (τ := Cert.AdamMetaIdeal.τ) (Cert.AdamMetaIdeal.main (F := Ideal))) ⟨m, fun _ => 0, g⟩ (fun r => ∀ c : Dev Cert.AdamMetaIdeal.nD,
          r.2.mem ((c.tc : Thread Cert.AdamMetaIdeal.nD Cert.AdamMetaIdeal.τ).loc Cert.AdamMetaIdeal.main_v0_0) = v0 c
          ∧ r.2.mem ((c.tc : Thread Cert.AdamMetaIdeal.nD Cert.AdamMetaIdeal.τ).loc Cert.AdamMetaIdeal.main_v0_1) = v1 c
          ∧ r.2.mem ((c.tc : Thread Cert.AdamMetaIdeal.nD Cert.AdamMetaIdeal.τ).loc Cert.AdamMetaIdeal.main_v0_2) = v2 c
          ∧ r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
          ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
          ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
          ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ θ_run (Cert.AdamMetaRefIdeal.defs (F := Ideal)) (onTc (τ := Cert.AdamMetaRefIdeal.τ) (Cert.AdamMetaRefIdeal.main (F := Ideal))) ⟨m', fun _ => 0, g'⟩ (fun r => ∀ c : Dev Cert.AdamMetaRefIdeal.nD,
          r.2.mem ((c.tc : Thread Cert.AdamMetaRefIdeal.nD Cert.AdamMetaRefIdeal.τ).loc Cert.AdamMetaRefIdeal.main_v23) = v0 c
          ∧ r.2.mem ((c.tc : Thread Cert.AdamMetaRefIdeal.nD Cert.AdamMetaRefIdeal.τ).loc Cert.AdamMetaRefIdeal.main_v4) = v1 c
          ∧ r.2.mem ((c.tc : Thread Cert.AdamMetaRefIdeal.nD Cert.AdamMetaRefIdeal.τ).loc Cert.AdamMetaRefIdeal.main_v10) = v2 c
          ∧ r.2.mem ((c.tc : Thread Cert.AdamMetaRefIdeal.nD Cert.AdamMetaRefIdeal.τ).loc Cert.AdamMetaRefIdeal.main_arg0) = m' ((c.tc : Thread Cert.AdamMetaRefIdeal.nD Cert.AdamMetaRefIdeal.τ).loc Cert.AdamMetaRefIdeal.main_arg0)
          ∧ r.2.mem ((c.tc : Thread Cert.AdamMetaRefIdeal.nD Cert.AdamMetaRefIdeal.τ).loc Cert.AdamMetaRefIdeal.main_arg1) = m' ((c.tc : Thread Cert.AdamMetaRefIdeal.nD Cert.AdamMetaRefIdeal.τ).loc Cert.AdamMetaRefIdeal.main_arg1)
          ∧ r.2.mem ((c.tc : Thread Cert.AdamMetaRefIdeal.nD Cert.AdamMetaRefIdeal.τ).loc Cert.AdamMetaRefIdeal.main_arg2) = m' ((c.tc : Thread Cert.AdamMetaRefIdeal.nD Cert.AdamMetaRefIdeal.τ).loc Cert.AdamMetaRefIdeal.main_arg2)
          ∧ r.2.mem ((c.tc : Thread Cert.AdamMetaRefIdeal.nD Cert.AdamMetaRefIdeal.τ).loc Cert.AdamMetaRefIdeal.main_arg3) = m' ((c.tc : Thread Cert.AdamMetaRefIdeal.nD Cert.AdamMetaRefIdeal.τ).loc Cert.AdamMetaRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hGateUpDx : Cert.GateUpDx.Facts) (hGateUpDxIdeal : Cert.GateUpDxIdeal.Facts) (hGateUpDxRefIdeal : Cert.GateUpDxRefIdeal.Facts) (hGateUpDw : Cert.GateUpDw.Facts) (hGateUpDwIdeal : Cert.GateUpDwIdeal.Facts) (hGateUpDwRefIdeal : Cert.GateUpDwRefIdeal.Facts) (hWoDx : Cert.WoDx.Facts) (hWoDxIdeal : Cert.WoDxIdeal.Facts) (hWoDxRefIdeal : Cert.WoDxRefIdeal.Facts) (hWoDw : Cert.WoDw.Facts) (hWoDwIdeal : Cert.WoDwIdeal.Facts) (hWoDwRefIdeal : Cert.WoDwRefIdeal.Facts) (hBranchDx : Cert.BranchDx.Facts) (hBranchDxIdeal : Cert.BranchDxIdeal.Facts) (hBranchDxRefIdeal : Cert.BranchDxRefIdeal.Facts) (hBranchDw : Cert.BranchDw.Facts) (hBranchDwIdeal : Cert.BranchDwIdeal.Facts) (hBranchDwRefIdeal : Cert.BranchDwRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hProjFwd : Cert.ProjFwd.Facts) (hProjFwdIdeal : Cert.ProjFwdIdeal.Facts) (hProjFwdRefIdeal : Cert.ProjFwdRefIdeal.Facts) (hBranchFwd : Cert.BranchFwd.Facts) (hBranchFwdIdeal : Cert.BranchFwdIdeal.Facts) (hBranchFwdRefIdeal : Cert.BranchFwdRefIdeal.Facts) (hWoFwd : Cert.WoFwd.Facts) (hWoFwdIdeal : Cert.WoFwdIdeal.Facts) (hWoFwdRefIdeal : Cert.WoFwdRefIdeal.Facts) (hGateUpFwd : Cert.GateUpFwd.Facts) (hGateUpFwdIdeal : Cert.GateUpFwdIdeal.Facts) (hGateUpFwdRefIdeal : Cert.GateUpFwdRefIdeal.Facts) (hDownFwd : Cert.DownFwd.Facts) (hDownFwdIdeal : Cert.DownFwdIdeal.Facts) (hDownFwdRefIdeal : Cert.DownFwdRefIdeal.Facts) (hSwigluBwd : Cert.SwigluBwd.Facts) (hSwigluBwdIdeal : Cert.SwigluBwdIdeal.Facts) (hSwigluBwdRefIdeal : Cert.SwigluBwdRefIdeal.Facts) (hMergeBwd : Cert.MergeBwd.Facts) (hMergeBwdIdeal : Cert.MergeBwdIdeal.Facts) (hMergeBwdRefIdeal : Cert.MergeBwdRefIdeal.Facts) (hRmsBwd : Cert.RmsBwd.Facts) (hRmsBwdIdeal : Cert.RmsBwdIdeal.Facts) (hRmsBwdRefIdeal : Cert.RmsBwdRefIdeal.Facts) (hSwigluFwd : Cert.SwigluFwd.Facts) (hSwigluFwdIdeal : Cert.SwigluFwdIdeal.Facts) (hSwigluFwdRefIdeal : Cert.SwigluFwdRefIdeal.Facts) (hMergeFwd : Cert.MergeFwd.Facts) (hMergeFwdIdeal : Cert.MergeFwdIdeal.Facts) (hMergeFwdRefIdeal : Cert.MergeFwdRefIdeal.Facts) (hRmsFwd : Cert.RmsFwd.Facts) (hRmsFwdIdeal : Cert.RmsFwdIdeal.Facts) (hRmsFwdRefIdeal : Cert.RmsFwdRefIdeal.Facts) (hLoss : Cert.Loss.Facts) (hLossIdeal : Cert.LossIdeal.Facts) (hLossRefIdeal : Cert.LossRefIdeal.Facts) (hAdamIn : Cert.AdamIn.Facts) (hAdamInIdeal : Cert.AdamInIdeal.Facts) (hAdamInRefIdeal : Cert.AdamInRefIdeal.Facts) (hAdamGateUp : Cert.AdamGateUp.Facts) (hAdamGateUpIdeal : Cert.AdamGateUpIdeal.Facts) (hAdamGateUpRefIdeal : Cert.AdamGateUpRefIdeal.Facts) (hAdamDown : Cert.AdamDown.Facts) (hAdamDownIdeal : Cert.AdamDownIdeal.Facts) (hAdamDownRefIdeal : Cert.AdamDownRefIdeal.Facts) (hAdamWo : Cert.AdamWo.Facts) (hAdamWoIdeal : Cert.AdamWoIdeal.Facts) (hAdamWoRefIdeal : Cert.AdamWoRefIdeal.Facts) (hAdamBranch : Cert.AdamBranch.Facts) (hAdamBranchIdeal : Cert.AdamBranchIdeal.Facts) (hAdamBranchRefIdeal : Cert.AdamBranchRefIdeal.Facts) (hAdamLora : Cert.AdamLora.Facts) (hAdamLoraIdeal : Cert.AdamLoraIdeal.Facts) (hAdamLoraRefIdeal : Cert.AdamLoraRefIdeal.Facts) (hAdamGate : Cert.AdamGate.Facts) (hAdamGateIdeal : Cert.AdamGateIdeal.Facts) (hAdamGateRefIdeal : Cert.AdamGateRefIdeal.Facts) (hAdamMeta : Cert.AdamMeta.Facts) (hAdamMetaIdeal : Cert.AdamMetaIdeal.Facts) (hAdamMetaRefIdeal : Cert.AdamMetaRefIdeal.Facts) (hAdamSmall : Cert.AdamSmall.Facts) (hAdamSmallIdeal : Cert.AdamSmallIdeal.Facts) (hAdamSmallRefIdeal : Cert.AdamSmallRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_GateUpDx (hGateUpDx := hGateUpDx)
    ∧ quiescent_GateUpDxIdeal (hGateUpDxIdeal := hGateUpDxIdeal)
    ∧ quiescent_GateUpDxRefIdeal (hGateUpDxRefIdeal := hGateUpDxRefIdeal)
    ∧ quiescent_GateUpDw (hGateUpDw := hGateUpDw)
    ∧ quiescent_GateUpDwIdeal (hGateUpDwIdeal := hGateUpDwIdeal)
    ∧ quiescent_GateUpDwRefIdeal (hGateUpDwRefIdeal := hGateUpDwRefIdeal)
    ∧ quiescent_WoDx (hWoDx := hWoDx)
    ∧ quiescent_WoDxIdeal (hWoDxIdeal := hWoDxIdeal)
    ∧ quiescent_WoDxRefIdeal (hWoDxRefIdeal := hWoDxRefIdeal)
    ∧ quiescent_WoDw (hWoDw := hWoDw)
    ∧ quiescent_WoDwIdeal (hWoDwIdeal := hWoDwIdeal)
    ∧ quiescent_WoDwRefIdeal (hWoDwRefIdeal := hWoDwRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_BranchFwd (hBranchFwd := hBranchFwd)
    ∧ quiescent_BranchFwdIdeal (hBranchFwdIdeal := hBranchFwdIdeal)
    ∧ quiescent_BranchFwdRefIdeal (hBranchFwdRefIdeal := hBranchFwdRefIdeal)
    ∧ quiescent_WoFwd (hWoFwd := hWoFwd)
    ∧ quiescent_WoFwdIdeal (hWoFwdIdeal := hWoFwdIdeal)
    ∧ quiescent_WoFwdRefIdeal (hWoFwdRefIdeal := hWoFwdRefIdeal)
    ∧ quiescent_GateUpFwd (hGateUpFwd := hGateUpFwd)
    ∧ quiescent_GateUpFwdIdeal (hGateUpFwdIdeal := hGateUpFwdIdeal)
    ∧ quiescent_GateUpFwdRefIdeal (hGateUpFwdRefIdeal := hGateUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_SwigluBwd (hSwigluBwd := hSwigluBwd)
    ∧ quiescent_SwigluBwdIdeal (hSwigluBwdIdeal := hSwigluBwdIdeal)
    ∧ quiescent_SwigluBwdRefIdeal (hSwigluBwdRefIdeal := hSwigluBwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_SwigluFwd (hSwigluFwd := hSwigluFwd)
    ∧ quiescent_SwigluFwdIdeal (hSwigluFwdIdeal := hSwigluFwdIdeal)
    ∧ quiescent_SwigluFwdRefIdeal (hSwigluFwdRefIdeal := hSwigluFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_Loss (hLoss := hLoss)
    ∧ quiescent_LossIdeal (hLossIdeal := hLossIdeal)
    ∧ quiescent_LossRefIdeal (hLossRefIdeal := hLossRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamGateUp (hAdamGateUp := hAdamGateUp)
    ∧ quiescent_AdamGateUpIdeal (hAdamGateUpIdeal := hAdamGateUpIdeal)
    ∧ quiescent_AdamGateUpRefIdeal (hAdamGateUpRefIdeal := hAdamGateUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamWo (hAdamWo := hAdamWo)
    ∧ quiescent_AdamWoIdeal (hAdamWoIdeal := hAdamWoIdeal)
    ∧ quiescent_AdamWoRefIdeal (hAdamWoRefIdeal := hAdamWoRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamLora (hAdamLora := hAdamLora)
    ∧ quiescent_AdamLoraIdeal (hAdamLoraIdeal := hAdamLoraIdeal)
    ∧ quiescent_AdamLoraRefIdeal (hAdamLoraRefIdeal := hAdamLoraRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamMeta (hAdamMeta := hAdamMeta)
    ∧ quiescent_AdamMetaIdeal (hAdamMetaIdeal := hAdamMetaIdeal)
    ∧ quiescent_AdamMetaRefIdeal (hAdamMetaRefIdeal := hAdamMetaRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_GateUpDx_GateUpDxIdeal
    ∧ algebraic_GateUpDxIdeal_GateUpDxRefIdeal (hGateUpDxIdeal := hGateUpDxIdeal) (hGateUpDxRefIdeal := hGateUpDxRefIdeal)
    ∧ preserves_GateUpDw_GateUpDwIdeal
    ∧ algebraic_GateUpDwIdeal_GateUpDwRefIdeal (hGateUpDwIdeal := hGateUpDwIdeal) (hGateUpDwRefIdeal := hGateUpDwRefIdeal)
    ∧ preserves_WoDx_WoDxIdeal
    ∧ algebraic_WoDxIdeal_WoDxRefIdeal (hWoDxIdeal := hWoDxIdeal) (hWoDxRefIdeal := hWoDxRefIdeal)
    ∧ preserves_WoDw_WoDwIdeal
    ∧ algebraic_WoDwIdeal_WoDwRefIdeal (hWoDwIdeal := hWoDwIdeal) (hWoDwRefIdeal := hWoDwRefIdeal)
    ∧ preserves_BranchDx_BranchDxIdeal
    ∧ algebraic_BranchDxIdeal_BranchDxRefIdeal (hBranchDxIdeal := hBranchDxIdeal) (hBranchDxRefIdeal := hBranchDxRefIdeal)
    ∧ preserves_BranchDw_BranchDwIdeal
    ∧ algebraic_BranchDwIdeal_BranchDwRefIdeal (hBranchDwIdeal := hBranchDwIdeal) (hBranchDwRefIdeal := hBranchDwRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_ProjFwd_ProjFwdIdeal
    ∧ algebraic_ProjFwdIdeal_ProjFwdRefIdeal (hProjFwdIdeal := hProjFwdIdeal) (hProjFwdRefIdeal := hProjFwdRefIdeal)
    ∧ preserves_BranchFwd_BranchFwdIdeal
    ∧ algebraic_BranchFwdIdeal_BranchFwdRefIdeal (hBranchFwdIdeal := hBranchFwdIdeal) (hBranchFwdRefIdeal := hBranchFwdRefIdeal)
    ∧ preserves_WoFwd_WoFwdIdeal
    ∧ algebraic_WoFwdIdeal_WoFwdRefIdeal (hWoFwdIdeal := hWoFwdIdeal) (hWoFwdRefIdeal := hWoFwdRefIdeal)
    ∧ preserves_GateUpFwd_GateUpFwdIdeal
    ∧ algebraic_GateUpFwdIdeal_GateUpFwdRefIdeal (hGateUpFwdIdeal := hGateUpFwdIdeal) (hGateUpFwdRefIdeal := hGateUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_SwigluBwd_SwigluBwdIdeal
    ∧ algebraic_SwigluBwdIdeal_SwigluBwdRefIdeal (hSwigluBwdIdeal := hSwigluBwdIdeal) (hSwigluBwdRefIdeal := hSwigluBwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_SwigluFwd_SwigluFwdIdeal
    ∧ algebraic_SwigluFwdIdeal_SwigluFwdRefIdeal (hSwigluFwdIdeal := hSwigluFwdIdeal) (hSwigluFwdRefIdeal := hSwigluFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_Loss_LossIdeal
    ∧ algebraic_LossIdeal_LossRefIdeal (hLossIdeal := hLossIdeal) (hLossRefIdeal := hLossRefIdeal)
    ∧ preserves_AdamIn_AdamInIdeal
    ∧ algebraic_AdamInIdeal_AdamInRefIdeal (hAdamInIdeal := hAdamInIdeal) (hAdamInRefIdeal := hAdamInRefIdeal)
    ∧ preserves_AdamGateUp_AdamGateUpIdeal
    ∧ algebraic_AdamGateUpIdeal_AdamGateUpRefIdeal (hAdamGateUpIdeal := hAdamGateUpIdeal) (hAdamGateUpRefIdeal := hAdamGateUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamWo_AdamWoIdeal
    ∧ algebraic_AdamWoIdeal_AdamWoRefIdeal (hAdamWoIdeal := hAdamWoIdeal) (hAdamWoRefIdeal := hAdamWoRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamLora_AdamLoraIdeal
    ∧ algebraic_AdamLoraIdeal_AdamLoraRefIdeal (hAdamLoraIdeal := hAdamLoraIdeal) (hAdamLoraRefIdeal := hAdamLoraRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamMeta_AdamMetaIdeal
    ∧ algebraic_AdamMetaIdeal_AdamMetaRefIdeal (hAdamMetaIdeal := hAdamMetaIdeal) (hAdamMetaRefIdeal := hAdamMetaRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite.lean ====
abbrev S4224x1024 : Shape := ⟨2, ![4224, 1024]⟩
abbrev S128x4224 : Shape := ⟨2, ![128, 4224]⟩
abbrev S_ : Shape := ⟨0, ![]⟩

class Facts : Prop where
  bcast_S_S4224x1024 : S_.BroadcastsInDim S4224x1024 (![] : Fin 0 → Fin S4224x1024.rank)
  bcast_S_S128x4224 : S_.BroadcastsInDim S128x4224 (![] : Fin 0 → Fin S128x4224.rank)

variable [Facts]

def fn_part1 {F : FTy → Type} [FloatOps F] (main_arg3 : FVec F S128x4224 .f32) (main_arg4 : FVec F S4224x1024 .f32) (main_v4 : IVec S4224x1024 1) (main_v9 : IVec S4224x1024 1) (main_v14 : IVec S4224x1024 1) (main_v16 : IVec S128x4224 1) : IVec S4224x1024 1 × IVec S4224x1024 1 × IVec S4224x1024 1 × IVec S128x4224 1 × IVec S4224x1024 1 :=
  let main_cst_6 : FVec F S_ .f32 := constant S_ .f32 0xFF800000#32
  let main_v17 : FVec F S128x4224 .f32 := broadcastInDim S128x4224 ![] bcast_S_S128x4224 main_cst_6
  let main_v18 : IVec S128x4224 1 := cmpf .ogt main_arg3 main_v17
  let main_v19 : IVec S128x4224 1 := andi main_v16 main_v18
  let main_cst_7 : FVec F S_ .f32 := constant S_ .f32 0x7F800000#32
  let main_v20 : FVec F S4224x1024 .f32 := broadcastInDim S4224x1024 ![] bcast_S_S4224x1024 main_cst_7
  let main_v21 : IVec S4224x1024 1 := cmpf .olt main_arg4 main_v20
  let main_cst_8 : FVec F S_ .f32 := constant S_ .f32 0xFF800000#32
  let main_v22 : FVec F S4224x1024 .f32 := broadcastInDim S4224x1024 ![] bcast_S_S4224x1024 main_cst_8
  let main_v23 : IVec S4224x1024 1 := cmpf .ogt main_arg4 main_v22
  let main_v24 : IVec S4224x1024 1 := andi main_v21 main_v23
  (main_v4, main_v9, main_v14, main_v19, main_v24)

def fn {F : FTy → Type} [FloatOps F] (main_arg0 : FVec F S4224x1024 .bf16) (main_arg1 : FVec F S4224x1024 .bf16) (main_arg2 : FVec F S4224x1024 .f32) (main_arg3 : FVec F S128x4224 .f32) (main_arg4 : FVec F S4224x1024 .f32) : IVec S4224x1024 1 × IVec S4224x1024 1 × IVec S4224x1024 1 × IVec S128x4224 1 × IVec S4224x1024 1 :=
  let main_cst : FVec F S_ .bf16 := constant S_ .bf16 0x7F80#16
  let main_v0 : FVec F S4224x1024 .bf16 := broadcastInDim S4224x1024 ![] bcast_S_S4224x1024 main_cst
  let main_v1 : IVec S4224x1024 1 := cmpf .olt main_arg0 main_v0
  let main_cst_0 : FVec F S_ .bf16 := constant S_ .bf16 0xFF80#16
  let main_v2 : FVec F S4224x1024 .bf16 := broadcastInDim S4224x1024 ![] bcast_S_S4224x1024 main_cst_0
  let main_v3 : IVec S4224x1024 1 := cmpf .ogt main_arg0 main_v2
  let main_v4 : IVec S4224x1024 1 := andi main_v1 main_v3
  let main_cst_1 : FVec F S_ .bf16 := constant S_ .bf16 0x7F80#16
  let main_v5 : FVec F S4224x1024 .bf16 := broadcastInDim S4224x1024 ![] bcast_S_S4224x1024 main_cst_1
  let main_v6 : IVec S4224x1024 1 := cmpf .olt main_arg1 main_v5
  let main_cst_2 : FVec F S_ .bf16 := constant S_ .bf16 0xFF80#16
  let main_v7 : FVec F S4224x1024 .bf16 := broadcastInDim S4224x1024 ![] bcast_S_S4224x1024 main_cst_2
  let main_v8 : IVec S4224x1024 1 := cmpf .ogt main_arg1 main_v7
  let main_v9 : IVec S4224x1024 1 := andi main_v6 main_v8
  let main_cst_3 : FVec F S_ .f32 := constant S_ .f32 0x7F800000#32
  let main_v10 : FVec F S4224x1024 .f32 := broadcastInDim S4224x1024 ![] bcast_S_S4224x1024 main_cst_3
  let main_v11 : IVec S4224x1024 1 := cmpf .olt main_arg2 main_v10
  let main_cst_4 : FVec F S_ .f32 := constant S_ .f32 0xFF800000#32
  let main_v12 : FVec F S4224x1024 .f32 := broadcastInDim S4224x1024 ![] bcast_S_S4224x1024 main_cst_4
  let main_v13 : IVec S4224x1024 1 := cmpf .ogt main_arg2 main_v12
  let main_v14 : IVec S4224x1024 1 := andi main_v11 main_v13
  let main_cst_5 : FVec F S_ .f32 := constant S_ .f32 0x7F800000#32
  let main_v15 : FVec F S128x4224 .f32 := broadcastInDim S128x4224 ![] bcast_S_S128x4224 main_cst_5
  let main_v16 : IVec S128x4224 1 := cmpf .olt main_arg3 main_v15
  fn_part1 (F := F) main_arg3 main_arg4 main_v4 main_v9 main_v14 main_v16
-- ==== Kernel.lean ====
abbrev S4224x1024 : Shape := ⟨2, ![4224, 1024]⟩
abbrev S128x4224 : Shape := ⟨2, ![128, 4224]⟩
abbrev S4112x1024 : Shape := ⟨2, ![4112, 1024]⟩
abbrev S4112x16x64 : Shape := ⟨3, ![4112, 16, 64]⟩
abbrev S16x4112 : Shape := ⟨2, ![16, 4112]⟩
abbrev S16x4112x4112 : Shape := ⟨3, ![16, 4112, 4112]⟩
abbrev S_ : Shape := ⟨0, ![]⟩
abbrev S16x4112x1 : Shape := ⟨3, ![16, 4112, 1]⟩
abbrev S16x1x4112 : Shape := ⟨3, ![16, 1, 4112]⟩
abbrev S4112 : Shape := ⟨1, ![4112]⟩
abbrev S4112x1 : Shape := ⟨2, ![4112, 1]⟩
abbrev S1x4112 : Shape := ⟨2, ![1, 4112]⟩
abbrev S4112x4112 : Shape := ⟨2, ![4112, 4112]⟩
abbrev S16x64x4112 : Shape := ⟨3, ![16, 64, 4112]⟩
abbrev S8x2x4112 : Shape := ⟨3, ![8, 2, 4112]⟩
abbrev S8x4112x2 : Shape := ⟨3, ![8, 4112, 2]⟩
abbrev S8x4224x128 : Shape := ⟨3, ![8, 4224, 128]⟩
abbrev S8x8x4224 : Shape := ⟨3, ![8, 8, 4224]⟩
abbrev S384x128 : Shape := ⟨2, ![384, 128]⟩
abbrev S8x384 : Shape := ⟨2, ![8, 384]⟩
abbrev S1x384x128 : Shape := ⟨3, ![1, 384, 128]⟩
abbrev S1x8x384 : Shape := ⟨3, ![1, 8, 384]⟩
abbrev S4224x128 : Shape := ⟨2, ![4224, 128]⟩
abbrev S2x1x384 : Shape := ⟨3, ![2, 1, 384]⟩
abbrev S1x384 : Shape := ⟨2, ![1, 384]⟩
abbrev S384x384 : Shape := ⟨2, ![384, 384]⟩
abbrev S1x384x1 : Shape := ⟨3, ![1, 384, 1]⟩
abbrev S384x1 : Shape := ⟨2, ![384, 1]⟩
abbrev S384 : Shape := ⟨1, ![384]⟩
abbrev S1x1x384 : Shape := ⟨3, ![1, 1, 384]⟩

abbrev nBuf : Space → Nat
  | .hbm => 66
  | .vmem => 25
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x1024, .f32⟩
  | .hbm, ⟨3, _⟩ => ⟨S128x4224, .f32⟩
  | .hbm, ⟨4, _⟩ => ⟨S4224x1024, .f32⟩
  | .hbm, ⟨5, _⟩ => ⟨S4112x1024, .bf16⟩
  | .hbm, ⟨6, _⟩ => ⟨S4112x1024, .f32⟩
  | .hbm, ⟨7, _⟩ => ⟨S4112x16x64, .f32⟩
  | .hbm, ⟨8, _⟩ => ⟨S4112x1024, .bf16⟩
  | .hbm, ⟨9, _⟩ => ⟨S4112x1024, .f32⟩
  | .hbm, ⟨10, _⟩ => ⟨S4112x16x64, .f32⟩
  | .hbm, ⟨11, _⟩ => ⟨S4112x1024, .f32⟩
  | .hbm, ⟨12, _⟩ => ⟨S4112x16x64, .f32⟩
  | .hbm, ⟨13, _⟩ => ⟨S16x4112, .f32⟩
  | .hbm, ⟨14, _⟩ => ⟨S16x4112x4112, .f32⟩
  | .hbm, ⟨15, _⟩ => ⟨S_, .f32⟩
  | .hbm, ⟨16, _⟩ => ⟨S16x4112x4112, .f32⟩
  | .hbm, ⟨17, _⟩ => ⟨S16x4112x4112, .f32⟩
  | .hbm, ⟨18, _⟩ => ⟨S16x4112x1, .f32⟩
  | .hbm, ⟨19, _⟩ => ⟨S16x4112x4112, .f32⟩
  | .hbm, ⟨20, _⟩ => ⟨S16x4112x4112, .f32⟩
  | .hbm, ⟨21, _⟩ => ⟨S16x1x4112, .f32⟩
  | .hbm, ⟨22, _⟩ => ⟨S16x4112x4112, .f32⟩
  | .hbm, ⟨23, _⟩ => ⟨S16x4112x4112, .f32⟩
  | .hbm, ⟨24, _⟩ => ⟨S4112, .i32⟩
  | .hbm, ⟨25, _⟩ => ⟨S4112x1, .i32⟩
  | .hbm, ⟨26, _⟩ => ⟨S4112, .i32⟩
  | .hbm, ⟨27, _⟩ => ⟨S1x4112, .i32⟩
  | .hbm, ⟨28, _⟩ => ⟨S4112x4112, .i32⟩
  | .hbm, ⟨29, _⟩ => ⟨S4112x4112, .i32⟩
  | .hbm, ⟨30, _⟩ => ⟨S4112x4112, .i1⟩
  | .hbm, ⟨31, _⟩ => ⟨S_, .f32⟩
  | .hbm, ⟨32, _⟩ => ⟨S_, .f32⟩
  | .hbm, ⟨33, _⟩ => ⟨S16x4112x4112, .i1⟩
  | .hbm, ⟨34, _⟩ => ⟨S16x4112x4112, .f32⟩
  | .hbm, ⟨35, _⟩ => ⟨S16x4112x4112, .f32⟩
  | .hbm, ⟨36, _⟩ => ⟨S_, .f32⟩
  | .hbm, ⟨37, _⟩ => ⟨S16x4112, .f32⟩
  | .hbm, ⟨38, _⟩ => ⟨S16x4112x1, .f32⟩
  | .hbm, ⟨39, _⟩ => ⟨S16x4112x4112, .f32⟩
  | .hbm, ⟨40, _⟩ => ⟨S16x4112x4112, .f32⟩
  | .hbm, ⟨41, _⟩ => ⟨S16x4112x4112, .f32⟩
  | .hbm, ⟨42, _⟩ => ⟨S_, .f32⟩
  | .hbm, ⟨43, _⟩ => ⟨S16x4112, .f32⟩
  | .hbm, ⟨44, _⟩ => ⟨S16x4112x1, .f32⟩
  | .hbm, ⟨45, _⟩ => ⟨S16x4112x4112, .f32⟩
  | .hbm, ⟨46, _⟩ => ⟨S16x4112x4112, .f32⟩
  | .hbm, ⟨47, _⟩ => ⟨S16x64x4112, .f32⟩
  | .hbm, ⟨48, _⟩ => ⟨S4112x16x64, .f32⟩
  | .hbm, ⟨49, _⟩ => ⟨S16x4112x1, .f32⟩
  | .hbm, ⟨50, _⟩ => ⟨S16x4112x1, .f32⟩
  | .hbm, ⟨51, _⟩ => ⟨S16x4112, .f32⟩
  | .hbm, ⟨52, _⟩ => ⟨S16x4112, .f32⟩
  | .hbm, ⟨53, _⟩ => ⟨S8x2x4112, .f32⟩
  | .hbm, ⟨54, _⟩ => ⟨S8x4112x2, .f32⟩
  | .hbm, ⟨55, _⟩ => ⟨S_, .i32⟩
  | .hbm, ⟨56, _⟩ => ⟨S_, .f32⟩
  | .hbm, ⟨57, _⟩ => ⟨S8x4224x128, .f32⟩
  | .hbm, ⟨58, _⟩ => ⟨S4112x1024, .f32⟩
  | .hbm, ⟨59, _⟩ => ⟨S_, .i32⟩
  | .hbm, ⟨60, _⟩ => ⟨S_, .f32⟩
  | .hbm, ⟨61, _⟩ => ⟨S4224x1024, .f32⟩
  | .hbm, ⟨62, _⟩ => ⟨S4224x1024, .f32⟩
  | .hbm, ⟨63, _⟩ => ⟨S4224x1024, .f32⟩
  | .hbm, ⟨64, _⟩ => ⟨S8x8x4224, .f32⟩
  | .hbm, ⟨65, _⟩ => ⟨S4224x1024, .f32⟩
  | .local _ .vmem, ⟨0, _⟩ => ⟨S384x128, .bf16⟩
  | .local _ .vmem, ⟨1, _⟩ => ⟨S384x128, .bf16⟩
  | .local _ .vmem, ⟨2, _⟩ => ⟨S384x128, .bf16⟩
  | .local _ .vmem, ⟨3, _⟩ => ⟨S384x128, .bf16⟩
  | .local _ .vmem, ⟨4, _⟩ => ⟨S384x128, .f32⟩
  | .local _ .vmem, ⟨5, _⟩ => ⟨S384x128, .f32⟩
  | .local _ .vmem, ⟨6, _⟩ => ⟨S8x384, .f32⟩
  | .local _ .vmem, ⟨7, _⟩ => ⟨S8x384, .f32⟩
  | .local _ .vmem, ⟨8, _⟩ => ⟨S384x128, .f32⟩
  | .local _ .vmem, ⟨9, _⟩ => ⟨S384x128, .f32⟩
  | .local _ .vmem, ⟨10, _⟩ => ⟨S1x384x128, .f32⟩
  | .local _ .vmem, ⟨11, _⟩ => ⟨S1x384x128, .f32⟩
  | .local _ .vmem, ⟨12, _⟩ => ⟨S384x128, .f32⟩
  | .local _ .vmem, ⟨13, _⟩ => ⟨S384x128, .f32⟩
  | .local _ .vmem, ⟨14, _⟩ => ⟨S384x128, .f32⟩
  | .local _ .vmem, ⟨15, _⟩ => ⟨S384x128, .f32⟩
  | .local _ .vmem, ⟨16, _⟩ => ⟨S384x128, .f32⟩
  | .local _ .vmem, ⟨17, _⟩ => ⟨S384x128, .f32⟩
  | .local _ .vmem, ⟨18, _⟩ => ⟨S1x8x384, .f32⟩
  | .local _ .vmem, ⟨19, _⟩ => ⟨S1x8x384, .f32⟩
  | .local _ .vmem, ⟨20, _⟩ => ⟨S4224x128, .f32⟩
  | .local _ .vmem, ⟨21, _⟩ => ⟨S4224x128, .f32⟩
  | .local _ .vmem, ⟨22, _⟩ => ⟨S384x128, .f32⟩
  | .local _ .vmem, ⟨23, _⟩ => ⟨S384x128, .f32⟩
  | .local _ .vmem, ⟨24, _⟩ => ⟨S2x1x384, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c : Ref sig .tc := ⟨.hbm, 55, rfl⟩
abbrev main_call1_v0 : Ref sig .tc := ⟨.hbm, 56, rfl⟩
abbrev main_v43 : Ref sig .tc := ⟨.hbm, 57, rfl⟩
abbrev main_v44 : Ref sig .tc := ⟨.hbm, 58, rfl⟩
abbrev main_c_3 : Ref sig .tc := ⟨.hbm, 59, rfl⟩
abbrev main_call2_v0 : Ref sig .tc := ⟨.hbm, 60, rfl⟩
abbrev main_v45 : Ref sig .tc := ⟨.hbm, 61, rfl⟩
abbrev main_v46_0 : Ref sig .tc := ⟨.hbm, 62, rfl⟩
abbrev main_v46_1 : Ref sig .tc := ⟨.hbm, 63, rfl⟩
abbrev main_v46_2 : Ref sig .tc := ⟨.hbm, 64, rfl⟩
abbrev main_v46_3 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![8, 11, 11], ![false, false, false]⟩

def k0_mult1 (i : grid0.Coords) : BitVec 32 :=
  let arg2 : BitVec 32 := BitVec.ofNat 32 (i 2).val
  let c384_i32 : BitVec 32 := 384#32
  let v3 : BitVec 32 := Scalar.muli arg2 c384_i32
  v3
def k0_cond2 (i : grid0.Coords) : BitVec 1 :=
  let arg2 : BitVec 32 := BitVec.ofNat 32 (i 2).val
  let arg1 : BitVec 32 := BitVec.ofNat 32 (i 1).val
  let v5 : BitVec 1 := Scalar.cmpi .sge arg2 arg1
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def k0_off1 (i : grid0.Coords) : Fin 2 → Nat :=
  let c2_i32 : BitVec 32 := 2#32
  let arg0 : BitVec 32 := BitVec.ofNat 32 (i 0).val
  let c4_i32 : BitVec 32 := 4#32
  let c0_i32_6 : BitVec 32 := 0#32
  let v18 : BitVec 1 := Scalar.cmpi .eq c4_i32 c0_i32_6
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let v28 : BitVec 32 := Scalar.muli c2_i32 v27
  let v29 : Index := Scalar.indexCast v28
  let c0 : Index := 0#32
  ![v29.toNat, 0]
def k0_off2 (i : grid0.Coords) : Fin 2 → Nat :=
  let c2_i32 : BitVec 32 := 2#32
  let arg0 : BitVec 32 := BitVec.ofNat 32 (i 0).val
  let c4_i32 : BitVec 32 := 4#32
  let c0_i32_6 : BitVec 32 := 0#32
  let v18 : BitVec 1 := Scalar.cmpi .eq c4_i32 c0_i32_6
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let v28 : BitVec 32 := Scalar.muli c2_i32 v27
  let c1_i32_10 : BitVec 32 := 1#32
  let v31 : BitVec 32 := Scalar.addi v28 c1_i32_10
  let v32 : Index := Scalar.indexCast v31
  let c0_11 : Index := 0#32
  ![v32.toNat, 0]
def k0_off3 (i : grid0.Coords) : Fin 2 → Nat :=
  let arg2 : BitVec 32 := BitVec.ofNat 32 (i 2).val
  let c384_i32 : BitVec 32 := 384#32
  let v3 : BitVec 32 := Scalar.muli arg2 c384_i32
  let v4 : BitVec 32 := v3
  let v331 : Index := Scalar.indexCast v4
  let c0_127 : Index := 0#32
  ![v331.toNat, 0]
def k0_cond3 (i : grid0.Coords) : BitVec 1 :=
  let arg2 : BitVec 32 := BitVec.ofNat 32 (i 2).val
  let arg1 : BitVec 32 := BitVec.ofNat 32 (i 1).val
  let v10 : BitVec 1 := Scalar.cmpi .sge arg2 arg1
  let c0_i32_3 : BitVec 32 := 0#32
  let v11 : BitVec 1 := Scalar.cmpi .sgt arg1 c0_i32_3
  let v12 : BitVec 1 := Scalar.andi v10 v11
  let v13 : BitVec 32 := Scalar.extui v12
  let c0_i32_4 : BitVec 32 := 0#32
  let v14 : BitVec 1 := Scalar.cmpi .ne v13 c0_i32_4
  v14

def k0_off4 (i : grid0.Coords) : Fin 2 → Nat :=
  let arg2 : BitVec 32 := BitVec.ofNat 32 (i 2).val
  let c384_i32 : BitVec 32 := 384#32
  let v3 : BitVec 32 := Scalar.muli arg2 c384_i32
  let v4 : BitVec 32 := v3
  let v18 : Index := Scalar.indexCast v4
  let c0 : Index := 0#32
  ![v18.toNat, 0]
def k0_off5 (i : grid0.Coords) : Fin 2 → Nat :=
  let c2_i32 : BitVec 32 := 2#32
  let arg0 : BitVec 32 := BitVec.ofNat 32 (i 0).val
  let c4_i32 : BitVec 32 := 4#32
  let c0_i32_6 : BitVec 32 := 0#32
  let v21 : BitVec 1 := Scalar.cmpi .eq c4_i32 c0_i32_6
  let c1_i32 : BitVec 32 := 1#32
  let v22 : BitVec 32 := Scalar.select v21 c1_i32 c4_i32
  let v23 : BitVec 32 := Scalar.remsi arg0 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let v31 : BitVec 32 := Scalar.muli c2_i32 v30
  let v32 : Index := Scalar.indexCast v31
  let c0_10 : Index := 0#32
  ![v32.toNat, 0]
def k0_off6 (i : grid0.Coords) : Fin 2 → Nat :=
  let c2_i32 : BitVec 32 := 2#32
  let arg0 : BitVec 32 := BitVec.ofNat 32 (i 0).val
  let c4_i32 : BitVec 32 := 4#32
  let c0_i32_6 : BitVec 32 := 0#32
  let v21 : BitVec 1 := Scalar.cmpi .eq c4_i32 c0_i32_6
  let c1_i32 : BitVec 32 := 1#32
  let v22 : BitVec 32 := Scalar.select v21 c1_i32 c4_i32
  let v23 : BitVec 32 := Scalar.remsi arg0 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let v31 : BitVec 32 := Scalar.muli c2_i32 v30
  let c1_i32_11 : BitVec 32 := 1#32
  let v34 : BitVec 32 := Scalar.addi v31 c1_i32_11
  let v35 : Index := Scalar.indexCast v34
  let c0_12 : Index := 0#32
  ![v35.toNat, 0]
def k0_cond4 (i : grid0.Coords) : BitVec 1 :=
  let arg2 : BitVec 32 := BitVec.ofNat 32 (i 2).val
  let c10_i32 : BitVec 32 := 10#32
  let v15 : BitVec 1 := Scalar.cmpi .eq arg2 c10_i32
  let v16 : BitVec 32 := Scalar.extui v15
  let c0_i32_5 : BitVec 32 := 0#32
  let v17 : BitVec 1 := Scalar.cmpi .ne v16 c0_i32_5
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x8x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S4224x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== ReferenceIdeal.lean ====
abbrev S4224x1024 : Shape := ⟨2, ![4224, 1024]⟩
abbrev S128x4224 : Shape := ⟨2, ![128, 4224]⟩
abbrev S4112x1024 : Shape := ⟨2, ![4112, 1024]⟩
abbrev S4112x16x64 : Shape := ⟨3, ![4112, 16, 64]⟩
abbrev S16x4112 : Shape := ⟨2, ![16, 4112]⟩
abbrev S16x4112x4112 : Shape := ⟨3, ![16, 4112, 4112]⟩
abbrev S_ : Shape := ⟨0, ![]⟩
abbrev S16x4112x1 : Shape := ⟨3, ![16, 4112, 1]⟩
abbrev S16x1x4112 : Shape := ⟨3, ![16, 1, 4112]⟩
abbrev S4112 : Shape := ⟨1, ![4112]⟩
abbrev S4112x1 : Shape := ⟨2, ![4112, 1]⟩
abbrev S1x4112 : Shape := ⟨2, ![1, 4112]⟩
abbrev S4112x4112 : Shape := ⟨2, ![4112, 4112]⟩
abbrev S16x64x4112 : Shape := ⟨3, ![16, 64, 4112]⟩
abbrev S16x4112x64 : Shape := ⟨3, ![16, 4112, 64]⟩
abbrev S8x2x4112 : Shape := ⟨3, ![8, 2, 4112]⟩
abbrev S8x8x4224 : Shape := ⟨3, ![8, 8, 4224]⟩

abbrev nBuf : Space → Nat
  | .hbm => 136
  | .vmem => 0
  | .smem => 0
  | _ => 0

abbrev hbmTy0_0 (i : Nat) : BufTy := match i % 128 with
  | 0 => ⟨S4224x1024, .bf16⟩
  | 1 => ⟨S4224x1024, .bf16⟩
  | 2 => ⟨S4224x1024, .f32⟩
  | 3 => ⟨S128x4224, .f32⟩
  | 4 => ⟨S4224x1024, .f32⟩
  | 5 => ⟨S4112x1024, .bf16⟩
  | 6 => ⟨S4112x1024, .f32⟩
  | 7 => ⟨S4112x16x64, .f32⟩
  | 8 => ⟨S4112x1024, .bf16⟩
  | 9 => ⟨S4112x1024, .f32⟩
  | 10 => ⟨S4112x16x64, .f32⟩
  | 11 => ⟨S4112x1024, .f32⟩
  | 12 => ⟨S4112x16x64, .f32⟩
  | 13 => ⟨S16x4112, .f32⟩
  | 14 => ⟨S16x4112x4112, .f32⟩
  | 15 => ⟨S_, .f32⟩
  | 16 => ⟨S16x4112x4112, .f32⟩
  | 17 => ⟨S16x4112x4112, .f32⟩
  | 18 => ⟨S16x4112x1, .f32⟩
  | 19 => ⟨S16x4112x4112, .f32⟩
  | 20 => ⟨S16x4112x4112, .f32⟩
  | 21 => ⟨S16x1x4112, .f32⟩
  | 22 => ⟨S16x4112x4112, .f32⟩
  | 23 => ⟨S16x4112x4112, .f32⟩
  | 24 => ⟨S4112, .i32⟩
  | 25 => ⟨S4112x1, .i32⟩
  | 26 => ⟨S4112, .i32⟩
  | 27 => ⟨S1x4112, .i32⟩
  | 28 => ⟨S4112x4112, .i32⟩
  | 29 => ⟨S4112x4112, .i32⟩
  | 30 => ⟨S4112x4112, .i1⟩
  | 31 => ⟨S_, .f32⟩
  | 32 => ⟨S_, .f32⟩
  | 33 => ⟨S16x4112x4112, .i1⟩
  | 34 => ⟨S16x4112x4112, .f32⟩
  | 35 => ⟨S16x4112x4112, .f32⟩
  | 36 => ⟨S_, .f32⟩
  | 37 => ⟨S16x4112x4112, .f32⟩
  | 38 => ⟨S_, .f32⟩
  | 39 => ⟨S16x4112, .f32⟩
  | 40 => ⟨S16x4112x1, .f32⟩
  | 41 => ⟨S16x4112x4112, .f32⟩
  | 42 => ⟨S16x4112x4112, .i1⟩
  | 43 => ⟨S16x4112x4112, .f32⟩
  | 44 => ⟨S_, .f32⟩
  | 45 => ⟨S16x4112, .f32⟩
  | 46 => ⟨S_, .f32⟩
  | 47 => ⟨S16x4112, .f32⟩
  | 48 => ⟨S16x4112, .f32⟩
  | 49 => ⟨S_, .f32⟩
  | 50 => ⟨S16x4112, .f32⟩
  | 51 => ⟨S16x4112, .i1⟩
  | 52 => ⟨S_, .f32⟩
  | 53 => ⟨S16x4112, .f32⟩
  | 54 => ⟨S16x4112, .i1⟩
  | 55 => ⟨S_, .f32⟩
  | 56 => ⟨S16x4112, .f32⟩
  | 57 => ⟨S_, .f32⟩
  | 58 => ⟨S16x4112, .f32⟩
  | 59 => ⟨S_, .f32⟩
  | 60 => ⟨S16x4112, .f32⟩
  | 61 => ⟨S16x4112, .f32⟩
  | 62 => ⟨S16x4112, .f32⟩
  | 63 => ⟨S16x4112x1, .f32⟩
  | 64 => ⟨S16x4112x4112, .f32⟩
  | 65 => ⟨S16x4112x4112, .f32⟩
  | 66 => ⟨S16x4112x4112, .f32⟩
  | 67 => ⟨S_, .f32⟩
  | 68 => ⟨S16x4112, .f32⟩
  | 69 => ⟨S16x4112x1, .f32⟩
  | 70 => ⟨S16x4112x4112, .f32⟩
  | 71 => ⟨S16x4112x4112, .f32⟩
  | 72 => ⟨S16x4112x1, .f32⟩
  | 73 => ⟨S_, .f32⟩
  | 74 => ⟨S16x4112x1, .f32⟩
  | 75 => ⟨S16x4112x1, .f32⟩
  | 76 => ⟨S16x64x4112, .f32⟩
  | 77 => ⟨S4112x16x64, .f32⟩
  | 78 => ⟨S4112x1024, .f32⟩
  | 79 => ⟨S4112x16x64, .f32⟩
  | 80 => ⟨S16x64x4112, .f32⟩
  | 81 => ⟨S16x4112x4112, .f32⟩
  | 82 => ⟨S16x64x4112, .f32⟩
  | 83 => ⟨S4112x16x64, .f32⟩
  | 84 => ⟨S16x4112x4112, .f32⟩
  | 85 => ⟨S16x4112x4112, .f32⟩
  | 86 => ⟨S16x4112x4112, .f32⟩
  | 87 => ⟨S_, .f32⟩
  | 88 => ⟨S16x4112, .f32⟩
  | 89 => ⟨S16x4112x1, .f32⟩
  | 90 => ⟨S16x4112x1, .f32⟩
  | 91 => ⟨S16x4112x4112, .f32⟩
  | 92 => ⟨S16x4112x4112, .f32⟩
  | 93 => ⟨S_, .f32⟩
  | 94 => ⟨S16x4112, .f32⟩
  | 95 => ⟨S16x4112x4112, .f32⟩
  | 96 => ⟨S16x4112x4112, .f32⟩
  | 97 => ⟨S16x4112x4112, .f32⟩
  | 98 => ⟨S_, .f32⟩
  | 99 => ⟨S16x4112x4112, .f32⟩
  | 100 => ⟨S16x4112x4112, .f32⟩
  | 101 => ⟨S16x4112x4112, .f32⟩
  | 102 => ⟨S_, .f32⟩
  | 103 => ⟨S16x4112, .f32⟩
  | 104 => ⟨S16x1x4112, .f32⟩
  | 105 => ⟨S_, .f32⟩
  | 106 => ⟨S16x4112, .f32⟩
  | 107 => ⟨S_, .f32⟩
  | 108 => ⟨S16x4112, .f32⟩
  | 109 => ⟨S16x4112x1, .f32⟩
  | 110 => ⟨S_, .f32⟩
  | 111 => ⟨S16x4112, .f32⟩
  | 112 => ⟨S16x4112, .f32⟩
  | 113 => ⟨S_, .f32⟩
  | 114 => ⟨S16x4112x4112, .f32⟩
  | 115 => ⟨S16x4112x4112, .f32⟩
  | 116 => ⟨S16x4112x64, .f32⟩
  | 117 => ⟨S4112x16x64, .f32⟩
  | 118 => ⟨S16x4112x64, .f32⟩
  | 119 => ⟨S4112x16x64, .f32⟩
  | 120 => ⟨S8x2x4112, .f32⟩
  | 121 => ⟨S_, .i32⟩
  | 122 => ⟨S_, .f32⟩
  | 123 => ⟨S8x8x4224, .f32⟩
  | 124 => ⟨S4112x1024, .f32⟩
  | 125 => ⟨S_, .i32⟩
  | 126 => ⟨S_, .f32⟩
  | 127 => ⟨S4224x1024, .f32⟩
  | _ => ⟨S4224x1024, .bf16⟩

abbrev hbmTy0_1 (i : Nat) : BufTy := match i % 128 with
  | 0 => ⟨S4112x1024, .f32⟩
  | 1 => ⟨S_, .i32⟩
  | 2 => ⟨S_, .f32⟩
  | 3 => ⟨S4224x1024, .f32⟩
  | 4 => ⟨S4112x1024, .f32⟩
  | 5 => ⟨S_, .i32⟩
  | 6 => ⟨S_, .f32⟩
  | 7 => ⟨S4224x1024, .f32⟩
  | _ => ⟨S4224x1024, .bf16⟩

abbrev hbmTy (i : Nat) : BufTy := match i / 128 with
  | 0 => hbmTy0_0 i
  | 1 => hbmTy0_1 i
  | _ => ⟨S4224x1024, .bf16⟩

abbrev bufTy : (tb : Table) → Fin (tcTables nBuf tb) → BufTy
  | .hbm, ⟨i, _⟩ => hbmTy i
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_v25_1 : Ref sig .tc := ⟨.hbm, 33, rfl⟩
abbrev main_call0_v2 : Ref sig .tc := ⟨.hbm, 34, rfl⟩
abbrev main_v25_0 : Ref sig .tc := ⟨.hbm, 35, rfl⟩
abbrev main_call0_cst : Ref sig .tc := ⟨.hbm, 36, rfl⟩
abbrev main_v25_2 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_cst : Ref sig .tc := ⟨.hbm, 98, rfl⟩
abbrev main_call1_v0 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c : Ref sig .tc := ⟨.hbm, 121, rfl⟩
abbrev main_call2_v0 : Ref sig .tc := ⟨.hbm, 122, rfl⟩
abbrev main_v90 : Ref sig .tc := ⟨.hbm, 123, rfl⟩
abbrev main_v91 : Ref sig .tc := ⟨.hbm, 124, rfl⟩
abbrev main_c_18 : Ref sig .tc := ⟨.hbm, 125, rfl⟩
abbrev main_call3_v0 : Ref sig .tc := ⟨.hbm, 126, rfl⟩
abbrev main_v92 : Ref sig .tc := ⟨.hbm, 127, rfl⟩
abbrev main_v93 : Ref sig .tc := ⟨.hbm, 128, rfl⟩
abbrev main_c_19 : Ref sig .tc := ⟨.hbm, 129, rfl⟩
abbrev main_call4_v0 : Ref sig .tc := ⟨.hbm, 130, rfl⟩
abbrev main_v94 : Ref sig .tc := ⟨.hbm, 131, rfl⟩
abbrev main_v95 : Ref sig .tc := ⟨.hbm, 132, rfl⟩
abbrev main_c_20 : Ref sig .tc := ⟨.hbm, 133, rfl⟩
abbrev main_call5_v0 : Ref sig .tc := ⟨.hbm, 134, rfl⟩
abbrev main_v96 : Ref sig .tc := ⟨.hbm, 135, rfl⟩

abbrev nD : Nat := 1
abbrev τ : Topo := Topo.v7x

variable {F : FTy → Type} [FloatOps F]
-- ==== DownDx.lean ====
abbrev S4224x5632 : Shape := ⟨2, ![4224, 5632]⟩
abbrev S5632x2048 : Shape := ⟨2, ![5632, 2048]⟩
abbrev S4224x2048 : Shape := ⟨2, ![4224, 2048]⟩
abbrev S1408x2048 : Shape := ⟨2, ![1408, 2048]⟩
abbrev S512x2048 : Shape := ⟨2, ![512, 2048]⟩
abbrev S1408x512 : Shape := ⟨2, ![1408, 512]⟩

abbrev nBuf : Space → Nat
  | .hbm => 4
  | .vmem => 7
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .bf16⟩
  | .hbm, ⟨3, _⟩ => ⟨S4224x5632, .f32⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4224x5632 : Shape := ⟨2, ![4224, 5632]⟩
abbrev S5632x2048 : Shape := ⟨2, ![5632, 2048]⟩
abbrev S4224x2048 : Shape := ⟨2, ![4224, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .bf16⟩
  | .hbm, ⟨3, _⟩ => ⟨S4224x5632, .f32⟩
  | .hbm, ⟨4, _⟩ => ⟨S5632x2048, .f32⟩
  | .hbm, ⟨5, _⟩ => ⟨S4224x2048, .f32⟩
  | .hbm, ⟨6, _⟩ => ⟨S4224x2048, .f32⟩
  | .hbm, ⟨7, _⟩ => ⟨S2048x5632, .f32⟩
  | .hbm, ⟨8, _⟩ => ⟨S5632x2048, .f32⟩
  | .hbm, ⟨9, _⟩ => ⟨S4224x5632, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDw.lean ====
abbrev S4224x5632 : Shape := ⟨2, ![4224, 5632]⟩
abbrev S5632x2048 : Shape := ⟨2, ![5632, 2048]⟩
abbrev S4224x2048 : Shape := ⟨2, ![4224, 2048]⟩
abbrev S1408x1408 : Shape := ⟨2, ![1408, 1408]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .bf16⟩
  | .hbm, ⟨3, _⟩ => ⟨S5632x2048, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4224x5632 : Shape := ⟨2, ![4224, 5632]⟩
abbrev S5632x2048 : Shape := ⟨2, ![5632, 2048]⟩
abbrev S4224x2048 : Shape := ⟨2, ![4224, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .bf16⟩
  | .hbm, ⟨3, _⟩ => ⟨S4224x5632, .f32⟩
  | .hbm, ⟨4, _⟩ => ⟨S5632x2048, .f32⟩
  | .hbm, ⟨5, _⟩ => ⟨S4224x2048, .f32⟩
  | .hbm, ⟨6, _⟩ => ⟨S4224x2048, .f32⟩
  | .hbm, ⟨7, _⟩ => ⟨S2048x5632, .f32⟩
  | .hbm, ⟨8, _⟩ => ⟨S5632x2048, .f32⟩
  | .hbm, ⟨9, _⟩ => ⟨S4224x5632, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateUpDx.lean ====
abbrev S4224x2048 : Shape := ⟨2, ![4224, 2048]⟩
abbrev S2048x11264 : Shape := ⟨2, ![2048, 11264]⟩
abbrev S4224x11264 : Shape := ⟨2, ![4224, 11264]⟩
abbrev S1408x1408 : Shape := ⟨2, ![1408, 1408]⟩
abbrev S512x1408 : Shape := ⟨2, ![512, 1408]⟩
abbrev S1408x512 : Shape := ⟨2, ![1408, 512]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2048x11264, .bf16⟩
  | .hbm, ⟨2, _⟩ => ⟨S4224x11264, .bf16⟩
  | .hbm, ⟨3, _⟩ => ⟨S4224x2048, .f32⟩
  | .local _ .vmem, ⟨0, _⟩ => ⟨S1408x1408, .bf16⟩
  | .local _ .vmem, ⟨1, _⟩ => ⟨S1408x1408, .bf16⟩
  | .local _ .vmem, ⟨2, _⟩ => ⟨S512x1408, .bf16⟩
  | .local _ .vmem, ⟨3, _⟩ => ⟨S512x1408, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpDxRefIdeal.lean ====
abbrev S4224x2048 : Shape := ⟨2, ![4224, 2048]⟩
abbrev S2048x11264 : Shape := ⟨2, ![2048, 11264]⟩
abbrev S4224x11264 : Shape := ⟨2, ![4224, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x11264, .bf16⟩
  | .hbm, ⟨2, _⟩ => ⟨S4224x11264, .bf16⟩
  | .hbm, ⟨3, _⟩ => ⟨S4224x2048, .f32⟩
  | .hbm, ⟨4, _⟩ => ⟨S2048x11264, .f32⟩
  | .hbm, ⟨5, _⟩ => ⟨S4224x11264, .f32⟩
  | .hbm, ⟨6, _⟩ => ⟨S4224x11264, .f32⟩
  | .hbm, ⟨7, _⟩ => ⟨S11264x2048, .f32⟩
  | .hbm, ⟨8, _⟩ => ⟨S2048x11264, .f32⟩
  | .hbm, ⟨9, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateUpDw.lean ====
abbrev S4224x2048 : Shape := ⟨2, ![4224, 2048]⟩
abbrev S2048x11264 : Shape := ⟨2, ![2048, 11264]⟩
abbrev S4224x11264 : Shape := ⟨2, ![4224, 11264]⟩
abbrev S4x2048x2816 : Shape := ⟨3, ![4, 2048, 2816]⟩
abbrev S1408x1024 : Shape := ⟨2, ![1408, 1024]⟩
abbrev S1408x1408 : Shape := ⟨2, ![1408, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2048x11264, .bf16⟩
  | .hbm, ⟨2, _⟩ => ⟨S4224x11264, .bf16⟩
  | .hbm, ⟨3, _⟩ => ⟨S4x2048x2816, .f32⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpDwRefIdeal.lean ====
abbrev S4224x2048 : Shape := ⟨2, ![4224, 2048]⟩
abbrev S2048x11264 : Shape := ⟨2, ![2048, 11264]⟩
abbrev S4224x11264 : Shape := ⟨2, ![4224, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x11264, .bf16⟩
  | .hbm, ⟨2, _⟩ => ⟨S4224x11264, .bf16⟩
  | .hbm, ⟨3, _⟩ => ⟨S4224x2048, .f32⟩
  | .hbm, ⟨4, _⟩ => ⟨S2048x11264, .f32⟩
  | .hbm, ⟨5, _⟩ => ⟨S4224x11264, .f32⟩
  | .hbm, ⟨6, _⟩ => ⟨S4224x11264, .f32⟩
  | .hbm, ⟨7, _⟩ => ⟨S11264x2048, .f32⟩
  | .hbm, ⟨8, _⟩ => ⟨S2048x11264, .f32⟩
  | .hbm, ⟨9, _⟩ => ⟨S4224x2048, .f32⟩
  | .hbm, ⟨10, _⟩ => ⟨S2048x4x2816, .f32⟩
  | .hbm, ⟨11, _⟩ => ⟨S4x2048x2816, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WoDx.lean ====
abbrev S4224x2048 : Shape := ⟨2, ![4224, 2048]⟩
abbrev S2048x2048 : Shape := ⟨2, ![2048, 2048]⟩
abbrev S1408x2048 : Shape := ⟨2, ![1408, 2048]⟩
abbrev S512x2048 : Shape := ⟨2, ![512, 2048]⟩
abbrev S1408x512 : Shape := ⟨2, ![1408, 512]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .bf16⟩
  | .hbm, ⟨3, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoDxRefIdeal.lean ====
abbrev S4224x2048 : Shape := ⟨2, ![4224, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .bf16⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | .hbm, ⟨7, _⟩ => ⟨S2048x2048, .f32⟩
  | .hbm, ⟨8, _⟩ => ⟨S2048x2048, .f32⟩
  | .hbm, ⟨9, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WoDw.lean ====
abbrev S4224x2048 : Shape := ⟨2, ![4224, 2048]⟩
abbrev S2048x2048 : Shape := ⟨2, ![2048, 2048]⟩
abbrev S1408x1024 : Shape := ⟨2, ![1408, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .bf16⟩
  | .hbm, ⟨3, _⟩ => ⟨S2048x2048, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoDwRefIdeal.lean ====
abbrev S4224x2048 : Shape := ⟨2, ![4224, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .bf16⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | .hbm, ⟨7, _⟩ => ⟨S2048x2048, .f32⟩
  | .hbm, ⟨8, _⟩ => ⟨S2048x2048, .f32⟩
  | .hbm, ⟨9, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchDx.lean ====
abbrev S4224x1024 : Shape := ⟨2, ![4224, 1024]⟩
abbrev S1024x2048 : Shape := ⟨2, ![1024, 2048]⟩
abbrev S4224x2048 : Shape := ⟨2, ![4224, 2048]⟩
abbrev S1408x2048 : Shape := ⟨2, ![1408, 2048]⟩
abbrev S512x2048 : Shape := ⟨2, ![512, 2048]⟩
abbrev S1408x512 : Shape := ⟨2, ![1408, 512]⟩

abbrev nBuf : Space → Nat
  | .hbm => 4
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x2048, .bf16⟩
  | .hbm, ⟨2, _⟩ => ⟨S4224x2048, .bf16⟩
  | .hbm, ⟨3, _⟩ => ⟨S4224x1024, .f32⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S4224x1024 : Shape := ⟨2, ![4224, 1024]⟩
abbrev S1024x2048 : Shape := ⟨2, ![1024, 2048]⟩
abbrev S4224x2048 : Shape := ⟨2, ![4224, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x2048, .bf16⟩
  | .hbm, ⟨2, _⟩ => ⟨S4224x2048, .bf16⟩
  | .hbm, ⟨3, _⟩ => ⟨S4224x1024, .f32⟩
  | .hbm, ⟨4, _⟩ => ⟨S1024x2048, .f32⟩
  | .hbm, ⟨5, _⟩ => ⟨S4224x2048, .f32⟩
  | .hbm, ⟨6, _⟩ => ⟨S4224x2048, .f32⟩
  | .hbm, ⟨7, _⟩ => ⟨S2048x1024, .f32⟩
  | .hbm, ⟨8, _⟩ => ⟨S1024x2048, .f32⟩
  | .hbm, ⟨9, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchDw.lean ====
abbrev S4224x1024 : Shape := ⟨2, ![4224, 1024]⟩
abbrev S1024x2048 : Shape := ⟨2, ![1024, 2048]⟩
abbrev S4224x2048 : Shape := ⟨2, ![4224, 2048]⟩
abbrev S4x1024x512 : Shape := ⟨3, ![4, 1024, 512]⟩
abbrev S1408x1024 : Shape := ⟨2, ![1408, 1024]⟩
abbrev S1408x512 : Shape := ⟨2, ![1408, 512]⟩
abbrev S1x1024x512 : Shape := ⟨3, ![1, 1024, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x2048, .bf16⟩
  | .hbm, ⟨2, _⟩ => ⟨S4224x2048, .bf16⟩
  | .hbm, ⟨3, _⟩ => ⟨S4x1024x512, .f32⟩
  | .local _ .vmem, ⟨0, _⟩ => ⟨S1408x1024, .bf16⟩
  | .local _ .vmem, ⟨1, _⟩ => ⟨S1408x1024, .bf16⟩
  | .local _ .vmem, ⟨2, _⟩ => ⟨S1408x512, .bf16⟩
  | .local _ .vmem, ⟨3, _⟩ => ⟨S1408x512, .bf16⟩
  | .local _ .vmem, ⟨4, _⟩ => ⟨S1x1024x512, .f32⟩
  | .local _ .vmem, ⟨5, _⟩ => ⟨S1x1024x512, .f32⟩
  | .local _ .vmem, ⟨6, _⟩ => ⟨S1024x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDwRefIdeal.lean ====
abbrev S4224x1024 : Shape := ⟨2, ![4224, 1024]⟩
abbrev S1024x2048 : Shape := ⟨2, ![1024, 2048]⟩
abbrev S4224x2048 : Shape := ⟨2, ![4224, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x2048, .bf16⟩
  | .hbm, ⟨2, _⟩ => ⟨S4224x2048, .bf16⟩
  | .hbm, ⟨3, _⟩ => ⟨S4224x1024, .f32⟩
  | .hbm, ⟨4, _⟩ => ⟨S1024x2048, .f32⟩
  | .hbm, ⟨5, _⟩ => ⟨S4224x2048, .f32⟩
  | .hbm, ⟨6, _⟩ => ⟨S4224x2048, .f32⟩
  | .hbm, ⟨7, _⟩ => ⟨S2048x1024, .f32⟩
  | .hbm, ⟨8, _⟩ => ⟨S1024x2048, .f32⟩
  | .hbm, ⟨9, _⟩ => ⟨S4224x1024, .f32⟩
  | .hbm, ⟨10, _⟩ => ⟨S1024x4x512, .f32⟩
  | .hbm, ⟨11, _⟩ => ⟨S4x1024x512, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ProjDx.lean ====
abbrev S4224x2048 : Shape := ⟨2, ![4224, 2048]⟩
abbrev S2048x10752 : Shape := ⟨2, ![2048, 10752]⟩
abbrev S4224x10752 : Shape := ⟨2, ![4224, 10752]⟩
abbrev S1408x1536 : Shape := ⟨2, ![1408, 1536]⟩
abbrev S512x1536 : Shape := ⟨2, ![512, 1536]⟩
abbrev S1408x512 : Shape := ⟨2, ![1408, 512]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2048x10752, .bf16⟩
  | .hbm, ⟨2, _⟩ => ⟨S4224x10752, .bf16⟩
  | .hbm, ⟨3, _⟩ => ⟨S4224x2048, .f32⟩
  | .local _ .vmem, ⟨0, _⟩ => ⟨S1408x1536, .bf16⟩
  | .local _ .vmem, ⟨1, _⟩ => ⟨S1408x1536, .bf16⟩
  | .local _ .vmem, ⟨2, _⟩ => ⟨S512x1536, .bf16⟩
  | .local _ .vmem, ⟨3, _⟩ => ⟨S512x1536, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S4224x2048 : Shape := ⟨2, ![4224, 2048]⟩
abbrev S2048x10752 : Shape := ⟨2, ![2048, 10752]⟩
abbrev S4224x10752 : Shape := ⟨2, ![4224, 10752]⟩
abbrev S10752x2048 : Shape := ⟨2, ![10752, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x10752, .bf16⟩
  | .hbm, ⟨2, _⟩ => ⟨S4224x10752, .bf16⟩
  | .hbm, ⟨3, _⟩ => ⟨S4224x2048, .f32⟩
  | .hbm, ⟨4, _⟩ => ⟨S2048x10752, .f32⟩
  | .hbm, ⟨5, _⟩ => ⟨S4224x10752, .f32⟩
  | .hbm, ⟨6, _⟩ => ⟨S4224x10752, .f32⟩
  | .hbm, ⟨7, _⟩ => ⟨S10752x2048, .f32⟩
  | .hbm, ⟨8, _⟩ => ⟨S2048x10752, .f32⟩
  | .hbm, ⟨9, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDw.lean ====
abbrev S4224x2048 : Shape := ⟨2, ![4224, 2048]⟩
abbrev S2048x10752 : Shape := ⟨2, ![2048, 10752]⟩
abbrev S4224x10752 : Shape := ⟨2, ![4224, 10752]⟩
abbrev S4x2048x2688 : Shape := ⟨3, ![4, 2048, 2688]⟩
abbrev S1408x1024 : Shape := ⟨2, ![1408, 1024]⟩
abbrev S1408x896 : Shape := ⟨2, ![1408, 896]⟩
abbrev S1x1024x896 : Shape := ⟨3, ![1, 1024, 896]⟩
abbrev S1024x896 : Shape := ⟨2, ![1024, 896]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2048x10752, .bf16⟩
  | .hbm, ⟨2, _⟩ => ⟨S4224x10752, .bf16⟩
  | .hbm, ⟨3, _⟩ => ⟨S4x2048x2688, .f32⟩
  | .local _ .vmem, ⟨0, _⟩ => ⟨S1408x1024, .bf16⟩
  | .local _ .vmem, ⟨1, _⟩ => ⟨S1408x1024, .bf16⟩
  | .local _ .vmem, ⟨2, _⟩ => ⟨S1408x896, .bf16⟩
  | .local _ .vmem, ⟨3, _⟩ => ⟨S1408x896, .bf16⟩
  | .local _ .vmem, ⟨4, _⟩ => ⟨S1x1024x896, .f32⟩
  | .local _ .vmem, ⟨5, _⟩ => ⟨S1x1024x896, .f32⟩
  | .local _ .vmem, ⟨6, _⟩ => ⟨S1024x896, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S4224x2048 : Shape := ⟨2, ![4224, 2048]⟩
abbrev S2048x10752 : Shape := ⟨2, ![2048, 10752]⟩
abbrev S4224x10752 : Shape := ⟨2, ![4224, 10752]⟩
abbrev S10752x2048 : Shape := ⟨2, ![10752, 2048]⟩
abbrev S2048x4x2688 : Shape := ⟨3, ![2048, 4, 2688]⟩
abbrev S4x2048x2688 : Shape := ⟨3, ![4, 2048, 2688]⟩

abbrev nBuf : Space → Nat
  | .hbm => 12
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x10752, .bf16⟩
  | .hbm, ⟨2, _⟩ => ⟨S4224x10752, .bf16⟩
  | .hbm, ⟨3, _⟩ => ⟨S4224x2048, .f32⟩
  | .hbm, ⟨4, _⟩ => ⟨S2048x10752, .f32⟩
  | .hbm, ⟨5, _⟩ => ⟨S4224x10752, .f32⟩
  | .hbm, ⟨6, _⟩ => ⟨S4224x10752, .f32⟩
  | .hbm, ⟨7, _⟩ => ⟨S10752x2048, .f32⟩
  | .hbm, ⟨8, _⟩ => ⟨S2048x10752, .f32⟩
  | .hbm, ⟨9, _⟩ => ⟨S4224x2048, .f32⟩
  | .hbm, ⟨10, _⟩ => ⟨S2048x4x2688, .f32⟩
  | .hbm, ⟨11, _⟩ => ⟨S4x2048x2688, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ProjFwd.lean ====
abbrev S4224x2048 : Shape := ⟨2, ![4224, 2048]⟩
abbrev S2048x10752 : Shape := ⟨2, ![2048, 10752]⟩
abbrev S4224x10752 : Shape := ⟨2, ![4224, 10752]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2048x10752, .bf16⟩
  | .hbm, ⟨2, _⟩ => ⟨S4224x10752, .f32⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 21, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFwdRefIdeal.lean ====
abbrev S4224x2048 : Shape := ⟨2, ![4224, 2048]⟩
abbrev S2048x10752 : Shape := ⟨2, ![2048, 10752]⟩
abbrev S4224x10752 : Shape := ⟨2, ![4224, 10752]⟩

abbrev nBuf : Space → Nat
  | .hbm => 5
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x10752, .bf16⟩
  | .hbm, ⟨2, _⟩ => ⟨S4224x2048, .f32⟩
  | .hbm, ⟨3, _⟩ => ⟨S2048x10752, .f32⟩
  | .hbm, ⟨4, _⟩ => ⟨S4224x10752, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchFwd.lean ====
abbrev S4224x1024 : Shape := ⟨2, ![4224, 1024]⟩
abbrev S1024x2048 : Shape := ⟨2, ![1024, 2048]⟩
abbrev S4224x2048 : Shape := ⟨2, ![4224, 2048]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x2048, .bf16⟩
  | .hbm, ⟨2, _⟩ => ⟨S4224x2048, .f32⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchFwdRefIdeal.lean ====
abbrev S4224x1024 : Shape := ⟨2, ![4224, 1024]⟩
abbrev S1024x2048 : Shape := ⟨2, ![1024, 2048]⟩
abbrev S4224x2048 : Shape := ⟨2, ![4224, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x2048, .bf16⟩
  | .hbm, ⟨2, _⟩ => ⟨S4224x1024, .f32⟩
  | .hbm, ⟨3, _⟩ => ⟨S1024x2048, .f32⟩
  | .hbm, ⟨4, _⟩ => ⟨S4224x2048, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WoFwd.lean ====
abbrev S4224x2048 : Shape := ⟨2, ![4224, 2048]⟩
abbrev S2048x2048 : Shape := ⟨2, ![2048, 2048]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 4
  | .vmem => 9
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | .local _ .vmem, ⟨8, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WoFwdRefIdeal.lean ====
abbrev S4224x2048 : Shape := ⟨2, ![4224, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateUpFwd.lean ====
abbrev S4224x2048 : Shape := ⟨2, ![4224, 2048]⟩
abbrev S2048x11264 : Shape := ⟨2, ![2048, 11264]⟩
abbrev S4224x11264 : Shape := ⟨2, ![4224, 11264]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2048x11264, .bf16⟩
  | .hbm, ⟨2, _⟩ => ⟨S4224x11264, .f32⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 22, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpFwdRefIdeal.lean ====
abbrev S4224x2048 : Shape := ⟨2, ![4224, 2048]⟩
abbrev S2048x11264 : Shape := ⟨2, ![2048, 11264]⟩
abbrev S4224x11264 : Shape := ⟨2, ![4224, 11264]⟩

abbrev nBuf : Space → Nat
  | .hbm => 5
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x11264, .bf16⟩
  | .hbm, ⟨2, _⟩ => ⟨S4224x2048, .f32⟩
  | .hbm, ⟨3, _⟩ => ⟨S2048x11264, .f32⟩
  | .hbm, ⟨4, _⟩ => ⟨S4224x11264, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownFwd.lean ====
abbrev S4224x5632 : Shape := ⟨2, ![4224, 5632]⟩
abbrev S5632x2048 : Shape := ⟨2, ![5632, 2048]⟩
abbrev S4224x2048 : Shape := ⟨2, ![4224, 2048]⟩
abbrev S1408x1408 : Shape := ⟨2, ![1408, 1408]⟩
abbrev S1408x512 : Shape := ⟨2, ![1408, 512]⟩

abbrev nBuf : Space → Nat
  | .hbm => 4
  | .vmem => 9
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .hbm, ⟨3, _⟩ => ⟨S4224x2048, .f32⟩
  | .local _ .vmem, ⟨0, _⟩ => ⟨S1408x1408, .bf16⟩
  | .local _ .vmem, ⟨1, _⟩ => ⟨S1408x1408, .bf16⟩
  | .local _ .vmem, ⟨2, _⟩ => ⟨S1408x512, .bf16⟩
  | .local _ .vmem, ⟨3, _⟩ => ⟨S1408x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | .local _ .vmem, ⟨8, _⟩ => ⟨S1408x512, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdRefIdeal.lean ====
abbrev S4224x5632 : Shape := ⟨2, ![4224, 5632]⟩
abbrev S5632x2048 : Shape := ⟨2, ![5632, 2048]⟩
abbrev S4224x2048 : Shape := ⟨2, ![4224, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .hbm, ⟨3, _⟩ => ⟨S4224x5632, .f32⟩
  | .hbm, ⟨4, _⟩ => ⟨S5632x2048, .f32⟩
  | .hbm, ⟨5, _⟩ => ⟨S4224x2048, .f32⟩
  | .hbm, ⟨6, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SwigluBwd.lean ====
abbrev S4224x11264 : Shape := ⟨2, ![4224, 11264]⟩
abbrev S4224x5632 : Shape := ⟨2, ![4224, 5632]⟩
abbrev S128x5632 : Shape := ⟨2, ![128, 5632]⟩

abbrev nBuf : Space → Nat
  | .hbm => 4
  | .vmem => 10
  | .smem => 0
  | _ => 0

abbrev bufTy : (tb : Table) → Fin (tcTables nBuf tb) → BufTy
  | .hbm, ⟨0, _⟩ => ⟨S4224x11264, .f32⟩
  | .hbm, ⟨1, _⟩ => ⟨S4224x5632, .f32⟩
  | .hbm, ⟨2, _⟩ => ⟨S4224x5632, .bf16⟩
  | .hbm, ⟨3, _⟩ => ⟨S4224x5632, .bf16⟩
  | .local _ .vmem, ⟨0, _⟩ => ⟨S128x5632, .f32⟩
  | .local _ .vmem, ⟨1, _⟩ => ⟨S128x5632, .f32⟩
  | .local _ .vmem, ⟨2, _⟩ => ⟨S128x5632, .f32⟩
  | .local _ .vmem, ⟨3, _⟩ => ⟨S128x5632, .f32⟩
  | .local _ .vmem, ⟨4, _⟩ => ⟨S128x5632, .f32⟩
  | .local _ .vmem, ⟨5, _⟩ => ⟨S128x5632, .f32⟩
  | .local _ .vmem, ⟨6, _⟩ => ⟨S128x5632, .bf16⟩
  | .local _ .vmem, ⟨7, _⟩ => ⟨S128x5632, .bf16⟩
  | .local _ .vmem, ⟨8, _⟩ => ⟨S128x5632, .bf16⟩
  | .local _ .vmem, ⟨9, _⟩ => ⟨S128x5632, .bf16⟩
  | _, _ => ⟨S4224x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwigluBwdRefIdeal.lean ====
abbrev S4224x11264 : Shape := ⟨2, ![4224, 11264]⟩
abbrev S4224x5632 : Shape := ⟨2, ![4224, 5632]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4224x11264, .f32⟩
  | .hbm, ⟨1, _⟩ => ⟨S4224x5632, .f32⟩
  | .hbm, ⟨2, _⟩ => ⟨S4224x5632, .f32⟩
  | .hbm, ⟨3, _⟩ => ⟨S4224x5632, .f32⟩
  | .hbm, ⟨4, _⟩ => ⟨S4224x5632, .f32⟩
  | .hbm, ⟨5, _⟩ => ⟨S4224x5632, .f32⟩
  | .hbm, ⟨6, _⟩ => ⟨S_, .f32⟩
  | .hbm, ⟨7, _⟩ => ⟨S4224x5632, .f32⟩
  | .hbm, ⟨8, _⟩ => ⟨S4224x5632, .f32⟩
  | .hbm, ⟨9, _⟩ => ⟨S_, .f32⟩
  | .hbm, ⟨10, _⟩ => ⟨S4224x5632, .f32⟩
  | .hbm, ⟨11, _⟩ => ⟨S4224x5632, .f32⟩
  | .hbm, ⟨12, _⟩ => ⟨S_, .f32⟩
  | .hbm, ⟨13, _⟩ => ⟨S4224x5632, .f32⟩
  | .hbm, ⟨14, _⟩ => ⟨S4224x5632, .f32⟩
  | .hbm, ⟨15, _⟩ => ⟨S4224x5632, .f32⟩
  | .hbm, ⟨16, _⟩ => ⟨S4224x5632, .f32⟩
  | .hbm, ⟨17, _⟩ => ⟨S4224x5632, .f32⟩
  | .hbm, ⟨18, _⟩ => ⟨S4224x5632, .f32⟩
  | .hbm, ⟨19, _⟩ => ⟨S4224x5632, .f32⟩
  | .hbm, ⟨20, _⟩ => ⟨S4224x5632, .f32⟩
  | .hbm, ⟨21, _⟩ => ⟨S4224x5632, .f32⟩
  | .hbm, ⟨22, _⟩ => ⟨S4224x5632, .f32⟩
  | .hbm, ⟨23, _⟩ => ⟨S4224x5632, .f32⟩
  | .hbm, ⟨24, _⟩ => ⟨S4224x11264, .f32⟩
  | .hbm, ⟨25, _⟩ => ⟨S4224x5632, .f32⟩
  | .hbm, ⟨26, _⟩ => ⟨S4224x5632, .f32⟩
  | .hbm, ⟨27, _⟩ => ⟨S4224x5632, .bf16⟩
  | .hbm, ⟨28, _⟩ => ⟨S4224x5632, .bf16⟩
  | _, _ => ⟨S4224x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩

abbrev nD : Nat := 1
abbrev τ : Topo := Topo.v7x

variable {F : FTy → Type} [FloatOps F]
-- ==== MergeBwd.lean ====
abbrev S4224x10752 : Shape := ⟨2, ![4224, 10752]⟩
abbrev S4224x2048 : Shape := ⟨2, ![4224, 2048]⟩
abbrev S128x2048 : Shape := ⟨2, ![128, 2048]⟩

abbrev nBuf : Space → Nat
  | .hbm => 8
  | .vmem => 18
  | .smem => 0
  | _ => 0

abbrev bufTy : (tb : Table) → Fin (tcTables nBuf tb) → BufTy
  | .hbm, ⟨0, _⟩ => ⟨S4224x10752, .f32⟩
  | .hbm, ⟨1, _⟩ => ⟨S4224x2048, .f32⟩
  | .hbm, ⟨2, _⟩ => ⟨S4224x2048, .f32⟩
  | .hbm, ⟨3, _⟩ => ⟨S4224x2048, .f32⟩
  | .hbm, ⟨4, _⟩ => ⟨S4224x2048, .bf16⟩
  | .hbm, ⟨5, _⟩ => ⟨S4224x2048, .bf16⟩
  | .hbm, ⟨6, _⟩ => ⟨S4224x2048, .bf16⟩
  | .hbm, ⟨7, _⟩ => ⟨S4224x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | _, _ => ⟨S4224x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBwdRefIdeal.lean ====
abbrev S4224x10752 : Shape := ⟨2, ![4224, 10752]⟩
abbrev S4224x2048 : Shape := ⟨2, ![4224, 2048]⟩
abbrev S4224x4096 : Shape := ⟨2, ![4224, 4096]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4224x10752, .f32⟩
  | .hbm, ⟨1, _⟩ => ⟨S4224x2048, .f32⟩
  | .hbm, ⟨2, _⟩ => ⟨S4224x2048, .f32⟩
  | .hbm, ⟨3, _⟩ => ⟨S4224x2048, .f32⟩
  | .hbm, ⟨4, _⟩ => ⟨S4224x4096, .f32⟩
  | .hbm, ⟨5, _⟩ => ⟨S4224x4096, .f32⟩
  | .hbm, ⟨6, _⟩ => ⟨S4224x4096, .f32⟩
  | .hbm, ⟨7, _⟩ => ⟨S_, .f32⟩
  | .hbm, ⟨8, _⟩ => ⟨S4224x4096, .f32⟩
  | .hbm, ⟨9, _⟩ => ⟨S4224x4096, .f32⟩
  | .hbm, ⟨10, _⟩ => ⟨S_, .f32⟩
  | .hbm, ⟨11, _⟩ => ⟨S4224x4096, .f32⟩
  | .hbm, ⟨12, _⟩ => ⟨S4224x4096, .f32⟩
  | .hbm, ⟨13, _⟩ => ⟨S_, .f32⟩
  | .hbm, ⟨14, _⟩ => ⟨S4224x4096, .f32⟩
  | .hbm, ⟨15, _⟩ => ⟨S4224x4096, .f32⟩
  | .hbm, ⟨16, _⟩ => ⟨S4224x4096, .f32⟩
  | .hbm, ⟨17, _⟩ => ⟨S4224x2048, .f32⟩
  | .hbm, ⟨18, _⟩ => ⟨S4224x2048, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S4224x2048, .f32⟩
  | .hbm, ⟨25, _⟩ => ⟨S4224x2048, .f32⟩
  | .hbm, ⟨26, _⟩ => ⟨S4224x2048, .f32⟩
  | .hbm, ⟨27, _⟩ => ⟨S4224x2048, .f32⟩
  | .hbm, ⟨28, _⟩ => ⟨S4224x4096, .f32⟩
  | .hbm, ⟨29, _⟩ => ⟨S4224x4096, .f32⟩
  | .hbm, ⟨30, _⟩ => ⟨S4224x2048, .f32⟩
  | .hbm, ⟨31, _⟩ => ⟨S4224x2048, .f32⟩
  | .hbm, ⟨32, _⟩ => ⟨S4224x2048, .bf16⟩
  | .hbm, ⟨33, _⟩ => ⟨S4224x2048, .bf16⟩
  | .hbm, ⟨34, _⟩ => ⟨S4224x2048, .bf16⟩
  | .hbm, ⟨35, _⟩ => ⟨S4224x2048, .bf16⟩
  | _, _ => ⟨S4224x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== RmsBwd.lean ====
abbrev S4224x2048 : Shape := ⟨2, ![4224, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S_, .f32⟩
  | .hbm, ⟨31, _⟩ => ⟨S4224, .f32⟩
  | .hbm, ⟨32, _⟩ => ⟨S4224x1, .f32⟩
  | .hbm, ⟨33, _⟩ => ⟨S4224x2048, .f32⟩
  | .hbm, ⟨34, _⟩ => ⟨S4224x2048, .f32⟩
  | .hbm, ⟨35, _⟩ => ⟨S4224x1, .f32⟩
  | .hbm, ⟨36, _⟩ => ⟨S_, .f32⟩
  | .hbm, ⟨37, _⟩ => ⟨S4224x1, .f32⟩
  | .hbm, ⟨38, _⟩ => ⟨S4224x1, .f32⟩
  | .hbm, ⟨39, _⟩ => ⟨S_, .f32⟩
  | .hbm, ⟨40, _⟩ => ⟨S4224, .f32⟩
  | .hbm, ⟨41, _⟩ => ⟨S4224x2048, .f32⟩
  | .hbm, ⟨42, _⟩ => ⟨S4224x2048, .f32⟩
  | .hbm, ⟨43, _⟩ => ⟨S4224x2048, .f32⟩
  | .hbm, ⟨44, _⟩ => ⟨S4224x2048, .f32⟩
  | .hbm, ⟨45, _⟩ => ⟨S4224x2048, .f32⟩
  | .hbm, ⟨46, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== SwigluFwd.lean ====
abbrev S4224x11264 : Shape := ⟨2, ![4224, 11264]⟩
abbrev S4224x5632 : Shape := ⟨2, ![4224, 5632]⟩
abbrev S128x5632 : Shape := ⟨2, ![128, 5632]⟩

abbrev nBuf : Space → Nat
  | .hbm => 2
  | .vmem => 6
  | .smem => 0
  | _ => 0

abbrev bufTy : (tb : Table) → Fin (tcTables nBuf tb) → BufTy
  | .hbm, ⟨0, _⟩ => ⟨S4224x11264, .f32⟩
  | .hbm, ⟨1, _⟩ => ⟨S4224x5632, .bf16⟩
  | .local _ .vmem, ⟨0, _⟩ => ⟨S128x5632, .f32⟩
  | .local _ .vmem, ⟨1, _⟩ => ⟨S128x5632, .f32⟩
  | .local _ .vmem, ⟨2, _⟩ => ⟨S128x5632, .f32⟩
  | .local _ .vmem, ⟨3, _⟩ => ⟨S128x5632, .f32⟩
  | .local _ .vmem, ⟨4, _⟩ => ⟨S128x5632, .bf16⟩
  | .local _ .vmem, ⟨5, _⟩ => ⟨S128x5632, .bf16⟩
  | _, _ => ⟨S4224x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluFwdRefIdeal.lean ====
abbrev S4224x11264 : Shape := ⟨2, ![4224, 11264]⟩
abbrev S4224x5632 : Shape := ⟨2, ![4224, 5632]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4224x11264, .f32⟩
  | .hbm, ⟨1, _⟩ => ⟨S4224x5632, .f32⟩
  | .hbm, ⟨2, _⟩ => ⟨S4224x5632, .f32⟩
  | .hbm, ⟨3, _⟩ => ⟨S4224x5632, .f32⟩
  | .hbm, ⟨4, _⟩ => ⟨S4224x5632, .f32⟩
  | .hbm, ⟨5, _⟩ => ⟨S_, .f32⟩
  | .hbm, ⟨6, _⟩ => ⟨S4224x5632, .f32⟩
  | .hbm, ⟨7, _⟩ => ⟨S4224x5632, .f32⟩
  | .hbm, ⟨8, _⟩ => ⟨S_, .f32⟩
  | .hbm, ⟨9, _⟩ => ⟨S4224x5632, .f32⟩
  | .hbm, ⟨10, _⟩ => ⟨S4224x5632, .f32⟩
  | .hbm, ⟨11, _⟩ => ⟨S4224x5632, .f32⟩
  | .hbm, ⟨12, _⟩ => ⟨S4224x5632, .f32⟩
  | .hbm, ⟨13, _⟩ => ⟨S4224x5632, .bf16⟩
  | _, _ => ⟨S4224x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== MergeFwd.lean ====
abbrev S4224x10752 : Shape := ⟨2, ![4224, 10752]⟩
abbrev S4224x2048 : Shape := ⟨2, ![4224, 2048]⟩
abbrev S128x2048 : Shape := ⟨2, ![128, 2048]⟩

abbrev nBuf : Space → Nat
  | .hbm => 4
  | .vmem => 10
  | .smem => 0
  | _ => 0

abbrev bufTy : (tb : Table) → Fin (tcTables nBuf tb) → BufTy
  | .hbm, ⟨0, _⟩ => ⟨S4224x10752, .f32⟩
  | .hbm, ⟨1, _⟩ => ⟨S4224x2048, .f32⟩
  | .hbm, ⟨2, _⟩ => ⟨S4224x2048, .f32⟩
  | .hbm, ⟨3, _⟩ => ⟨S4224x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .bf16⟩
  | _, _ => ⟨S4224x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFwdRefIdeal.lean ====
abbrev S4224x10752 : Shape := ⟨2, ![4224, 10752]⟩
abbrev S4224x2048 : Shape := ⟨2, ![4224, 2048]⟩
abbrev S4224x4096 : Shape := ⟨2, ![4224, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4224x10752, .f32⟩
  | .hbm, ⟨1, _⟩ => ⟨S4224x2048, .f32⟩
  | .hbm, ⟨2, _⟩ => ⟨S4224x2048, .f32⟩
  | .hbm, ⟨3, _⟩ => ⟨S4224x4096, .f32⟩
  | .hbm, ⟨4, _⟩ => ⟨S4224x4096, .f32⟩
  | .hbm, ⟨5, _⟩ => ⟨S4224x4096, .f32⟩
  | .hbm, ⟨6, _⟩ => ⟨S_, .f32⟩
  | .hbm, ⟨7, _⟩ => ⟨S4224x4096, .f32⟩
  | .hbm, ⟨8, _⟩ => ⟨S4224x4096, .f32⟩
  | .hbm, ⟨9, _⟩ => ⟨S_, .f32⟩
  | .hbm, ⟨10, _⟩ => ⟨S4224x4096, .f32⟩
  | .hbm, ⟨11, _⟩ => ⟨S4224x4096, .f32⟩
  | .hbm, ⟨12, _⟩ => ⟨S4224x2048, .f32⟩
  | .hbm, ⟨13, _⟩ => ⟨S4224x2048, .f32⟩
  | .hbm, ⟨14, _⟩ => ⟨S4224x2048, .f32⟩
  | .hbm, ⟨15, _⟩ => ⟨S4224x2048, .f32⟩
  | .hbm, ⟨16, _⟩ => ⟨S4224x2048, .f32⟩
  | .hbm, ⟨17, _⟩ => ⟨S4224x2048, .bf16⟩
  | _, _ => ⟨S4224x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsFwd.lean ====
abbrev S4224x2048 : Shape := ⟨2, ![4224, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .bf16⟩
  | .local _ .vmem, ⟨4, _⟩ => ⟨S128x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩

abbrev nBuf : Space → Nat
  | .hbm => 18
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x2048, .f32⟩
  | .hbm, ⟨14, _⟩ => ⟨S4224x2048, .f32⟩
  | .hbm, ⟨15, _⟩ => ⟨S4224x2048, .f32⟩
  | .hbm, ⟨16, _⟩ => ⟨S4224x2048, .f32⟩
  | .hbm, ⟨17, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Loss.lean ====
abbrev S4224x2048 : Shape := ⟨2, ![4224, 2048]⟩
abbrev S4096x2048 : Shape := ⟨2, ![4096, 2048]⟩
abbrev S8x128 : Shape := ⟨2, ![8, 128]⟩
abbrev S128x2048 : Shape := ⟨2, ![128, 2048]⟩
abbrev S1x128x2048 : Shape := ⟨3, ![1, 128, 2048]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S4096x2048, .f32⟩
  | .hbm, ⟨2, _⟩ => ⟨S4224x2048, .f32⟩
  | .hbm, ⟨3, _⟩ => ⟨S8x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x128, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4224x2048 : Shape := ⟨2, ![4224, 2048]⟩
abbrev S4096x2048 : Shape := ⟨2, ![4096, 2048]⟩
abbrev S_ : Shape := ⟨0, ![]⟩
abbrev S4096 : Shape := ⟨1, ![4096]⟩
abbrev S8x128 : Shape := ⟨2, ![8, 128]⟩

abbrev nBuf : Space → Nat
  | .hbm => 29
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4224x2048, .f32⟩
  | .hbm, ⟨28, _⟩ => ⟨S8x128, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== AdamIn.lean ====
abbrev S2048x2676 : Shape := ⟨2, ![2048, 2676]⟩
abbrev S128x2676 : Shape := ⟨2, ![128, 2676]⟩

abbrev nBuf : Space → Nat
  | .hbm => 7
  | .vmem => 14
  | .smem => 0
  | _ => 0

abbrev bufTy : (tb : Table) → Fin (tcTables nBuf tb) → BufTy
  | .hbm, ⟨0, _⟩ => ⟨S2048x2676, .f32⟩
  | .hbm, ⟨1, _⟩ => ⟨S2048x2676, .f32⟩
  | .hbm, ⟨2, _⟩ => ⟨S2048x2676, .f32⟩
  | .hbm, ⟨3, _⟩ => ⟨S2048x2676, .f32⟩
  | .hbm, ⟨4, _⟩ => ⟨S2048x2676, .f32⟩
  | .hbm, ⟨5, _⟩ => ⟨S2048x2676, .f32⟩
  | .hbm, ⟨6, _⟩ => ⟨S2048x2676, .f32⟩
  | .local _ .vmem, ⟨0, _⟩ => ⟨S128x2676, .f32⟩
  | .local _ .vmem, ⟨1, _⟩ => ⟨S128x2676, .f32⟩
  | .local _ .vmem, ⟨2, _⟩ => ⟨S128x2676, .f32⟩
  | .local _ .vmem, ⟨3, _⟩ => ⟨S128x2676, .f32⟩
  | .local _ .vmem, ⟨4, _⟩ => ⟨S128x2676, .f32⟩
  | .local _ .vmem, ⟨5, _⟩ => ⟨S128x2676, .f32⟩
  | .local _ .vmem, ⟨6, _⟩ => ⟨S128x2676, .f32⟩
  | .local _ .vmem, ⟨7, _⟩ => ⟨S128x2676, .f32⟩
  | .local _ .vmem, ⟨8, _⟩ => ⟨S128x2676, .f32⟩
  | .local _ .vmem, ⟨9, _⟩ => ⟨S128x2676, .f32⟩
  | .local _ .vmem, ⟨10, _⟩ => ⟨S128x2676, .f32⟩
  | .local _ .vmem, ⟨11, _⟩ => ⟨S128x2676, .f32⟩
  | .local _ .vmem, ⟨12, _⟩ => ⟨S128x2676, .f32⟩
  | .local _ .vmem, ⟨13, _⟩ => ⟨S128x2676, .f32⟩
  | _, _ => ⟨S2048x2676, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2676 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2676 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2676 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2676 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2676 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2676 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2676 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S2048x2676 : Shape := ⟨2, ![2048, 2676]⟩
abbrev S128x2676 : Shape := ⟨2, ![128, 2676]⟩

abbrev nBuf : Space → Nat
  | .hbm => 7
  | .vmem => 14
  | .smem => 0
  | _ => 0

abbrev bufTy : (tb : Table) → Fin (tcTables nBuf tb) → BufTy
  | .hbm, ⟨0, _⟩ => ⟨S2048x2676, .f32⟩
  | .hbm, ⟨1, _⟩ => ⟨S2048x2676, .f32⟩
  | .hbm, ⟨2, _⟩ => ⟨S2048x2676, .f32⟩
  | .hbm, ⟨3, _⟩ => ⟨S2048x2676, .f32⟩
  | .hbm, ⟨4, _⟩ => ⟨S2048x2676, .f32⟩
  | .hbm, ⟨5, _⟩ => ⟨S2048x2676, .f32⟩
  | .hbm, ⟨6, _⟩ => ⟨S2048x2676, .f32⟩
  | .local _ .vmem, ⟨0, _⟩ => ⟨S128x2676, .f32⟩
  | .local _ .vmem, ⟨1, _⟩ => ⟨S128x2676, .f32⟩
  | .local _ .vmem, ⟨2, _⟩ => ⟨S128x2676, .f32⟩
  | .local _ .vmem, ⟨3, _⟩ => ⟨S128x2676, .f32⟩
  | .local _ .vmem, ⟨4, _⟩ => ⟨S128x2676, .f32⟩
  | .local _ .vmem, ⟨5, _⟩ => ⟨S128x2676, .f32⟩
  | .local _ .vmem, ⟨6, _⟩ => ⟨S128x2676, .f32⟩
  | .local _ .vmem, ⟨7, _⟩ => ⟨S128x2676, .f32⟩
  | .local _ .vmem, ⟨8, _⟩ => ⟨S128x2676, .f32⟩
  | .local _ .vmem, ⟨9, _⟩ => ⟨S128x2676, .f32⟩
  | .local _ .vmem, ⟨10, _⟩ => ⟨S128x2676, .f32⟩
  | .local _ .vmem, ⟨11, _⟩ => ⟨S128x2676, .f32⟩
  | .local _ .vmem, ⟨12, _⟩ => ⟨S128x2676, .f32⟩
  | .local _ .vmem, ⟨13, _⟩ => ⟨S128x2676, .f32⟩
  | _, _ => ⟨S2048x2676, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2676 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2676 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2676 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2676 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2676 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2676 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2676 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2048x2676 : Shape := ⟨2, ![2048, 2676]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2676, .f32⟩
  | .hbm, ⟨1, _⟩ => ⟨S2048x2676, .f32⟩
  | .hbm, ⟨2, _⟩ => ⟨S2048x2676, .f32⟩
  | .hbm, ⟨3, _⟩ => ⟨S2048x2676, .f32⟩
  | .hbm, ⟨4, _⟩ => ⟨S_, .f32⟩
  | .hbm, ⟨5, _⟩ => ⟨S2048x2676, .f32⟩
  | .hbm, ⟨6, _⟩ => ⟨S2048x2676, .f32⟩
  | .hbm, ⟨7, _⟩ => ⟨S_, .f32⟩
  | .hbm, ⟨8, _⟩ => ⟨S2048x2676, .f32⟩
  | .hbm, ⟨9, _⟩ => ⟨S2048x2676, .f32⟩
  | .hbm, ⟨10, _⟩ => ⟨S2048x2676, .f32⟩
  | .hbm, ⟨11, _⟩ => ⟨S_, .f32⟩
  | .hbm, ⟨12, _⟩ => ⟨S2048x2676, .f32⟩
  | .hbm, ⟨13, _⟩ => ⟨S2048x2676, .f32⟩
  | .hbm, ⟨14, _⟩ => ⟨S2048x2676, .f32⟩
  | .hbm, ⟨15, _⟩ => ⟨S_, .f32⟩
  | .hbm, ⟨16, _⟩ => ⟨S2048x2676, .f32⟩
  | .hbm, ⟨17, _⟩ => ⟨S2048x2676, .f32⟩
  | .hbm, ⟨18, _⟩ => ⟨S2048x2676, .f32⟩
  | .hbm, ⟨19, _⟩ => ⟨S_, .f32⟩
  | .hbm, ⟨20, _⟩ => ⟨S2048x2676, .f32⟩
  | .hbm, ⟨21, _⟩ => ⟨S2048x2676, .f32⟩
  | .hbm, ⟨22, _⟩ => ⟨S_, .f32⟩
  | .hbm, ⟨23, _⟩ => ⟨S2048x2676, .f32⟩
  | .hbm, ⟨24, _⟩ => ⟨S2048x2676, .f32⟩
  | .hbm, ⟨25, _⟩ => ⟨S2048x2676, .f32⟩
  | .hbm, ⟨26, _⟩ => ⟨S_, .f32⟩
  | .hbm, ⟨27, _⟩ => ⟨S2048x2676, .f32⟩
  | .hbm, ⟨28, _⟩ => ⟨S2048x2676, .f32⟩
  | .hbm, ⟨29, _⟩ => ⟨S2048x2676, .f32⟩
  | .hbm, ⟨30, _⟩ => ⟨S_, .f32⟩
  | .hbm, ⟨31, _⟩ => ⟨S2048x2676, .f32⟩
  | .hbm, ⟨32, _⟩ => ⟨S2048x2676, .f32⟩
  | .hbm, ⟨33, _⟩ => ⟨S2048x2676, .f32⟩
  | .hbm, ⟨34, _⟩ => ⟨S_, .f32⟩
  | .hbm, ⟨35, _⟩ => ⟨S2048x2676, .f32⟩
  | .hbm, ⟨36, _⟩ => ⟨S2048x2676, .f32⟩
  | _, _ => ⟨S2048x2676, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGateUp.lean ====
abbrev S2048x2816 : Shape := ⟨2, ![2048, 2816]⟩
abbrev S128x2816 : Shape := ⟨2, ![128, 2816]⟩

abbrev nBuf : Space → Nat
  | .hbm => 7
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateUpIdeal.lean ====
abbrev S2048x2816 : Shape := ⟨2, ![2048, 2816]⟩
abbrev S128x2816 : Shape := ⟨2, ![128, 2816]⟩

abbrev nBuf : Space → Nat
  | .hbm => 7
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateUpRefIdeal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x2048 : Shape := ⟨2, ![1408, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S1408x2048 : Shape := ⟨2, ![1408, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWo.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWoIdeal.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWoRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranch.lean ====
abbrev S1024x512 : Shape := ⟨2, ![1024, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchIdeal.lean ====
abbrev S1024x512 : Shape := ⟨2, ![1024, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLora.lean ====
abbrev S96x256 : Shape := ⟨2, ![96, 256]⟩
abbrev S32x256 : Shape := ⟨2, ![32, 256]⟩

abbrev nBuf : Space → Nat
  | .hbm => 7
  | .vmem => 14
  | .smem => 0
  | _ => 0

abbrev bufTy : (tb : Table) → Fin (tcTables nBuf tb) → BufTy
  | .hbm, ⟨0, _⟩ => ⟨S96x256, .f32⟩
  | .hbm, ⟨1, _⟩ => ⟨S96x256, .f32⟩
  | .hbm, ⟨2, _⟩ => ⟨S96x256, .f32⟩
  | .hbm, ⟨3, _⟩ => ⟨S96x256, .f32⟩
  | .hbm, ⟨4, _⟩ => ⟨S96x256, .f32⟩
  | .hbm, ⟨5, _⟩ => ⟨S96x256, .f32⟩
  | .hbm, ⟨6, _⟩ => ⟨S96x256, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | _, _ => ⟨S96x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamLoraIdeal.lean ====
abbrev S96x256 : Shape := ⟨2, ![96, 256]⟩
abbrev S32x256 : Shape := ⟨2, ![32, 256]⟩

abbrev nBuf : Space → Nat
  | .hbm => 7
  | .vmem => 14
  | .smem => 0
  | _ => 0

abbrev bufTy : (tb : Table) → Fin (tcTables nBuf tb) → BufTy
  | .hbm, ⟨0, _⟩ => ⟨S96x256, .f32⟩
  | .hbm, ⟨1, _⟩ => ⟨S96x256, .f32⟩
  | .hbm, ⟨2, _⟩ => ⟨S96x256, .f32⟩
  | .hbm, ⟨3, _⟩ => ⟨S96x256, .f32⟩
  | .hbm, ⟨4, _⟩ => ⟨S96x256, .f32⟩
  | .hbm, ⟨5, _⟩ => ⟨S96x256, .f32⟩
  | .hbm, ⟨6, _⟩ => ⟨S96x256, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | _, _ => ⟨S96x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamLoraRefIdeal.lean ====
abbrev S96x256 : Shape := ⟨2, ![96, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S96x256, .f32⟩
  | .hbm, ⟨1, _⟩ => ⟨S96x256, .f32⟩
  | .hbm, ⟨2, _⟩ => ⟨S96x256, .f32⟩
  | .hbm, ⟨3, _⟩ => ⟨S96x256, .f32⟩
  | .hbm, ⟨4, _⟩ => ⟨S_, .f32⟩
  | .hbm, ⟨5, _⟩ => ⟨S96x256, .f32⟩
  | .hbm, ⟨6, _⟩ => ⟨S96x256, .f32⟩
  | .hbm, ⟨7, _⟩ => ⟨S_, .f32⟩
  | .hbm, ⟨8, _⟩ => ⟨S96x256, .f32⟩
  | .hbm, ⟨9, _⟩ => ⟨S96x256, .f32⟩
  | .hbm, ⟨10, _⟩ => ⟨S96x256, .f32⟩
  | .hbm, ⟨11, _⟩ => ⟨S_, .f32⟩
  | .hbm, ⟨12, _⟩ => ⟨S96x256, .f32⟩
  | .hbm, ⟨13, _⟩ => ⟨S96x256, .f32⟩
  | .hbm, ⟨14, _⟩ => ⟨S96x256, .f32⟩
  | .hbm, ⟨15, _⟩ => ⟨S_, .f32⟩
  | .hbm, ⟨16, _⟩ => ⟨S96x256, .f32⟩
  | .hbm, ⟨17, _⟩ => ⟨S96x256, .f32⟩
  | .hbm, ⟨18, _⟩ => ⟨S96x256, .f32⟩
  | .hbm, ⟨19, _⟩ => ⟨S_, .f32⟩
  | .hbm, ⟨20, _⟩ => ⟨S96x256, .f32⟩
  | .hbm, ⟨21, _⟩ => ⟨S96x256, .f32⟩
  | .hbm, ⟨22, _⟩ => ⟨S_, .f32⟩
  | .hbm, ⟨23, _⟩ => ⟨S96x256, .f32⟩
  | .hbm, ⟨24, _⟩ => ⟨S96x256, .f32⟩
  | .hbm, ⟨25, _⟩ => ⟨S96x256, .f32⟩
  | .hbm, ⟨26, _⟩ => ⟨S_, .f32⟩
  | .hbm, ⟨27, _⟩ => ⟨S96x256, .f32⟩
  | .hbm, ⟨28, _⟩ => ⟨S96x256, .f32⟩
  | .hbm, ⟨29, _⟩ => ⟨S96x256, .f32⟩
  | .hbm, ⟨30, _⟩ => ⟨S_, .f32⟩
  | .hbm, ⟨31, _⟩ => ⟨S96x256, .f32⟩
  | .hbm, ⟨32, _⟩ => ⟨S96x256, .f32⟩
  | .hbm, ⟨33, _⟩ => ⟨S96x256, .f32⟩
  | .hbm, ⟨34, _⟩ => ⟨S_, .f32⟩
  | .hbm, ⟨35, _⟩ => ⟨S96x256, .f32⟩
  | .hbm, ⟨36, _⟩ => ⟨S96x256, .f32⟩
  | _, _ => ⟨S96x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S256x256 : Shape := ⟨2, ![256, 256]⟩
abbrev S128x256 : Shape := ⟨2, ![128, 256]⟩

abbrev nBuf : Space → Nat
  | .hbm => 7
  | .vmem => 14
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateIdeal.lean ====
abbrev S256x256 : Shape := ⟨2, ![256, 256]⟩
abbrev S128x256 : Shape := ⟨2, ![128, 256]⟩

abbrev nBuf : Space → Nat
  | .hbm => 7
  | .vmem => 14
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateRefIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMeta.lean ====
abbrev S16x512 : Shape := ⟨2, ![16, 512]⟩

abbrev nBuf : Space → Nat
  | .hbm => 7
  | .vmem => 7
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMetaIdeal.lean ====
abbrev S16x512 : Shape := ⟨2, ![16, 512]⟩

abbrev nBuf : Space → Nat
  | .hbm => 7
  | .vmem => 7
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMetaRefIdeal.lean ====
abbrev S16x512 : Shape := ⟨2, ![16, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S_, .f32⟩
  | .hbm, ⟨5, _⟩ => ⟨S16x512, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S_, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Attention.Step.lean ====
/- What one grid point of the attention backward does to the buffers, as functions: the two gradients and the key
   biases it accumulates in scratch, and the 384 rows of the query gradient it adds to. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.VecWindow
public import Idealize.ShloMosaic.Lib.Pointwise.Index

@[expose] public section

set_option maxRecDepth 16384

noncomputable section

namespace Cert.KernelIdeal.Attn

open Idealize.ShloMosaic Idealize.ShloMosaic.TcCoe Idealize.ShloMosaic.Tactic
open Idealize.SL Idealize.SL.Sem
open Cert.KernelIdeal.Gen

variable {F : FTy → Type} [FloatOps F]

/-- What a grid point reads: its blocks of the queries, keys, values, key biases, outputs, log-sums and the outputs' gradients. -/
structure Blocks (F : FTy → Type) [FloatOps F] where
  q : Vec F S384x128 .bf16
  k : Vec F S384x128 .bf16
  v : Vec F S384x128 .f32
  ct : Vec F S8x384 .f32
  o : Vec F S384x128 .f32
  lse : Vec F S1x384x128 .f32
  dO : Vec F S384x128 .f32

/-- What the scratch holds between grid points: the key and value gradients and the key biases' of the current block of keys. -/
structure Acc (F : FTy → Type) [FloatOps F] where
  dk : Vec F S384x128 .f32
  dv : Vec F S384x128 .f32
  dc : Vec F S2x1x384 .f32

/-- The key biases' row of the pair's first head sits at `r`; the second head's is the next. -/
def ctRow (ct : Vec F S8x384 .f32) (off : Fin 2 → ℕ) (inb : ∀ a, off a + S1x384.size a ≤ S8x384.size a) : Vec F S1x384 .f32 :=
  fun y => ct ((Rect.unit (s := S8x384) off S1x384.size inb).toLoadRect.idx y)

/-- The log-sums' column of one head of the pair. -/
def lseCol (lse : Vec F S1x384x128 .f32) (off : Fin 3 → ℕ) (inb : ∀ a, off a + S1x384x1.size a ≤ S1x384x128.size a) : Vec F S1x384x1 .f32 :=
  fun y => lse ((Rect.unit (s := S1x384x128) off S1x384x1.size inb).toLoadRect.idx y)

/-- One head's row of the accumulated bias gradients. -/
def dcRow (dc : Vec F S2x1x384 .f32) (off : Fin 3 → ℕ) (inb : ∀ a, off a + S1x1x384.size a ≤ S2x1x384.size a) : Vec F S1x1x384 .f32 :=
  fun y => dc ((Rect.unit (s := S2x1x384) off S1x1x384.size inb).toLoadRect.idx y)

/-- The queries of the pair's first head, the other head's lanes zero. -/
def q0 (q : Vec F S384x128 .bf16) : Vec F S384x128 .bf16 :=
  k0_pay13 q (iota .tc S384x128 32 [1] iota_S384x128_d1_w32) 64#32 k0_pay11 k0_pay12 (Scalar.extui (Scalar.cmpi .sgt 64#32 0#32))

/-- The queries of the pair's second head. -/
def q1 (q : Vec F S384x128 .bf16) : Vec F S384x128 .bf16 := k0_pay14 q

/-- The output gradients of the pair's first head. -/
def d0 (dO : Vec F S384x128 .f32) : FVec F S384x128 .bf16 := k0_pay15 (k0_pay9 dO)

/-- The output gradients of the pair's second head. -/
def d1 (dO : Vec F S384x128 .f32) : FVec F S384x128 .bf16 :=
  k0_pay18 (k0_pay9 dO) (iota .tc S384x128 32 [1] iota_S384x128_d1_w32) 64#32 k0_pay16 k0_pay17

/-- A grid coordinate as the word the body computes with. -/
abbrev word (i : grid0.Coords) (a : Fin 3) : BitVec 32 := BitVec.ofNat 32 (i a).val

theorem off1_inb (i : grid0.Coords) : ∀ a, k0_off1 i a + S1x384.size a ≤ S8x384.size a := by
  have key : ∀ n : Fin 8, (k0_off1 (fun a => match a with | ⟨0, _⟩ => n | ⟨1, _⟩ => (0 : Fin 11) | ⟨2, _⟩ => (0 : Fin 11))) 0 + 1 ≤ 8 := by decide
  intro a
  match a with
  | ⟨0, _⟩ => exact key (i 0)
  | ⟨1, _⟩ => exact le_of_eq rfl

theorem off2_inb (i : grid0.Coords) : ∀ a, k0_off2 i a + S1x384.size a ≤ S8x384.size a := by
  have key : ∀ n : Fin 8, (k0_off2 (fun a => match a with | ⟨0, _⟩ => n | ⟨1, _⟩ => (0 : Fin 11) | ⟨2, _⟩ => (0 : Fin 11))) 0 + 1 ≤ 8 := by decide
  intro a
  match a with
  | ⟨0, _⟩ => exact key (i 0)
  | ⟨1, _⟩ => exact le_of_eq rfl

/-- The gradients of the first head's scores of one block of queries against one block of keys. -/
def ds0 (i : grid0.Coords) (x : Blocks F) : FVec F S384x384 .f32 :=
  k0_pay26 (k0_pay8 x.v) (k0_pay10 x.o) (d0 x.dO) (k0_pay19 (word i 1) (word i 2))
    (k0_pay20 (word i 1) (word i 2) (ctRow x.ct (k0_off1 i) (off1_inb i)) x.k (q0 x.q))
    (lseCol x.lse ![0, 0, 0] inb_S1x384x128_S1x384x1_0_0_0)

/-- The gradients of the second head's scores. -/
def ds1 (i : grid0.Coords) (x : Blocks F) : FVec F S384x384 .f32 :=
  k0_pay27 (k0_pay8 x.v) (k0_pay10 x.o) (d1 x.dO) (k0_pay21 (ctRow x.ct (k0_off2 i) (off2_inb i)) x.k (q1 x.q))
    (k0_pay22 (word i 1)) (k0_pay23 (word i 1) (word i 2)) 112#32
    (lseCol x.lse ![0, 0, 1] inb_S1x384x128_S1x384x1_0_0_1)

/-- The bias gradients after a point, from the two rows it read. -/
def dcNew (i : grid0.Coords) (x : Blocks F) (r0 r1 : Vec F S1x1x384 .f32) : Vec F S2x1x384 .f32 := fun y =>
  if (y 0).val = 0 then k0_pay31 (ds0 i x) r0 (ix3 (0 : Fin 1) (0 : Fin 1) (y 2)) else k0_pay32 (ds1 i x) r1 (ix3 (0 : Fin 1) (0 : Fin 1) (y 2))

/-- The value gradients after a point, from those it read. -/
def dvNew (i : grid0.Coords) (x : Blocks F) (dv : Vec F S384x128 .f32) : Vec F S384x128 .f32 :=
  k0_pay29 (k0_pay28 (d0 x.dO) (d1 x.dO) (k0_pay19 (word i 1) (word i 2))
    (k0_pay20 (word i 1) (word i 2) (ctRow x.ct (k0_off1 i) (off1_inb i)) x.k (q0 x.q))
    (k0_pay21 (ctRow x.ct (k0_off2 i) (off2_inb i)) x.k (q1 x.q))
    (k0_pay22 (word i 1)) (k0_pay23 (word i 1) (word i 2)) 112#32
    (lseCol x.lse ![0, 0, 0] inb_S1x384x128_S1x384x1_0_0_0) (lseCol x.lse ![0, 0, 1] inb_S1x384x128_S1x384x1_0_0_1) dv)

/-- The accumulated gradients after a point whose query block is not before its key block. -/
def accNew (i : grid0.Coords) (x : Blocks F) (s : Acc F) : Acc F where
  dk := k0_pay30 (q0 x.q) (q1 x.q) (ds0 i x) (ds1 i x) s.dk
  dv := dvNew i x s.dv
  dc := dcNew i x (dcRow s.dc ![0, 0, 0] inb_S2x1x384_S1x1x384_0_0_0) (dcRow s.dc ![1, 0, 0] inb_S2x1x384_S1x1x384_1_0_0)

/-- What a point adds to the query gradient's 384 rows. -/
def rowsNew (i : grid0.Coords) (x : Blocks F) : FVec F S384x128 .f32 :=
  k0_pay4 x.k (ds1 i x) (k0_pay33 x.k (ds0 i x)) (iota .tc S384x128 32 [1] iota_S384x128_d1_w32) 64#32 k0_pay34 k0_pay35
    (Scalar.extui (Scalar.cmpi .sgt 64#32 0#32)) (Scalar.extui (Scalar.cmpi .slt 64#32 0#32))

/-- Rows `384 b …` of a tall array, read. -/
def rowsAt (Y : Vec F S4224x128 .f32) (off : Fin 2 → ℕ) (inb : ∀ a, off a + S384x128.size a ≤ S4224x128.size a) : Vec F S384x128 .f32 :=
  fun y => Y ((Rect.unit (s := S4224x128) off S384x128.size inb).toLoadRect.idx y)

/-- The rows from `384 b` on replaced by `w`, the others left. -/
def putRows (b : ℕ) (w : Vec F S384x128 .f32) (Y : Vec F S4224x128 .f32) : Vec F S4224x128 .f32 := fun y =>
  if h : 384 * b ≤ (y 0).val ∧ (y 0).val < 384 * b + 384 then w (ix2 (⟨(y 0).val - 384 * b, by omega⟩ : Fin 384) (y 1)) else Y y

/-- The scratch zeroed, as the first query block's point leaves it before it adds. -/
def accZero : Acc F := ⟨k0_pay1, k0_pay2, k0_pay3⟩

/-- The bias gradients as the last query block's point writes them out: the pair's two rows, six rows of zeros. -/
def outDc (dc : Vec F S2x1x384 .f32) : FVec F S1x8x384 .f32 :=
  k0_pay7 (dcRow dc ![0, 0, 0] inb_S2x1x384_S1x1x384_0_0_0) (dcRow dc ![1, 0, 0] inb_S2x1x384_S1x1x384_1_0_0)

theorem off4_inb (i : grid0.Coords) : ∀ a, k0_off4 i a + S384x128.size a ≤ S4224x128.size a := by
  have key : ∀ n : Fin 11, (Scalar.indexCast (Scalar.muli (BitVec.ofNat 32 n.val) 384#32) : Index).toNat + 384 ≤ 4224 := by decide
  intro a
  match a with
  | ⟨0, _⟩ => exact key (i 2)
  | ⟨1, _⟩ => exact le_of_eq rfl

/-- The rows a later key block's point leaves: those it finds, and what it adds. -/
def rowsSum (i : grid0.Coords) (x : Blocks F) (Y : Vec F S4224x128 .f32) : FVec F S384x128 .f32 :=
  addf (shapeCast S384x128 (rowsAt Y (k0_off4 i) (off4_inb i)) shapeCasts_S384x128_S384x128) (rowsNew i x)

/-- What the loads of a point read off buffers held at `x`, each whole block through a load of its own size. -/
def loaded (c : Dev nD) (arg3 : Memref sig .tc .vmem S384x128 .bf16) (harg3 : arg3.IsWhole) (arg4 : Memref sig .tc .vmem S384x128 .bf16) (harg4 : arg4.IsWhole)
    (arg5 : Memref sig .tc .vmem S384x128 .f32) (harg5 : arg5.IsWhole) (arg6 : Memref sig .tc .vmem S8x384 .f32) (harg6 : arg6.IsWhole)
    (arg7 : Memref sig .tc .vmem S384x128 .f32) (harg7 : arg7.IsWhole) (arg8 : Memref sig .tc .vmem S1x384x128 .f32) (harg8 : arg8.IsWhole)
    (arg9 : Memref sig .tc .vmem S384x128 .f32) (harg9 : arg9.IsWhole) (x : Blocks F) : Blocks F where
  q := View.readAt (Elt F) arg3.view (Rect.unit (s := S384x128) ![0, 0] S384x128.size inb_S384x128_S384x128_0_0).toLoadRect (harg3.unread x.q)
  k := View.readAt (Elt F) arg4.view (Rect.unit (s := S384x128) ![0, 0] S384x128.size inb_S384x128_S384x128_0_0).toLoadRect (harg4.unread x.k)
  v := View.readAt (Elt F) arg5.view (Rect.unit (s := S384x128) ![0, 0] S384x128.size inb_S384x128_S384x128_0_0).toLoadRect (harg5.unread x.v)
  ct := View.read (Elt F) arg6.view (harg6.unread x.ct)
  o := View.readAt (Elt F) arg7.view (Rect.unit (s := S384x128) ![0, 0] S384x128.size inb_S384x128_S384x128_0_0).toLoadRect (harg7.unread x.o)
  lse := View.read (Elt F) arg8.view (harg8.unread x.lse)
  dO := View.readAt (Elt F) arg9.view (Rect.unit (s := S384x128) ![0, 0] S384x128.size inb_S384x128_S384x128_0_0).toLoadRect (harg9.unread x.dO)

theorem readAt_whole {s : Shape} {e : EltTy} (m : Memref sig .tc .vmem s e) (h : m.IsWhole) (X : s.Idx → Elt F e) {off : Fin s.rank → ℕ}
    (inb : ∀ a, off a + s.size a ≤ s.size a) :
    View.readAt (Elt F) m.view (Rect.unit (s := s) off s.size inb).toLoadRect (h.unread X) = X :=
  (View.readAt_full _ _ _).trans (h.read_unread X)

theorem loaded_eq (c : Dev nD) (arg3 : Memref sig .tc .vmem S384x128 .bf16) (harg3 : arg3.IsWhole) (arg4 : Memref sig .tc .vmem S384x128 .bf16) (harg4 : arg4.IsWhole)
    (arg5 : Memref sig .tc .vmem S384x128 .f32) (harg5 : arg5.IsWhole) (arg6 : Memref sig .tc .vmem S8x384 .f32) (harg6 : arg6.IsWhole)
    (arg7 : Memref sig .tc .vmem S384x128 .f32) (harg7 : arg7.IsWhole) (arg8 : Memref sig .tc .vmem S1x384x128 .f32) (harg8 : arg8.IsWhole)
    (arg9 : Memref sig .tc .vmem S384x128 .f32) (harg9 : arg9.IsWhole) (x : Blocks F) :
    loaded c arg3 harg3 arg4 harg4 arg5 harg5 arg6 harg6 arg7 harg7 arg8 harg8 arg9 harg9 x = x := by
  obtain ⟨q, k, v, ct, o, lse, dO⟩ := x
  unfold loaded
  congr 1
  exacts [readAt_whole arg3 harg3 q _, readAt_whole arg4 harg4 k _, readAt_whole arg5 harg5 v _, harg6.read_unread ct,
    readAt_whole arg7 harg7 o _, harg8.read_unread lse, readAt_whole arg9 harg9 dO _]

/-- The scratch as the loads of a point read it. -/
def loadedAcc (arg14 : Memref sig .tc .vmem S384x128 .f32) (harg14 : arg14.IsWhole) (arg15 : Memref sig .tc .vmem S384x128 .f32) (harg15 : arg15.IsWhole)
    (arg16 : Memref sig .tc .vmem S2x1x384 .f32) (harg16 : arg16.IsWhole) (s : Acc F) : Acc F where
  dk := View.readAt (Elt F) arg14.view (Rect.unit (s := S384x128) ![0, 0] S384x128.size inb_S384x128_S384x128_0_0).toLoadRect (harg14.unread s.dk)
  dv := View.readAt (Elt F) arg15.view (Rect.unit (s := S384x128) ![0, 0] S384x128.size inb_S384x128_S384x128_0_0).toLoadRect (harg15.unread s.dv)
  dc := View.read (Elt F) arg16.view (harg16.unread s.dc)

theorem loadedAcc_eq (arg14 : Memref sig .tc .vmem S384x128 .f32) (harg14 : arg14.IsWhole) (arg15 : Memref sig .tc .vmem S384x128 .f32) (harg15 : arg15.IsWhole)
    (arg16 : Memref sig .tc .vmem S2x1x384 .f32) (harg16 : arg16.IsWhole) (s : Acc F) :
    loadedAcc arg14 harg14 arg15 harg15 arg16 harg16 s = s := by
  obtain ⟨dk, dv, dc⟩ := s
  unfold loadedAcc
  congr 1
  exacts [readAt_whole arg14 harg14 dk _, readAt_whole arg15 harg15 dv _, harg16.read_unread dc]

/-- The two rows of a bias accumulator, stored one after the other. -/
theorem read_dcRows (m : Memref sig .tc .vmem S2x1x384 .f32) (f : m.view.ty.Contents (Elt F)) (w0 w1 : Vec F S1x1x384 .f32)
    (L : List (View.Piece (Elt F) S2x1x384 .f32)) :
    View.read (Elt F) m.view (m.view.writes (Elt F) f (⟨Rect.unit (s := S2x1x384) ![1, 0, 0] S1x1x384.size inb_S2x1x384_S1x1x384_1_0_0, w1⟩ ::
      ⟨Rect.unit (s := S2x1x384) ![0, 0, 0] S1x1x384.size inb_S2x1x384_S1x1x384_0_0_0, w0⟩ :: L))
      = fun y => if (y 0).val = 0 then w0 (ix3 (0 : Fin 1) (0 : Fin 1) (y 2)) else w1 (ix3 (0 : Fin 1) (0 : Fin 1) (y 2)) := by
  funext y
  have h0 : (y 0).val < 2 := (y 0).isLt
  have h1 : (y 1).val < 1 := (y 1).isLt
  by_cases h : (y 0).val = 0
  · rw [if_pos h]
    refine (View.read_writes_cons_unit_of_not_mem m.view f _ w1 _ y rfl 0 (Or.inl ?_)).trans
      (View.read_writes_cons_unit_of_mem m.view f _ w0 L y (ix3 (0 : Fin 1) (0 : Fin 1) (y 2)) rfl fun a => ?_)
    · show (y 0).val < 1; omega
    · match a with
      | ⟨0, _⟩ => show (y 0).val = 0 + 0; omega
      | ⟨1, _⟩ => show (y 1).val = 0 + 0; omega
      | ⟨2, _⟩ => show (y 2).val = 0 + (y 2).val; omega
  · rw [if_neg h]
    refine View.read_writes_cons_unit_of_mem m.view f _ w1 _ y (ix3 (0 : Fin 1) (0 : Fin 1) (y 2)) rfl fun a => ?_
    match a with
    | ⟨0, _⟩ => show (y 0).val = 1 + 0; omega
    | ⟨1, _⟩ => show (y 1).val = 0 + 0; omega
    | ⟨2, _⟩ => show (y 2).val = 0 + (y 2).val; omega

/-- A whole block read back after a store of its own size. -/
theorem readCov_full (m : Memref sig .tc .vmem S384x128 .f32) (w : Vec F S384x128 .f32) (L : List (View.Piece (Elt F) S384x128 .f32)) :
    m.view.readCov (⟨Rect.unit (s := S384x128) ![0, 0] S384x128.size inb_S384x128_S384x128_0_0, w⟩ :: L)
      (Rect.unit (s := S384x128) ![0, 0] S384x128.size inb_S384x128_S384x128_0_0).toLoadRect = w :=
  View.readAt_writes_full m.view _ _ _ w L

/-- A row of the bias accumulator read after the whole of it was stored. -/
theorem readCov_row (m : Memref sig .tc .vmem S2x1x384 .f32) (z : Vec F S2x1x384 .f32) (off : Fin 3 → ℕ) (inb : ∀ a, off a + S1x1x384.size a ≤ S2x1x384.size a) :
    m.view.readCov [(⟨Rect.unit (s := S2x1x384) ![0, 0, 0] S2x1x384.size inb_S2x1x384_S2x1x384_0_0_0, z⟩ : View.Piece (Elt F) S2x1x384 .f32)]
      (Rect.unit (s := S2x1x384) off S1x1x384.size inb).toLoadRect = dcRow z off inb :=
  funext fun y => congrFun (View.read_writes_full m.view m.view.junk inb_S2x1x384_S2x1x384_0_0_0 z []) _

/-- The second row read after the whole and then the first row were stored. -/
theorem readCov_second (m : Memref sig .tc .vmem S2x1x384 .f32) (z : Vec F S2x1x384 .f32) (w : Vec F S1x1x384 .f32) :
    m.view.readCov [(⟨Rect.unit (s := S2x1x384) ![0, 0, 0] S1x1x384.size inb_S2x1x384_S1x1x384_0_0_0, w⟩ : View.Piece (Elt F) S2x1x384 .f32),
        ⟨Rect.unit (s := S2x1x384) ![0, 0, 0] S2x1x384.size inb_S2x1x384_S2x1x384_0_0_0, z⟩]
      (Rect.unit (s := S2x1x384) ![1, 0, 0] S1x1x384.size inb_S2x1x384_S1x1x384_1_0_0).toLoadRect
      = dcRow z ![1, 0, 0] inb_S2x1x384_S1x1x384_1_0_0 := by
  funext y
  refine (View.read_writes_cons_unit_of_not_mem m.view m.view.junk inb_S2x1x384_S1x1x384_0_0_0 w _ _ rfl 0 (Or.inr ?_)).trans
    (congrFun (View.read_writes_full m.view m.view.junk inb_S2x1x384_S2x1x384_0_0_0 z []) _)
  show 0 + 1 ≤ 1 + 1 * (y 0).val
  omega

/-- A row of the bias accumulator read after both rows were stored. -/
theorem readCov_rows (m : Memref sig .tc .vmem S2x1x384 .f32) (w0 w1 : Vec F S1x1x384 .f32) (off : Fin 3 → ℕ) (inb : ∀ a, off a + S1x1x384.size a ≤ S2x1x384.size a) :
    m.view.readCov [(⟨Rect.unit (s := S2x1x384) ![1, 0, 0] S1x1x384.size inb_S2x1x384_S1x1x384_1_0_0, w1⟩ : View.Piece (Elt F) S2x1x384 .f32),
        ⟨Rect.unit (s := S2x1x384) ![0, 0, 0] S1x1x384.size inb_S2x1x384_S1x1x384_0_0_0, w0⟩]
      (Rect.unit (s := S2x1x384) off S1x1x384.size inb).toLoadRect
      = dcRow (fun y => if (y 0).val = 0 then w0 (ix3 (0 : Fin 1) (0 : Fin 1) (y 2)) else w1 (ix3 (0 : Fin 1) (0 : Fin 1) (y 2))) off inb :=
  funext fun y => congrFun (read_dcRows m m.view.junk w0 w1 []) _

/-- A block of rows stored over a tall buffer held at `Y`. -/
theorem read_putRows (m : Memref sig .tc .vmem S4224x128 .f32) (h : m.IsWhole) (Y : Vec F S4224x128 .f32) (off : Fin 2 → ℕ)
    (inb : ∀ a, off a + S384x128.size a ≤ S4224x128.size a) (b : ℕ) (hoff : off = ![384 * b, 0]) (w : Vec F S384x128 .f32) :
    View.read (Elt F) m.view (m.view.writes (Elt F) (h.unread Y) [⟨Rect.unit (s := S4224x128) off S384x128.size inb, w⟩]) = putRows b w Y := by
  funext y
  unfold putRows
  have h1 : (y 1).val < 128 := (y 1).isLt
  by_cases hy : 384 * b ≤ (y 0).val ∧ (y 0).val < 384 * b + 384
  · rw [dif_pos hy]
    refine View.read_writes_cons_unit_of_mem m.view _ _ w _ y (ix2 (⟨(y 0).val - 384 * b, by omega⟩ : Fin 384) (y 1)) hoff fun a => ?_
    match a with
    | ⟨0, _⟩ => show (y 0).val = 384 * b + ((y 0).val - 384 * b); omega
    | ⟨1, _⟩ => show (y 1).val = 0 + (y 1).val; omega
  · rw [dif_neg hy]
    refine (View.read_writes_cons_unit_of_not_mem m.view _ _ w [] y hoff 0 ?_).trans (congrFun (h.read_unread Y) y)
    show (y 0).val < 384 * b ∨ 384 * b + 384 ≤ (y 0).val
    omega

/-- The rows a point stores start at 384 times its query block. -/
theorem off3_eq (i : grid0.Coords) : k0_off3 i = ![384 * (i 2).val, 0] := by
  have key : ∀ n : Fin 11, (Scalar.indexCast (Scalar.muli (BitVec.ofNat 32 n.val) 384#32) : Index).toNat = 384 * n.val := by decide
  funext a
  match a with
  | ⟨0, _⟩ => exact key (i 2)
  | ⟨1, _⟩ => rfl

theorem off4_eq (i : grid0.Coords) : k0_off4 i = ![384 * (i 2).val, 0] := off3_eq i

/-- The words that ask whether the query block is the first. -/
theorem first_iff (i : grid0.Coords) :
    Scalar.cmpi .ne (Scalar.extui (Scalar.cmpi .eq (BitVec.ofNat 32 (i 2).val) 0#32) : BitVec 32) 0#32 = 1#1 ↔ (i 2).val = 0 := by
  have key : ∀ n : Fin 11, Scalar.cmpi .ne (Scalar.extui (Scalar.cmpi .eq (BitVec.ofNat 32 n.val) 0#32) : BitVec 32) 0#32 = 1#1 ↔ n.val = 0 := by decide
  exact key (i 2)

theorem cond2_iff (i : grid0.Coords) : k0_cond2 i = 1#1 ↔ (i 1).val = 0 := by
  have key : ∀ j n : Fin 11, Scalar.cmpi .ne (Scalar.extui (Scalar.andi (Scalar.cmpi .sge (BitVec.ofNat 32 n.val) (BitVec.ofNat 32 j.val))
    (Scalar.cmpi .eq (BitVec.ofNat 32 j.val) 0#32)) : BitVec 32) 0#32 = 1#1 ↔ j.val = 0 := by decide
  exact key (i 1) (i 2)

theorem cond3_iff (i : grid0.Coords) : k0_cond3 i = 1#1 ↔ (i 1).val ≠ 0 ∧ (i 1).val ≤ (i 2).val := by
  have key : ∀ j n : Fin 11, Scalar.cmpi .ne (Scalar.extui (Scalar.andi (Scalar.cmpi .sge (BitVec.ofNat 32 n.val) (BitVec.ofNat 32 j.val))
    (Scalar.cmpi .sgt (BitVec.ofNat 32 j.val) 0#32)) : BitVec 32) 0#32 = 1#1 ↔ j.val ≠ 0 ∧ j.val ≤ n.val := by decide
  exact key (i 1) (i 2)

theorem cond4_iff (i : grid0.Coords) : k0_cond4 i = 1#1 ↔ (i 2).val = 10 := by
  have key : ∀ n : Fin 11, Scalar.cmpi .ne (Scalar.extui (Scalar.cmpi .eq (BitVec.ofNat 32 n.val) 10#32) : BitVec 32) 0#32 = 1#1 ↔ n.val = 10 := by decide
  exact key (i 2)

end Cert.KernelIdeal.Attn

end
-- ==== Proof.Attention.RunA.lean ====
/- A point of the first query block against the first key block: the scratch is zeroed, then added to. -/
module

public import proofs.«01_k».proof.Proof.Attention.Step

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

set_option maxHeartbeats 4000000 in
/-- A point of the first query block against the first key block: the scratch is zeroed, then added to. -/
theorem runA (c : Dev nD) (i : grid0.Coords) (arg3 : Memref sig .tc .vmem S384x128 .bf16) (harg3 : arg3.IsWhole) (arg4 : Memref sig .tc .vmem S384x128 .bf16) (harg4 : arg4.IsWhole) (arg5 : Memref sig .tc .vmem S384x128 .f32) (harg5 : arg5.IsWhole) (arg6 : Memref sig .tc .vmem S8x384 .f32) (harg6 : arg6.IsWhole) (arg7 : Memref sig .tc .vmem S384x128 .f32) (harg7 : arg7.IsWhole) (arg8 : Memref sig .tc .vmem S1x384x128 .f32) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x8x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S2x1x384 .f32) (harg16 : arg16.IsWhole)
    (h1 : (i 2).val = 0) (h2 : k0_cond2 i = 1#1) (h3 : ¬k0_cond3 i = 1#1) (h4 : ¬k0_cond4 i = 1#1) (x : Blocks F) (s : Acc F)
    (y7 : Vec F S384x128 .f32) (y8 : Vec F S384x128 .f32) (y9 : Vec F S1x8x384 .f32) (y10 : Vec F S4224x128 .f32)
    (E : Set ℕ) (K : PUnit → sProp (MT nD τ sig Unit (Elt F) ℕ (UR sig nD τ) ℕ)) :
    iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s.dk ∗ owns (c : Thread nD τ) arg15 fullShare s.dv ∗ owns (c : Thread nD τ) arg16 fullShare s.dc
      ∗ (iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare y7 ∗ owns (c : Thread nD τ) arg11 fullShare y8 ∗ owns (c : Thread nD τ) arg12 fullShare y9 ∗ owns (c : Thread nD τ) arg13 fullShare (putRows (i 2).val (rowsNew i x) y10) ∗ owns (c : Thread nD τ) arg14 fullShare (accNew i x accZero).dk ∗ owns (c : Thread nD τ) arg15 fullShare (accNew i x accZero).dv ∗ owns (c : Thread nD τ) arg16 fullShare (accNew i x accZero).dc) -∗ K ⟨⟩))
    ⊢ wp frame (wpE (defs₀ (F := F)) Variants.none c none) E (cc0_fox_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_attn_bwd_eq_skeleton]; unfold cc0_fox_attn_bwd_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  have h1' := (first_iff i).mpr h1
  sl_exec (disch := first | sl_exact h1' | sl_exact h2 | sl_exact h3 | sl_exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    · ipureintro
      refine (read_putRows arg13 harg13 y10 _ _ (i 2).val (off3_eq i) _).trans ?_
      refine congrArg (fun w => putRows (i 2).val w y10) ((show _ = rowsNew i (loaded c arg3 harg3 arg4 harg4 arg5 harg5 arg6 harg6 arg7 harg7 arg8 harg8 arg9 harg9 x) from rfl).trans ?_)
      rw [loaded_eq]
  isplitl [H14]
  · iexists _; isplitr; swap; · iexact H14
    · ipureintro
      refine (View.read_writes_full _ _ _ _ _).trans ?_
      refine (show _ = k0_pay30 (q0 (loaded c arg3 harg3 arg4 harg4 arg5 harg5 arg6 harg6 arg7 harg7 arg8 harg8 arg9 harg9 x).q) (q1 (loaded c arg3 harg3 arg4 harg4 arg5 harg5 arg6 harg6 arg7 harg7 arg8 harg8 arg9 harg9 x).q) (ds0 i (loaded c arg3 harg3 arg4 harg4 arg5 harg5 arg6 harg6 arg7 harg7 arg8 harg8 arg9 harg9 x)) (ds1 i (loaded c arg3 harg3 arg4 harg4 arg5 harg5 arg6 harg6 arg7 harg7 arg8 harg8 arg9 harg9 x)) (arg14.view.readCov [(⟨Rect.unit (s := S384x128) ![0, 0] S384x128.size inb_S384x128_S384x128_0_0, k0_pay1⟩ : View.Piece (Elt F) S384x128 .f32)] (Rect.unit (s := S384x128) ![0, 0] S384x128.size inb_S384x128_S384x128_0_0).toLoadRect) from rfl).trans ?_
      rw [loaded_eq, readCov_full]; rfl
  isplitl [H15]
  · iexists _; isplitr; swap; · iexact H15
    · ipureintro
      refine (View.read_writes_full _ _ _ _ _).trans ?_
      refine (show _ = dvNew i (loaded c arg3 harg3 arg4 harg4 arg5 harg5 arg6 harg6 arg7 harg7 arg8 harg8 arg9 harg9 x) (arg15.view.readCov [(⟨Rect.unit (s := S384x128) ![0, 0] S384x128.size inb_S384x128_S384x128_0_0, k0_pay2⟩ : View.Piece (Elt F) S384x128 .f32)] (Rect.unit (s := S384x128) ![0, 0] S384x128.size inb_S384x128_S384x128_0_0).toLoadRect) from rfl).trans ?_
      rw [loaded_eq, readCov_full]; rfl
  · iexists _; isplitr; swap; · iexact H16
    · ipureintro
      refine (read_dcRows _ _ _ _ _).trans ?_
      refine (show _ = dcNew i (loaded c arg3 harg3 arg4 harg4 arg5 harg5 arg6 harg6 arg7 harg7 arg8 harg8 arg9 harg9 x) (arg16.view.readCov [(⟨Rect.unit (s := S2x1x384) ![0, 0, 0] S2x1x384.size inb_S2x1x384_S2x1x384_0_0_0, k0_pay3⟩ : View.Piece (Elt F) S2x1x384 .f32)] (Rect.unit (s := S2x1x384) ![0, 0, 0] S1x1x384.size inb_S2x1x384_S1x1x384_0_0_0).toLoadRect) (arg16.view.readCov [(⟨Rect.unit (s := S2x1x384) ![0, 0, 0] S1x1x384.size inb_S2x1x384_S1x1x384_0_0_0, k0_pay31 (ds0 i (loaded c arg3 harg3 arg4 harg4 arg5 harg5 arg6 harg6 arg7 harg7 arg8 harg8 arg9 harg9 x)) (arg16.view.readCov [(⟨Rect.unit (s := S2x1x384) ![0, 0, 0] S2x1x384.size inb_S2x1x384_S2x1x384_0_0_0, k0_pay3⟩ : View.Piece (Elt F) S2x1x384 .f32)] (Rect.unit (s := S2x1x384) ![0, 0, 0] S1x1x384.size inb_S2x1x384_S1x1x384_0_0_0).toLoadRect)⟩ : View.Piece (Elt F) S2x1x384 .f32), ⟨Rect.unit (s := S2x1x384) ![0, 0, 0] S2x1x384.size inb_S2x1x384_S2x1x384_0_0_0, k0_pay3⟩] (Rect.unit (s := S2x1x384) ![1, 0, 0] S1x1x384.size inb_S2x1x384_S1x1x384_1_0_0).toLoadRect) from rfl).trans ?_
      rw [loaded_eq, readCov_second, readCov_row]; rfl

end Cert.KernelIdeal.Attn

end
-- ==== Proof.Attention.RunB.lean ====
/- A point of the first query block against a later key block: the scratch is zeroed and nothing else. -/
module

public import proofs.«01_k».proof.Proof.Attention.Step

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

set_option maxHeartbeats 4000000 in
/-- A point of the first query block against a later key block: the scratch is zeroed and nothing else. -/
theorem runB (c : Dev nD) (i : grid0.Coords) (arg3 : Memref sig .tc .vmem S384x128 .bf16) (harg3 : arg3.IsWhole) (arg4 : Memref sig .tc .vmem S384x128 .bf16) (harg4 : arg4.IsWhole) (arg5 : Memref sig .tc .vmem S384x128 .f32) (harg5 : arg5.IsWhole) (arg6 : Memref sig .tc .vmem S8x384 .f32) (harg6 : arg6.IsWhole) (arg7 : Memref sig .tc .vmem S384x128 .f32) (harg7 : arg7.IsWhole) (arg8 : Memref sig .tc .vmem S1x384x128 .f32) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x8x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S2x1x384 .f32) (harg16 : arg16.IsWhole)
    (h1 : (i 2).val = 0) (h2 : ¬k0_cond2 i = 1#1) (h3 : ¬k0_cond3 i = 1#1) (h4 : ¬k0_cond4 i = 1#1) (x : Blocks F) (s : Acc F)
    (y7 : Vec F S384x128 .f32) (y8 : Vec F S384x128 .f32) (y9 : Vec F S1x8x384 .f32) (y10 : Vec F S4224x128 .f32)
    (E : Set ℕ) (K : PUnit → sProp (MT nD τ sig Unit (Elt F) ℕ (UR sig nD τ) ℕ)) :
    iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s.dk ∗ owns (c : Thread nD τ) arg15 fullShare s.dv ∗ owns (c : Thread nD τ) arg16 fullShare s.dc
      ∗ (iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare accZero.dk ∗ owns (c : Thread nD τ) arg15 fullShare accZero.dv ∗ owns (c : Thread nD τ) arg16 fullShare accZero.dc) -∗ K ⟨⟩))
    ⊢ wp frame (wpE (defs₀ (F := F)) Variants.none c none) E (cc0_fox_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_attn_bwd_eq_skeleton]; unfold cc0_fox_attn_bwd_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  have h1' := (first_iff i).mpr h1
  sl_exec (disch := first | sl_exact h1' | sl_exact h2 | sl_exact h3 | sl_exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    · ipureintro
      refine (View.read_writes_full _ _ _ _ _).trans ?_
      refine (show _ = accZero.dk from rfl).trans ?_
      rfl
  isplitl [H15]
  · iexists _; isplitr; swap; · iexact H15
    · ipureintro
      refine (View.read_writes_full _ _ _ _ _).trans ?_
      refine (show _ = accZero.dv from rfl).trans ?_
      rfl
  · iexists _; isplitr; swap; · iexact H16
    · ipureintro
      refine (View.read_writes_full _ _ _ _ _).trans ?_
      refine (show _ = accZero.dc from rfl).trans ?_
      rfl

end Cert.KernelIdeal.Attn

end
-- ==== Proof.Attention.RunC.lean ====
/- A point whose query block comes before its key block: nothing happens. -/
module

public import proofs.«01_k».proof.Proof.Attention.Step

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

set_option maxHeartbeats 4000000 in
/-- A point whose query block comes before its key block: nothing happens. -/
theorem runC (c : Dev nD) (i : grid0.Coords) (arg3 : Memref sig .tc .vmem S384x128 .bf16) (harg3 : arg3.IsWhole) (arg4 : Memref sig .tc .vmem S384x128 .bf16) (harg4 : arg4.IsWhole) (arg5 : Memref sig .tc .vmem S384x128 .f32) (harg5 : arg5.IsWhole) (arg6 : Memref sig .tc .vmem S8x384 .f32) (harg6 : arg6.IsWhole) (arg7 : Memref sig .tc .vmem S384x128 .f32) (harg7 : arg7.IsWhole) (arg8 : Memref sig .tc .vmem S1x384x128 .f32) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x8x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S2x1x384 .f32) (harg16 : arg16.IsWhole)
    (h1 : ¬(i 2).val = 0) (h2 : ¬k0_cond2 i = 1#1) (h3 : ¬k0_cond3 i = 1#1) (h4 : ¬k0_cond4 i = 1#1) (x : Blocks F) (s : Acc F)
    (y7 : Vec F S384x128 .f32) (y8 : Vec F S384x128 .f32) (y9 : Vec F S1x8x384 .f32) (y10 : Vec F S4224x128 .f32)
    (E : Set ℕ) (K : PUnit → sProp (MT nD τ sig Unit (Elt F) ℕ (UR sig nD τ) ℕ)) :
    iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s.dk ∗ owns (c : Thread nD τ) arg15 fullShare s.dv ∗ owns (c : Thread nD τ) arg16 fullShare s.dc
      ∗ (iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s.dk ∗ owns (c : Thread nD τ) arg15 fullShare s.dv ∗ owns (c : Thread nD τ) arg16 fullShare s.dc) -∗ K ⟨⟩))
    ⊢ wp frame (wpE (defs₀ (F := F)) Variants.none c none) E (cc0_fox_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_attn_bwd_eq_skeleton]; unfold cc0_fox_attn_bwd_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  have h1' := mt (first_iff i).mp h1
  sl_exec (disch := first | sl_exact h1' | sl_exact h2 | sl_exact h3 | sl_exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  · iexists _; isplitr; · ipureintro; exact harg16.read_unread _
    iexact H16

end Cert.KernelIdeal.Attn

end
-- ==== Proof.Attention.RunD.lean ====
/- A point of the first key block: the scratch is added to and the rows of the query gradient are written. -/
module

public import proofs.«01_k».proof.Proof.Attention.Step

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

set_option maxHeartbeats 4000000 in
/-- A point of the first key block: the scratch is added to and the rows of the query gradient are written. -/
theorem runD (c : Dev nD) (i : grid0.Coords) (arg3 : Memref sig .tc .vmem S384x128 .bf16) (harg3 : arg3.IsWhole) (arg4 : Memref sig .tc .vmem S384x128 .bf16) (harg4 : arg4.IsWhole) (arg5 : Memref sig .tc .vmem S384x128 .f32) (harg5 : arg5.IsWhole) (arg6 : Memref sig .tc .vmem S8x384 .f32) (harg6 : arg6.IsWhole) (arg7 : Memref sig .tc .vmem S384x128 .f32) (harg7 : arg7.IsWhole) (arg8 : Memref sig .tc .vmem S1x384x128 .f32) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x8x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S2x1x384 .f32) (harg16 : arg16.IsWhole)
    (h1 : ¬(i 2).val = 0) (h2 : k0_cond2 i = 1#1) (h3 : ¬k0_cond3 i = 1#1) (h4 : ¬k0_cond4 i = 1#1) (x : Blocks F) (s : Acc F)
    (y7 : Vec F S384x128 .f32) (y8 : Vec F S384x128 .f32) (y9 : Vec F S1x8x384 .f32) (y10 : Vec F S4224x128 .f32)
    (E : Set ℕ) (K : PUnit → sProp (MT nD τ sig Unit (Elt F) ℕ (UR sig nD τ) ℕ)) :
    iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s.dk ∗ owns (c : Thread nD τ) arg15 fullShare s.dv ∗ owns (c : Thread nD τ) arg16 fullShare s.dc
      ∗ (iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare y7 ∗ owns (c : Thread nD τ) arg11 fullShare y8 ∗ owns (c : Thread nD τ) arg12 fullShare y9 ∗ owns (c : Thread nD τ) arg13 fullShare (putRows (i 2).val (rowsNew i x) y10) ∗ owns (c : Thread nD τ) arg14 fullShare (accNew i x s).dk ∗ owns (c : Thread nD τ) arg15 fullShare (accNew i x s).dv ∗ owns (c : Thread nD τ) arg16 fullShare (accNew i x s).dc) -∗ K ⟨⟩))
    ⊢ wp frame (wpE (defs₀ (F := F)) Variants.none c none) E (cc0_fox_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_attn_bwd_eq_skeleton]; unfold cc0_fox_attn_bwd_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  have h1' := mt (first_iff i).mp h1
  sl_exec (disch := first | sl_exact h1' | sl_exact h2 | sl_exact h3 | sl_exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    · ipureintro
      refine (read_putRows arg13 harg13 y10 _ _ (i 2).val (off3_eq i) _).trans ?_
      refine congrArg (fun w => putRows (i 2).val w y10) ((show _ = rowsNew i (loaded c arg3 harg3 arg4 harg4 arg5 harg5 arg6 harg6 arg7 harg7 arg8 harg8 arg9 harg9 x) from rfl).trans ?_)
      rw [loaded_eq]
  isplitl [H14]
  · iexists _; isplitr; swap; · iexact H14
    · ipureintro
      refine (View.read_writes_full _ _ _ _ _).trans ?_
      refine (show _ = (accNew i (loaded c arg3 harg3 arg4 harg4 arg5 harg5 arg6 harg6 arg7 harg7 arg8 harg8 arg9 harg9 x) (loadedAcc arg14 harg14 arg15 harg15 arg16 harg16 s)).dk from rfl).trans ?_
      rw [loaded_eq, loadedAcc_eq]
  isplitl [H15]
  · iexists _; isplitr; swap; · iexact H15
    · ipureintro
      refine (View.read_writes_full _ _ _ _ _).trans ?_
      refine (show _ = (accNew i (loaded c arg3 harg3 arg4 harg4 arg5 harg5 arg6 harg6 arg7 harg7 arg8 harg8 arg9 harg9 x) (loadedAcc arg14 harg14 arg15 harg15 arg16 harg16 s)).dv from rfl).trans ?_
      rw [loaded_eq, loadedAcc_eq]
  · iexists _; isplitr; swap; · iexact H16
    · ipureintro
      refine (read_dcRows _ _ _ _ _).trans ?_
      refine (show _ = (accNew i (loaded c arg3 harg3 arg4 harg4 arg5 harg5 arg6 harg6 arg7 harg7 arg8 harg8 arg9 harg9 x) (loadedAcc arg14 harg14 arg15 harg15 arg16 harg16 s)).dc from rfl).trans ?_
      rw [loaded_eq, loadedAcc_eq]

end Cert.KernelIdeal.Attn

end
-- ==== Proof.Attention.RunE.lean ====
/- The last query block against the first key block: as before, and the key block's gradients are written out. -/
module

public import proofs.«01_k».proof.Proof.Attention.Step

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

set_option maxHeartbeats 4000000 in
/-- The last query block against the first key block: as before, and the key block's gradients are written out. -/
theorem runE (c : Dev nD) (i : grid0.Coords) (arg3 : Memref sig .tc .vmem S384x128 .bf16) (harg3 : arg3.IsWhole) (arg4 : Memref sig .tc .vmem S384x128 .bf16) (harg4 : arg4.IsWhole) (arg5 : Memref sig .tc .vmem S384x128 .f32) (harg5 : arg5.IsWhole) (arg6 : Memref sig .tc .vmem S8x384 .f32) (harg6 : arg6.IsWhole) (arg7 : Memref sig .tc .vmem S384x128 .f32) (harg7 : arg7.IsWhole) (arg8 : Memref sig .tc .vmem S1x384x128 .f32) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x8x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S2x1x384 .f32) (harg16 : arg16.IsWhole)
    (h1 : ¬(i 2).val = 0) (h2 : k0_cond2 i = 1#1) (h3 : ¬k0_cond3 i = 1#1) (h4 : k0_cond4 i = 1#1) (x : Blocks F) (s : Acc F)
    (y7 : Vec F S384x128 .f32) (y8 : Vec F S384x128 .f32) (y9 : Vec F S1x8x384 .f32) (y10 : Vec F S4224x128 .f32)
    (E : Set ℕ) (K : PUnit → sProp (MT nD τ sig Unit (Elt F) ℕ (UR sig nD τ) ℕ)) :
    iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s.dk ∗ owns (c : Thread nD τ) arg15 fullShare s.dv ∗ owns (c : Thread nD τ) arg16 fullShare s.dc
      ∗ (iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare (k0_pay6 (accNew i x s).dk) ∗ owns (c : Thread nD τ) arg11 fullShare (accNew i x s).dv ∗ owns (c : Thread nD τ) arg12 fullShare (outDc (accNew i x s).dc) ∗ owns (c : Thread nD τ) arg13 fullShare (putRows (i 2).val (rowsNew i x) y10) ∗ owns (c : Thread nD τ) arg14 fullShare (accNew i x s).dk ∗ owns (c : Thread nD τ) arg15 fullShare (accNew i x s).dv ∗ owns (c : Thread nD τ) arg16 fullShare (accNew i x s).dc) -∗ K ⟨⟩))
    ⊢ wp frame (wpE (defs₀ (F := F)) Variants.none c none) E (cc0_fox_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_attn_bwd_eq_skeleton]; unfold cc0_fox_attn_bwd_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  have h1' := mt (first_iff i).mp h1
  sl_exec (disch := first | sl_exact h1' | sl_exact h2 | sl_exact h3 | sl_exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    · ipureintro
      refine (View.read_writes_full _ _ _ _ _).trans ?_
      refine (show _ = k0_pay6 (arg14.view.readCov [(⟨Rect.unit (s := S384x128) ![0, 0] S384x128.size inb_S384x128_S384x128_0_0, (accNew i (loaded c arg3 harg3 arg4 harg4 arg5 harg5 arg6 harg6 arg7 harg7 arg8 harg8 arg9 harg9 x) (loadedAcc arg14 harg14 arg15 harg15 arg16 harg16 s)).dk⟩ : View.Piece (Elt F) S384x128 .f32)] (Rect.unit (s := S384x128) ![0, 0] S384x128.size inb_S384x128_S384x128_0_0).toLoadRect) from rfl).trans ?_
      rw [readCov_full, loaded_eq, loadedAcc_eq]
  isplitl [H11]
  · iexists _; isplitr; swap; · iexact H11
    · ipureintro
      refine (View.read_writes_full _ _ _ _ _).trans ?_
      refine (show _ = (arg15.view.readCov [(⟨Rect.unit (s := S384x128) ![0, 0] S384x128.size inb_S384x128_S384x128_0_0, (accNew i (loaded c arg3 harg3 arg4 harg4 arg5 harg5 arg6 harg6 arg7 harg7 arg8 harg8 arg9 harg9 x) (loadedAcc arg14 harg14 arg15 harg15 arg16 harg16 s)).dv⟩ : View.Piece (Elt F) S384x128 .f32)] (Rect.unit (s := S384x128) ![0, 0] S384x128.size inb_S384x128_S384x128_0_0).toLoadRect) from rfl).trans ?_
      rw [readCov_full, loaded_eq, loadedAcc_eq]
  isplitl [H12]
  · iexists _; isplitr; swap; · iexact H12
    · ipureintro
      refine (View.read_writes_full _ _ _ _ _).trans ?_
      refine (show _ = k0_pay7 (arg16.view.readCov [(⟨Rect.unit (s := S2x1x384) ![1, 0, 0] S1x1x384.size inb_S2x1x384_S1x1x384_1_0_0, k0_pay32 (ds1 i (loaded c arg3 harg3 arg4 harg4 arg5 harg5 arg6 harg6 arg7 harg7 arg8 harg8 arg9 harg9 x)) (dcRow (loadedAcc arg14 harg14 arg15 harg15 arg16 harg16 s).dc ![1, 0, 0] inb_S2x1x384_S1x1x384_1_0_0)⟩ : View.Piece (Elt F) S2x1x384 .f32), ⟨Rect.unit (s := S2x1x384) ![0, 0, 0] S1x1x384.size inb_S2x1x384_S1x1x384_0_0_0, k0_pay31 (ds0 i (loaded c arg3 harg3 arg4 harg4 arg5 harg5 arg6 harg6 arg7 harg7 arg8 harg8 arg9 harg9 x)) (dcRow (loadedAcc arg14 harg14 arg15 harg15 arg16 harg16 s).dc ![0, 0, 0] inb_S2x1x384_S1x1x384_0_0_0)⟩] (Rect.unit (s := S2x1x384) ![0, 0, 0] S1x1x384.size inb_S2x1x384_S1x1x384_0_0_0).toLoadRect) (arg16.view.readCov [(⟨Rect.unit (s := S2x1x384) ![1, 0, 0] S1x1x384.size inb_S2x1x384_S1x1x384_1_0_0, k0_pay32 (ds1 i (loaded c arg3 harg3 arg4 harg4 arg5 harg5 arg6 harg6 arg7 harg7 arg8 harg8 arg9 harg9 x)) (dcRow (loadedAcc arg14 harg14 arg15 harg15 arg16 harg16 s).dc ![1, 0, 0] inb_S2x1x384_S1x1x384_1_0_0)⟩ : View.Piece (Elt F) S2x1x384 .f32), ⟨Rect.unit (s := S2x1x384) ![0, 0, 0] S1x1x384.size inb_S2x1x384_S1x1x384_0_0_0, k0_pay31 (ds0 i (loaded c arg3 harg3 arg4 harg4 arg5 harg5 arg6 harg6 arg7 harg7 arg8 harg8 arg9 harg9 x)) (dcRow (loadedAcc arg14 harg14 arg15 harg15 arg16 harg16 s).dc ![0, 0, 0] inb_S2x1x384_S1x1x384_0_0_0)⟩] (Rect.unit (s := S2x1x384) ![1, 0, 0] S1x1x384.size inb_S2x1x384_S1x1x384_1_0_0).toLoadRect) from rfl).trans ?_
      rw [readCov_rows, readCov_rows, loaded_eq, loadedAcc_eq]; rfl
  isplitl [H13]
  · iexists _; isplitr; swap; · iexact H13
    · ipureintro
      refine (read_putRows arg13 harg13 y10 _ _ (i 2).val (off3_eq i) _).trans ?_
      refine congrArg (fun w => putRows (i 2).val w y10) ((show _ = rowsNew i (loaded c arg3 harg3 arg4 harg4 arg5 harg5 arg6 harg6 arg7 harg7 arg8 harg8 arg9 harg9 x) from rfl).trans ?_)
      rw [loaded_eq]
  isplitl [H14]
  · iexists _; isplitr; swap; · iexact H14
    · ipureintro
      refine (View.read_writes_full _ _ _ _ _).trans ?_
      refine (show _ = (accNew i (loaded c arg3 harg3 arg4 harg4 arg5 harg5 arg6 harg6 arg7 harg7 arg8 harg8 arg9 harg9 x) (loadedAcc arg14 harg14 arg15 harg15 arg16 harg16 s)).dk from rfl).trans ?_
      rw [loaded_eq, loadedAcc_eq]
  isplitl [H15]
  · iexists _; isplitr; swap; · iexact H15
    · ipureintro
      refine (View.read_writes_full _ _ _ _ _).trans ?_
      refine (show _ = (accNew i (loaded c arg3 harg3 arg4 harg4 arg5 harg5 arg6 harg6 arg7 harg7 arg8 harg8 arg9 harg9 x) (loadedAcc arg14 harg14 arg15 harg15 arg16 harg16 s)).dv from rfl).trans ?_
      rw [loaded_eq, loadedAcc_eq]
  · iexists _; isplitr; swap; · iexact H16
    · ipureintro
      refine (read_dcRows _ _ _ _ _).trans ?_
      refine (show _ = (accNew i (loaded c arg3 harg3 arg4 harg4 arg5 harg5 arg6 harg6 arg7 harg7 arg8 harg8 arg9 harg9 x) (loadedAcc arg14 harg14 arg15 harg15 arg16 harg16 s)).dc from rfl).trans ?_
      rw [loaded_eq, loadedAcc_eq]

end Cert.KernelIdeal.Attn

end
-- ==== Proof.Attention.RunF.lean ====
/- A point of a later key block: the scratch is added to, and so are the rows of the query gradient. -/
module

public import proofs.«01_k».proof.Proof.Attention.Step

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

set_option maxHeartbeats 4000000 in
/-- A point of a later key block: the scratch is added to, and so are the rows of the query gradient. -/
theorem runF (c : Dev nD) (i : grid0.Coords) (arg3 : Memref sig .tc .vmem S384x128 .bf16) (harg3 : arg3.IsWhole) (arg4 : Memref sig .tc .vmem S384x128 .bf16) (harg4 : arg4.IsWhole) (arg5 : Memref sig .tc .vmem S384x128 .f32) (harg5 : arg5.IsWhole) (arg6 : Memref sig .tc .vmem S8x384 .f32) (harg6 : arg6.IsWhole) (arg7 : Memref sig .tc .vmem S384x128 .f32) (harg7 : arg7.IsWhole) (arg8 : Memref sig .tc .vmem S1x384x128 .f32) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x8x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S2x1x384 .f32) (harg16 : arg16.IsWhole)
    (h1 : ¬(i 2).val = 0) (h2 : ¬k0_cond2 i = 1#1) (h3 : k0_cond3 i = 1#1) (h4 : ¬k0_cond4 i = 1#1) (x : Blocks F) (s : Acc F)
    (y7 : Vec F S384x128 .f32) (y8 : Vec F S384x128 .f32) (y9 : Vec F S1x8x384 .f32) (y10 : Vec F S4224x128 .f32)
    (E : Set ℕ) (K : PUnit → sProp (MT nD τ sig Unit (Elt F) ℕ (UR sig nD τ) ℕ)) :
    iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s.dk ∗ owns (c : Thread nD τ) arg15 fullShare s.dv ∗ owns (c : Thread nD τ) arg16 fullShare s.dc
      ∗ (iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare y7 ∗ owns (c : Thread nD τ) arg11 fullShare y8 ∗ owns (c : Thread nD τ) arg12 fullShare y9 ∗ owns (c : Thread nD τ) arg13 fullShare (putRows (i 2).val (rowsSum i x y10) y10) ∗ owns (c : Thread nD τ) arg14 fullShare (accNew i x s).dk ∗ owns (c : Thread nD τ) arg15 fullShare (accNew i x s).dv ∗ owns (c : Thread nD τ) arg16 fullShare (accNew i x s).dc) -∗ K ⟨⟩))
    ⊢ wp frame (wpE (defs₀ (F := F)) Variants.none c none) E (cc0_fox_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_attn_bwd_eq_skeleton]; unfold cc0_fox_attn_bwd_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  have h1' := mt (first_iff i).mp h1
  sl_exec (disch := first | sl_exact h1' | sl_exact h2 | sl_exact h3 | sl_exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    · ipureintro
      refine (read_putRows arg13 harg13 y10 _ _ (i 2).val (off4_eq i) _).trans ?_
      refine congrArg (fun w => putRows (i 2).val w y10) ((show _ = rowsSum i (loaded c arg3 harg3 arg4 harg4 arg5 harg5 arg6 harg6 arg7 harg7 arg8 harg8 arg9 harg9 x) (View.read (Elt F) arg13.view (harg13.unread y10)) from rfl).trans ?_)
      rw [loaded_eq, harg13.read_unread]
  isplitl [H14]
  · iexists _; isplitr; swap; · iexact H14
    · ipureintro
      refine (View.read_writes_full _ _ _ _ _).trans ?_
      refine (show _ = (accNew i (loaded c arg3 harg3 arg4 harg4 arg5 harg5 arg6 harg6 arg7 harg7 arg8 harg8 arg9 harg9 x) (loadedAcc arg14 harg14 arg15 harg15 arg16 harg16 s)).dk from rfl).trans ?_
      rw [loaded_eq, loadedAcc_eq]
  isplitl [H15]
  · iexists _; isplitr; swap; · iexact H15
    · ipureintro
      refine (View.read_writes_full _ _ _ _ _).trans ?_
      refine (show _ = (accNew i (loaded c arg3 harg3 arg4 harg4 arg5 harg5 arg6 harg6 arg7 harg7 arg8 harg8 arg9 harg9 x) (loadedAcc arg14 harg14 arg15 harg15 arg16 harg16 s)).dv from rfl).trans ?_
      rw [loaded_eq, loadedAcc_eq]
  · iexists _; isplitr; swap; · iexact H16
    · ipureintro
      refine (read_dcRows _ _ _ _ _).trans ?_
      refine (show _ = (accNew i (loaded c arg3 harg3 arg4 harg4 arg5 harg5 arg6 harg6 arg7 harg7 arg8 harg8 arg9 harg9 x) (loadedAcc arg14 harg14 arg15 harg15 arg16 harg16 s)).dc from rfl).trans ?_
      rw [loaded_eq, loadedAcc_eq]

end Cert.KernelIdeal.Attn

end
-- ==== Proof.Attention.RunG.lean ====
/- The last query block against a later key block: as before, and the key block's gradients are written out. -/
module

public import proofs.«01_k».proof.Proof.Attention.Step

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

set_option maxHeartbeats 4000000 in
/-- The last query block against a later key block: as before, and the key block's gradients are written out. -/
theorem runG (c : Dev nD) (i : grid0.Coords) (arg3 : Memref sig .tc .vmem S384x128 .bf16) (harg3 : arg3.IsWhole) (arg4 : Memref sig .tc .vmem S384x128 .bf16) (harg4 : arg4.IsWhole) (arg5 : Memref sig .tc .vmem S384x128 .f32) (harg5 : arg5.IsWhole) (arg6 : Memref sig .tc .vmem S8x384 .f32) (harg6 : arg6.IsWhole) (arg7 : Memref sig .tc .vmem S384x128 .f32) (harg7 : arg7.IsWhole) (arg8 : Memref sig .tc .vmem S1x384x128 .f32) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x8x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S2x1x384 .f32) (harg16 : arg16.IsWhole)
    (h1 : ¬(i 2).val = 0) (h2 : ¬k0_cond2 i = 1#1) (h3 : k0_cond3 i = 1#1) (h4 : k0_cond4 i = 1#1) (x : Blocks F) (s : Acc F)
    (y7 : Vec F S384x128 .f32) (y8 : Vec F S384x128 .f32) (y9 : Vec F S1x8x384 .f32) (y10 : Vec F S4224x128 .f32)
    (E : Set ℕ) (K : PUnit → sProp (MT nD τ sig Unit (Elt F) ℕ (UR sig nD τ) ℕ)) :
    iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s.dk ∗ owns (c : Thread nD τ) arg15 fullShare s.dv ∗ owns (c : Thread nD τ) arg16 fullShare s.dc
      ∗ (iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare (k0_pay6 (accNew i x s).dk) ∗ owns (c : Thread nD τ) arg11 fullShare (accNew i x s).dv ∗ owns (c : Thread nD τ) arg12 fullShare (outDc (accNew i x s).dc) ∗ owns (c : Thread nD τ) arg13 fullShare (putRows (i 2).val (rowsSum i x y10) y10) ∗ owns (c : Thread nD τ) arg14 fullShare (accNew i x s).dk ∗ owns (c : Thread nD τ) arg15 fullShare (accNew i x s).dv ∗ owns (c : Thread nD τ) arg16 fullShare (accNew i x s).dc) -∗ K ⟨⟩))
    ⊢ wp frame (wpE (defs₀ (F := F)) Variants.none c none) E (cc0_fox_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_attn_bwd_eq_skeleton]; unfold cc0_fox_attn_bwd_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  have h1' := mt (first_iff i).mp h1
  sl_exec (disch := first | sl_exact h1' | sl_exact h2 | sl_exact h3 | sl_exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    · ipureintro
      refine (View.read_writes_full _ _ _ _ _).trans ?_
      refine (show _ = k0_pay6 (arg14.view.readCov [(⟨Rect.unit (s := S384x128) ![0, 0] S384x128.size inb_S384x128_S384x128_0_0, (accNew i (loaded c arg3 harg3 arg4 harg4 arg5 harg5 arg6 harg6 arg7 harg7 arg8 harg8 arg9 harg9 x) (loadedAcc arg14 harg14 arg15 harg15 arg16 harg16 s)).dk⟩ : View.Piece (Elt F) S384x128 .f32)] (Rect.unit (s := S384x128) ![0, 0] S384x128.size inb_S384x128_S384x128_0_0).toLoadRect) from rfl).trans ?_
      rw [readCov_full, loaded_eq, loadedAcc_eq]
  isplitl [H11]
  · iexists _; isplitr; swap; · iexact H11
    · ipureintro
      refine (View.read_writes_full _ _ _ _ _).trans ?_
      refine (show _ = (arg15.view.readCov [(⟨Rect.unit (s := S384x128) ![0, 0] S384x128.size inb_S384x128_S384x128_0_0, (accNew i (loaded c arg3 harg3 arg4 harg4 arg5 harg5 arg6 harg6 arg7 harg7 arg8 harg8 arg9 harg9 x) (loadedAcc arg14 harg14 arg15 harg15 arg16 harg16 s)).dv⟩ : View.Piece (Elt F) S384x128 .f32)] (Rect.unit (s := S384x128) ![0, 0] S384x128.size inb_S384x128_S384x128_0_0).toLoadRect) from rfl).trans ?_
      rw [readCov_full, loaded_eq, loadedAcc_eq]
  isplitl [H12]
  · iexists _; isplitr; swap; · iexact H12
    · ipureintro
      refine (View.read_writes_full _ _ _ _ _).trans ?_
      refine (show _ = k0_pay7 (arg16.view.readCov [(⟨Rect.unit (s := S2x1x384) ![1, 0, 0] S1x1x384.size inb_S2x1x384_S1x1x384_1_0_0, k0_pay32 (ds1 i (loaded c arg3 harg3 arg4 harg4 arg5 harg5 arg6 harg6 arg7 harg7 arg8 harg8 arg9 harg9 x)) (dcRow (loadedAcc arg14 harg14 arg15 harg15 arg16 harg16 s).dc ![1, 0, 0] inb_S2x1x384_S1x1x384_1_0_0)⟩ : View.Piece (Elt F) S2x1x384 .f32), ⟨Rect.unit (s := S2x1x384) ![0, 0, 0] S1x1x384.size inb_S2x1x384_S1x1x384_0_0_0, k0_pay31 (ds0 i (loaded c arg3 harg3 arg4 harg4 arg5 harg5 arg6 harg6 arg7 harg7 arg8 harg8 arg9 harg9 x)) (dcRow (loadedAcc arg14 harg14 arg15 harg15 arg16 harg16 s).dc ![0, 0, 0] inb_S2x1x384_S1x1x384_0_0_0)⟩] (Rect.unit (s := S2x1x384) ![0, 0, 0] S1x1x384.size inb_S2x1x384_S1x1x384_0_0_0).toLoadRect) (arg16.view.readCov [(⟨Rect.unit (s := S2x1x384) ![1, 0, 0] S1x1x384.size inb_S2x1x384_S1x1x384_1_0_0, k0_pay32 (ds1 i (loaded c arg3 harg3 arg4 harg4 arg5 harg5 arg6 harg6 arg7 harg7 arg8 harg8 arg9 harg9 x)) (dcRow (loadedAcc arg14 harg14 arg15 harg15 arg16 harg16 s).dc ![1, 0, 0] inb_S2x1x384_S1x1x384_1_0_0)⟩ : View.Piece (Elt F) S2x1x384 .f32), ⟨Rect.unit (s := S2x1x384) ![0, 0, 0] S1x1x384.size inb_S2x1x384_S1x1x384_0_0_0, k0_pay31 (ds0 i (loaded c arg3 harg3 arg4 harg4 arg5 harg5 arg6 harg6 arg7 harg7 arg8 harg8 arg9 harg9 x)) (dcRow (loadedAcc arg14 harg14 arg15 harg15 arg16 harg16 s).dc ![0, 0, 0] inb_S2x1x384_S1x1x384_0_0_0)⟩] (Rect.unit (s := S2x1x384) ![1, 0, 0] S1x1x384.size inb_S2x1x384_S1x1x384_1_0_0).toLoadRect) from rfl).trans ?_
      rw [readCov_rows, readCov_rows, loaded_eq, loadedAcc_eq]; rfl
  isplitl [H13]
  · iexists _; isplitr; swap; · iexact H13
    · ipureintro
      refine (read_putRows arg13 harg13 y10 _ _ (i 2).val (off4_eq i) _).trans ?_
      refine congrArg (fun w => putRows (i 2).val w y10) ((show _ = rowsSum i (loaded c arg3 harg3 arg4 harg4 arg5 harg5 arg6 harg6 arg7 harg7 arg8 harg8 arg9 harg9 x) (View.read (Elt F) arg13.view (harg13.unread y10)) from rfl).trans ?_)
      rw [loaded_eq, harg13.read_unread]
  isplitl [H14]
  · iexists _; isplitr; swap; · iexact H14
    · ipureintro
      refine (View.read_writes_full _ _ _ _ _).trans ?_
      refine (show _ = (accNew i (loaded c arg3 harg3 arg4 harg4 arg5 harg5 arg6 harg6 arg7 harg7 arg8 harg8 arg9 harg9 x) (loadedAcc arg14 harg14 arg15 harg15 arg16 harg16 s)).dk from rfl).trans ?_
      rw [loaded_eq, loadedAcc_eq]
  isplitl [H15]
  · iexists _; isplitr; swap; · iexact H15
    · ipureintro
      refine (View.read_writes_full _ _ _ _ _).trans ?_
      refine (show _ = (accNew i (loaded c arg3 harg3 arg4 harg4 arg5 harg5 arg6 harg6 arg7 harg7 arg8 harg8 arg9 harg9 x) (loadedAcc arg14 harg14 arg15 harg15 arg16 harg16 s)).dv from rfl).trans ?_
      rw [loaded_eq, loadedAcc_eq]
  · iexists _; isplitr; swap; · iexact H16
    · ipureintro
      refine (read_dcRows _ _ _ _ _).trans ?_
      refine (show _ = (accNew i (loaded c arg3 harg3 arg4 harg4 arg5 harg5 arg6 harg6 arg7 harg7 arg8 harg8 arg9 harg9 x) (loadedAcc arg14 harg14 arg15 harg15 arg16 harg16 s)).dc from rfl).trans ?_
      rw [loaded_eq, loadedAcc_eq]

end Cert.KernelIdeal.Attn

end
-- ==== Proof.Attention.Point.lean ====
/- One grid point of the attention backward, whatever its query and key blocks: the scratch and the windows it leaves,
   as functions of what it found. -/
module

public import proofs.«01_k».proof.Proof.Attention.RunA
public import proofs.«01_k».proof.Proof.Attention.RunB
public import proofs.«01_k».proof.Proof.Attention.RunC
public import proofs.«01_k».proof.Proof.Attention.RunD
public import proofs.«01_k».proof.Proof.Attention.RunE
public import proofs.«01_k».proof.Proof.Attention.RunF
public import proofs.«01_k».proof.Proof.Attention.RunG

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The scratch after a point: zeroed at the first query block, and added to unless the query block is before the key block. -/
def accStep (i : grid0.Coords) (x : Blocks F) (s : Acc F) : Acc F :=
  if (i 1).val ≤ (i 2).val then accNew i x (if (i 2).val = 0 then accZero else s) else if (i 2).val = 0 then accZero else s

/-- The query gradient's rows after a point: stored at the first key block, added to at a later one. -/
def rowsStep (i : grid0.Coords) (x : Blocks F) (Y : Vec F S4224x128 .f32) : Vec F S4224x128 .f32 :=
  if (i 1).val = 0 then putRows (i 2).val (rowsNew i x) Y
  else if (i 1).val ≤ (i 2).val then putRows (i 2).val (rowsSum i x Y) Y else Y

/-- The three outputs a point stores at the last query block, and leaves elsewhere. -/
def outDkNew (i : grid0.Coords) (x : Blocks F) (s : Acc F) (y : Vec F S384x128 .f32) : Vec F S384x128 .f32 :=
  if (i 2).val = 10 then k0_pay6 (accStep i x s).dk else y
def outDvNew (i : grid0.Coords) (x : Blocks F) (s : Acc F) (y : Vec F S384x128 .f32) : Vec F S384x128 .f32 :=
  if (i 2).val = 10 then (accStep i x s).dv else y
def outDcNew (i : grid0.Coords) (x : Blocks F) (s : Acc F) (y : Vec F S1x8x384 .f32) : Vec F S1x8x384 .f32 :=
  if (i 2).val = 10 then outDc (accStep i x s).dc else y

/-- At a point of the first query block the scratch left does not depend on the scratch found. -/
theorem accStep_of_first (i : grid0.Coords) (x : Blocks F) (s s' : Acc F) (h : (i 2).val = 0) : accStep i x s = accStep i x s' := by
  unfold accStep; rw [if_pos h, if_pos h]

set_option maxHeartbeats 2000000 in
/-- The body at any point. -/
theorem run_point (c : Dev nD) (i : grid0.Coords) (arg3 : Memref sig .tc .vmem S384x128 .bf16) (harg3 : arg3.IsWhole) (arg4 : Memref sig .tc .vmem S384x128 .bf16) (harg4 : arg4.IsWhole) (arg5 : Memref sig .tc .vmem S384x128 .f32) (harg5 : arg5.IsWhole) (arg6 : Memref sig .tc .vmem S8x384 .f32) (harg6 : arg6.IsWhole) (arg7 : Memref sig .tc .vmem S384x128 .f32) (harg7 : arg7.IsWhole) (arg8 : Memref sig .tc .vmem S1x384x128 .f32) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x8x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S2x1x384 .f32) (harg16 : arg16.IsWhole) (x : Blocks F) (s : Acc F)
    (y7 : Vec F S384x128 .f32) (y8 : Vec F S384x128 .f32) (y9 : Vec F S1x8x384 .f32) (y10 : Vec F S4224x128 .f32)
    (E : Set ℕ) (K : PUnit → sProp (MT nD τ sig Unit (Elt F) ℕ (UR sig nD τ) ℕ)) :
    iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s.dk ∗ owns (c : Thread nD τ) arg15 fullShare s.dv ∗ owns (c : Thread nD τ) arg16 fullShare s.dc
      ∗ (iprop(owns (c : Thread nD τ) arg3 fullShare x.q ∗ owns (c : Thread nD τ) arg4 fullShare x.k ∗ owns (c : Thread nD τ) arg5 fullShare x.v ∗ owns (c : Thread nD τ) arg6 fullShare x.ct ∗ owns (c : Thread nD τ) arg7 fullShare x.o ∗ owns (c : Thread nD τ) arg8 fullShare x.lse ∗ owns (c : Thread nD τ) arg9 fullShare x.dO ∗ owns (c : Thread nD τ) arg10 fullShare (outDkNew i x s y7) ∗ owns (c : Thread nD τ) arg11 fullShare (outDvNew i x s y8) ∗ owns (c : Thread nD τ) arg12 fullShare (outDcNew i x s y9) ∗ owns (c : Thread nD τ) arg13 fullShare (rowsStep i x y10) ∗ owns (c : Thread nD τ) arg14 fullShare (accStep i x s).dk ∗ owns (c : Thread nD τ) arg15 fullShare (accStep i x s).dv ∗ owns (c : Thread nD τ) arg16 fullShare (accStep i x s).dc) -∗ K ⟨⟩))
    ⊢ wp frame (wpE (defs₀ (F := F)) Variants.none c none) E (cc0_fox_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  have b1 : (i 1).val < 11 := (i 1).isLt
  have b2 : (i 2).val < 11 := (i 2).isLt
  unfold accStep rowsStep outDkNew outDvNew outDcNew accStep
  by_cases hi : (i 2).val = 0
  · have h4 : ¬k0_cond4 i = 1#1 := by rw [cond4_iff]; omega
    have h3 : ¬k0_cond3 i = 1#1 := by rw [cond3_iff]; omega
    have e10 : ¬(i 2).val = 10 := by omega
    by_cases hj : (i 1).val = 0
    · have h2 : k0_cond2 i = 1#1 := (cond2_iff i).mpr hj
      have hle : (i 1).val ≤ (i 2).val := by omega
      simp only [if_pos hi, if_pos hj, if_pos hle, if_neg e10]
      exact runA c i arg3 harg3 arg4 harg4 arg5 harg5 arg6 harg6 arg7 harg7 arg8 harg8 arg9 harg9 arg10 harg10 arg11 harg11 arg12 harg12 arg13 harg13 arg14 harg14 arg15 harg15 arg16 harg16 hi h2 h3 h4 x s y7 y8 y9 y10 E K
    · have h2 : ¬k0_cond2 i = 1#1 := by rw [cond2_iff]; exact hj
      have hle : ¬(i 1).val ≤ (i 2).val := by omega
      simp only [if_pos hi, if_neg hj, if_neg hle, if_neg e10]
      exact runB c i arg3 harg3 arg4 harg4 arg5 harg5 arg6 harg6 arg7 harg7 arg8 harg8 arg9 harg9 arg10 harg10 arg11 harg11 arg12 harg12 arg13 harg13 arg14 harg14 arg15 harg15 arg16 harg16 hi h2 h3 h4 x s y7 y8 y9 y10 E K
  · by_cases hj : (i 1).val = 0
    · have h2 : k0_cond2 i = 1#1 := (cond2_iff i).mpr hj
      have h3 : ¬k0_cond3 i = 1#1 := by rw [cond3_iff]; omega
      have hle : (i 1).val ≤ (i 2).val := by omega
      by_cases e10 : (i 2).val = 10
      · have h4 : k0_cond4 i = 1#1 := (cond4_iff i).mpr e10
        simp only [if_neg hi, if_pos hj, if_pos hle, if_pos e10]
        exact runE c i arg3 harg3 arg4 harg4 arg5 harg5 arg6 harg6 arg7 harg7 arg8 harg8 arg9 harg9 arg10 harg10 arg11 harg11 arg12 harg12 arg13 harg13 arg14 harg14 arg15 harg15 arg16 harg16 hi h2 h3 h4 x s y7 y8 y9 y10 E K
      · have h4 : ¬k0_cond4 i = 1#1 := by rw [cond4_iff]; exact e10
        simp only [if_neg hi, if_pos hj, if_pos hle, if_neg e10]
        exact runD c i arg3 harg3 arg4 harg4 arg5 harg5 arg6 harg6 arg7 harg7 arg8 harg8 arg9 harg9 arg10 harg10 arg11 harg11 arg12 harg12 arg13 harg13 arg14 harg14 arg15 harg15 arg16 harg16 hi h2 h3 h4 x s y7 y8 y9 y10 E K
    · have h2 : ¬k0_cond2 i = 1#1 := by rw [cond2_iff]; exact hj
      by_cases hle : (i 1).val ≤ (i 2).val
      · have h3 : k0_cond3 i = 1#1 := (cond3_iff i).mpr ⟨hj, hle⟩
        by_cases e10 : (i 2).val = 10
        · have h4 : k0_cond4 i = 1#1 := (cond4_iff i).mpr e10
          simp only [if_neg hi, if_neg hj, if_pos hle, if_pos e10]
          exact runG c i arg3 harg3 arg4 harg4 arg5 harg5 arg6 harg6 arg7 harg7 arg8 harg8 arg9 harg9 arg10 harg10 arg11 harg11 arg12 harg12 arg13 harg13 arg14 harg14 arg15 harg15 arg16 harg16 hi h2 h3 h4 x s y7 y8 y9 y10 E K
        · have h4 : ¬k0_cond4 i = 1#1 := by rw [cond4_iff]; exact e10
          simp only [if_neg hi, if_neg hj, if_pos hle, if_neg e10]
          exact runF c i arg3 harg3 arg4 harg4 arg5 harg5 arg6 harg6 arg7 harg7 arg8 harg8 arg9 harg9 arg10 harg10 arg11 harg11 arg12 harg12 arg13 harg13 arg14 harg14 arg15 harg15 arg16 harg16 hi h2 h3 h4 x s y7 y8 y9 y10 E K
      · have h3 : ¬k0_cond3 i = 1#1 := by rw [cond3_iff]; omega
        have e10 : ¬(i 2).val = 10 := by omega
        have h4 : ¬k0_cond4 i = 1#1 := by rw [cond4_iff]; exact e10
        simp only [if_neg hi, if_neg hj, if_neg hle, if_neg e10]
        exact runC c i arg3 harg3 arg4 harg4 arg5 harg5 arg6 harg6 arg7 harg7 arg8 harg8 arg9 harg9 arg10 harg10 arg11 harg11 arg12 harg12 arg13 harg13 arg14 harg14 arg15 harg15 arg16 harg16 hi h2 h3 h4 x s y7 y8 y9 y10 E K

end Cert.KernelIdeal.Attn

end
-- ==== Proof.Attention.Body.lean ====
/- The attention backward's pipeline: what the scratch holds point by point, what each window is left at, and the
   body's obligation at every point. -/
module

public import proofs.«01_k».proof.Proof.Attention.Point
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-- The blocks the windows stage at a point. -/
def blocks (c : Dev nD) (t : Fin cfg0.N) : Blocks F :=
  ⟨iblk m c 0 t, iblk m c 1 t, iblk m c 2 t, iblk m c 3 t, iblk m c 4 t, iblk m c 5 t, iblk m c 6 t⟩

/-- The scratch before point `n` (before the first point it holds anything; the first point zeroes it). -/
def accAt (c : Dev nD) : ℕ → Acc F
  | 0 => accZero
  | n + 1 => if h : n < cfg0.N then accStep (grid0.coords ⟨n, h⟩) (blocks m c ⟨n, h⟩) (accAt c n) else accAt c n

theorem accAt_succ (c : Dev nD) (t : Fin cfg0.N) :
    accAt m c (t.val + 1) = accStep (grid0.coords t) (blocks m c t) (accAt m c t.val) := by
  rw [accAt, dif_pos t.isLt]

/-- The invariant before point `n`: the scratch at `accAt`, at anything before the first point. -/
def inv (c : Dev nD) (n : ℕ) : sProp (MT nD τ sig Unit (Elt F) ℕ (UR sig nD τ) ℕ) :=
  if n = 0 then Pipeline.ΦA spec0 c
  else iprop((owns (c : Thread nD τ) (Memref.whole cc0_scratch0) fullShare (accAt m c n).dk
      ∗ owns (c : Thread nD τ) (Memref.whole cc0_scratch1) fullShare (accAt m c n).dv
      ∗ owns (c : Thread nD τ) (Memref.whole cc0_scratch2) fullShare (accAt m c n).dc) ∗ (∃ r, prngReg c r))

theorem rest_eq (c : Dev nD) :
    (Pipeline.ΦA spec0 c : sProp (MT nD τ sig Unit (Elt F) ℕ (UR sig nD τ) ℕ))
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The exact part of the proof data: the arrays as the region finds them, and each input's window left at its block. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ t := inv m c t.val
  q _ := fullShare
  owed _ := 0

/-- The outputs' windows: what a point leaves in each, from what it finds there. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => none
  | ⟨6, _⟩ => none
  | ⟨7, _⟩ => some fun t (Y X : Vec F S384x128 .f32) => X = outDkNew (grid0.coords t) (blocks m c t) (accAt m c t.val) Y
  | ⟨8, _⟩ => some fun t (Y X : Vec F S384x128 .f32) => X = outDvNew (grid0.coords t) (blocks m c t) (accAt m c t.val) Y
  | ⟨9, _⟩ => some fun t (Y X : Vec F S1x8x384 .f32) => X = outDcNew (grid0.coords t) (blocks m c t) (accAt m c t.val) Y
  | ⟨10, _⟩ => some fun t (Y X : Vec F S4224x128 .f32) => X = rowsStep (grid0.coords t) (blocks m c t) Y

/-- The proof data: what each window may be left at, from what it was found at. -/
def rdat (c : Dev nD) : Pipeline.RDat τ (Elt F) Unit ℕ (UR sig nD τ) ℕ cfg0 c := (dat m c).toR.override (ovr m c)

theorem A_eq (c : Dev nD) (w : Fin cfg0.W) : (rdat m c).A w = V m c (Pipeline.arrRef spec0 w) := by
  unfold rdat; rw [Pipeline.RDat.override_A, Dat.toR_A]; dsimp only [dat]

theorem inv_castSucc (c : Dev nD) (t : Fin cfg0.N) : (rdat m c).Φ t.castSucc = inv m c t.val := by
  unfold rdat; rw [Pipeline.RDat.override_Φ, Dat.toR_Φ]; dsimp only [dat, Fin.val_castSucc]

theorem inv_succ (c : Dev nD) (t : Fin cfg0.N) : (rdat m c).Φ t.succ = inv m c (t.val + 1) := by
  unfold rdat; rw [Pipeline.RDat.override_Φ, Dat.toR_Φ]; dsimp only [dat, Fin.val_succ]

theorem finds_0 (c : Dev nD) (t : Fin cfg0.N) (Y) (h : (rdat m c).Finds 0 t Y) : Y = iblk m c 0 t := by
  obtain ⟨d, rfl⟩ := (dat m c).toR_finds 0 t Y ((Pipeline.RDat.finds_congr (A_eq m c 0) (Pipeline.RDat.override_after_of_eq_none (dat m c).toR (ovr := ovr m c) (w := 0) rfl) t Y).mp h)
  exact before0_0_of m (dat m c) (A_eq m c 0) (fun t => by dsimp only [dat]) t d
theorem after_0 (c : Dev nD) (t : Fin cfg0.N) (Y) : (rdat m c).after 0 t Y (iblk m c 0 t) := by
  unfold rdat; rw [Pipeline.RDat.override_after_of_eq_none (dat m c).toR (ovr := ovr m c) (w := 0) rfl]
  exact (Dat.Leaves.live_iff (dat m c) (w := 0) (t := t) (.inl rfl)).mpr (by dsimp only [dat])

theorem finds_1 (c : Dev nD) (t : Fin cfg0.N) (Y) (h : (rdat m c).Finds 1 t Y) : Y = iblk m c 1 t := by
  obtain ⟨d, rfl⟩ := (dat m c).toR_finds 1 t Y ((Pipeline.RDat.finds_congr (A_eq m c 1) (Pipeline.RDat.override_after_of_eq_none (dat m c).toR (ovr := ovr m c) (w := 1) rfl) t Y).mp h)
  exact before0_1_of m (dat m c) (A_eq m c 1) (fun t => by dsimp only [dat]) t d
theorem after_1 (c : Dev nD) (t : Fin cfg0.N) (Y) : (rdat m c).after 1 t Y (iblk m c 1 t) := by
  unfold rdat; rw [Pipeline.RDat.override_after_of_eq_none (dat m c).toR (ovr := ovr m c) (w := 1) rfl]
  exact (Dat.Leaves.live_iff (dat m c) (w := 1) (t := t) (.inl rfl)).mpr (by dsimp only [dat])

theorem finds_2 (c : Dev nD) (t : Fin cfg0.N) (Y) (h : (rdat m c).Finds 2 t Y) : Y = iblk m c 2 t := by
  obtain ⟨d, rfl⟩ := (dat m c).toR_finds 2 t Y ((Pipeline.RDat.finds_congr (A_eq m c 2) (Pipeline.RDat.override_after_of_eq_none (dat m c).toR (ovr := ovr m c) (w := 2) rfl) t Y).mp h)
  exact before0_2_of m (dat m c) (A_eq m c 2) (fun t => by dsimp only [dat]) t d
theorem after_2 (c : Dev nD) (t : Fin cfg0.N) (Y) : (rdat m c).after 2 t Y (iblk m c 2 t) := by
  unfold rdat; rw [Pipeline.RDat.override_after_of_eq_none (dat m c).toR (ovr := ovr m c) (w := 2) rfl]
  exact (Dat.Leaves.live_iff (dat m c) (w := 2) (t := t) (.inl rfl)).mpr (by dsimp only [dat])

theorem finds_3 (c : Dev nD) (t : Fin cfg0.N) (Y) (h : (rdat m c).Finds 3 t Y) : Y = iblk m c 3 t := by
  obtain ⟨d, rfl⟩ := (dat m c).toR_finds 3 t Y ((Pipeline.RDat.finds_congr (A_eq m c 3) (Pipeline.RDat.override_after_of_eq_none (dat m c).toR (ovr := ovr m c) (w := 3) rfl) t Y).mp h)
  exact before0_3_of m (dat m c) (A_eq m c 3) (fun t => by dsimp only [dat]) t d
theorem after_3 (c : Dev nD) (t : Fin cfg0.N) (Y) : (rdat m c).after 3 t Y (iblk m c 3 t) := by
  unfold rdat; rw [Pipeline.RDat.override_after_of_eq_none (dat m c).toR (ovr := ovr m c) (w := 3) rfl]
  exact (Dat.Leaves.live_iff (dat m c) (w := 3) (t := t) (.inl rfl)).mpr (by dsimp only [dat])

theorem finds_4 (c : Dev nD) (t : Fin cfg0.N) (Y) (h : (rdat m c).Finds 4 t Y) : Y = iblk m c 4 t := by
  obtain ⟨d, rfl⟩ := (dat m c).toR_finds 4 t Y ((Pipeline.RDat.finds_congr (A_eq m c 4) (Pipeline.RDat.override_after_of_eq_none (dat m c).toR (ovr := ovr m c) (w := 4) rfl) t Y).mp h)
  exact before0_4_of m (dat m c) (A_eq m c 4) (fun t => by dsimp only [dat]) t d
theorem after_4 (c : Dev nD) (t : Fin cfg0.N) (Y) : (rdat m c).after 4 t Y (iblk m c 4 t) := by
  unfold rdat; rw [Pipeline.RDat.override_after_of_eq_none (dat m c).toR (ovr := ovr m c) (w := 4) rfl]
  exact (Dat.Leaves.live_iff (dat m c) (w := 4) (t := t) (.inl rfl)).mpr (by dsimp only [dat])

theorem finds_5 (c : Dev nD) (t : Fin cfg0.N) (Y) (h : (rdat m c).Finds 5 t Y) : Y = iblk m c 5 t := by
  obtain ⟨d, rfl⟩ := (dat m c).toR_finds 5 t Y ((Pipeline.RDat.finds_congr (A_eq m c 5) (Pipeline.RDat.override_after_of_eq_none (dat m c).toR (ovr := ovr m c) (w := 5) rfl) t Y).mp h)
  exact before0_5_of m (dat m c) (A_eq m c 5) (fun t => by dsimp only [dat]) t d
theorem after_5 (c : Dev nD) (t : Fin cfg0.N) (Y) : (rdat m c).after 5 t Y (iblk m c 5 t) := by
  unfold rdat; rw [Pipeline.RDat.override_after_of_eq_none (dat m c).toR (ovr := ovr m c) (w := 5) rfl]
  exact (Dat.Leaves.live_iff (dat m c) (w := 5) (t := t) (.inl rfl)).mpr (by dsimp only [dat])

theorem finds_6 (c : Dev nD) (t : Fin cfg0.N) (Y) (h : (rdat m c).Finds 6 t Y) : Y = iblk m c 6 t := by
  obtain ⟨d, rfl⟩ := (dat m c).toR_finds 6 t Y ((Pipeline.RDat.finds_congr (A_eq m c 6) (Pipeline.RDat.override_after_of_eq_none (dat m c).toR (ovr := ovr m c) (w := 6) rfl) t Y).mp h)
  exact before0_6_of m (dat m c) (A_eq m c 6) (fun t => by dsimp only [dat]) t d
theorem after_6 (c : Dev nD) (t : Fin cfg0.N) (Y) : (rdat m c).after 6 t Y (iblk m c 6 t) := by
  unfold rdat; rw [Pipeline.RDat.override_after_of_eq_none (dat m c).toR (ovr := ovr m c) (w := 6) rfl]
  exact (Dat.Leaves.live_iff (dat m c) (w := 6) (t := t) (.inl rfl)).mpr (by dsimp only [dat])

theorem after_7 (c : Dev nD) (t : Fin cfg0.N) : (rdat m c).after 7 t = fun Y X => X = outDkNew (grid0.coords t) (blocks m c t) (accAt m c t.val) Y := by
  unfold rdat; rw [Pipeline.RDat.override_after_of_eq_some (dat m c).toR (ovr := ovr m c) (w := 7) rfl]

theorem after_8 (c : Dev nD) (t : Fin cfg0.N) : (rdat m c).after 8 t = fun Y X => X = outDvNew (grid0.coords t) (blocks m c t) (accAt m c t.val) Y := by
  unfold rdat; rw [Pipeline.RDat.override_after_of_eq_some (dat m c).toR (ovr := ovr m c) (w := 8) rfl]

theorem after_9 (c : Dev nD) (t : Fin cfg0.N) : (rdat m c).after 9 t = fun Y X => X = outDcNew (grid0.coords t) (blocks m c t) (accAt m c t.val) Y := by
  unfold rdat; rw [Pipeline.RDat.override_after_of_eq_some (dat m c).toR (ovr := ovr m c) (w := 9) rfl]

theorem after_10 (c : Dev nD) (t : Fin cfg0.N) : (rdat m c).after 10 t = fun Y X => X = rowsStep (grid0.coords t) (blocks m c t) Y := by
  unfold rdat; rw [Pipeline.RDat.override_after_of_eq_some (dat m c).toR (ovr := ovr m c) (w := 10) rfl]

/-- What a point may have found the scratch at: what the point before left, or anything at the first. -/
theorem inv_open (c : Dev nD) (t : Fin cfg0.N) :
    inv m c t.val ⊢ iprop(∃ s : Acc F, ⌜accStep (grid0.coords t) (blocks m c t) s = accStep (grid0.coords t) (blocks m c t) (accAt m c t.val)⌝
      ∗ (owns (c : Thread nD τ) (Memref.whole cc0_scratch0) fullShare s.dk ∗ owns (c : Thread nD τ) (Memref.whole cc0_scratch1) fullShare s.dv
      ∗ owns (c : Thread nD τ) (Memref.whole cc0_scratch2) fullShare s.dc) ∗ (∃ r, prngReg c r)) := by
  unfold inv
  by_cases h : t.val = 0
  · rw [if_pos h, rest_eq]
    iintro ⟨⟨⟨%d0, H0⟩, ⟨%d1, H1⟩, ⟨%d2, H2⟩⟩, Hg⟩
    iexists (⟨d0, d1, d2⟩ : Acc F)
    isplitr
    · ipureintro
      have e2 : (grid0.coords t 2).val = t.val / 1 % 11 := Pipeline.Grid.coords_val t 2 (by decide) rfl
      exact accStep_of_first _ _ _ _ (by rw [e2, h])
    isplitr [Hg]
    · isplitl [H0]; · iexact H0
      isplitl [H1]; · iexact H1
      iexact H2
    iexact Hg
  · rw [if_neg h]
    iintro ⟨H, Hg⟩
    iexists (accAt m c t.val)
    isplitr
    · ipureintro; rfl
    isplitl [H]; · iexact H
    iexact Hg

/-- The body table's row at point `t` is the body on the point's buffers. -/
theorem row_eq (t : Fin cfg0.N) : defs₀ (F := F) .tc cfg0.body (cfg0.bodyArgs t (cfg0.slots t)) = bodyAt0 t := by
  unfold defs₀; rw [Defs.onTc_tc]

set_option maxHeartbeats 4000000 in
/-- The body's obligation at every point. -/
theorem obligation (c : Dev nD) : (rdat m c).BodyObligation (defs₀ (F := F)) Variants.none () Set.univ := by
  intro t Y hY
  rw [bigSep_W0, bigSep_W0, row_eq, inv_castSucc, inv_succ]
  rw [finds_0 m c t (Y 0) (hY 0), finds_1 m c t (Y 1) (hY 1), finds_2 m c t (Y 2) (hY 2), finds_3 m c t (Y 3) (hY 3), finds_4 m c t (Y 4) (hY 4), finds_5 m c t (Y 5) (hY 5), finds_6 m c t (Y 6) (hY 6)]
  rw [show (rdat m c).owesAt () t.succ = (rdat m c).owesAt () t.castSucc from rfl]
  iintro ⟨HΦ, Ho, H0, H1, H2, H3, H4, H5, H6, H7, H8, H9, H10⟩
  ihave HΦ := inv_open m c t $$ HΦ
  icases HΦ with ⟨%s, %hs, ⟨S0, S1, S2⟩, Hg⟩
  unfold bodyAt0
  iapply (run_point c (grid0.coords t) _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (blocks m c t) s (Y 7) (Y 8) (Y 9) (Y 10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  iintro ⟨H0, H1, H2, H3, H4, H5, H6, H7, H8, H9, H10, S0, S1, S2⟩
  isplitl [S0 S1 S2 Hg]
  · unfold inv
    rw [if_neg (Nat.succ_ne_zero _), accAt_succ, ← hs]
    isplitr [Hg]
    · isplitl [S0]; · iexact S0
      isplitl [S1]; · iexact S1
      iexact S2
    iexact Hg
  isplitl [Ho]; · iexact Ho
  isplitl [H0]
  · iexists _; isplitr; swap; · iexact H0
    ipureintro; exact after_0 m c t _
  isplitl [H1]
  · iexists _; isplitr; swap; · iexact H1
    ipureintro; exact after_1 m c t _
  isplitl [H2]
  · iexists _; isplitr; swap; · iexact H2
    ipureintro; exact after_2 m c t _
  isplitl [H3]
  · iexists _; isplitr; swap; · iexact H3
    ipureintro; exact after_3 m c t _
  isplitl [H4]
  · iexists _; isplitr; swap; · iexact H4
    ipureintro; exact after_4 m c t _
  isplitl [H5]
  · iexists _; isplitr; swap; · iexact H5
    ipureintro; exact after_5 m c t _
  isplitl [H6]
  · iexists _; isplitr; swap; · iexact H6
    ipureintro; exact after_6 m c t _
  isplitl [H7]
  · iexists _; isplitr; swap; · iexact H7
    ipureintro; rw [after_7]; show outDkNew _ _ _ _ = outDkNew _ _ _ _; unfold outDkNew; rw [hs]
  isplitl [H8]
  · iexists _; isplitr; swap; · iexact H8
    ipureintro; rw [after_8]; show outDvNew _ _ _ _ = outDvNew _ _ _ _; unfold outDvNew; rw [hs]
  isplitl [H9]
  · iexists _; isplitr; swap; · iexact H9
    ipureintro; rw [after_9]; show outDcNew _ _ _ _ = outDcNew _ _ _ _; unfold outDcNew; rw [hs]
  iexists _; isplitr; swap; · iexact H10
  ipureintro; rw [after_10]

end Cert.KernelIdeal.Attn

end
-- ==== Proof.Attention.Frame.lean ====
/- The attention backward's run from launch to end, at any float interpretation, and its frame. -/
module

public import proofs.«01_k».proof.Proof.Attention.Body

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

theorem inv_first (c : Dev nD) : Pipeline.ΦA spec0 c ⊢ (rdat m c).Φ 0 := by
  unfold rdat; rw [Pipeline.RDat.override_Φ, Dat.toR_Φ]; dsimp only [dat]
  unfold inv; rw [if_pos (show (0 : Fin (cfg0.N + 1)).val = 0 from rfl)]

theorem inv_last (c : Dev nD) : (rdat m c).Φ (Fin.last cfg0.N) ⊢ Pipeline.ΦA spec0 c := by
  have hN : (Fin.last cfg0.N).val ≠ 0 := by rw [Fin.val_last]; have : cfg0.N = 968 := N_0; omega
  unfold rdat; rw [Pipeline.RDat.override_Φ, Dat.toR_Φ]; dsimp only [dat]
  unfold inv; rw [if_neg hN, rest_eq]
  iintro ⟨⟨H0, H1, H2⟩, Hg⟩
  isplitr [Hg]
  · isplitl [H0]; · iexists _; iexact H0
    isplitl [H1]; · iexists _; iexact H1
    iexists _; iexact H2
  iexact Hg

theorem share_full (c : Dev nD) (w : Fin cfg0.W) : (rdat m c).share w = fullShare := by
  unfold rdat; rw [Pipeline.RDat.override_share, Dat.toR_share]; exact (dat m c).share_full (fun _ => rfl) w

theorem owed_zero (c : Dev nD) (t) : (rdat m c).owed t = 0 := by
  unfold rdat; rw [Pipeline.RDat.override_owed, Dat.toR_owed]; dsimp only [dat]

set_option backward.isDefEq.respectTransparency.types false in
/-- Every fair execution ends, with every array at contents the proof data admits and every counter at zero. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := obligation m) (hshare := share_full m) (howed := owed_zero m) (V := V m) (hmain := hmain m Variants.none)
    (hA := A_eq m) (hin := inv_first m) (hout := inv_last m)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => ⟨((hr.1.arr_in c 0 rfl).trans (A_eq m c 0)).trans (V_main_arg0 m c),
    ((hr.1.arr_in c 1 rfl).trans (A_eq m c 1)).trans (V_main_arg1 m c),
    ((hr.1.arr_in c 2 rfl).trans (A_eq m c 2)).trans (V_main_arg2 m c),
    ((hr.1.arr_in c 3 rfl).trans (A_eq m c 3)).trans (V_main_arg3 m c),
    ((hr.1.arr_in c 6 rfl).trans (A_eq m c 6)).trans (V_main_arg4 m c)⟩, hr.2⟩) (run_main m ρ)

end Cert.KernelIdeal.Attn

end
-- ==== Proof.Attention.Claims.lean ====
/- The attention backward's frames, as claimed. The two programs are one text, so one run proves both. -/
module

public import proofs.«01_k».proof.Defs
public import proofs.«01_k».proof.Proof.Gen.Kernel
public import proofs.«01_k».proof.Proof.Attention.Frame

@[expose] public section

noncomputable section

namespace Cert.KernelIdeal.Attn

open Idealize.ShloMosaic Idealize.ShloMosaic.TcCoe Idealize.ShloMosaic.Tactic Idealize.SL.Sem

attribute [local instance] Cert.Kernel.Gen.facts Cert.KernelIdeal.Gen.facts

theorem frame_ideal : Cert.quiescent_KernelIdeal := fun m ρ _ => frame (F := Ideal) m ρ

/-- The frame over machine floats, spelled with the second program's names. -/
def FrameBits : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0)

theorem frameBits_eq : Cert.quiescent_Kernel = FrameBits := by sl_kernel_rfl

theorem frame_kernel : Cert.quiescent_Kernel := by
  rw [frameBits_eq]; exact fun m ρ _ => frame (F := Bits) m ρ

end Cert.KernelIdeal.Attn

end
-- ==== Proof.Attention.Reference.lean ====
/- The reference of the attention's gradient runs to its end, leaves its arguments alone and ends with no signal standing. -/
module

public import proofs.«01_k».proof.Defs
public import proofs.«01_k».proof.Proof.Gen.ReferenceIdeal.Run
public import Idealize.ShloMosaic.Lib.Quiescent

@[expose] public section

open Idealize.ShloMosaic Idealize.ShloMosaic.TcCoe Idealize.SL.Sem

namespace Cert.KernelIdeal.Attn

theorem frame_ref : Cert.quiescent_ReferenceIdeal := fun m' g' _ =>
  (θ_run Cert.ReferenceIdeal.defs _ _).mono
    (fun r h => ⟨fun c => (h c).2.2.2.2, sem_eq_zero_of_no_sems rfl r.2⟩)
    (Cert.ReferenceIdeal.Value.run (F := Ideal) m' g')

end Cert.KernelIdeal.Attn
-- ==== Proof.Attention.Spec.lean ====
/- The attention's gradients as sums of real numbers: what both programs compute when their arguments are finite.
   Rows and columns are natural numbers; the columns of head `h` are `64 h …`, and the first 112 rows are padding. -/
module

public import Idealize.ShloMosaic.Lib.Pointwise
public import Idealize.ShloMosaic.Lib.IdealHost
public import Mathlib.Analysis.SpecialFunctions.Log.Basic

@[expose] public section

noncomputable section

namespace Cert.Fox

open Idealize.ShloMosaic

/-- A sum of real numbers is the same sum among the extended reals. -/
theorem coe_sum {n : ℕ} (f : Fin n → ℝ) : ∑ k, ((f k : ℝ) : EReal) = ((∑ k, f k : ℝ) : EReal) :=
  (map_sum (⟨⟨Real.toEReal, rfl⟩, EReal.coe_add⟩ : ℝ →+ EReal) f Finset.univ).symm

theorem ofBits_eighth : Ideal.ofBits .f32 0x3E000000#32 = (((1 : ℝ) / 8 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

/-- Dividing by a real number that is not zero. -/
theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- The arguments: queries, keys, values, the outputs' gradient, and each head's running sum of log forget gates. -/
structure Args where
  q : ℕ → ℕ → ℝ
  k : ℕ → ℕ → ℝ
  v : ℕ → ℕ → ℝ
  d : ℕ → ℕ → ℝ
  c : ℕ → ℕ → ℝ

namespace Args
variable (D : Args)

/-- The score of query row `a` against key row `b`. -/
def sc (h a b : ℕ) : ℝ := (∑ l : Fin 64, D.q a (h * 64 + l) * D.k b (h * 64 + l)) * (1 / 8) + D.c h a - D.c h b
/-- The weight before it is divided by its row's sum. -/
def e (h a b : ℕ) : ℝ := if 112 ≤ b ∧ b ≤ a then Real.exp (D.sc h a b) else 0
def z (h a : ℕ) : ℝ := ∑ b : Fin 4112, D.e h a (112 + b)
/-- The weight of key row `b` for query row `a`. -/
def p (h a b : ℕ) : ℝ := D.e h a b / D.z h a
/-- The output of a row, at lane `l` of head `h`. -/
def o (h a l : ℕ) : ℝ := ∑ b : Fin 4112, D.v (112 + b) (h * 64 + l) * D.p h a (112 + b)
/-- The gradient of a weight. -/
def dp (h a b : ℕ) : ℝ := ∑ l : Fin 64, D.d a (h * 64 + l) * D.v b (h * 64 + l)
/-- The row's mean of the weights' gradients. -/
def mean (h a : ℕ) : ℝ := ∑ b : Fin 4112, D.dp h a (112 + b) * D.p h a (112 + b)
/-- The gradient of a score. -/
def ds (h a b : ℕ) : ℝ := D.p h a b * (D.dp h a b - D.mean h a)
def dv (h b l : ℕ) : ℝ := ∑ a : Fin 4112, D.d (112 + a) (h * 64 + l) * D.p h (112 + a) b
def dk (h b l : ℕ) : ℝ := ∑ a : Fin 4112, D.ds h (112 + a) b * (1 / 8) * D.q (112 + a) (h * 64 + l)
def dq (h a l : ℕ) : ℝ := ∑ b : Fin 4112, D.ds h a (112 + b) * (1 / 8) * D.k (112 + b) (h * 64 + l)
def dc (h b : ℕ) : ℝ := ∑ a : Fin 4112, -D.ds h (112 + a) b

theorem e_nonneg (h a b : ℕ) : 0 ≤ D.e h a b := by
  unfold e; split
  · exact (Real.exp_pos _).le
  · exact le_rfl

theorem z_pos (h : ℕ) (a : Fin 4112) : 0 < D.z h (112 + a) := by
  refine Finset.sum_pos' (fun b _ => D.e_nonneg _ _ _) ⟨a, Finset.mem_univ _, ?_⟩
  rw [e, if_pos ⟨by omega, le_rfl⟩]
  exact Real.exp_pos _

theorem p_of_not (h a b : ℕ) (hb : ¬(112 ≤ b ∧ b ≤ a)) : D.p h a b = 0 := by
  rw [p, e, if_neg hb, zero_div]

theorem sum_p (h : ℕ) (a : Fin 4112) : ∑ b : Fin 4112, D.p h (112 + a) (112 + b) = 1 := by
  simp only [p, ← Finset.sum_div]
  exact div_self (D.z_pos h a).ne'

/-- The gradients of a row's scores sum to zero. -/
theorem sum_ds (h : ℕ) (a : Fin 4112) : ∑ b : Fin 4112, D.ds h (112 + a) (112 + b) = 0 := by
  simp only [ds, mul_sub, Finset.sum_sub_distrib, ← Finset.sum_mul, sum_p, one_mul]
  rw [mean, sub_eq_zero]
  exact Finset.sum_congr rfl fun b _ => mul_comm _ _

/-- The mean is the row's output times its gradient. -/
theorem mean_eq (h a : ℕ) : D.mean h a = ∑ l : Fin 64, D.d a (h * 64 + l) * D.o h a l := by
  simp only [mean, dp, o, Finset.sum_mul, Finset.mul_sum]
  rw [Finset.sum_comm]
  exact Finset.sum_congr rfl fun l _ => Finset.sum_congr rfl fun b _ => mul_assoc _ _ _

/-- The weights do not depend on what is taken off a row's scores. -/
theorem p_shift (h : ℕ) (a : ℕ) (M : ℝ) (b : ℕ) (hb : 112 ≤ b ∧ b ≤ a) :
    Real.exp (D.sc h a b - M) / (D.z h a * Real.exp (-M)) = D.p h a b := by
  rw [p, e, if_pos hb, sub_eq_add_neg, Real.exp_add, mul_div_mul_right _ _ (Real.exp_pos _).ne']

theorem z_shift (h : ℕ) (a : ℕ) (M : ℝ) :
    ∑ b : Fin 4112, (if (b : ℕ) + 112 ≤ a then Real.exp (D.sc h a (112 + b) - M) else 0) = D.z h a * Real.exp (-M) := by
  rw [z, Finset.sum_mul]
  refine Finset.sum_congr rfl fun b _ => ?_
  unfold e
  by_cases hb : (b : ℕ) + 112 ≤ a
  · rw [if_pos hb, if_pos ⟨by omega, by omega⟩, sub_eq_add_neg, Real.exp_add]
  · rw [if_neg hb, if_neg (by omega), zero_mul]

end Args
end Cert.Fox

end
-- ==== Proof.Attention.RefStages.lean ====
/- The reference's arrays, named one by one. -/
module

public import proofs.«01_k».proof.Proof.Gen.ReferenceIdeal.Run
public import proofs.«01_k».proof.Proof.Attention.Spec

@[expose] public section

set_option maxRecDepth 16384

noncomputable section

namespace Cert.Fox.Ref

open Idealize.ShloMosaic Idealize.ShloMosaic.TcCoe Idealize.SL.Sem
open Cert.ReferenceIdeal Cert.ReferenceIdeal.Gen Cert.ReferenceIdeal.Value Idealize.ShloMosaic.StableHlo

variable (X0 X1 : FVec Ideal S4224x1024 .bf16) (X2 : FVec Ideal S4224x1024 .f32) (X3 : FVec Ideal S128x4224 .f32) (X4 : FVec Ideal S4224x1024 .f32)

/-- The queries, row by head by lane. -/
def qR : FVec Ideal S4112x16x64 .f32 := shapeCast _ (extf .f32 (extractStridedSlice S4112x1024 ![112, 0] X0 slices_S4224x1024_S4112x1024_112_0) bitsLt_bf16_f32) shapeCasts_S4112x1024_S4112x16x64
/-- The keys. -/
def kR : FVec Ideal S4112x16x64 .f32 := shapeCast _ (extf .f32 (extractStridedSlice S4112x1024 ![112, 0] X1 slices_S4224x1024_S4112x1024_112_0) bitsLt_bf16_f32) shapeCasts_S4112x1024_S4112x16x64
/-- The values. -/
def vR : FVec Ideal S4112x16x64 .f32 := shapeCast _ (extractStridedSlice S4112x1024 ![112, 0] X2 slices_S4224x1024_S4112x1024_112_0) shapeCasts_S4112x1024_S4112x16x64
/-- The outputs' gradients. -/
def dR : FVec Ideal S4112x16x64 .f32 := shapeCast _ (extractStridedSlice S4112x1024 ![112, 0] X4 slices_S4224x1024_S4112x1024_112_0) shapeCasts_S4112x1024_S4112x16x64
/-- The heads' running sums of log forget gates. -/
def cR : FVec Ideal S16x4112 .f32 := extractStridedSlice S16x4112 ![0, 112] X3 slices_S128x4224_S16x4112_0_112
/-- Whether a key comes no later than its query. -/
def maskR : IVec S16x4112x4112 1 := broadcastInDim S16x4112x4112 ![1, 2] bcast_S4112x4112_S16x4112x4112_1_2 (cmpi .sge (broadcastInDim S4112x4112 ![0, 1] bcast_S4112x1_S4112x4112_0_1 (broadcastInDim S4112x1 ![0] bcast_S4112_S4112x1_0 (iotaInDim S4112 32 0))) (broadcastInDim S4112x4112 ![0, 1] bcast_S1x4112_S4112x4112_0_1 (broadcastInDim S1x4112 ![1] bcast_S4112_S1x4112_1 (iotaInDim S4112 32 0))))
/-- The scores. -/
def scR : FVec Ideal S16x4112x4112 .f32 := subf (addf (mulf (Host.dotGeneral dot_S4112x16x64_S4112x16x64_S16x4112x4112_2_2_0_0_1_1 none (qR X0) (kR X1)) (broadcastInDim S16x4112x4112 ![] bcast_S_S16x4112x4112 (constant S_ .f32 0x3E000000#32))) (broadcastInDim S16x4112x4112 ![0, 1, 2] bcast_S16x4112x1_S16x4112x4112_0_1_2 (broadcastInDim S16x4112x1 ![0, 1] bcast_S16x4112_S16x4112x1_0_1 (cR X3)))) (broadcastInDim S16x4112x4112 ![0, 1, 2] bcast_S16x1x4112_S16x4112x4112_0_1_2 (broadcastInDim S16x1x4112 ![0, 2] bcast_S16x4112_S16x1x4112_0_2 (cR X3)))
/-- The scores, the later keys masked. -/
def smR : FVec Ideal S16x4112x4112 .f32 := select maskR (scR X0 X1 X3) (broadcastInDim S16x4112x4112 ![] bcast_S_S16x4112x4112 (id (constant S_ .f32 0xFF800000#32)))
/-- Each row's largest score. -/
def mxR : FVec Ideal S16x4112 .f32 := maximumf (broadcastInDim S16x4112 ![] bcast_S_S16x4112 (constant S_ .f32 0xFF800000#32)) (Host.reduce FloatOps.maximumf (smR X0 X1 X3) (constant S_ .f32 0xFF800000#32) reducesTo_S16x4112x4112_S16x4112_d2 h_S_)
/-- The weights before division. -/
def eR : FVec Ideal S16x4112x4112 .f32 := Host.exp (subf (smR X0 X1 X3) (broadcastInDim S16x4112x4112 ![0, 1, 2] bcast_S16x4112x1_S16x4112x4112_0_1_2 (broadcastInDim S16x4112x1 ![0, 1] bcast_S16x4112_S16x4112x1_0_1 (mxR X0 X1 X3))))
/-- Each row's sum of weights. -/
def zR : FVec Ideal S16x4112 .f32 := Host.reduceAdd (eR X0 X1 X3) (constant S_ .f32 0x00000000#32) reducesTo_S16x4112x4112_S16x4112_d2 h_S_
/-- The same, as a column. -/
def z3R : FVec Ideal S16x4112x1 .f32 := broadcastInDim S16x4112x1 ![0, 1] bcast_S16x4112_S16x4112x1_0_1 (zR X0 X1 X3)
/-- The outputs' gradients, head by lane by row. -/
def dtR : FVec Ideal S16x64x4112 .f32 := transpose S16x64x4112 [1, 2, 0] (dR X4) transposes_S4112x16x64_S16x64x4112_1_2_0
/-- The weights. -/
def pR : FVec Ideal S16x4112x4112 .f32 := Host.divf (eR X0 X1 X3) (broadcastInDim S16x4112x4112 ![0, 1, 2] bcast_S16x4112x1_S16x4112x4112_0_1_2 (z3R X0 X1 X3))
/-- The weights' gradients. -/
def dpR : FVec Ideal S16x4112x4112 .f32 := Host.dotGeneral dot_S16x64x4112_S4112x16x64_S16x4112x4112_1_2_2_0_0_1 none (dtR X4) (vR X2)
/-- The terms of the rows' means. -/
def hR : FVec Ideal S16x4112x4112 .f32 := mulf (mulf (dpR X2 X4) (broadcastInDim S16x4112x4112 ![0, 1, 2] bcast_S16x4112x1_S16x4112x4112_0_1_2 (Host.divf (broadcastInDim S16x4112x1 ![] bcast_S_S16x4112x1 (constant S_ .f32 0x3F800000#32)) (mulf (z3R X0 X1 X3) (z3R X0 X1 X3))))) (eR X0 X1 X3)
/-- The rows' means, over their sums. -/
def gR : FVec Ideal S16x4112 .f32 := Host.reduceAdd (hR X0 X1 X2 X3 X4) (constant S_ .f32 0x00000000#32) reducesTo_S16x4112x4112_S16x4112_d2 h_S_
/-- The same with the sign turned. -/
def ngR : FVec Ideal S16x4112 .f32 := Host.reduceAdd (Host.negf (shapeCast _ (gR X0 X1 X2 X3 X4) shapeCasts_S16x4112_S16x4112x1)) (constant S_ .f32 0x00000000#32) reducesTo_S16x4112x1_S16x4112_d2 h_S_
/-- The scores' gradients. -/
def dsR : FVec Ideal S16x4112x4112 .f32 := select maskR (mulf (addf (Host.divf (dpR X2 X4) (broadcastInDim S16x4112x4112 ![0, 1, 2] bcast_S16x4112x1_S16x4112x4112_0_1_2 (z3R X0 X1 X3))) (broadcastInDim S16x4112x4112 ![0, 1] bcast_S16x4112_S16x4112x4112_0_1 (ngR X0 X1 X2 X3 X4))) (eR X0 X1 X3)) (broadcastInDim S16x4112x4112 ![] bcast_S_S16x4112x4112 (constant S_ .f32 0x00000000#32))
/-- The same, scaled. -/
def dssR : FVec Ideal S16x4112x4112 .f32 := mulf (dsR X0 X1 X2 X3 X4) (broadcastInDim S16x4112x4112 ![] bcast_S_S16x4112x4112 (constant S_ .f32 0x3E000000#32))
/-- The keys' gradients, by head. -/
def dk3R : FVec Ideal S16x4112x64 .f32 := Host.dotGeneral dot_S16x4112x4112_S4112x16x64_S16x4112x64_1_0_2_2_0_1 none (dssR X0 X1 X2 X3 X4) (qR X0)
/-- The queries' gradients, by head. -/
def dq3R : FVec Ideal S16x4112x64 .f32 := Host.dotGeneral dot_S16x4112x4112_S4112x16x64_S16x4112x64_2_0_1_2_0_1 none (dssR X0 X1 X2 X3 X4) (kR X1)
/-- The values' gradients, by head. -/
def dv3R : FVec Ideal S16x64x4112 .f32 := Host.dotGeneral dot_S16x64x4112_S16x4112x4112_S16x64x4112_2_1_1_2_0_0 none (dtR X4) (pR X0 X1 X3)
/-- The key side of the biases' gradients. -/
def dcaR : FVec Ideal S16x4112 .f32 := Host.reduceAdd (Host.negf (dsR X0 X1 X2 X3 X4)) (constant S_ .f32 0x00000000#32) reducesTo_S16x4112x4112_S16x4112_d1 h_S_
/-- The query side of the biases' gradients. -/
def dcbR : FVec Ideal S16x4112 .f32 := Host.reduceAdd (dsR X0 X1 X2 X3 X4) (constant S_ .f32 0x00000000#32) reducesTo_S16x4112x4112_S16x4112_d2 h_S_
/-- The biases' gradients. -/
def dcR : FVec Ideal S16x4112 .f32 := addf (Host.reduceAdd (shapeCast _ (dcaR X0 X1 X2 X3 X4) shapeCasts_S16x4112_S16x1x4112) (constant S_ .f32 0x00000000#32) reducesTo_S16x1x4112_S16x4112_d1 h_S_) (Host.reduceAdd (shapeCast _ (dcbR X0 X1 X2 X3 X4) shapeCasts_S16x4112_S16x4112x1) (constant S_ .f32 0x00000000#32) reducesTo_S16x4112x1_S16x4112_d2 h_S_)
/-- The keys' gradients, as returned. -/
def outDkR : FVec Ideal S4224x1024 .f32 := pad S4224x1024 ![112, 0] ![0, 0] ![0, 0] (shapeCast _ (transpose S4112x16x64 [1, 0, 2] (dk3R X0 X1 X2 X3 X4) transposes_S16x4112x64_S4112x16x64_1_0_2) shapeCasts_S4112x16x64_S4112x1024) (sitofp .f32 (constantI S_ 32 0#32)) pads_S4112x1024_S4224x1024_11200_000 h_S_
/-- The values' gradients, as returned. -/
def outDvR : FVec Ideal S4224x1024 .f32 := pad S4224x1024 ![112, 0] ![0, 0] ![0, 0] (shapeCast _ (transpose S4112x16x64 [2, 0, 1] (dv3R X0 X1 X3 X4) transposes_S16x64x4112_S4112x16x64_2_0_1) shapeCasts_S4112x16x64_S4112x1024) (sitofp .f32 (constantI S_ 32 0#32)) pads_S4112x1024_S4224x1024_11200_000 h_S_
/-- The biases' gradients, as returned. -/
def outDcR : FVec Ideal S8x8x4224 .f32 := pad S8x8x4224 ![0, 0, 112] ![0, 6, 0] ![0, 0, 0] (shapeCast _ (dcR X0 X1 X2 X3 X4) shapeCasts_S16x4112_S8x2x4112) (sitofp .f32 (constantI S_ 32 0#32)) pads_S8x2x4112_S8x8x4224_000_060_11200 h_S_
/-- The queries' gradients, as returned. -/
def outDqR : FVec Ideal S4224x1024 .f32 := pad S4224x1024 ![112, 0] ![0, 0] ![0, 0] (shapeCast _ (transpose S4112x16x64 [1, 0, 2] (dq3R X0 X1 X2 X3 X4) transposes_S16x4112x64_S4112x16x64_1_0_2) shapeCasts_S4112x16x64_S4112x1024) (sitofp .f32 (constantI S_ 32 0#32)) pads_S4112x1024_S4224x1024_11200_000 h_S_

variable (m : (ℓ : Loc nD τ sig) → Buf (Elt Ideal) ℓ) (c : Dev nD)

theorem res_v92 : res_main_v92 (F := Ideal) m c = outDkR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem res_v94 : res_main_v94 (F := Ideal) m c = outDvR (m ((c.tc : Thread nD τ).loc main_arg0)) (m ((c.tc : Thread nD τ).loc main_arg1)) (m ((c.tc : Thread nD τ).loc main_arg3)) (m ((c.tc : Thread nD τ).loc main_arg4)) := rfl
theorem res_v90 : res_main_v90 (F := Ideal) m c = outDcR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem res_v96 : res_main_v96 (F := Ideal) m c = outDqR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.Fox.Ref

end
-- ==== Proof.Attention.RefScore.lean ====
/- The reference's arrays at finite arguments, read entry by entry: up to the scores. -/
module

public import proofs.«01_k».proof.Proof.Attention.RefStages
public import Idealize.ShloMosaic.Lib.WordCmp

@[expose] public section

set_option maxRecDepth 16384

noncomputable section

namespace Cert.Fox.Ref

open Idealize.ShloMosaic Idealize.ShloMosaic.TcCoe Idealize.SL.Sem
open Cert.ReferenceIdeal Cert.ReferenceIdeal.Gen

variable (X0 X1 : FVec Ideal S4224x1024 .bf16) (X2 : FVec Ideal S4224x1024 .f32) (X3 : FVec Ideal S128x4224 .f32) (X4 : FVec Ideal S4224x1024 .f32)

/-- The argument arrays hold the real numbers of `D`. -/
structure Holds (D : Args) : Prop where
  q : ∀ (a : Fin 4224) (l : Fin 1024), X0 (ix2 a l : S4224x1024.Idx) = ((D.q a l : ℝ) : EReal)
  k : ∀ (a : Fin 4224) (l : Fin 1024), X1 (ix2 a l : S4224x1024.Idx) = ((D.k a l : ℝ) : EReal)
  v : ∀ (a : Fin 4224) (l : Fin 1024), X2 (ix2 a l : S4224x1024.Idx) = ((D.v a l : ℝ) : EReal)
  c : ∀ (h : Fin 128) (a : Fin 4224), X3 (ix2 h a : S128x4224.Idx) = ((D.c h a : ℝ) : EReal)
  d : ∀ (a : Fin 4224) (l : Fin 1024), X4 (ix2 a l : S4224x1024.Idx) = ((D.d a l : ℝ) : EReal)

variable {X0 X1 X2 X3 X4} {D : Args} (H : Holds X0 X1 X2 X3 X4 D)
include H

theorem q_at (a : Fin 4112) (h : Fin 16) (l : Fin 64) : qR X0 (ix3 a h l) = ((D.q (112 + a) (h * 64 + l) : ℝ) : EReal) := by
  pointwise [qR, H.q]
theorem k_at (a : Fin 4112) (h : Fin 16) (l : Fin 64) : kR X1 (ix3 a h l) = ((D.k (112 + a) (h * 64 + l) : ℝ) : EReal) := by
  pointwise [kR, H.k]
theorem v_at (a : Fin 4112) (h : Fin 16) (l : Fin 64) : vR X2 (ix3 a h l) = ((D.v (112 + a) (h * 64 + l) : ℝ) : EReal) := by
  pointwise [vR, H.v]
theorem d_at (a : Fin 4112) (h : Fin 16) (l : Fin 64) : dR X4 (ix3 a h l) = ((D.d (112 + a) (h * 64 + l) : ℝ) : EReal) := by
  pointwise [dR, H.d]
theorem c_at (h : Fin 16) (a : Fin 4112) : cR X3 (ix2 h a) = ((D.c h (112 + a) : ℝ) : EReal) := by
  pointwise [cR, H.c]
theorem dt_at (h : Fin 16) (l : Fin 64) (a : Fin 4112) : dtR X4 (ix3 h l a) = ((D.d (112 + a) (h * 64 + l) : ℝ) : EReal) := by
  pointwise [dtR, d_at H]

theorem sc_at (h : Fin 16) (a b : Fin 4112) : scR X0 X1 X3 (ix3 h a b) = ((D.sc h (112 + a) (112 + b) : ℝ) : EReal) := by
  pointwise [scR, q_at H, k_at H, c_at H]
  simp only [ofBits_eighth, ← EReal.coe_mul, coe_sum, ← EReal.coe_add, ← EReal.coe_sub]
  rfl

theorem dp_at (h : Fin 16) (a b : Fin 4112) : dpR X2 X4 (ix3 h a b) = ((D.dp h (112 + a) (112 + b) : ℝ) : EReal) := by
  pointwise [dpR, dt_at H, v_at H]
  simp only [← EReal.coe_mul, coe_sum]
  rfl

omit H in
theorem mask_at (h : Fin 16) (a b : Fin 4112) : maskR (ix3 h a b) = BitVec.ofBool (decide ((b : ℕ) ≤ a)) := by
  pointwise [maskR]
  word_cmp

theorem sm_at (h : Fin 16) (a b : Fin 4112) :
    smR X0 X1 X3 (ix3 h a b) = if (b : ℕ) ≤ a then ((D.sc h (112 + a) (112 + b) : ℝ) : EReal) else ⊥ := by
  pointwise [smR, sc_at H, mask_at, id_eq]
  simp only [ofBits_bot]

end Cert.Fox.Ref

end
-- ==== Proof.Attention.RefMax.lean ====
/- The reference's arrays at finite arguments, read entry by entry: each row's largest score. -/
module

public import proofs.«01_k».proof.Proof.Attention.RefScore
public import Idealize.ShloMosaic.Lib.WordCmp

@[expose] public section

set_option maxRecDepth 16384

noncomputable section

namespace Cert.Fox.Ref

open Idealize.ShloMosaic Idealize.ShloMosaic.TcCoe Idealize.SL.Sem
open Cert.ReferenceIdeal Cert.ReferenceIdeal.Gen

/-- The largest of numbers none of which is above all, one of which is not below all, is a real number. -/
theorem reduce_real {s t u : Shape} {axes : List (Fin s.rank)} (x : FVec Ideal s .f32) (init : FVec Ideal u .f32) (h : s.ReducesTo axes t)
    (hu : 0 < u.numel) (j : t.Idx) (hinit : init (Shape.Idx.first hu) = (⊥ : EReal)) (hx : ∀ i, x i < (⊤ : EReal)) (i : s.Idx) (hi : h.drop i = j)
    (hb : (⊥ : EReal) < x i) : Host.reduce FloatOps.maximumf x init h hu j ≠ (⊤ : EReal) ∧ Host.reduce FloatOps.maximumf x init h hu j ≠ (⊥ : EReal) := by
  classical
  have e : (FloatOps.maximumf : Ideal .f32 → Ideal .f32 → Ideal .f32) = (max : EReal → EReal → EReal) := rfl
  rw [e, Host.reduce_eq_fold, hinit]
  constructor
  · refine ne_of_lt ?_
    rw [Finset.fold_max_lt]
    exact ⟨bot_lt_top, fun b _ => hx b⟩
  · refine ne_of_gt ?_
    rw [Finset.lt_fold_max]
    exact .inr ⟨i, Finset.mem_filter.2 ⟨Finset.mem_univ _, hi⟩, hb⟩

variable {X0 X1 : FVec Ideal S4224x1024 .bf16} {X2 : FVec Ideal S4224x1024 .f32} {X3 : FVec Ideal S128x4224 .f32} {X4 : FVec Ideal S4224x1024 .f32}
variable {D : Args} (H : Holds X0 X1 X2 X3 X4 D)
include H

omit H in
theorem drop_at (hr : S16x4112x4112.ReducesTo [2] S16x4112) (h : Fin 16) (a b : Fin 4112) : hr.drop (ix3 h a b) = ix2 h a := by
  funext d
  match d with
  | ⟨0, _⟩ => exact Fin.ext (Shape.ReducesTo.drop_apply_val hr _ _)
  | ⟨1, _⟩ => exact Fin.ext (Shape.ReducesTo.drop_apply_val hr _ _)

omit H in
/-- The largest of a row's largest score and a number below all. -/
theorem max_row (R : FVec Ideal S16x4112 .f32) (i : S16x4112.Idx) :
    maximumf (broadcastInDim S16x4112 ![] bcast_S_S16x4112 (constant S_ .f32 0xFF800000#32)) R i = R i := by
  show max (Ideal.ofBits .f32 0xFF800000#32 : EReal) (R i) = R i
  rw [ofBits_bot, max_eq_right bot_le]

/-- A row's largest score is a real number. -/
theorem mx_at (h : Fin 16) (a : Fin 4112) : mxR X0 X1 X3 (ix2 h a) = (((mxR X0 X1 X3 (ix2 h a)).toReal : ℝ) : EReal) := by
  have h1 : ∀ i, smR X0 X1 X3 i < (⊤ : EReal) := fun i => by
    obtain ⟨p, q, r, rfl⟩ : ∃ (p : Fin 16) (q r : Fin 4112), i = ix3 p q r := ⟨i 0, i 1, i 2, eq_ix3 (n0 := 16) (n1 := 4112) (n2 := 4112) i⟩
    rw [sm_at H]
    split
    · exact EReal.coe_lt_top _
    · exact bot_lt_top
  have h2 : (⊥ : EReal) < smR X0 X1 X3 (ix3 h a a) := by
    rw [sm_at H, if_pos le_rfl]
    exact EReal.bot_lt_coe _
  have hr := reduce_real (smR X0 X1 X3) (constant S_ .f32 0xFF800000#32) reducesTo_S16x4112x4112_S16x4112_d2 h_S_ (ix2 h a) ofBits_bot h1
    (ix3 h a a) (drop_at _ h a a) h2
  unfold mxR
  generalize Host.reduce FloatOps.maximumf (smR X0 X1 X3) (constant S_ .f32 0xFF800000#32) reducesTo_S16x4112x4112_S16x4112_d2 h_S_ = R at hr ⊢
  rw [max_row]
  exact (EReal.coe_toReal hr.1 hr.2).symm

end Cert.Fox.Ref

end
-- ==== Proof.Attention.RefValue.lean ====
/- The reference's arrays at finite arguments, read entry by entry: the four gradients are the sums of real numbers. -/
module

public import proofs.«01_k».proof.Proof.Attention.RefMax
public import Idealize.ShloMosaic.Lib.WordCmp

@[expose] public section

set_option maxRecDepth 16384

noncomputable section

namespace Cert.Fox.Ref

open Idealize.ShloMosaic Idealize.ShloMosaic.TcCoe Idealize.SL.Sem
open Cert.ReferenceIdeal Cert.ReferenceIdeal.Gen

variable (X0 X1 : FVec Ideal S4224x1024 .bf16) (X2 : FVec Ideal S4224x1024 .f32) (X3 : FVec Ideal S128x4224 .f32) (X4 : FVec Ideal S4224x1024 .f32)

variable {X0 X1 X2 X3 X4} {D : Args} (H : Holds X0 X1 X2 X3 X4 D)
include H

theorem e_at (h : Fin 16) (a b : Fin 4112) :
    eR X0 X1 X3 (ix3 h a b) = ((if (b : ℕ) + 112 ≤ 112 + a then Real.exp (D.sc h (112 + a) (112 + b) - (mxR X0 X1 X3 (ix2 h a)).toReal) else 0 : ℝ) : EReal) := by
  obtain ⟨M, hM⟩ : ∃ M : ℝ, mxR X0 X1 X3 (ix2 h a) = (M : EReal) := ⟨_, mx_at H h a⟩
  rw [hM, EReal.toReal_coe]
  pointwise [eR, sm_at H, hM]
  by_cases hb : (b : ℕ) ≤ a
  · rw [if_pos hb, if_pos (by omega), ← EReal.coe_sub, Ideal.exp_coe]
  · rw [if_neg hb, if_neg (by omega), EReal.bot_sub, Ideal.exp_bot, EReal.coe_zero]

/-- A row's sum of weights, the largest score taken off. -/
def zz (X0 X1 : FVec Ideal S4224x1024 .bf16) (X3 : FVec Ideal S128x4224 .f32) (D : Args) (h : Fin 16) (a : Fin 4112) : ℝ :=
  D.z h (112 + a) * Real.exp (-(mxR X0 X1 X3 (ix2 h a)).toReal)

omit H in
theorem zz_pos (h : Fin 16) (a : Fin 4112) : 0 < zz X0 X1 X3 D h a := mul_pos (D.z_pos h a) (Real.exp_pos _)

theorem z_at (h : Fin 16) (a : Fin 4112) : zR X0 X1 X3 (ix2 h a) = ((zz X0 X1 X3 D h a : ℝ) : EReal) := by
  pointwise [zR, e_at H]
  rw [coe_sum]
  refine (congrArg Real.toEReal ?_)
  rw [zz, ← Args.z_shift]

theorem z3_at (h : Fin 16) (a : Fin 4112) : z3R X0 X1 X3 (ix3 h a (0 : Fin 1)) = ((zz X0 X1 X3 D h a : ℝ) : EReal) := by
  pointwise [z3R, z_at H]

omit H in
/-- A weight: its exponential over the row's sum. -/
theorem quot (h : Fin 16) (a b : Fin 4112) :
    (if (b : ℕ) + 112 ≤ 112 + a then Real.exp (D.sc h (112 + a) (112 + b) - (mxR X0 X1 X3 (ix2 h a)).toReal) else 0) / zz X0 X1 X3 D h a
      = D.p h (112 + a) (112 + b) := by
  by_cases hb : (b : ℕ) + 112 ≤ 112 + a
  · rw [if_pos hb]
    exact D.p_shift _ _ _ _ ⟨by omega, by omega⟩
  · rw [if_neg hb, zero_div, D.p_of_not _ _ _ (by omega)]

theorem p_at (h : Fin 16) (a b : Fin 4112) : pR X0 X1 X3 (ix3 h a b) = ((D.p h (112 + a) (112 + b) : ℝ) : EReal) := by
  pointwise [pR, e_at H, z3_at H]
  rw [div_coe (zz_pos h a).ne', quot]

theorem h_at (h : Fin 16) (a b : Fin 4112) :
    hR X0 X1 X2 X3 X4 (ix3 h a b) = ((D.dp h (112 + a) (112 + b) * D.p h (112 + a) (112 + b) / zz X0 X1 X3 D h a : ℝ) : EReal) := by
  pointwise [hR, dp_at H, e_at H, z3_at H]
  have hz := (zz_pos (X0 := X0) (X1 := X1) (X3 := X3) (D := D) h a).ne'
  rw [← EReal.coe_one, ← EReal.coe_mul, div_coe (mul_ne_zero hz hz), ← EReal.coe_mul, ← EReal.coe_mul, ← quot (X0 := X0) (X1 := X1) (X3 := X3)]
  congr 1
  field_simp

theorem g_at (h : Fin 16) (a : Fin 4112) : gR X0 X1 X2 X3 X4 (ix2 h a) = ((D.mean h (112 + a) / zz X0 X1 X3 D h a : ℝ) : EReal) := by
  pointwise [gR, h_at H]
  rw [coe_sum, ← Finset.sum_div, Args.mean]

theorem ng_at (h : Fin 16) (a : Fin 4112) : ngR X0 X1 X2 X3 X4 (ix2 h a) = ((-(D.mean h (112 + a) / zz X0 X1 X3 D h a) : ℝ) : EReal) := by
  pointwise [ngR, g_at H]
  simp only [EReal.coe_neg, zero_add, Finset.univ_unique, Finset.sum_singleton]

theorem ds_at (h : Fin 16) (a b : Fin 4112) : dsR X0 X1 X2 X3 X4 (ix3 h a b) = ((D.ds h (112 + a) (112 + b) : ℝ) : EReal) := by
  pointwise [dsR, dp_at H, e_at H, z3_at H, ng_at H, mask_at]
  have hz := (zz_pos (X0 := X0) (X1 := X1) (X3 := X3) (D := D) h a).ne'
  by_cases hb : (b : ℕ) ≤ a
  · rw [if_pos hb, div_coe hz, ← EReal.coe_add, ← EReal.coe_mul, Args.ds, ← quot (X0 := X0) (X1 := X1) (X3 := X3)]
    congr 1
    field_simp
    ring
  · rw [if_neg hb, Args.ds, D.p_of_not _ _ _ (by omega), zero_mul, EReal.coe_zero]

theorem dss_at (h : Fin 16) (a b : Fin 4112) : dssR X0 X1 X2 X3 X4 (ix3 h a b) = ((D.ds h (112 + a) (112 + b) * (1 / 8) : ℝ) : EReal) := by
  pointwise [dssR, ds_at H]
  rw [ofBits_eighth, ← EReal.coe_mul]

theorem dv3_at (h : Fin 16) (l : Fin 64) (b : Fin 4112) : dv3R X0 X1 X3 X4 (ix3 h l b) = ((D.dv h (112 + b) l : ℝ) : EReal) := by
  pointwise [dv3R, dt_at H, p_at H]
  simp only [← EReal.coe_mul, coe_sum]
  rfl

theorem dk3_at (h : Fin 16) (b : Fin 4112) (l : Fin 64) : dk3R X0 X1 X2 X3 X4 (ix3 h b l) = ((D.dk h (112 + b) l : ℝ) : EReal) := by
  pointwise [dk3R, dss_at H, q_at H]
  simp only [← EReal.coe_mul, coe_sum]
  rfl

theorem dq3_at (h : Fin 16) (a : Fin 4112) (l : Fin 64) : dq3R X0 X1 X2 X3 X4 (ix3 h a l) = ((D.dq h (112 + a) l : ℝ) : EReal) := by
  pointwise [dq3R, dss_at H, k_at H]
  simp only [← EReal.coe_mul, coe_sum]
  rfl

theorem dca_at (h : Fin 16) (b : Fin 4112) : dcaR X0 X1 X2 X3 X4 (ix2 h b) = ((D.dc h (112 + b) : ℝ) : EReal) := by
  pointwise [dcaR, ds_at H]
  simp only [← EReal.coe_neg, coe_sum, zero_add]
  rfl

theorem dcb_at (h : Fin 16) (a : Fin 4112) : dcbR X0 X1 X2 X3 X4 (ix2 h a) = 0 := by
  pointwise [dcbR, ds_at H]
  rw [coe_sum, D.sum_ds]
  simp

theorem dc_at (h : Fin 16) (b : Fin 4112) : dcR X0 X1 X2 X3 X4 (ix2 h b) = ((D.dc h (112 + b) : ℝ) : EReal) := by
  pointwise [dcR, dca_at H, dcb_at H]
  simp

omit H in
theorem zero_word : (FloatOps.sitofp .f32 0#32 : Ideal .f32) = 0 := by
  show (((0#32).toInt : ℝ) : EReal) = 0
  simp

theorem outDv_at (b : Fin 4224) (l : Fin 1024) :
    outDvR X0 X1 X3 X4 (ix2 b l) = if 112 ≤ (b : ℕ) then ((D.dv (l / 64) b (l % 64) : ℝ) : EReal) else 0 := by
  pointwise [outDvR, dv3_at H]
  by_cases hb : 112 ≤ (b : ℕ)
  · rw [dif_pos ⟨hb, by omega⟩, if_pos hb, Nat.add_sub_cancel' hb]
  · rw [dif_neg (fun hh => hb hh.1), if_neg hb]
    exact zero_word

theorem outDk_at (b : Fin 4224) (l : Fin 1024) :
    outDkR X0 X1 X2 X3 X4 (ix2 b l) = if 112 ≤ (b : ℕ) then ((D.dk (l / 64) b (l % 64) : ℝ) : EReal) else 0 := by
  pointwise [outDkR, dk3_at H]
  by_cases hb : 112 ≤ (b : ℕ)
  · rw [dif_pos ⟨hb, by omega⟩, if_pos hb, Nat.add_sub_cancel' hb]
  · rw [dif_neg (fun hh => hb hh.1), if_neg hb]
    exact zero_word

theorem outDq_at (a : Fin 4224) (l : Fin 1024) :
    outDqR X0 X1 X2 X3 X4 (ix2 a l) = if 112 ≤ (a : ℕ) then ((D.dq (l / 64) a (l % 64) : ℝ) : EReal) else 0 := by
  pointwise [outDqR, dq3_at H]
  by_cases hb : 112 ≤ (a : ℕ)
  · rw [dif_pos ⟨hb, by omega⟩, if_pos hb, Nat.add_sub_cancel' hb]
  · rw [dif_neg (fun hh => hb hh.1), if_neg hb]
    exact zero_word

theorem outDc_at (p r : Fin 8) (b : Fin 4224) :
    outDcR X0 X1 X2 X3 X4 (ix3 p r b) = if (r : ℕ) < 2 ∧ 112 ≤ (b : ℕ) then ((D.dc (p * 2 + r) b : ℝ) : EReal) else 0 := by
  pointwise [outDcR, dc_at H]
  by_cases hr : (r : ℕ) < 2 ∧ 112 ≤ (b : ℕ)
  · rw [dif_pos ⟨hr.1, hr.2, by omega⟩, if_pos hr, Nat.add_sub_cancel' hr.2]
  · rw [dif_neg (fun hh => hr ⟨hh.1, hh.2.1⟩), if_neg hr]
    exact zero_word

end Cert.Fox.Ref

end
-- ==== Proof.Attention.Lanes.lean ====
/- The two heads of a pair share a block's 128 lanes: each operand with the other head's lanes made zero. -/
module

public import proofs.«01_k».proof.Proof.Attention.Step
public import proofs.«01_k».proof.Proof.Attention.Spec
public import Idealize.ShloMosaic.Lib.Pointwise
public import Idealize.ShloMosaic.Lib.WordCmp

@[expose] public section

set_option maxRecDepth 16384

noncomputable section

namespace Cert.KernelIdeal.Attn

open Idealize.ShloMosaic Idealize.ShloMosaic.TcCoe
open Idealize.SL Idealize.SL.Sem
open Cert.KernelIdeal.Gen

/-- The head of the pair a lane belongs to, as the body computes it: the lane over 64, rounded down. -/
def laneHead (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

theorem laneHead_zero : ∀ l : Fin 128, IntOp.cmpi CmpIPredicate.eq (laneHead l) 0#32 = BitVec.ofBool (decide ((l : ℕ) < 64)) := by decide +kernel
theorem laneHead_one : ∀ l : Fin 128, IntOp.cmpi CmpIPredicate.eq (laneHead l) 1#32 = BitVec.ofBool (decide (¬(l : ℕ) < 64)) := by decide +kernel

theorem first_lanes {α : Type} (l : Fin 128) (x y : α) :
    Scalar.select (IntOp.cmpi CmpIPredicate.eq (laneHead l) 0#32) x y = if (l : ℕ) < 64 then x else y := by
  rw [laneHead_zero]; by_cases h : (l : ℕ) < 64 <;> simp [h, Scalar.select]

theorem second_lanes {α : Type} (l : Fin 128) (x y : α) :
    Scalar.select (IntOp.cmpi CmpIPredicate.eq (laneHead l) 1#32) x y = if (l : ℕ) < 64 then y else x := by
  rw [laneHead_one]; by_cases h : (l : ℕ) < 64 <;> simp [h, Scalar.select]

theorem q0_at (q : Vec Ideal S384x128 .bf16) (r : Fin 384) (l : Fin 128) :
    q0 q (ix2 r l) = if (l : ℕ) < 64 then q (ix2 r l) else (0 : EReal) := by
  pointwise [q0, k0_pay13, k0_pay11, k0_pay12]
  exact first_lanes l _ _

theorem q1_at (q : Vec Ideal S384x128 .bf16) (r : Fin 384) (l : Fin 128) :
    q1 q (ix2 r l) = if (l : ℕ) < 64 then (0 : EReal) else q (ix2 r l) := by
  pointwise [q1, k0_pay14]
  exact second_lanes l _ _

theorem d0_at (d : Vec Ideal S384x128 .f32) (r : Fin 384) (l : Fin 128) :
    d0 d (ix2 r l) = if (l : ℕ) < 64 then d (ix2 r l) else (0 : EReal) := by
  pointwise [d0, k0_pay15, k0_pay9]
  exact first_lanes l _ _

theorem d1_at (d : Vec Ideal S384x128 .f32) (r : Fin 384) (l : Fin 128) :
    d1 d (ix2 r l) = if (l : ℕ) < 64 then (0 : EReal) else d (ix2 r l) := by
  pointwise [d1, k0_pay18, k0_pay16, k0_pay17, k0_pay9]
  exact second_lanes l _ _

theorem muli_word : ∀ n : Fin 11, Scalar.muli (BitVec.ofNat 32 n) 384#32 = BitVec.ofNat 32 (384 * n) := by decide

theorem addi_word (a b : ℕ) : IntOp.addi (BitVec.ofNat 32 a) (BitVec.ofNat 32 b) = BitVec.ofNat 32 (a + b) := (BitVec.ofNat_add ..).symm

theorem mask_word (j i : Fin 11) (r s : Fin 384) :
    IntOp.andi
      (IntOp.cmpi CmpIPredicate.sle (IntOp.addi (Scalar.muli (BitVec.ofNat 32 j) 384#32) (BitVec.ofNat 32 s))
        (IntOp.addi (Scalar.muli (BitVec.ofNat 32 i) 384#32) (BitVec.ofNat 32 r)))
      (IntOp.cmpi CmpIPredicate.sge (IntOp.addi (Scalar.muli (BitVec.ofNat 32 j) 384#32) (BitVec.ofNat 32 s)) 112#32)
    = BitVec.ofBool (decide (384 * (j : ℕ) + s ≤ 384 * (i : ℕ) + r ∧ 112 ≤ 384 * (j : ℕ) + s)) := by
  rw [muli_word, muli_word, addi_word, addi_word]
  have := j.isLt
  have := i.isLt
  have := r.isLt
  have := s.isLt
  word_cmp
  rw [Bool.decide_and]

/-- The mask of a block: keys no later than their queries, and none of the padding. -/
theorem mask0_at (j i : Fin 11) (r s : Fin 384) : k0_pay19 (BitVec.ofNat 32 j) (BitVec.ofNat 32 i) (ix2 r s)
    = BitVec.ofBool (decide (384 * (j : ℕ) + s ≤ 384 * (i : ℕ) + r ∧ 112 ≤ 384 * (j : ℕ) + s)) := by
  pointwise [k0_pay19]
  exact mask_word j i r s

theorem mask1_at (j i : Fin 11) (r s : Fin 384) : IntOp.andi (k0_pay23 (BitVec.ofNat 32 j) (BitVec.ofNat 32 i) (ix2 r s))
      (IntOp.cmpi CmpIPredicate.sge (k0_pay22 (BitVec.ofNat 32 j) (ix2 r s)) 112#32)
    = BitVec.ofBool (decide (384 * (j : ℕ) + s ≤ 384 * (i : ℕ) + r ∧ 112 ≤ 384 * (j : ℕ) + s)) := by
  pointwise [k0_pay23, k0_pay22]
  exact mask_word j i r s

end Cert.KernelIdeal.Attn

end
-- ==== Proof.Attention.Weights.lean ====
/- What a grid point computes from blocks that hold real numbers: each head's weights and the gradients of its scores. -/
module

public import proofs.«01_k».proof.Proof.Attention.Lanes
public import Idealize.ShloMosaic.Lib.Pointwise
public import Idealize.ShloMosaic.Lib.WordCmp

@[expose] public section

set_option maxRecDepth 16384

noncomputable section

namespace Cert.KernelIdeal.Attn

open Idealize.ShloMosaic Idealize.ShloMosaic.TcCoe
open Idealize.SL Idealize.SL.Sem
open Cert.KernelIdeal.Gen

open Cert.Fox

/-- A point's blocks hold the real numbers of `D`: queries at row block `i`, keys at `j`, the pair `p` of heads. -/
structure Reads (x : Blocks Ideal) (D : Args) (L : ℕ → ℕ → ℝ) (p j i : ℕ) : Prop where
  q : ∀ (r : Fin 384) (l : Fin 128), x.q (ix2 r l) = ((D.q (384 * i + r) (128 * p + l) : ℝ) : EReal)
  k : ∀ (s : Fin 384) (l : Fin 128), x.k (ix2 s l) = ((D.k (384 * j + s) (128 * p + l) : ℝ) : EReal)
  v : ∀ (s : Fin 384) (l : Fin 128), x.v (ix2 s l) = ((D.v (384 * j + s) (128 * p + l) : ℝ) : EReal)
  dO : ∀ (r : Fin 384) (l : Fin 128), x.dO (ix2 r l) = ((D.d (384 * i + r) (128 * p + l) : ℝ) : EReal)
  ct : ∀ (e : Fin 8) (s : Fin 384), x.ct (ix2 e s) = ((D.c (p / 4 * 8 + e) (384 * j + s) : ℝ) : EReal)
  o : ∀ (r : Fin 384) (l : Fin 128), x.o (ix2 r l)
    = ((if 112 ≤ 384 * i + (r : ℕ) then D.o ((128 * p + l) / 64) (384 * i + r) ((128 * p + l) % 64) else 0 : ℝ) : EReal)
  lse0 : ∀ r : Fin 384, x.lse (ix3 (0 : Fin 1) r (0 : Fin 128)) = ((L (2 * p) (384 * i + r) : ℝ) : EReal)
  lse1 : ∀ r : Fin 384, x.lse (ix3 (0 : Fin 1) r (1 : Fin 128)) = ((L (2 * p + 1) (384 * i + r) : ℝ) : EReal)

/-- What is taken off a head's scores makes their exponentials its weights. -/
def LogSum (D : Args) (L : ℕ → ℕ → ℝ) : Prop := ∀ h a b : ℕ, h < 16 → a < 4224 → 112 ≤ b → b ≤ a →
  Real.exp ((∑ l : Fin 64, D.q a (h * 64 + l) * D.k b (h * 64 + l)) * (1 / 8) - D.c h b - L h a) = D.p h a b

variable {x : Blocks Ideal} {D : Args} {L : ℕ → ℕ → ℝ} {p j i : ℕ} (R : Reads x D L p j i)

include R

theorem q0_real (r : Fin 384) (l : Fin 128) : q0 x.q (ix2 r l) = ((if (l : ℕ) < 64 then D.q (384 * i + r) (128 * p + l) else 0 : ℝ) : EReal) := by
  rw [q0_at, R.q]; split <;> simp
theorem q1_real (r : Fin 384) (l : Fin 128) : q1 x.q (ix2 r l) = ((if (l : ℕ) < 64 then 0 else D.q (384 * i + r) (128 * p + l) : ℝ) : EReal) := by
  rw [q1_at, R.q]; split <;> simp
theorem d0_real (r : Fin 384) (l : Fin 128) : d0 x.dO (ix2 r l) = ((if (l : ℕ) < 64 then D.d (384 * i + r) (128 * p + l) else 0 : ℝ) : EReal) := by
  rw [d0_at, R.dO]; split <;> simp
theorem d1_real (r : Fin 384) (l : Fin 128) : d1 x.dO (ix2 r l) = ((if (l : ℕ) < 64 then 0 else D.d (384 * i + r) (128 * p + l) : ℝ) : EReal) := by
  rw [d1_at, R.dO]; split <;> simp

theorem s0_at (row : Vec Ideal S1x384 .f32) (hrow : ∀ s : Fin 384, row (ix2 (0 : Fin 1) s) = ((D.c (2 * p) (384 * j + s) : ℝ) : EReal))
    (wj wi : BitVec 32) (r s : Fin 384) (hm : k0_pay19 wj wi (ix2 r s) = 1#1) :
    k0_pay20 wj wi row x.k (q0 x.q) (ix2 r s)
      = (((∑ l : Fin 64, D.q (384 * i + r) (2 * p * 64 + l) * D.k (384 * j + s) (2 * p * 64 + l)) * (1 / 8) - D.c (2 * p) (384 * j + s) : ℝ) : EReal) := by
  pointwise [k0_pay20, q0_real R, R.k, hrow]
  rw [hm, show 128 * p = 2 * p * 64 by ring]
  simp only [EReal.coe_zero, zero_mul, Finset.sum_const_zero, add_zero, zero_add, ofBits_eighth, ← EReal.coe_mul, coe_sum, ← EReal.coe_add, ← EReal.coe_sub]
  rfl

theorem s1_at (row : Vec Ideal S1x384 .f32) (hrow : ∀ s : Fin 384, row (ix2 (0 : Fin 1) s) = ((D.c (2 * p + 1) (384 * j + s) : ℝ) : EReal))
    (r s : Fin 384) : k0_pay21 row x.k (q1 x.q) (ix2 r s)
      = (((∑ l : Fin 64, D.q (384 * i + r) ((2 * p + 1) * 64 + l) * D.k (384 * j + s) ((2 * p + 1) * 64 + l)) * (1 / 8) - D.c (2 * p + 1) (384 * j + s) : ℝ) : EReal) := by
  pointwise [k0_pay21, q1_real R, R.k, hrow]
  simp only [← Nat.add_assoc, show 128 * p + 64 = (2 * p + 1) * 64 by ring]
  simp only [EReal.coe_zero, zero_mul, Finset.sum_const_zero, add_zero, zero_add, ofBits_eighth, ← EReal.coe_mul, coe_sum, ← EReal.coe_add, ← EReal.coe_sub]

variable (hL : LogSum D L) (hp : p < 8) (hj : j < 11) (hi : i < 11)
include hL hp hj hi

/-- The first head's weights. -/
theorem p0_at (row : Vec Ideal S1x384 .f32) (hrow : ∀ s : Fin 384, row (ix2 (0 : Fin 1) s) = ((D.c (2 * p) (384 * j + s) : ℝ) : EReal))
    (col : Vec Ideal S1x384x1 .f32) (hcol : ∀ r : Fin 384, col (ix3 (0 : Fin 1) r (0 : Fin 1)) = ((L (2 * p) (384 * i + r) : ℝ) : EReal)) (r s : Fin 384) :
    k0_pay24 (k0_pay19 (BitVec.ofNat 32 j) (BitVec.ofNat 32 i)) (k0_pay20 (BitVec.ofNat 32 j) (BitVec.ofNat 32 i) row x.k (q0 x.q)) col (ix2 r s)
      = ((D.p (2 * p) (384 * i + r) (384 * j + s) : ℝ) : EReal) := by
  have hm := mask0_at ⟨j, hj⟩ ⟨i, hi⟩ r s
  by_cases h : 384 * j + (s : ℕ) ≤ 384 * i + r ∧ 112 ≤ 384 * j + (s : ℕ)
  · rw [decide_eq_true h] at hm
    replace hm : k0_pay19 (BitVec.ofNat 32 j) (BitVec.ofNat 32 i) (ix2 r s) = 1#1 := hm
    have hs := s0_at R row hrow _ _ r s hm
    generalize k0_pay20 (BitVec.ofNat 32 j) (BitVec.ofNat 32 i) row x.k (q0 x.q) = S at hs ⊢
    pointwise [k0_pay24, hs, hcol, hm]
    rw [← EReal.coe_sub, Ideal.exp_coe, hL _ _ _ (by omega) (by omega) h.2 h.1]
  · rw [decide_eq_false h] at hm
    replace hm : k0_pay19 (BitVec.ofNat 32 j) (BitVec.ofNat 32 i) (ix2 r s) = 0#1 := hm
    rw [D.p_of_not _ _ _ (fun hh => h ⟨hh.2, hh.1⟩)]
    pointwise [k0_pay24, hm]
    rw [EReal.coe_zero]

/-- The second head's weights. -/
theorem p1_at (row : Vec Ideal S1x384 .f32) (hrow : ∀ s : Fin 384, row (ix2 (0 : Fin 1) s) = ((D.c (2 * p + 1) (384 * j + s) : ℝ) : EReal))
    (col : Vec Ideal S1x384x1 .f32) (hcol : ∀ r : Fin 384, col (ix3 (0 : Fin 1) r (0 : Fin 1)) = ((L (2 * p + 1) (384 * i + r) : ℝ) : EReal)) (r s : Fin 384) :
    k0_pay25 (k0_pay21 row x.k (q1 x.q)) (k0_pay22 (BitVec.ofNat 32 j)) (k0_pay23 (BitVec.ofNat 32 j) (BitVec.ofNat 32 i)) 112#32 col (ix2 r s)
      = ((D.p (2 * p + 1) (384 * i + r) (384 * j + s) : ℝ) : EReal) := by
  have hm := mask1_at ⟨j, hj⟩ ⟨i, hi⟩ r s
  have hs := s1_at R row hrow r s
  generalize k0_pay21 row x.k (q1 x.q) = S at hs ⊢
  generalize k0_pay22 (BitVec.ofNat 32 j) = M at hm ⊢
  generalize k0_pay23 (BitVec.ofNat 32 j) (BitVec.ofNat 32 i) = M' at hm ⊢
  by_cases h : 384 * j + (s : ℕ) ≤ 384 * i + r ∧ 112 ≤ 384 * j + (s : ℕ)
  · rw [decide_eq_true h] at hm
    replace hm : IntOp.andi (M' (ix2 r s)) (IntOp.cmpi CmpIPredicate.sge (M (ix2 r s)) 112#32) = 1#1 := hm
    pointwise [k0_pay25, hs, hcol, hm]
    rw [← EReal.coe_sub, Ideal.exp_coe, hL _ _ _ (by omega) (by omega) h.2 h.1]
  · rw [decide_eq_false h] at hm
    replace hm : IntOp.andi (M' (ix2 r s)) (IntOp.cmpi CmpIPredicate.sge (M (ix2 r s)) 112#32) = 0#1 := hm
    rw [D.p_of_not _ _ _ (fun hh => h ⟨hh.2, hh.1⟩)]
    pointwise [k0_pay25, hs, hcol, hm]
    rw [EReal.coe_zero]

omit hL hp hj hi

omit R in
/-- A score's gradient, the row's mean written as its output times its gradient. -/
theorem ds_eq (D : Args) (h a b : ℕ) :
    D.p h a b * (∑ l : Fin 64, D.d a (h * 64 + l) * D.v b (h * 64 + l) - ∑ l : Fin 64, D.d a (h * 64 + l) * (if 112 ≤ a then D.o h a l else 0)) = D.ds h a b := by
  by_cases ha : 112 ≤ a
  · simp only [if_pos ha]
    rw [Args.ds, Args.dp, Args.mean_eq]
  · rw [Args.ds, D.p_of_not h a b (by omega), zero_mul, zero_mul]

/-- The gradients of the first head's scores. -/
theorem g0_at (P : FVec Ideal S384x384 .f32) (hP : ∀ r s : Fin 384, P (ix2 r s) = ((D.p (2 * p) (384 * i + r) (384 * j + s) : ℝ) : EReal))
    (M : IVec S384x384 1) (S : FVec Ideal S384x384 .f32) (col : Vec Ideal S1x384x1 .f32) (e : k0_pay24 M S col = P) (r s : Fin 384) :
    k0_pay26 (k0_pay8 x.v) (k0_pay10 x.o) (d0 x.dO) M S col (ix2 r s) = ((D.ds (2 * p) (384 * i + r) (384 * j + s) : ℝ) : EReal) := by
  pointwise [k0_pay26, k0_pay8, k0_pay10, d0_real R, R.v, R.o]
  rw [e, hP]
  have h1 : ∀ l : Fin 64, (2 * p * 64 + (l : ℕ)) / 64 = 2 * p := fun l => by omega
  have h2 : ∀ l : Fin 64, (2 * p * 64 + (l : ℕ)) % 64 = l := fun l => by omega
  simp only [show 128 * p = 2 * p * 64 by ring, h1, h2]
  simp only [EReal.coe_zero, zero_mul, Finset.sum_const_zero, add_zero, zero_add, ← EReal.coe_mul, coe_sum, ← EReal.coe_add, ← EReal.coe_sub]
  rw [ds_eq]

/-- The gradients of the second head's scores. -/
theorem g1_at (P : FVec Ideal S384x384 .f32) (hP : ∀ r s : Fin 384, P (ix2 r s) = ((D.p (2 * p + 1) (384 * i + r) (384 * j + s) : ℝ) : EReal))
    (S : FVec Ideal S384x384 .f32) (M : IVec S384x384 32) (M' : IVec S384x384 1) (w : BitVec 32) (col : Vec Ideal S1x384x1 .f32) (e : k0_pay25 S M M' w col = P)
    (r s : Fin 384) : k0_pay27 (k0_pay8 x.v) (k0_pay10 x.o) (d1 x.dO) S M M' w col (ix2 r s) = ((D.ds (2 * p + 1) (384 * i + r) (384 * j + s) : ℝ) : EReal) := by
  pointwise [k0_pay27, k0_pay8, k0_pay10, d1_real R, R.v, R.o]
  rw [e, hP]
  have h1 : ∀ l : Fin 64, ((2 * p + 1) * 64 + (l : ℕ)) / 64 = 2 * p + 1 := fun l => by omega
  have h2 : ∀ l : Fin 64, ((2 * p + 1) * 64 + (l : ℕ)) % 64 = l := fun l => by omega
  simp only [← Nat.add_assoc, show 128 * p + 64 = (2 * p + 1) * 64 by ring, h1, h2]
  simp only [EReal.coe_zero, zero_mul, Finset.sum_const_zero, add_zero, zero_add, ← EReal.coe_mul, coe_sum, ← EReal.coe_add, ← EReal.coe_sub]
  rw [ds_eq]

end Cert.KernelIdeal.Attn

end
-- ==== Proof.Attention.Saved.lean ====
/- What the host lines hand the attention's backward: the outputs and each head's log-sums, padded. -/
module

public import proofs.«01_k».proof.Proof.Gen.KernelIdeal.Frame
public import proofs.«01_k».proof.Proof.Attention.RefValue
public import proofs.«01_k».proof.Proof.Attention.Weights
public import Idealize.ShloMosaic.Lib.Claim

@[expose] public section

set_option maxRecDepth 16384

noncomputable section

namespace Cert.KernelIdeal.Attn

open Idealize.ShloMosaic Idealize.ShloMosaic.TcCoe
open Idealize.SL Idealize.SL.Sem
open Cert.KernelIdeal Cert.KernelIdeal.Gen
open Cert.Fox Idealize.ShloMosaic.StableHlo

variable (X0 X1 : FVec Ideal S4224x1024 .bf16) (X2 : FVec Ideal S4224x1024 .f32) (X3 : FVec Ideal S128x4224 .f32)

/-- Each row's largest score. -/
def mxK : FVec Ideal S16x4112 .f32 := Host.reduce FloatOps.maximumf (Ref.smR X0 X1 X3) (constant S_ .f32 0xFF800000#32) reducesTo_S16x4112x4112_S16x4112_d2 h_S_
/-- The same, as a column. -/
def mx3K : FVec Ideal S16x4112x1 .f32 := broadcastInDim S16x4112x1 ![0, 1] bcast_S16x4112_S16x4112x1_0_1 (mxK X0 X1 X3)
/-- The weights before division. -/
def eK : FVec Ideal S16x4112x4112 .f32 := Host.exp (subf (Ref.smR X0 X1 X3) (broadcastInDim S16x4112x4112 ![0, 1, 2] bcast_S16x4112x1_S16x4112x4112_0_1_2 (mx3K X0 X1 X3)))
/-- Each row's sum of weights, as a column. -/
def z3K : FVec Ideal S16x4112x1 .f32 := broadcastInDim S16x4112x1 ![0, 1] bcast_S16x4112_S16x4112x1_0_1 (Host.reduceAdd (eK X0 X1 X3) (constant S_ .f32 0x00000000#32) reducesTo_S16x4112x4112_S16x4112_d2 h_S_)
/-- The weights. -/
def pK : FVec Ideal S16x4112x4112 .f32 := Host.divf (eK X0 X1 X3) (broadcastInDim S16x4112x4112 ![0, 1, 2] bcast_S16x4112x1_S16x4112x4112_0_1_2 (z3K X0 X1 X3))
/-- The outputs, head by lane by row. -/
def o3K : FVec Ideal S16x64x4112 .f32 := Host.dotGeneral dot_S4112x16x64_S16x4112x4112_S16x64x4112_0_2_2_1_1_0 none (Ref.vR X2) (pK X0 X1 X3)
/-- The outputs, padded. -/
def oK : FVec Ideal S4224x1024 .f32 := pad S4224x1024 ![112, 0] ![0, 0] ![0, 0] (shapeCast S4112x1024 (transpose S4112x16x64 [2, 0, 1] (o3K X0 X1 X2 X3) transposes_S16x64x4112_S4112x16x64_2_0_1) shapeCasts_S4112x16x64_S4112x1024) (sitofp .f32 (constantI S_ 32 0#32)) pads_S4112x1024_S4224x1024_11200_000 h_S_
/-- A head's log-sums, its queries' biases taken off. -/
def lseRow : FVec Ideal S16x4112 .f32 := subf (shapeCast S16x4112 (addf (mx3K X0 X1 X3) (Host.log (z3K X0 X1 X3))) shapeCasts_S16x4112x1_S16x4112) (Ref.cR X3)
/-- The log-sums, padded, a pair's two heads in the first two lanes. -/
def lseK : FVec Ideal S8x4224x128 .f32 := pad S8x4224x128 ![0, 112, 0] ![0, 0, 126] ![0, 0, 0] (transpose S8x4112x2 [0, 2, 1] (shapeCast S8x2x4112 (lseRow X0 X1 X3) shapeCasts_S16x4112_S8x2x4112) transposes_S8x2x4112_S8x4112x2_0_2_1) (sitofp .f32 (constantI S_ 32 0#32)) pads_S8x4112x2_S8x4224x128_000_11200_01260 h_S_

variable (m : (ℓ : Loc nD τ sig) → Buf (Elt Ideal) ℓ)

set_option maxHeartbeats 2000000 in
/-- The region finds the padded outputs. -/
theorem V_o (c : Dev nD) : V m c main_v45 = oK (m ((c : Thread nD τ).loc main_arg0)) (m ((c : Thread nD τ).loc main_arg1)) (m ((c : Thread nD τ).loc main_arg2)) (m ((c : Thread nD τ).loc main_arg3)) := by
  unfold V
  simp only [hostOps0, hostOps0_1, hostOps0_2, hostOps0_3, hostOps0_4, hostOps0_5, List.flatten_cons, List.flatten_nil, List.append_nil, List.cons_append,
      List.nil_append, TRef.binary, TRef.nullary, TRef.ternary, TRef.unary, TRef.toBuf, TRef.ofBuf, cast_eq]
  after_results_simp <;> rfl

set_option maxHeartbeats 2000000 in
/-- The region finds the padded log-sums. -/
theorem V_lse (c : Dev nD) : V m c main_v43 = lseK (m ((c : Thread nD τ).loc main_arg0)) (m ((c : Thread nD τ).loc main_arg1)) (m ((c : Thread nD τ).loc main_arg3)) := by
  unfold V
  simp only [hostOps0, hostOps0_1, hostOps0_2, hostOps0_3, hostOps0_4, hostOps0_5, List.flatten_cons, List.flatten_nil, List.append_nil, List.cons_append,
      List.nil_append, TRef.binary, TRef.nullary, TRef.ternary, TRef.unary, TRef.toBuf, TRef.ofBuf, cast_eq]
  after_results_simp <;> rfl

theorem mxK_eq : mxK X0 X1 X3 = Ref.mxR X0 X1 X3 := by
  unfold mxK Ref.mxR
  generalize Host.reduce (α := Ideal .f32) _ _ _ _ _ = R
  exact funext fun i => (Ref.max_row R i).symm

theorem eK_eq : eK X0 X1 X3 = Ref.eR X0 X1 X3 := by
  rw [eK, mx3K, mxK_eq, Ref.eR]

theorem z3K_eq : z3K X0 X1 X3 = Ref.z3R X0 X1 X3 := by
  rw [z3K, eK_eq, Ref.z3R, Ref.zR]

theorem pK_eq : pK X0 X1 X3 = Ref.pR X0 X1 X3 := by
  rw [pK, eK_eq, z3K_eq, Ref.pR]

/-- What a row's scores are taken less: its log-sum without its own bias; 0 in the pad rows. -/
def logs (X0 X1 : FVec Ideal S4224x1024 .bf16) (X3 : FVec Ideal S128x4224 .f32) (D : Args) (h a : ℕ) : ℝ :=
  if hh : h < 16 ∧ 112 ≤ a ∧ a < 4224 then
    (Ref.mxR X0 X1 X3 (ix2 (⟨h, hh.1⟩ : Fin 16) (⟨a - 112, by omega⟩ : Fin 4112))).toReal
      + Real.log (Ref.zz X0 X1 X3 D ⟨h, hh.1⟩ ⟨a - 112, by omega⟩) - D.c h a
  else 0

theorem logs_row (D : Args) (h : Fin 16) (a : Fin 4112) : logs X0 X1 X3 D h (112 + a)
    = (Ref.mxR X0 X1 X3 (ix2 h a)).toReal + Real.log (Ref.zz X0 X1 X3 D h a) - D.c h (112 + a) := by
  have e : (⟨112 + (a : ℕ) - 112, by omega⟩ : Fin 4112) = a := Fin.ext (by simp)
  rw [logs, dif_pos ⟨h.isLt, by omega, by omega⟩]
  simp only [e]

theorem logSum (D : Args) : LogSum D (logs X0 X1 X3 D) := by
  intro h a b hh ha hb hba
  have e := logs_row X0 X1 X3 D ⟨h, hh⟩ ⟨a - 112, by omega⟩
  simp only [Nat.add_sub_cancel' (hb.trans hba)] at e
  rw [e, ← D.p_shift h a (Ref.mxR X0 X1 X3 (ix2 (⟨h, hh⟩ : Fin 16) (⟨a - 112, by omega⟩ : Fin 4112))).toReal b ⟨hb, hba⟩]
  have hz := Ref.zz_pos (X0 := X0) (X1 := X1) (X3 := X3) (D := D) ⟨h, hh⟩ ⟨a - 112, by omega⟩
  have hz' : D.z h a * Real.exp (-(Ref.mxR X0 X1 X3 (ix2 (⟨h, hh⟩ : Fin 16) (⟨a - 112, by omega⟩ : Fin 4112))).toReal)
      = Ref.zz X0 X1 X3 D ⟨h, hh⟩ ⟨a - 112, by omega⟩ := by
    rw [Ref.zz]; simp only [Nat.add_sub_cancel' (hb.trans hba)]
  rw [hz', Args.sc]
  generalize Ref.zz X0 X1 X3 D ⟨h, hh⟩ ⟨a - 112, by omega⟩ = Z at hz ⊢
  conv_rhs => rw [← Real.exp_log hz]
  rw [← Real.exp_sub]
  congr 1
  ring

variable {X0 X1 X2 X3} {X4 : FVec Ideal S4224x1024 .f32} {D : Args} (H : Ref.Holds X0 X1 X2 X3 X4 D)
include H

theorem o3K_at (h : Fin 16) (l : Fin 64) (a : Fin 4112) : o3K X0 X1 X2 X3 (ix3 h l a) = ((D.o h (112 + a) l : ℝ) : EReal) := by
  pointwise [o3K, pK_eq, Ref.v_at H, Ref.p_at H]
  simp only [← EReal.coe_mul, coe_sum]
  rfl

theorem oK_at (a : Fin 4224) (l : Fin 1024) :
    oK X0 X1 X2 X3 (ix2 a l) = ((if 112 ≤ (a : ℕ) then D.o (l / 64) a (l % 64) else 0 : ℝ) : EReal) := by
  pointwise [oK, o3K_at H]
  by_cases hb : 112 ≤ (a : ℕ)
  · rw [dif_pos ⟨hb, by omega⟩, if_pos hb, Nat.add_sub_cancel' hb]
  · rw [dif_neg (fun hh => hb hh.1), if_neg hb]
    exact Ref.zero_word

theorem mx3K_at (h : Fin 16) (a : Fin 4112) : mx3K X0 X1 X3 (ix3 h a (0 : Fin 1)) = Ref.mxR X0 X1 X3 (ix2 h a) := by
  rw [mx3K, mxK_eq]
  generalize Ref.mxR X0 X1 X3 = A
  pointwise []

theorem z3K_at (h : Fin 16) (a : Fin 4112) : z3K X0 X1 X3 (ix3 h a (0 : Fin 1)) = ((Ref.zz X0 X1 X3 D h a : ℝ) : EReal) := by
  rw [z3K_eq]; exact Ref.z3_at H h a

omit H in
theorem row_at (A B : FVec Ideal S16x4112x1 .f32) (C : FVec Ideal S16x4112 .f32) (h : Fin 16) (a : Fin 4112) (M Z g : ℝ) (hz : 0 < Z)
    (hA : A (ix3 h a (0 : Fin 1)) = (M : EReal)) (hB : B (ix3 h a (0 : Fin 1)) = (Z : EReal)) (hC : C (ix2 h a) = (g : EReal)) :
    subf (shapeCast S16x4112 (addf A (Host.log B)) shapeCasts_S16x4112x1_S16x4112) C (ix2 h a) = ((M + Real.log Z - g : ℝ) : EReal) := by
  pointwise [hA, hB, hC]
  rw [Ideal.log_coe, if_neg (not_le.mpr hz), ← EReal.coe_add, ← EReal.coe_sub]

theorem lseRow_at (h : Fin 16) (a : Fin 4112) : lseRow X0 X1 X3 (ix2 h a) = ((logs X0 X1 X3 D h (112 + a) : ℝ) : EReal) := by
  rw [logs_row]
  exact row_at _ _ _ h a _ _ _ (Ref.zz_pos h a) ((mx3K_at H h a).trans (Ref.mx_at H h a)) (z3K_at H h a) (Ref.c_at H h a)

theorem lseK_at (p : Fin 8) (a : Fin 4224) (e : Fin 128) (he : (e : ℕ) < 2) :
    lseK X0 X1 X3 (ix3 p a e) = ((logs X0 X1 X3 D (2 * p + e) a : ℝ) : EReal) := by
  pointwise [lseK, lseRow_at H]
  by_cases hb : 112 ≤ (a : ℕ)
  · rw [dif_pos ⟨⟨hb, by omega⟩, he⟩, Nat.add_sub_cancel' hb, Nat.mul_comm]
  · rw [dif_neg (fun hh => hb hh.1.1), logs, dif_neg (by omega)]
    exact Ref.zero_word

end Cert.KernelIdeal.Attn

end
-- ==== Proof.Attention.Placed.lean ====
/- What the attention backward's windows hold at a point whose query block is not before its key block. -/
module

public import proofs.«01_k».proof.Proof.Attention.Body
public import proofs.«01_k».proof.Proof.Attention.Saved
public import Idealize.ShloMosaic.Lib.Pipeline.ValueKit

@[expose] public section

set_option maxRecDepth 16384

noncomputable section

namespace Cert.KernelIdeal.Attn

open Idealize.ShloMosaic Idealize.ShloMosaic.TcCoe
open Idealize.SL Idealize.SL.Sem
open Cert.KernelIdeal Cert.KernelIdeal.Gen
open Cert.Fox

/-- Which block each window is at, at every grid point. -/
theorem idx : ∀ t : Fin cfg0.N, win0_0.index t = ![max (t.val / 11 % 11) (t.val % 11), t.val / 121] ∧ win0_1.index t = ![t.val / 11 % 11, t.val / 121]
    ∧ win0_2.index t = ![t.val / 11 % 11, t.val / 121] ∧ win0_3.index t = ![t.val / 121 / 4, t.val / 11 % 11]
    ∧ win0_4.index t = ![max (t.val / 11 % 11) (t.val % 11), t.val / 121] ∧ win0_5.index t = ![t.val / 121, max (t.val / 11 % 11) (t.val % 11), 0]
    ∧ win0_6.index t = ![max (t.val / 11 % 11) (t.val % 11), t.val / 121] ∧ win0_7.index t = ![t.val / 11 % 11, t.val / 121]
    ∧ win0_8.index t = ![t.val / 11 % 11, t.val / 121] ∧ win0_9.index t = ![t.val / 121, 0, t.val / 11 % 11] ∧ win0_10.index t = ![0, t.val / 121] :=
  (by decide +kernel : ∀ t : Fin grid0.N, _)

theorem tlt (t : Fin cfg0.N) : t.val < 968 := lt_of_lt_of_eq t.isLt N_0

variable (m : (ℓ : Loc nD τ sig) → Buf (Elt Ideal) ℓ) (c : Dev nD) (t : Fin cfg0.N)

theorem blk_q (hji : t.val / 11 % 11 ≤ t.val % 11) (r : Fin 384) (l : Fin 128) : (blocks m c t).q (ix2 r l)
    = m ((c : Thread nD τ).loc main_arg0) (ix2 (⟨384 * (t.val % 11) + r, by omega⟩ : Fin 4224) (⟨128 * (t.val / 121) + l, by have := tlt t; omega⟩ : Fin 1024)) := by
  rw [← V_main_arg0 m c]
  show ((cfg0.win 0).blk t).view.read (Elt Ideal) (V m c main_arg0) (ix2 r l) = _
  generalize V m c main_arg0 = A
  have e := idx t
  rw [max_eq_right hji] at e
  blk_ext [e]

theorem blk_k (r : Fin 384) (l : Fin 128) : (blocks m c t).k (ix2 r l)
    = m ((c : Thread nD τ).loc main_arg1) (ix2 (⟨384 * (t.val / 11 % 11) + r, by omega⟩ : Fin 4224) (⟨128 * (t.val / 121) + l, by have := tlt t; omega⟩ : Fin 1024)) := by
  rw [← V_main_arg1 m c]
  show ((cfg0.win 1).blk t).view.read (Elt Ideal) (V m c main_arg1) (ix2 r l) = _
  generalize V m c main_arg1 = A
  blk_ext [idx t]

theorem blk_v (r : Fin 384) (l : Fin 128) : (blocks m c t).v (ix2 r l)
    = m ((c : Thread nD τ).loc main_arg2) (ix2 (⟨384 * (t.val / 11 % 11) + r, by omega⟩ : Fin 4224) (⟨128 * (t.val / 121) + l, by have := tlt t; omega⟩ : Fin 1024)) := by
  rw [← V_main_arg2 m c]
  show ((cfg0.win 2).blk t).view.read (Elt Ideal) (V m c main_arg2) (ix2 r l) = _
  generalize V m c main_arg2 = A
  blk_ext [idx t]

theorem blk_ct (e : Fin 8) (s : Fin 384) : (blocks m c t).ct (ix2 e s)
    = m ((c : Thread nD τ).loc main_arg3) (ix2 (⟨t.val / 121 / 4 * 8 + e, by have := tlt t; omega⟩ : Fin 128) (⟨384 * (t.val / 11 % 11) + s, by omega⟩ : Fin 4224)) := by
  rw [← V_main_arg3 m c]
  show ((cfg0.win 3).blk t).view.read (Elt Ideal) (V m c main_arg3) (ix2 e s) = _
  generalize V m c main_arg3 = A
  blk_ext [idx t]

theorem blk_o (hji : t.val / 11 % 11 ≤ t.val % 11) (r : Fin 384) (l : Fin 128) : (blocks m c t).o (ix2 r l)
    = V m c main_v45 (ix2 (⟨384 * (t.val % 11) + r, by omega⟩ : Fin 4224) (⟨128 * (t.val / 121) + l, by have := tlt t; omega⟩ : Fin 1024)) := by
  show ((cfg0.win 4).blk t).view.read (Elt Ideal) (V m c main_v45) (ix2 r l) = _
  generalize V m c main_v45 = A
  have e := idx t
  rw [max_eq_right hji] at e
  blk_ext [e]

theorem blk_lse (hji : t.val / 11 % 11 ≤ t.val % 11) (r : Fin 384) (n : Fin 128) : (blocks m c t).lse (ix3 (0 : Fin 1) r n)
    = V m c main_v43 (ix3 (⟨t.val / 121, by have := tlt t; omega⟩ : Fin 8) (⟨384 * (t.val % 11) + r, by omega⟩ : Fin 4224) n) := by
  show ((cfg0.win 5).blk t).view.read (Elt Ideal) (V m c main_v43) (ix3 (0 : Fin 1) r n) = _
  generalize V m c main_v43 = A
  have e := idx t
  rw [max_eq_right hji] at e
  blk_ext [e]

theorem blk_dO (hji : t.val / 11 % 11 ≤ t.val % 11) (r : Fin 384) (l : Fin 128) : (blocks m c t).dO (ix2 r l)
    = m ((c : Thread nD τ).loc main_arg4) (ix2 (⟨384 * (t.val % 11) + r, by omega⟩ : Fin 4224) (⟨128 * (t.val / 121) + l, by have := tlt t; omega⟩ : Fin 1024)) := by
  rw [← V_main_arg4 m c]
  show ((cfg0.win 6).blk t).view.read (Elt Ideal) (V m c main_arg4) (ix2 r l) = _
  generalize V m c main_arg4 = A
  have e := idx t
  rw [max_eq_right hji] at e
  blk_ext [e]

variable {m c}

/-- The arrays one core holds. -/
abbrev HoldsAt (m : (ℓ : Loc nD τ sig) → Buf (Elt Ideal) ℓ) (c : Dev nD) (D : Args) : Prop :=
  Ref.Holds (m ((c : Thread nD τ).loc main_arg0)) (m ((c : Thread nD τ).loc main_arg1)) (m ((c : Thread nD τ).loc main_arg2))
    (m ((c : Thread nD τ).loc main_arg3)) (m ((c : Thread nD τ).loc main_arg4)) D

/-- The log-sums of one core's arrays. -/
abbrev logsAt (m : (ℓ : Loc nD τ sig) → Buf (Elt Ideal) ℓ) (c : Dev nD) (D : Args) : ℕ → ℕ → ℝ :=
  logs (m ((c : Thread nD τ).loc main_arg0)) (m ((c : Thread nD τ).loc main_arg1)) (m ((c : Thread nD τ).loc main_arg3)) D

variable {D : Args} (H : HoldsAt m c D)
include H

theorem reads (hji : t.val / 11 % 11 ≤ t.val % 11) :
    Reads (blocks m c t) D (logsAt m c D) (t.val / 121) (t.val / 11 % 11) (t.val % 11) where
  q r l := (blk_q m c t hji r l).trans (H.q _ _)
  k r l := (blk_k m c t r l).trans (H.k _ _)
  v r l := (blk_v m c t r l).trans (H.v _ _)
  dO r l := (blk_dO m c t hji r l).trans (H.d _ _)
  ct e s := (blk_ct m c t e s).trans (H.c _ _)
  o r l := ((blk_o m c t hji r l).trans (congrFun (V_o m c) _)).trans (oK_at H _ _)
  lse0 r := ((blk_lse m c t hji r 0).trans (congrFun (V_lse m c) _)).trans (lseK_at H _ _ 0 (by decide))
  lse1 r := ((blk_lse m c t hji r 1).trans (congrFun (V_lse m c) _)).trans (lseK_at H _ _ 1 (by decide))

end Cert.KernelIdeal.Attn

end
-- ==== Proof.Attention.Increments.lean ====
/- What a grid point adds to the gradients it accumulates, from blocks that hold real numbers. -/
module

public import proofs.«01_k».proof.Proof.Attention.Weights

@[expose] public section

set_option maxRecDepth 16384

noncomputable section

namespace Cert.KernelIdeal.Attn

open Idealize.ShloMosaic Idealize.ShloMosaic.TcCoe
open Idealize.SL Idealize.SL.Sem
open Cert.KernelIdeal.Gen
open Cert.Fox

theorem off1_eq (i : grid0.Coords) : k0_off1 i = ![(i 0).val % 4 * 2, 0] := by
  have key : ∀ n : Fin 8, (k0_off1 (fun a => match a with | ⟨0, _⟩ => n | ⟨1, _⟩ => (0 : Fin 11) | ⟨2, _⟩ => (0 : Fin 11))) 0 = n.val % 4 * 2 := by decide
  funext a
  match a with
  | ⟨0, _⟩ => exact key (i 0)
  | ⟨1, _⟩ => rfl

theorem off2_eq (i : grid0.Coords) : k0_off2 i = ![(i 0).val % 4 * 2 + 1, 0] := by
  have key : ∀ n : Fin 8, (k0_off2 (fun a => match a with | ⟨0, _⟩ => n | ⟨1, _⟩ => (0 : Fin 11) | ⟨2, _⟩ => (0 : Fin 11))) 0 = n.val % 4 * 2 + 1 := by decide
  funext a
  match a with
  | ⟨0, _⟩ => exact key (i 0)
  | ⟨1, _⟩ => rfl

theorem ctRow_at (ct : Vec Ideal S8x384 .f32) (off : Fin 2 → ℕ) (inb : ∀ a, off a + S1x384.size a ≤ S8x384.size a) (e : Fin 8) (h : off = ![(e : ℕ), 0]) (s : Fin 384) :
    ctRow ct off inb (ix2 (0 : Fin 1) s) = ct (ix2 e s) := by
  subst h
  refine congrArg ct (funext fun a => Fin.ext ?_)
  match a with
  | ⟨0, _⟩ => show (e : ℕ) + 1 * 0 = e; omega
  | ⟨1, _⟩ => show 0 + 1 * (s : ℕ) = s; omega

theorem lseCol_at (lse : Vec Ideal S1x384x128 .f32) (off : Fin 3 → ℕ) (inb : ∀ a, off a + S1x384x1.size a ≤ S1x384x128.size a) (e : Fin 128) (h : off = ![0, 0, (e : ℕ)]) (r : Fin 384) :
    lseCol lse off inb (ix3 (0 : Fin 1) r (0 : Fin 1)) = lse (ix3 (0 : Fin 1) r e) := by
  subst h
  refine congrArg lse (funext fun a => Fin.ext ?_)
  match a with
  | ⟨0, _⟩ => show 0 + 1 * 0 = 0; omega
  | ⟨1, _⟩ => show 0 + 1 * (r : ℕ) = r; omega
  | ⟨2, _⟩ => show (e : ℕ) + 1 * 0 = e; omega

theorem dcRow_at (dc : Vec Ideal S2x1x384 .f32) (off : Fin 3 → ℕ) (inb : ∀ a, off a + S1x1x384.size a ≤ S2x1x384.size a) (e : Fin 2) (h : off = ![(e : ℕ), 0, 0]) (s : Fin 384) :
    dcRow dc off inb (ix3 (0 : Fin 1) (0 : Fin 1) s) = dc (ix3 e (0 : Fin 1) s) := by
  subst h
  refine congrArg dc (funext fun a => Fin.ext ?_)
  match a with
  | ⟨0, _⟩ => show (e : ℕ) + 1 * 0 = e; omega
  | ⟨1, _⟩ => show 0 + 1 * 0 = 0; omega
  | ⟨2, _⟩ => show 0 + 1 * (s : ℕ) = s; omega

variable {x : Blocks Ideal} {D : Args} {L : ℕ → ℕ → ℝ} (i : grid0.Coords) (R : Reads x D L (i 0).val (i 1).val (i 2).val) (hL : LogSum D L)
include R

theorem row0 (s : Fin 384) : ctRow x.ct (k0_off1 i) (off1_inb i) (ix2 (0 : Fin 1) s) = ((D.c (2 * (i 0).val) (384 * (i 1).val + s) : ℝ) : EReal) := by
  have h0 : (i 0).val < 8 := (i 0).isLt
  rw [ctRow_at _ _ _ (⟨(i 0).val % 4 * 2, by omega⟩ : Fin 8) (off1_eq i), R.ct]
  rw [show (i 0).val / 4 * 8 + (i 0).val % 4 * 2 = 2 * (i 0).val by omega]

theorem row1 (s : Fin 384) : ctRow x.ct (k0_off2 i) (off2_inb i) (ix2 (0 : Fin 1) s) = ((D.c (2 * (i 0).val + 1) (384 * (i 1).val + s) : ℝ) : EReal) := by
  have h0 : (i 0).val < 8 := (i 0).isLt
  rw [ctRow_at _ _ _ (⟨(i 0).val % 4 * 2 + 1, by omega⟩ : Fin 8) (off2_eq i), R.ct]
  rw [show (i 0).val / 4 * 8 + ((i 0).val % 4 * 2 + 1) = 2 * (i 0).val + 1 by omega]

theorem col0 (r : Fin 384) : lseCol x.lse ![0, 0, 0] inb_S1x384x128_S1x384x1_0_0_0 (ix3 (0 : Fin 1) r (0 : Fin 1)) = ((L (2 * (i 0).val) (384 * (i 2).val + r) : ℝ) : EReal) := by
  exact (lseCol_at _ ![0, 0, 0] _ (0 : Fin 128) rfl r).trans (R.lse0 r)

theorem col1 (r : Fin 384) : lseCol x.lse ![0, 0, 1] inb_S1x384x128_S1x384x1_0_0_1 (ix3 (0 : Fin 1) r (0 : Fin 1)) = ((L (2 * (i 0).val + 1) (384 * (i 2).val + r) : ℝ) : EReal) := by
  exact (lseCol_at _ ![0, 0, 1] _ (1 : Fin 128) rfl r).trans (R.lse1 r)

include hL

/-- The two heads' weights of a block. -/
theorem w0_at (r s : Fin 384) :
    k0_pay24 (k0_pay19 (word i 1) (word i 2)) (k0_pay20 (word i 1) (word i 2) (ctRow x.ct (k0_off1 i) (off1_inb i)) x.k (q0 x.q))
      (lseCol x.lse ![0, 0, 0] inb_S1x384x128_S1x384x1_0_0_0) (ix2 r s) = ((D.p (2 * (i 0).val) (384 * (i 2).val + r) (384 * (i 1).val + s) : ℝ) : EReal) :=
  p0_at R hL (i 0).isLt (i 1).isLt (i 2).isLt _ (row0 i R) _ (col0 i R) r s

theorem w1_at (r s : Fin 384) :
    k0_pay25 (k0_pay21 (ctRow x.ct (k0_off2 i) (off2_inb i)) x.k (q1 x.q)) (k0_pay22 (word i 1)) (k0_pay23 (word i 1) (word i 2)) 112#32
      (lseCol x.lse ![0, 0, 1] inb_S1x384x128_S1x384x1_0_0_1) (ix2 r s) = ((D.p (2 * (i 0).val + 1) (384 * (i 2).val + r) (384 * (i 1).val + s) : ℝ) : EReal) :=
  p1_at R hL (i 0).isLt (i 1).isLt (i 2).isLt _ (row1 i R) _ (col1 i R) r s

theorem ds0_real (r s : Fin 384) : ds0 i x (ix2 r s) = ((D.ds (2 * (i 0).val) (384 * (i 2).val + r) (384 * (i 1).val + s) : ℝ) : EReal) :=
  g0_at R _ (w0_at i R hL) _ _ _ rfl r s

theorem ds1_real (r s : Fin 384) : ds1 i x (ix2 r s) = ((D.ds (2 * (i 0).val + 1) (384 * (i 2).val + r) (384 * (i 1).val + s) : ℝ) : EReal) :=
  g1_at R _ (w1_at i R hL) _ _ _ _ _ rfl r s

/-- What a point adds to the value gradients. -/
theorem dvNew_at (dv : Vec Ideal S384x128 .f32) (s : Fin 384) (l : Fin 128) (y : ℝ) (hy : dv (ix2 s l) = (y : EReal)) :
    dvNew i x dv (ix2 s l) = ((y + ∑ r : Fin 384, D.p ((128 * (i 0).val + l) / 64) (384 * (i 2).val + r) (384 * (i 1).val + s)
      * D.d (384 * (i 2).val + r) (128 * (i 0).val + l) : ℝ) : EReal) := by
  unfold dvNew
  pointwise [k0_pay29, k0_pay28, w0_at i R hL, w1_at i R hL, d0_real R, d1_real R, hy]
  have hl' := l.isLt
  by_cases hl : (l : ℕ) < 64
  · rw [show (128 * (i 0).val + (l : ℕ)) / 64 = 2 * (i 0).val by omega]
    simp only [if_pos hl, EReal.coe_zero, mul_zero, Finset.sum_const_zero, add_zero, zero_add, ← EReal.coe_mul, coe_sum, ← EReal.coe_add]
  · rw [show (128 * (i 0).val + (l : ℕ)) / 64 = 2 * (i 0).val + 1 by omega]
    simp only [if_neg hl, EReal.coe_zero, mul_zero, Finset.sum_const_zero, add_zero, zero_add, ← EReal.coe_mul, coe_sum, ← EReal.coe_add]

/-- What a point adds to the key gradients, before they are scaled. -/
theorem dkNew_at (s : Acc Ideal) (b : Fin 384) (l : Fin 128) (y : ℝ) (hy : s.dk (ix2 b l) = (y : EReal)) :
    (accNew i x s).dk (ix2 b l) = ((y + ∑ r : Fin 384, D.ds ((128 * (i 0).val + l) / 64) (384 * (i 2).val + r) (384 * (i 1).val + b)
      * D.q (384 * (i 2).val + r) (128 * (i 0).val + l) : ℝ) : EReal) := by
  unfold accNew
  pointwise [k0_pay30, ds0_real i R hL, ds1_real i R hL, q0_real R, q1_real R, hy]
  have hl' := l.isLt
  by_cases hl : (l : ℕ) < 64
  · rw [show (128 * (i 0).val + (l : ℕ)) / 64 = 2 * (i 0).val by omega]
    simp only [if_pos hl, EReal.coe_zero, mul_zero, Finset.sum_const_zero, add_zero, zero_add, ← EReal.coe_mul, coe_sum, ← EReal.coe_add]
  · rw [show (128 * (i 0).val + (l : ℕ)) / 64 = 2 * (i 0).val + 1 by omega]
    simp only [if_neg hl, EReal.coe_zero, mul_zero, Finset.sum_const_zero, add_zero, zero_add, ← EReal.coe_mul, coe_sum, ← EReal.coe_add]

/-- What a point adds to the bias gradients. -/
theorem dcNew_at (s : Acc Ideal) (e : Fin 2) (b : Fin 384) (y : ℝ) (hy : s.dc (ix3 e (0 : Fin 1) b) = (y : EReal)) :
    (accNew i x s).dc (ix3 e (0 : Fin 1) b) = ((y + ∑ r : Fin 384, -D.ds (2 * (i 0).val + e) (384 * (i 2).val + r) (384 * (i 1).val + b) : ℝ) : EReal) := by
  match e, hy with
  | ⟨0, h⟩, hy =>
    have e1 : (accNew i x s).dc (ix3 ⟨0, h⟩ (0 : Fin 1) b) = k0_pay31 (ds0 i x) (dcRow s.dc ![0, 0, 0] inb_S2x1x384_S1x1x384_0_0_0) (ix3 (0 : Fin 1) (0 : Fin 1) b) := rfl
    have e2 := dcRow_at s.dc ![0, 0, 0] inb_S2x1x384_S1x1x384_0_0_0 (0 : Fin 2) rfl b
    rw [e1]
    replace hy : s.dc (ix3 (0 : Fin 2) (0 : Fin 1) b) = (y : EReal) := hy
    generalize dcRow s.dc ![0, 0, 0] inb_S2x1x384_S1x1x384_0_0_0 = W at e2 ⊢
    pointwise [k0_pay31, ds0_real i R hL, e2, hy]
    rw [coe_sum, ← EReal.coe_zero, ← EReal.coe_sub, ← EReal.coe_add, Finset.sum_neg_distrib, zero_sub]
  | ⟨1, h⟩, hy =>
    have e1 : (accNew i x s).dc (ix3 ⟨1, h⟩ (0 : Fin 1) b) = k0_pay32 (ds1 i x) (dcRow s.dc ![1, 0, 0] inb_S2x1x384_S1x1x384_1_0_0) (ix3 (0 : Fin 1) (0 : Fin 1) b) := rfl
    have e2 := dcRow_at s.dc ![1, 0, 0] inb_S2x1x384_S1x1x384_1_0_0 (1 : Fin 2) rfl b
    rw [e1]
    replace hy : s.dc (ix3 (1 : Fin 2) (0 : Fin 1) b) = (y : EReal) := hy
    generalize dcRow s.dc ![1, 0, 0] inb_S2x1x384_S1x1x384_1_0_0 = W at e2 ⊢
    pointwise [k0_pay32, ds1_real i R hL, e2, hy]
    rw [coe_sum, ← EReal.coe_zero, ← EReal.coe_sub, ← EReal.coe_add, Finset.sum_neg_distrib, zero_sub]

/-- What a point adds to the query gradient's rows. -/
theorem rowsNew_at (r : Fin 384) (l : Fin 128) :
    rowsNew i x (ix2 r l) = (((∑ s : Fin 384, D.ds ((128 * (i 0).val + l) / 64) (384 * (i 2).val + r) (384 * (i 1).val + s)
      * D.k (384 * (i 1).val + s) (128 * (i 0).val + l)) * (1 / 8) : ℝ) : EReal) := by
  unfold rowsNew
  pointwise [k0_pay4, k0_pay33, k0_pay34, k0_pay35, ds0_real i R hL, ds1_real i R hL]
  have e0 := fun a b : EReal => first_lanes l a b
  have e1 := fun a b : EReal => second_lanes l a b
  unfold laneHead at e0 e1
  simp only [e0, e1, R.k]
  have hl' := l.isLt
  by_cases hl : (l : ℕ) < 64
  · rw [show (128 * (i 0).val + (l : ℕ)) / 64 = 2 * (i 0).val by omega]
    simp only [if_pos hl, EReal.coe_zero, mul_zero, Finset.sum_const_zero, add_zero, zero_add, ← EReal.coe_mul, coe_sum, ofBits_eighth, ← EReal.coe_add]
  · rw [show (128 * (i 0).val + (l : ℕ)) / 64 = 2 * (i 0).val + 1 by omega]
    simp only [if_neg hl, EReal.coe_zero, mul_zero, Finset.sum_const_zero, add_zero, zero_add, ← EReal.coe_mul, coe_sum, ofBits_eighth, ← EReal.coe_add]

end Cert.KernelIdeal.Attn

end
-- ==== Proof.Attention.Sums.lean ====
/- The gradients accumulated over a key block's points, and what its last point writes out. -/
module

public import proofs.«01_k».proof.Proof.Attention.Placed
public import proofs.«01_k».proof.Proof.Attention.Increments

@[expose] public section

set_option maxRecDepth 16384

noncomputable section

namespace Cert.KernelIdeal.Attn

open Idealize.ShloMosaic Idealize.ShloMosaic.TcCoe
open Idealize.SL Idealize.SL.Sem
open Cert.KernelIdeal Cert.KernelIdeal.Gen
open Cert.Fox

theorem sum_block (f : ℕ → ℝ) (n : ℕ) : ∑ a ∈ Finset.range (384 * (n + 1)), f a = ∑ a ∈ Finset.range (384 * n), f a + ∑ r : Fin 384, f (384 * n + r) := by
  rw [Nat.mul_succ, Finset.sum_range_add, Finset.sum_range (fun x => f (384 * n + x))]

/-- All rows: the pad rows add nothing. -/
theorem sum_rows (f : ℕ → ℝ) (h : ∀ a < 112, f a = 0) : ∑ a ∈ Finset.range 4224, f a = ∑ a : Fin 4112, f (112 + a) := by
  rw [show (4224 : ℕ) = 112 + 4112 by norm_num, Finset.sum_range_add, Finset.sum_range (fun x => f (112 + x)),
    Finset.sum_eq_zero (fun a ha => h a (Finset.mem_range.mp ha)), zero_add]

theorem ds_of_not (D : Args) (h a b : ℕ) (hb : ¬(112 ≤ b ∧ b ≤ a)) : D.ds h a b = 0 := by
  rw [Args.ds, D.p_of_not h a b hb, zero_mul]

/-- The scratch of head pair `p` and key block `j` holds the sums over the first `n` query blocks. -/
structure AccIs (D : Args) (p j n : ℕ) (s : Acc Ideal) : Prop where
  dv : ∀ (b : Fin 384) (l : Fin 128), s.dv (ix2 b l)
    = ((∑ a ∈ Finset.range (384 * n), D.p ((128 * p + l) / 64) a (384 * j + b) * D.d a (128 * p + l) : ℝ) : EReal)
  dk : ∀ (b : Fin 384) (l : Fin 128), s.dk (ix2 b l)
    = ((∑ a ∈ Finset.range (384 * n), D.ds ((128 * p + l) / 64) a (384 * j + b) * D.q a (128 * p + l) : ℝ) : EReal)
  dc : ∀ (e : Fin 2) (b : Fin 384), s.dc (ix3 e (0 : Fin 1) b)
    = ((∑ a ∈ Finset.range (384 * n), -D.ds (2 * p + e) a (384 * j + b) : ℝ) : EReal)

theorem accZero_is (D : Args) (p j : ℕ) : AccIs D p j 0 accZero where
  dv b l := by
    show k0_pay2 (F := Ideal) (ix2 b l) = _
    pointwise [k0_pay2]; simp
  dk b l := by
    show k0_pay1 (F := Ideal) (ix2 b l) = _
    pointwise [k0_pay1]; simp
  dc e b := by
    show k0_pay3 (F := Ideal) (ix3 e (0 : Fin 1) b) = _
    pointwise [k0_pay3]; simp

/-- A point takes the sums over the earlier query blocks to those over its own too. -/
theorem accIs_step {D : Args} {L : ℕ → ℕ → ℝ} {x : Blocks Ideal} (i : grid0.Coords) (hL : LogSum D L)
    (R : (i 1).val ≤ (i 2).val → Reads x D L (i 0).val (i 1).val (i 2).val) (s : Acc Ideal)
    (hs : AccIs D (i 0).val (i 1).val (i 2).val (if (i 2).val = 0 then accZero else s)) :
    AccIs D (i 0).val (i 1).val ((i 2).val + 1) (accStep i x s) := by
  unfold accStep
  generalize (if (i 2).val = 0 then accZero else s) = s' at hs ⊢
  by_cases hji : (i 1).val ≤ (i 2).val
  · rw [if_pos hji]
    exact {
      dv := fun b l => (dvNew_at i (R hji) hL s'.dv b l _ (hs.dv b l)).trans (by rw [sum_block])
      dk := fun b l => (dkNew_at i (R hji) hL s' b l _ (hs.dk b l)).trans (by rw [sum_block])
      dc := fun e b => (dcNew_at i (R hji) hL s' e b _ (hs.dc e b)).trans (by rw [sum_block]) }
  · rw [if_neg hji]
    have hb : ∀ (r b : Fin 384), ¬(112 ≤ 384 * (i 1).val + (b : ℕ) ∧ 384 * (i 1).val + (b : ℕ) ≤ 384 * (i 2).val + r) := fun r b => by omega
    exact {
      dv := fun b l => (hs.dv b l).trans (by
        rw [sum_block, Finset.sum_eq_zero (s := Finset.univ) (fun r _ => by rw [D.p_of_not _ _ _ (hb r b), zero_mul]), add_zero])
      dk := fun b l => (hs.dk b l).trans (by
        rw [sum_block, Finset.sum_eq_zero (s := Finset.univ) (fun r _ => by rw [ds_of_not D _ _ _ (hb r b), zero_mul]), add_zero])
      dc := fun e b => (hs.dc e b).trans (by
        rw [sum_block, Finset.sum_eq_zero (s := Finset.univ) (fun r _ => by rw [ds_of_not D _ _ _ (hb r b), neg_zero]), add_zero]) }

theorem crd0 (t : Fin cfg0.N) : (grid0.coords t 0).val = t.val / 121 := by
  have h : (grid0.coords t 0).val = t.val / 121 % 8 := Pipeline.Grid.coords_val (G := grid0) t 0 (by decide) rfl
  have := tlt t
  omega
theorem crd1 (t : Fin cfg0.N) : (grid0.coords t 1).val = t.val / 11 % 11 := Pipeline.Grid.coords_val (G := grid0) t 1 (by decide) rfl
theorem crd2 (t : Fin cfg0.N) : (grid0.coords t 2).val = t.val % 11 := by
  have h : (grid0.coords t 2).val = t.val / 1 % 11 := Pipeline.Grid.coords_val (G := grid0) t 2 (by decide) rfl
  omega

variable {m : (ℓ : Loc nD τ sig) → Buf (Elt Ideal) ℓ} {c : Dev nD} {D : Args} (H : HoldsAt m c D)
include H

theorem reads_coords (t : Fin cfg0.N) (hji : (grid0.coords t 1).val ≤ (grid0.coords t 2).val) :
    Reads (blocks m c t) D (logsAt m c D) (grid0.coords t 0).val (grid0.coords t 1).val (grid0.coords t 2).val := by
  rw [crd1, crd2] at hji
  rw [crd0, crd1, crd2]
  exact reads t H hji

/-- After every point the scratch holds the sums over the query blocks so far. -/
theorem accAt_is (n : ℕ) : ∀ hn : n < cfg0.N, AccIs D (n / 121) (n / 11 % 11) (n % 11 + 1) (accAt m c (n + 1)) := by
  induction n with
  | zero =>
    intro hn
    have h := accIs_step (grid0.coords ⟨0, hn⟩) (logSum _ _ _ D) (reads_coords H ⟨0, hn⟩) (accAt m c 0) (by
      rw [crd2 ⟨0, hn⟩, if_pos (Nat.zero_mod 11)]; exact accZero_is D _ _)
    rw [crd0, crd1, crd2, ← accAt_succ m c ⟨0, hn⟩] at h
    exact h
  | succ n ih =>
    intro hn
    have h := accIs_step (grid0.coords ⟨n + 1, hn⟩) (logSum _ _ _ D) (reads_coords H ⟨n + 1, hn⟩) (accAt m c (n + 1)) (by
      rw [crd0, crd1, crd2 ⟨n + 1, hn⟩]
      by_cases h0 : (n + 1) % 11 = 0
      · rw [if_pos h0, h0]; exact accZero_is D _ _
      · rw [if_neg h0]
        have e := ih (by omega)
        rw [show n / 121 = (n + 1) / 121 by omega, show n / 11 % 11 = (n + 1) / 11 % 11 by omega, show n % 11 + 1 = (n + 1) % 11 by omega] at e
        exact e)
    rw [crd0, crd1, crd2, ← accAt_succ m c ⟨n + 1, hn⟩] at h
    exact h

omit H in
theorem dv_total (D : Args) (p B l : ℕ) :
    ∑ a ∈ Finset.range 4224, D.p (l / 64) a B * D.d a l = if 112 ≤ B then D.dv (l / 64) B (l % 64) else 0 := by
  by_cases hB : 112 ≤ B
  · rw [if_pos hB, sum_rows _ (fun a ha => by rw [D.p_of_not _ _ _ (by omega), zero_mul]), Args.dv]
    exact Finset.sum_congr rfl fun a _ => by rw [show l / 64 * 64 + l % 64 = l by omega, mul_comm]
  · rw [if_neg hB]
    exact Finset.sum_eq_zero fun a _ => by rw [D.p_of_not _ _ _ (by omega), zero_mul]

omit H in
theorem dk_total (D : Args) (B l : ℕ) :
    (∑ a ∈ Finset.range 4224, D.ds (l / 64) a B * D.q a l) * (1 / 8) = if 112 ≤ B then D.dk (l / 64) B (l % 64) else 0 := by
  by_cases hB : 112 ≤ B
  · rw [if_pos hB, sum_rows _ (fun a ha => by rw [ds_of_not D _ _ _ (by omega), zero_mul]), Args.dk, Finset.sum_mul]
    exact Finset.sum_congr rfl fun a _ => by rw [show l / 64 * 64 + l % 64 = l by omega]; ring
  · rw [if_neg hB, Finset.sum_eq_zero fun a _ => by rw [ds_of_not D _ _ _ (by omega), zero_mul], zero_mul]

omit H in
theorem dc_total (D : Args) (h B : ℕ) :
    ∑ a ∈ Finset.range 4224, -D.ds h a B = if 112 ≤ B then D.dc h B else 0 := by
  by_cases hB : 112 ≤ B
  · rw [if_pos hB, sum_rows _ (fun a ha => by rw [ds_of_not D _ _ _ (by omega), neg_zero]), Args.dc]
  · rw [if_neg hB]
    exact Finset.sum_eq_zero fun a _ => by rw [ds_of_not D _ _ _ (by omega), neg_zero]

omit H in
theorem dq_total (D : Args) (A l : ℕ) (hA : A < 4224) :
    (∑ b ∈ Finset.range 4224, D.ds (l / 64) A b * D.k b l) * (1 / 8) = if 112 ≤ A then D.dq (l / 64) A (l % 64) else 0 := by
  by_cases hB : 112 ≤ A
  · rw [if_pos hB, sum_rows _ (fun a ha => by rw [ds_of_not D _ _ _ (by omega), zero_mul]), Args.dq, Finset.sum_mul]
    exact Finset.sum_congr rfl fun a _ => by rw [show l / 64 * 64 + l % 64 = l by omega]; ring
  · rw [if_neg hB, Finset.sum_eq_zero fun a _ => by rw [ds_of_not D _ _ _ (by omega), zero_mul], zero_mul]

/-- The value gradients a key block's last point writes out. -/
theorem outDv_is (t : Fin cfg0.N) (ht : t.val % 11 = 10) (y : Vec Ideal S384x128 .f32) (b : Fin 384) (l : Fin 128) :
    outDvNew (grid0.coords t) (blocks m c t) (accAt m c t.val) y (ix2 b l)
      = ((if 112 ≤ 384 * (t.val / 11 % 11) + (b : ℕ) then D.dv ((128 * (t.val / 121) + l) / 64) (384 * (t.val / 11 % 11) + b) ((128 * (t.val / 121) + l) % 64) else 0 : ℝ) : EReal) := by
  unfold outDvNew
  rw [crd2, if_pos ht, ← accAt_succ, (accAt_is H t.val t.isLt).dv, ht, ← dv_total D 0]

theorem outDk_is (t : Fin cfg0.N) (ht : t.val % 11 = 10) (y : Vec Ideal S384x128 .f32) (b : Fin 384) (l : Fin 128) :
    outDkNew (grid0.coords t) (blocks m c t) (accAt m c t.val) y (ix2 b l)
      = ((if 112 ≤ 384 * (t.val / 11 % 11) + (b : ℕ) then D.dk ((128 * (t.val / 121) + l) / 64) (384 * (t.val / 11 % 11) + b) ((128 * (t.val / 121) + l) % 64) else 0 : ℝ) : EReal) := by
  unfold outDkNew
  rw [crd2, if_pos ht, ← accAt_succ]
  have h := (accAt_is H t.val t.isLt).dk b l
  rw [ht] at h
  generalize accAt m c (t.val + 1) = s at h ⊢
  pointwise [k0_pay6, h]
  rw [ofBits_eighth, ← EReal.coe_mul, ← dk_total D]

omit H in
/-- Which of the two rows, or the zeros, each of the eight rows is. -/
theorem pick (e : Fin 8) (A B : EReal) : Scalar.select (IntOp.cmpi .eq (BitVec.ofNat 32 e) 1#32) A
    (Scalar.select (IntOp.cmpi .eq (BitVec.ofNat 32 e) 0#32) B 0) = if (e : ℕ) = 1 then A else if (e : ℕ) = 0 then B else 0 := by
  fin_cases e <;> rfl

theorem outDc_is (t : Fin cfg0.N) (ht : t.val % 11 = 10) (y : Vec Ideal S1x8x384 .f32) (e : Fin 8) (b : Fin 384) :
    outDcNew (grid0.coords t) (blocks m c t) (accAt m c t.val) y (ix3 (0 : Fin 1) e b)
      = if (e : ℕ) < 2 ∧ 112 ≤ 384 * (t.val / 11 % 11) + (b : ℕ) then ((D.dc (t.val / 121 * 2 + e) (384 * (t.val / 11 % 11) + b) : ℝ) : EReal) else 0 := by
  unfold outDcNew
  rw [crd2, if_pos ht, ← accAt_succ]
  have h := (accAt_is H t.val t.isLt).dc
  rw [ht] at h
  generalize accAt m c (t.val + 1) = s at h ⊢
  have h0 := (dcRow_at s.dc ![0, 0, 0] inb_S2x1x384_S1x1x384_0_0_0 (0 : Fin 2) rfl b).trans (h 0 b)
  have h1 := (dcRow_at s.dc ![1, 0, 0] inb_S2x1x384_S1x1x384_1_0_0 (1 : Fin 2) rfl b).trans (h 1 b)
  unfold outDc
  generalize dcRow s.dc ![0, 0, 0] inb_S2x1x384_S1x1x384_0_0_0 = u0 at h0 ⊢
  generalize dcRow s.dc ![1, 0, 0] inb_S2x1x384_S1x1x384_1_0_0 = u1 at h1 ⊢
  pointwise [k0_pay7, h0, h1]
  rw [pick, dc_total, dc_total]
  by_cases hB : 112 ≤ 384 * (t.val / 11 % 11) + (b : ℕ)
  · rw [if_pos hB, if_pos hB]
    by_cases e1 : (e : ℕ) = 1
    · rw [if_pos e1, if_pos ⟨by omega, hB⟩, e1, Nat.mul_comm]
    · rw [if_neg e1]
      by_cases e0 : (e : ℕ) = 0
      · rw [if_pos e0, if_pos ⟨by omega, hB⟩, e0, Nat.mul_comm]; rfl
      · rw [if_neg e0, if_neg (by omega)]
  · rw [if_neg hB, if_neg hB, if_neg (show ¬((e : ℕ) < 2 ∧ 112 ≤ 384 * (t.val / 11 % 11) + (b : ℕ)) from fun h => hB h.2), EReal.coe_zero, ite_self, ite_self]

end Cert.KernelIdeal.Attn

end
-- ==== Proof.Attention.Rows.lean ====
/- The query gradient's rows over the points of one pair of heads. -/
module

public import proofs.«01_k».proof.Proof.Attention.Sums

@[expose] public section

set_option maxRecDepth 16384

noncomputable section

namespace Cert.KernelIdeal.Attn

open Idealize.ShloMosaic Idealize.ShloMosaic.TcCoe
open Idealize.SL Idealize.SL.Sem
open Cert.KernelIdeal Cert.KernelIdeal.Gen
open Cert.Fox

/-- The rows of head pair `p`: those of query block `n` hold the sums over the first `J n` key blocks, where any was added. -/
def RowsAre (D : Args) (p : ℕ) (J : ℕ → ℕ) (Y : Vec Ideal S4224x128 .f32) : Prop :=
  ∀ (a : Fin 4224) (l : Fin 128), 0 < J (a / 384) → Y (ix2 a l)
    = (((∑ b ∈ Finset.range (384 * J (a / 384)), D.ds ((128 * p + l) / 64) a b * D.k b (128 * p + l)) * (1 / 8) : ℝ) : EReal)

theorem putRows_at (n : ℕ) (w : Vec Ideal S384x128 .f32) (Y : Vec Ideal S4224x128 .f32) (a : Fin 4224) (l : Fin 128) :
    putRows n w Y (ix2 a l) = if h : (a : ℕ) / 384 = n then w (ix2 (⟨a - 384 * n, by omega⟩ : Fin 384) l) else Y (ix2 a l) := by
  unfold putRows
  by_cases h : (a : ℕ) / 384 = n
  · rw [dif_pos h]
    exact dif_pos (show 384 * n ≤ (a : ℕ) ∧ (a : ℕ) < 384 * n + 384 by omega)
  · rw [dif_neg h]
    exact dif_neg (show ¬(384 * n ≤ (a : ℕ) ∧ (a : ℕ) < 384 * n + 384) by omega)

theorem rowsAt_at (Y : Vec Ideal S4224x128 .f32) (off : Fin 2 → ℕ) (inb : ∀ a, off a + S384x128.size a ≤ S4224x128.size a) (n : ℕ) (h : off = ![384 * n, 0])
    (r : Fin 384) (l : Fin 128) (a : Fin 4224) (ha : (a : ℕ) = 384 * n + r) : rowsAt Y off inb (ix2 r l) = Y (ix2 a l) := by
  subst h
  refine congrArg Y (funext fun d => Fin.ext ?_)
  match d with
  | ⟨0, _⟩ => show 384 * n + 1 * (r : ℕ) = a; omega
  | ⟨1, _⟩ => show 0 + 1 * (l : ℕ) = l; omega

/-- A point takes the rows found to the rows with its own key block's terms. -/
theorem rows_step {D : Args} {L : ℕ → ℕ → ℝ} {x : Blocks Ideal} (i : grid0.Coords) (hL : LogSum D L)
    (R : (i 1).val ≤ (i 2).val → Reads x D L (i 0).val (i 1).val (i 2).val) (Y : Vec Ideal S4224x128 .f32)
    (hY : RowsAre D (i 0).val (fun n => if n < (i 2).val then (i 1).val + 1 else (i 1).val) Y) :
    RowsAre D (i 0).val (fun n => if n ≤ (i 2).val then (i 1).val + 1 else (i 1).val) (rowsStep i x Y) := by
  intro a l hJ
  have hY' := hY a l
  dsimp only at hJ hY' ⊢
  have h2 : (i 2).val < 11 := (i 2).isLt
  unfold rowsStep
  by_cases hn : (a : ℕ) / 384 = (i 2).val
  · rw [if_neg (by omega)] at hY'
    rw [if_pos (show (a : ℕ) / 384 ≤ (i 2).val by omega), sum_block, add_mul, EReal.coe_add]
    have ha : (a : ℕ) = 384 * (i 2).val + (a - 384 * (i 2).val) := by omega
    by_cases h0 : (i 1).val = 0
    · rw [if_pos h0, putRows_at, dif_pos hn, rowsNew_at i (R (by omega)) hL]
      simp only [← ha, h0, Nat.mul_zero, Finset.range_zero, Finset.sum_empty, zero_mul, EReal.coe_zero, zero_add]
    · rw [if_neg h0]
      have hY'' := hY' (by omega)
      by_cases hji : (i 1).val ≤ (i 2).val
      · rw [if_pos hji, putRows_at, dif_pos hn, ← hY'']
        have e1 := rowsAt_at Y (k0_off4 i) (off4_inb i) (i 2).val (off4_eq i) ⟨a - 384 * (i 2).val, by omega⟩ l a ha
        have e2 := rowsNew_at i (R hji) hL ⟨a - 384 * (i 2).val, by omega⟩ l
        simp only [← ha] at e2
        unfold rowsSum
        generalize rowsAt Y (k0_off4 i) (off4_inb i) = u at e1 ⊢
        generalize rowsNew i x = w at e2 ⊢
        pointwise [e1, e2]
      · rw [if_neg hji, hY'', Finset.sum_eq_zero (s := Finset.univ) (fun b _ => by rw [ds_of_not D _ _ _ (by omega), zero_mul]), zero_mul, EReal.coe_zero, add_zero]
  · have hc : (if (a : ℕ) / 384 ≤ (i 2).val then (i 1).val + 1 else (i 1).val) = if (a : ℕ) / 384 < (i 2).val then (i 1).val + 1 else (i 1).val := by
      by_cases h : (a : ℕ) / 384 < (i 2).val
      · rw [if_pos h, if_pos h.le]
      · rw [if_neg h, if_neg (by omega)]
    rw [hc] at hJ ⊢
    rw [← hY' hJ]
    by_cases h0 : (i 1).val = 0
    · rw [if_pos h0, putRows_at, dif_neg hn]
    · rw [if_neg h0]
      by_cases hji : (i 1).val ≤ (i 2).val
      · rw [if_pos hji, putRows_at, dif_neg hn]
      · rw [if_neg hji]

variable {m : (ℓ : Loc nD τ sig) → Buf (Elt Ideal) ℓ} {c : Dev nD} {D : Args} (H : HoldsAt m c D)
include H

/-- The rows a point leaves, from the rows it finds. -/
theorem rows_leaves (t : Fin cfg0.N)
    (hf : ∀ Y, (rdat m c).Finds 10 t Y → RowsAre D (t.val / 121) (fun n => if n < t.val % 11 then t.val / 11 % 11 + 1 else t.val / 11 % 11) Y)
    (X : Vec Ideal S4224x128 .f32) (hX : (rdat m c).Leaves 10 t X) :
    RowsAre D (t.val / 121) (fun n => if n ≤ t.val % 11 then t.val / 11 % 11 + 1 else t.val / 11 % 11) X := by
  obtain ⟨Y, hY, hX⟩ := hX
  rw [after_10] at hX
  subst hX
  have h := rows_step (grid0.coords t) (logSum _ _ _ D) (reads_coords H t) Y (by rw [crd0, crd1, crd2]; exact hf Y hY)
  rw [crd0, crd1, crd2] at h
  exact h

/-- The rows a point finds. -/
theorem rows_finds (n : ℕ) : ∀ (hn : n < cfg0.N) (Y : Vec Ideal S4224x128 .f32), (rdat m c).Finds 10 ⟨n, hn⟩ Y →
    RowsAre D (n / 121) (fun k => if k < n % 11 then n / 11 % 11 + 1 else n / 11 % 11) Y := by
  induction n with
  | zero =>
    intro hn Y hY a l hJ
    simp at hJ
  | succ n ih =>
    intro hn Y hY
    by_cases h0 : (n + 1) % 121 = 0
    · intro a l hJ
      dsimp only at hJ
      rw [show (n + 1) % 11 = 0 by omega, show (n + 1) / 11 % 11 = 0 by omega, if_neg (by omega)] at hJ
      omega
    · rcases ((rdat m c).finds_of_pos (w := 10) (t := ⟨n + 1, hn⟩) rfl (Nat.succ_ne_zero n) Y).mp hY with hfl | hL
      · have := (flush0_10 _).mp hfl
        dsimp only at this
        omega
      · have h := rows_leaves H ⟨n, by omega⟩ (ih (by omega)) Y hL
        dsimp only at h
        intro a l hJ
        have h' := h a l
        dsimp only at hJ h' ⊢
        have e : (if (a : ℕ) / 384 < (n + 1) % 11 then (n + 1) / 11 % 11 + 1 else (n + 1) / 11 % 11)
            = if (a : ℕ) / 384 ≤ n % 11 then n / 11 % 11 + 1 else n / 11 % 11 := by
          by_cases h10 : n % 11 = 10
          · rw [if_neg (by omega), if_pos (by omega)]; omega
          · by_cases hk : (a : ℕ) / 384 ≤ n % 11
            · rw [if_pos hk, if_pos (by omega)]; omega
            · rw [if_neg hk, if_neg (by omega)]; omega
        rw [e] at hJ ⊢
        rw [show (n + 1) / 121 = n / 121 by omega]
        exact h' hJ

/-- The query gradient a pair's last point leaves. -/
theorem outDq_is (t : Fin cfg0.N) (ht : t.val % 121 = 120) (X : Vec Ideal S4224x128 .f32) (hX : (rdat m c).Leaves 10 t X) (a : Fin 4224) (l : Fin 128) :
    X (ix2 a l) = ((if 112 ≤ (a : ℕ) then D.dq ((128 * (t.val / 121) + l) / 64) a ((128 * (t.val / 121) + l) % 64) else 0 : ℝ) : EReal) := by
  have h := rows_leaves H t (rows_finds H t.val t.isLt) X hX a l
  dsimp only at h
  rw [show t.val % 11 = 10 by omega, show t.val / 11 % 11 = 10 by omega, if_pos (by omega)] at h
  rw [h (by omega), ← dq_total D a _ a.isLt]

end Cert.KernelIdeal.Attn

end
-- ==== Proof.Attention.Finite.lean ====
/- From the precondition, the real numbers the argument arrays hold. -/
module

public import proofs.«01_k».proof.Defs
public import proofs.«01_k».proof.Proof.Gen.Pre_finite
public import proofs.«01_k».proof.Proof.Attention.Placed

@[expose] public section

set_option maxRecDepth 16384

noncomputable section

namespace Cert.KernelIdeal.Attn

open Idealize.ShloMosaic Idealize.ShloMosaic.TcCoe
open Idealize.SL Idealize.SL.Sem
open Cert.Fox

attribute [local instance] Cert.Pre_finite.Gen.facts

theorem top_f32 : Ideal.ofBits .f32 0x7F800000#32 = (⊤ : EReal) := by
  simp [Ideal.ofBits, Ideal.ieee]

theorem top_bf16 : Ideal.ofBits .bf16 0x7F80#16 = (⊤ : EReal) := by
  simp [Ideal.ofBits, Ideal.ieee]

theorem bot_bf16 : Ideal.ofBits .bf16 0xFF80#16 = (⊥ : EReal) := by
  simp [Ideal.ofBits, Ideal.ieee]

/-- Between the two infinities there are real numbers only. -/
theorem real_of_between {x a b : EReal} (ha : a = ⊤) (hb : b = ⊥) (h : IntOp.andi (Ideal.cmp .olt x a) (Ideal.cmp .ogt x b) = 1#1) :
    x = ((x.toReal : ℝ) : EReal) := by
  subst ha hb
  refine (EReal.coe_toReal (fun e => ?_) (fun e => ?_)).symm
  · subst e; revert h; simp [Ideal.cmp, IntOp.andi]
  · subst e; revert h; simp [Ideal.cmp, IntOp.andi]

section
variable (X0 X1 : Vec Ideal S4224x1024 .bf16) (X2 X4 : Vec Ideal S4224x1024 .f32) (X3 : Vec Ideal S128x4224 .f32)

/-- The arguments as real numbers, zero outside the arrays. -/
def argsOf : Args where
  q a l := if h : a < 4224 ∧ l < 1024 then (X0 (ix2 (⟨a, h.1⟩ : Fin 4224) (⟨l, h.2⟩ : Fin 1024)) : EReal).toReal else 0
  k a l := if h : a < 4224 ∧ l < 1024 then (X1 (ix2 (⟨a, h.1⟩ : Fin 4224) (⟨l, h.2⟩ : Fin 1024)) : EReal).toReal else 0
  v a l := if h : a < 4224 ∧ l < 1024 then (X2 (ix2 (⟨a, h.1⟩ : Fin 4224) (⟨l, h.2⟩ : Fin 1024)) : EReal).toReal else 0
  d a l := if h : a < 4224 ∧ l < 1024 then (X4 (ix2 (⟨a, h.1⟩ : Fin 4224) (⟨l, h.2⟩ : Fin 1024)) : EReal).toReal else 0
  c h a := if e : h < 128 ∧ a < 4224 then (X3 (ix2 (⟨h, e.1⟩ : Fin 128) (⟨a, e.2⟩ : Fin 4224)) : EReal).toReal else 0

theorem holds_of (h0 : ∀ y, IntOp.andi (Ideal.cmp .olt (X0 y) (Ideal.ofBits .bf16 0x7F80#16)) (Ideal.cmp .ogt (X0 y) (Ideal.ofBits .bf16 0xFF80#16)) = 1#1)
    (h1 : ∀ y, IntOp.andi (Ideal.cmp .olt (X1 y) (Ideal.ofBits .bf16 0x7F80#16)) (Ideal.cmp .ogt (X1 y) (Ideal.ofBits .bf16 0xFF80#16)) = 1#1)
    (h2 : ∀ y, IntOp.andi (Ideal.cmp .olt (X2 y) (Ideal.ofBits .f32 0x7F800000#32)) (Ideal.cmp .ogt (X2 y) (Ideal.ofBits .f32 0xFF800000#32)) = 1#1)
    (h3 : ∀ y, IntOp.andi (Ideal.cmp .olt (X3 y) (Ideal.ofBits .f32 0x7F800000#32)) (Ideal.cmp .ogt (X3 y) (Ideal.ofBits .f32 0xFF800000#32)) = 1#1)
    (h4 : ∀ y, IntOp.andi (Ideal.cmp .olt (X4 y) (Ideal.ofBits .f32 0x7F800000#32)) (Ideal.cmp .ogt (X4 y) (Ideal.ofBits .f32 0xFF800000#32)) = 1#1) :
    Ref.Holds X0 X1 X2 X3 X4 (argsOf X0 X1 X2 X4 X3) where
  q a l := by unfold argsOf; dsimp only; rw [dif_pos ⟨a.isLt, l.isLt⟩]; exact real_of_between top_bf16 bot_bf16 (h0 _)
  k a l := by unfold argsOf; dsimp only; rw [dif_pos ⟨a.isLt, l.isLt⟩]; exact real_of_between top_bf16 bot_bf16 (h1 _)
  v a l := by unfold argsOf; dsimp only; rw [dif_pos ⟨a.isLt, l.isLt⟩]; exact real_of_between top_f32 ofBits_bot (h2 _)
  c h a := by unfold argsOf; dsimp only; rw [dif_pos ⟨h.isLt, a.isLt⟩]; exact real_of_between top_f32 ofBits_bot (h3 _)
  d a l := by unfold argsOf; dsimp only; rw [dif_pos ⟨a.isLt, l.isLt⟩]; exact real_of_between top_f32 ofBits_bot (h4 _)

end

variable (m : (ℓ : Loc nD τ sig) → Buf (Elt Ideal) ℓ) (c : Dev nD)

/-- Under the precondition every core's arguments are real numbers. -/
theorem holdsAt (h : Cert.Pre_KernelIdeal_finite m) : ∃ D, HoldsAt m c D :=
  ⟨_, holds_of _ _ _ _ _ (fun y => congrFun (h c).1 y) (fun y => congrFun (h c).2.1 y) (fun y => congrFun (h c).2.2.1 y)
    (fun y => congrFun (h c).2.2.2.1 y) (fun y => congrFun (h c).2.2.2.2 y)⟩

end Cert.KernelIdeal.Attn

end
-- ==== Proof.Attention.Value.lean ====
/- The arrays the attention's gradient ends with, and that they are the reference's. -/
module

public import proofs.«01_k».proof.Defs
public import proofs.«01_k».proof.Proof.Attention.Frame
public import proofs.«01_k».proof.Proof.Attention.Rows
public import proofs.«01_k».proof.Proof.Attention.RefValue
public import proofs.«01_k».proof.Proof.Attention.Finite
public import proofs.«01_k».proof.Proof.Attention.Reference
public import Idealize.ShloMosaic.Lib.Pipeline.ValueKit
public import Idealize.ShloMosaic.Lib.Pipeline.ArrRel

@[expose] public section

set_option maxRecDepth 16384

noncomputable section

namespace Cert.KernelIdeal.Attn

open Idealize.ShloMosaic Idealize.ShloMosaic.TcCoe Idealize.ShloMosaic.Tactic
open Idealize.SL Idealize.SL.Sem
open Cert.KernelIdeal Cert.KernelIdeal.Gen
open Cert.Fox

attribute [local instance] Cert.KernelIdeal.Gen.facts Cert.ReferenceIdeal.Gen.facts Cert.Pre_finite.Gen.facts

section
variable {m : (ℓ : Loc nD τ sig) → Buf (Elt Ideal) ℓ} {c : Dev nD} {D : Args} (H : HoldsAt m c D)
  (after : (w' : Fin cfg0.W) → Fin cfg0.N → (cfg0.win w').block.Idx → Elt Ideal (cfg0.win w').elt)
  (hL : ∀ (w : Fin cfg0.W) (u : Fin cfg0.N), (cfg0.win w).flush u = true → (rdat m c).Leaves w u (after w u))
include H hL

/-- The key gradients. -/
theorem final_dk (G : Vec Ideal S4224x1024 .f32)
    (hG : ∀ (b : Fin 4224) (l : Fin 1024), G (ix2 b l) = if 112 ≤ (b : ℕ) then ((D.dk (l / 64) b (l % 64) : ℝ) : EReal) else 0) :
    ((rdat m c).withAfter after).arrAt 7 cfg0.N = G := by
  refine Pipeline.Dat.arrAt_eq_of_covers _ 7 _ (by decide +kernel) fun t hf y => ?_
  blk_simp
  rw [Pipeline.RDat.withAfter_after]
  obtain ⟨Y, -, hX⟩ := hL 7 t hf
  rw [after_7] at hX
  have ht := (flush0_7 t).mp hf
  have e := idx t
  have hN := tlt t
  obtain ⟨b, l, rfl⟩ : ∃ (b : Fin 384) (l : Fin 128), y = ix2 b l := ⟨y 0, y 1, eq_ix2 (n0 := 384) (n1 := 128) y⟩
  have hp : ((win0_7.blk t).view.emb (ix2 b l : S384x128.Idx) : S4224x1024.Idx)
      = ix2 (⟨384 * (t.val / 11 % 11) + b, by omega⟩ : Fin 4224) (⟨128 * (t.val / 121) + l, by omega⟩ : Fin 1024) := by
    blk_ext [e]
  refine (congrFun hX _).trans (Eq.trans ?_ (congrArg G hp).symm)
  rw [hG, outDk_is H t ht]
  dsimp only
  split <;> simp

/-- The value gradients. -/
theorem final_dv (G : Vec Ideal S4224x1024 .f32)
    (hG : ∀ (b : Fin 4224) (l : Fin 1024), G (ix2 b l) = if 112 ≤ (b : ℕ) then ((D.dv (l / 64) b (l % 64) : ℝ) : EReal) else 0) :
    ((rdat m c).withAfter after).arrAt 8 cfg0.N = G := by
  refine Pipeline.Dat.arrAt_eq_of_covers _ 8 _ (by decide +kernel) fun t hf y => ?_
  blk_simp
  rw [Pipeline.RDat.withAfter_after]
  obtain ⟨Y, -, hX⟩ := hL 8 t hf
  rw [after_8] at hX
  have ht := (flush0_8 t).mp hf
  have e := idx t
  have hN := tlt t
  obtain ⟨b, l, rfl⟩ : ∃ (b : Fin 384) (l : Fin 128), y = ix2 b l := ⟨y 0, y 1, eq_ix2 (n0 := 384) (n1 := 128) y⟩
  have hp : ((win0_8.blk t).view.emb (ix2 b l : S384x128.Idx) : S4224x1024.Idx)
      = ix2 (⟨384 * (t.val / 11 % 11) + b, by omega⟩ : Fin 4224) (⟨128 * (t.val / 121) + l, by omega⟩ : Fin 1024) := by
    blk_ext [e]
  refine (congrFun hX _).trans (Eq.trans ?_ (congrArg G hp).symm)
  rw [hG, outDv_is H t ht]
  dsimp only
  split <;> simp

/-- The gradients of the cumulative gate. -/
theorem final_dc (G : Vec Ideal S8x8x4224 .f32)
    (hG : ∀ (p r : Fin 8) (b : Fin 4224), G (ix3 p r b) = if (r : ℕ) < 2 ∧ 112 ≤ (b : ℕ) then ((D.dc (p * 2 + r) b : ℝ) : EReal) else 0) :
    ((rdat m c).withAfter after).arrAt 9 cfg0.N = G := by
  refine Pipeline.Dat.arrAt_eq_of_covers _ 9 _ (by decide +kernel) fun t hf y => ?_
  blk_simp
  rw [Pipeline.RDat.withAfter_after]
  obtain ⟨Y, -, hX⟩ := hL 9 t hf
  rw [after_9] at hX
  have ht := (flush0_9 t).mp hf
  have e := idx t
  have hN := tlt t
  obtain ⟨z, r, b, rfl⟩ : ∃ (z : Fin 1) (r : Fin 8) (b : Fin 384), y = ix3 z r b := ⟨y 0, y 1, y 2, eq_ix3 (n0 := 1) (n1 := 8) (n2 := 384) y⟩
  obtain rfl : z = 0 := Subsingleton.elim _ _
  have hp : ((win0_9.blk t).view.emb (ix3 (0 : Fin 1) r b : S1x8x384.Idx) : S8x8x4224.Idx)
      = ix3 (⟨t.val / 121, by omega⟩ : Fin 8) r (⟨384 * (t.val / 11 % 11) + b, by omega⟩ : Fin 4224) := by
    blk_ext [e]
  refine (congrFun hX _).trans (Eq.trans ?_ (congrArg G hp).symm)
  rw [hG, outDc_is H t ht]

/-- The query gradients. -/
theorem final_dq (G : Vec Ideal S4224x1024 .f32)
    (hG : ∀ (a : Fin 4224) (l : Fin 1024), G (ix2 a l) = if 112 ≤ (a : ℕ) then ((D.dq (l / 64) a (l % 64) : ℝ) : EReal) else 0) :
    ((rdat m c).withAfter after).arrAt 10 cfg0.N = G := by
  refine Pipeline.Dat.arrAt_eq_of_covers _ 10 _ (by decide +kernel) fun t hf y => ?_
  blk_simp
  rw [Pipeline.RDat.withAfter_after]
  have hX := hL 10 t hf
  have ht := (flush0_10 t).mp hf
  have e := idx t
  have hN := tlt t
  obtain ⟨a, l, rfl⟩ : ∃ (a : Fin 4224) (l : Fin 128), y = ix2 a l := ⟨y 0, y 1, eq_ix2 (n0 := 4224) (n1 := 128) y⟩
  have hp : ((win0_10.blk t).view.emb (ix2 a l : S4224x128.Idx) : S4224x1024.Idx)
      = ix2 a (⟨128 * (t.val / 121) + l, by omega⟩ : Fin 1024) := by
    blk_ext [e]
  refine (outDq_is H t ht _ hX a l).trans (Eq.trans ?_ (congrArg G hp).symm)
  rw [hG]
  dsimp only
  split <;> simp

end

theorem frame_ideal_finite : Cert.quiescent_KernelIdeal_pre_finite := fun m ρ _ => frame (F := Ideal) m ρ

theorem frame_ref_finite : Cert.quiescent_ReferenceIdeal_pre_finite := fun m' g' _ => frame_ref m' g' trivial

/-- Four families of arrays that are, element by element, the gradients of the real numbers the arguments hold. -/
structure Grads (m : (ℓ : Loc nD τ sig) → Buf (Elt Ideal) ℓ) (c : Dev nD) (dk dv : Vec Ideal S4224x1024 .f32) (dc : Vec Ideal S8x8x4224 .f32)
    (dq : Vec Ideal S4224x1024 .f32) (D : Args) : Prop where
  holds : HoldsAt m c D
  dk (b : Fin 4224) (l : Fin 1024) : dk (ix2 b l) = if 112 ≤ (b : ℕ) then ((D.dk (l / 64) b (l % 64) : ℝ) : EReal) else 0
  dv (b : Fin 4224) (l : Fin 1024) : dv (ix2 b l) = if 112 ≤ (b : ℕ) then ((D.dv (l / 64) b (l % 64) : ℝ) : EReal) else 0
  dc (p r : Fin 8) (b : Fin 4224) : dc (ix3 p r b) = if (r : ℕ) < 2 ∧ 112 ≤ (b : ℕ) then ((D.dc (p * 2 + r) b : ℝ) : EReal) else 0
  dq (a : Fin 4224) (l : Fin 1024) : dq (ix2 a l) = if 112 ≤ (a : ℕ) then ((D.dq (l / 64) a (l % 64) : ℝ) : EReal) else 0

section
variable (m : (ℓ : Loc nD τ sig) → Buf (Elt Ideal) ℓ) (c : Dev nD) (dk dv : Vec Ideal S4224x1024 .f32) (dc : Vec Ideal S8x8x4224 .f32) (dq : Vec Ideal S4224x1024 .f32)
  (hG : ∃ D, Grads m c dk dv dc dq D) (r : PUnit × MemSt nD τ sig (Elt Ideal)) (hr : Pipeline.RDat.FramePost cfg0 (rdat m) (V m) r)
include hG hr

/-- What a core's result arrays hold at the end. -/
theorem ends : r.2.mem ((cfg0.spec 7).arr.view.loc (c.tc : Thread nD τ)) = dk ∧ r.2.mem ((cfg0.spec 8).arr.view.loc (c.tc : Thread nD τ)) = dv
    ∧ r.2.mem ((cfg0.spec 9).arr.view.loc (c.tc : Thread nD τ)) = dc ∧ r.2.mem ((cfg0.spec 10).arr.view.loc (c.tc : Thread nD τ)) = dq := by
  obtain ⟨D, H⟩ := hG
  obtain ⟨after, hL, hA⟩ := Pipeline.RDat.FramePost.exists_exact hr c
  have h7 := final_dk H.holds after hL _ H.dk
  have h8 := final_dv H.holds after hL _ H.dv
  have h9 := final_dc H.holds after hL _ H.dc
  have h10 := final_dq H.holds after hL _ H.dq
  exact ⟨(hA 7).trans h7, (hA 8).trans h8, (hA 9).trans h9, (hA 10).trans h10⟩

end

/-- The kernel's run ends with the gradients. -/
theorem run_value (m : (ℓ : Loc nD τ sig) → Buf (Elt Ideal) ℓ) (g : Dev nD → PrngReg)
    (dk dv : Dev nD → Vec Ideal S4224x1024 .f32) (dc : Dev nD → Vec Ideal S8x8x4224 .f32) (dq : Dev nD → Vec Ideal S4224x1024 .f32)
    (hG : ∀ c, ∃ D, Grads m c (dk c) (dv c) (dc c) (dq c) D) :
    θ_run (defs (F := Ideal)) (onTc (τ := τ) (main (F := Ideal))) ⟨m, fun _ => 0, g⟩ (fun r => ∀ c : Dev nD,
        r.2.mem ((c.tc : Thread nD τ).loc main_v46_0) = dk c
        ∧ r.2.mem ((c.tc : Thread nD τ).loc main_v46_1) = dv c
        ∧ r.2.mem ((c.tc : Thread nD τ).loc main_v46_2) = dc c
        ∧ r.2.mem ((c.tc : Thread nD τ).loc main_v46_3) = dq c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun r hr c => ⟨(ends m c _ _ _ _ (hG c) r hr.1).1, (ends m c _ _ _ _ (hG c) r hr.1).2.1,
    (ends m c _ _ _ _ (hG c) r hr.1).2.2.1, (ends m c _ _ _ _ (hG c) r hr.1).2.2.2,
    ((hr.1.arr_in c 0 rfl).trans (A_eq m c 0)).trans (V_main_arg0 m c),
    ((hr.1.arr_in c 1 rfl).trans (A_eq m c 1)).trans (V_main_arg1 m c),
    ((hr.1.arr_in c 2 rfl).trans (A_eq m c 2)).trans (V_main_arg2 m c),
    ((hr.1.arr_in c 3 rfl).trans (A_eq m c 3)).trans (V_main_arg3 m c),
    ((hr.1.arr_in c 6 rfl).trans (A_eq m c 6)).trans (V_main_arg4 m c)⟩) (run_main m g)

/-- The reference's results are the gradients. -/
theorem ref_value (m : (ℓ : Loc nD τ sig) → Buf (Elt Ideal) ℓ) (c : Dev nD)
    (m' : (ℓ : Loc Cert.ReferenceIdeal.nD Cert.ReferenceIdeal.τ Cert.ReferenceIdeal.sig) → Buf (Elt Ideal) ℓ) (D : Args) (H : HoldsAt m c D)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4)) :
    Grads m c (Cert.ReferenceIdeal.Value.res_main_v92 (F := Ideal) m' c) (Cert.ReferenceIdeal.Value.res_main_v94 (F := Ideal) m' c)
      (Cert.ReferenceIdeal.Value.res_main_v90 (F := Ideal) m' c) (Cert.ReferenceIdeal.Value.res_main_v96 (F := Ideal) m' c) D where
  holds := H
  dk b l := by rw [Ref.res_v92, h0, h1, h2, h3, h4]; exact Ref.outDk_at H b l
  dv b l := by rw [Ref.res_v94, h0, h1, h3, h4]; exact Ref.outDv_at H b l
  dc p r b := by rw [Ref.res_v90, h0, h1, h2, h3, h4]; exact Ref.outDc_at H p r b
  dq a l := by rw [Ref.res_v96, h0, h1, h2, h3, h4]; exact Ref.outDq_at H a l

theorem algebraic : Cert.algebraic_KernelIdeal_ReferenceIdeal_pre_finite := fun m g m' g' hfin hm =>
  ⟨_, _, _, _, run_value m g _ _ _ _ (fun c => (holdsAt m c hfin).imp fun D H =>
      ref_value m c m' D H (hm c).1 (hm c).2.1 (hm c).2.2.1 (hm c).2.2.2.1 (hm c).2.2.2.2),
    Cert.ReferenceIdeal.Value.run (F := Ideal) m' g'⟩

end Cert.KernelIdeal.Attn

end
-- ==== Proof.Products.DownDx.lean ====
/- `down_dx`: the input gradient `dy · wᵀ` over the kernel's grid of blocks, set beside the reference's one product. -/
module

public import proofs.«01_k».proof.Defs
public import proofs.«01_k».proof.Proof.Gen.DownDxIdeal.Value
public import proofs.«01_k».proof.Proof.Gen.DownDxRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DownDxIdeal.Hand

open Cert.DownDxIdeal Cert.DownDxIdeal.Gen

variable (m : (ℓ : Loc nD τ sig) → Buf (Elt Ideal) ℓ)

/-- The input gradient `dy · wᵀ`, as the reference composes it. -/
abbrev REF (W : FVec Ideal ⟨2, ![5632, 2048]⟩ .bf16) (Y : FVec Ideal ⟨2, ![4224, 2048]⟩ .bf16) : FVec Ideal ⟨2, ![4224, 5632]⟩ .f32 :=
  Host.dotGeneral Cert.DownDxRefIdeal.dot_S4224x2048_S5632x2048_S4224x5632_1_1_0_0_n_n none (extf .f32 Y Cert.DownDxRefIdeal.Gen.bitsLt_bf16_f32) (extf .f32 W Cert.DownDxRefIdeal.Gen.bitsLt_bf16_f32)

/-- The reference at an index: one sum over the contraction. -/
theorem href (W : FVec Ideal ⟨2, ![5632, 2048]⟩ .bf16) (Y : FVec Ideal ⟨2, ![4224, 2048]⟩ .bf16) (j : S4224x5632.Idx) :
    REF W Y j = ∑ l : Fin 2048, Y (ix2 (j 0) l) * W (ix2 (j 1) l) := by
  pointwise [REF]

/-- The accumulator's first contents. -/
theorem hzero (j : S1408x512.Idx) : k0_pay1 (F := Ideal) j = 0 := by pointwise [k0_pay1]

/-- One accumulation: a block's product added to the accumulator. -/
theorem hpay (acc : Vec Ideal S1408x512 .f32) (x : Vec Ideal S1408x2048 .bf16) (y : Vec Ideal S512x2048 .bf16) (j : S1408x512.Idx) :
    k0_pay2 (F := Ideal) acc x y j = acc j + ∑ k : Fin 2048, x (ix2 (j 0) k) * y (ix2 (j 1) k) := by
  pointwise [k0_pay2]

/-- Which block each window is at, at every grid point. -/
theorem idx : ∀ t : Fin cfg0.N, win0_0.index t = ![t.val / 11, 0] ∧ win0_1.index t = ![t.val % 11, 0] ∧ win0_2.index t = ![t.val / 11, t.val % 11] :=
  (by decide +kernel : ∀ t : Fin grid0.N, _)

/-- The result array after the run is the reference's. -/
theorem final (c : Dev nD) : (dats m 0 c).arrAt 2 (cfgs 0).N = REF (m ((c : Thread nD τ).loc main_arg1)) (m ((c : Thread nD τ).loc main_arg2)) := by
  refine (dats m 0 c).arrAt_eq_of_covers 2 _ (by decide +kernel) fun t hf y => ?_
  blk_simp
  rw [after0_2]
  unfold outsAt0
  frame_out
  rw [hpay, hzero, zero_add, href]
  blk_point [iblk, V, idx t]

theorem frame_ref : Cert.quiescent_DownDxRefIdeal := fun m' g' _ =>
  (θ_run Cert.DownDxRefIdeal.defs _ _).mono (fun r h => ⟨fun c => (h c).2, sem_eq_zero_of_no_sems rfl r.2⟩)
    (Cert.DownDxRefIdeal.Value.run (F := Ideal) m' g')

theorem algebraic : Cert.algebraic_DownDxIdeal_DownDxRefIdeal := by
  intro m g m' g' _ hag
  refine ⟨fun c => REF (m ((c : Thread nD τ).loc main_arg1)) (m ((c : Thread nD τ).loc main_arg2)), ?_, ?_⟩
  · exact (θ_run Cert.DownDxIdeal.defs _ _).mono (fun r h c => ⟨(h c).1.trans (final m c), (h c).2⟩) (Cert.DownDxIdeal.Value.run_blocks (F := Ideal) m g)
  · refine (θ_run Cert.DownDxRefIdeal.defs _ _).mono (fun r h c => ⟨(h c).1.trans ?_, (h c).2⟩) (Cert.DownDxRefIdeal.Value.run (F := Ideal) m' g')
    rw [(hag c).2.1, (hag c).2.2]

end Cert.DownDxIdeal.Hand

end
-- ==== Proof.Products.DownDw.lean ====
/- `down_dw`: the weight gradient `xᵀ · dy` over the kernel's grid of blocks, set beside the reference's one product. -/
module

public import proofs.«01_k».proof.Defs
public import proofs.«01_k».proof.Proof.Gen.DownDwIdeal.Value
public import proofs.«01_k».proof.Proof.Gen.DownDwRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DownDwIdeal.Hand

open Cert.DownDwIdeal Cert.DownDwIdeal.Gen

variable (m : (ℓ : Loc nD τ sig) → Buf (Elt Ideal) ℓ)

/-- The weight gradient `xᵀ · dy`, as the reference composes it. -/
abbrev REF (X : FVec Ideal ⟨2, ![4224, 5632]⟩ .bf16) (Y : FVec Ideal ⟨2, ![4224, 2048]⟩ .bf16) : FVec Ideal ⟨2, ![5632, 2048]⟩ .f32 :=
  transpose Cert.DownDwRefIdeal.S5632x2048 [1, 0] (Host.dotGeneral Cert.DownDwRefIdeal.dot_S4224x2048_S4224x5632_S2048x5632_0_0_1_1_n_n none (extf .f32 Y Cert.DownDwRefIdeal.Gen.bitsLt_bf16_f32) (extf .f32 X Cert.DownDwRefIdeal.Gen.bitsLt_bf16_f32)) Cert.DownDwRefIdeal.Gen.transposes_S2048x5632_S5632x2048_1_0

/-- The reference at an index: one sum over the contraction. -/
theorem href (X : FVec Ideal ⟨2, ![4224, 5632]⟩ .bf16) (Y : FVec Ideal ⟨2, ![4224, 2048]⟩ .bf16) (j : S5632x2048.Idx) :
    REF X Y j = ∑ l : Fin 4224, X (ix2 l (j 0)) * Y (ix2 l (j 1)) := by
  pointwise [REF]
  exact Fin.sum_fin_congr fun _ => mul_comm _ _

/-- The accumulator's first contents. -/
theorem hzero (j : S1408x1024.Idx) : k0_pay1 (F := Ideal) j = 0 := by pointwise [k0_pay1]

/-- One accumulation: a block's product added to the accumulator. -/
theorem hpay (acc : Vec Ideal S1408x1024 .f32) (x : Vec Ideal S1408x1408 .bf16) (y : Vec Ideal S1408x1024 .bf16) (j : S1408x1024.Idx) :
    k0_pay2 (F := Ideal) acc x y j = acc j + ∑ k : Fin 1408, x (ix2 k (j 0)) * y (ix2 k (j 1)) := by
  pointwise [k0_pay2]

/-- Which block each window is at, at every grid point. -/
theorem idx : ∀ t : Fin cfg0.N, win0_0.index t = ![t.val % 3, t.val / 6] ∧ win0_1.index t = ![t.val % 3, t.val / 3 % 2] ∧ win0_2.index t = ![t.val / 6, t.val / 3 % 2] :=
  (by decide +kernel : ∀ t : Fin grid0.N, _)

/-- The result array after the run is the reference's. -/
theorem final (c : Dev nD) : (dats m 0 c).arrAt 2 (cfgs 0).N = REF (m ((c : Thread nD τ).loc main_arg0)) (m ((c : Thread nD τ).loc main_arg2)) := by
  refine (dats m 0 c).arrAt_eq_of_covers 2 _ (by decide +kernel) fun t hf y => ?_
  blk_simp
  have hm := (flush0_2 t).mp hf
  have e : (outsAt0 m c t.val t.isLt).1 = (outsAt0 m c t.val t.isLt).2 := by
    rw [outsAt0_C m c t (by omega) hm]
    frame_out
  rw [after0_2, e]
  rw [Pipeline.eq_sum_fin_of_reset_step_apply_of_flush (fun n h => (outsAt0 m c n h).2) 3 (fun _ => 0) _
    (fun t h j => by rw [outsAt0_A m c t h (by omega)]; frame_out; rw [hpay, hzero])
    (fun t h j => by
      by_cases h1 : t.val % 3 = 2
      · rw [outsAt0_C m c t h h1]; frame_out; rw [hpay]; exact congrArg (· + _) (congrFun (Memref.IsWhole.read_unread _ _) j)
      · rw [outsAt0_B m c t h h1]; frame_out; rw [hpay]; exact congrArg (· + _) (congrFun (Memref.IsWhole.read_unread _ _) j))
    t hm _, zero_add, href]
  refine Fin.sum_mul_add_congr fun s k hl => ?_
  blk_point [iblk, V, idx t, idx ⟨_, Pipeline.run_point_lt_of_flush t hm s⟩]

theorem frame_ref : Cert.quiescent_DownDwRefIdeal := fun m' g' _ =>
  (θ_run Cert.DownDwRefIdeal.defs _ _).mono (fun r h => ⟨fun c => (h c).2, sem_eq_zero_of_no_sems rfl r.2⟩)
    (Cert.DownDwRefIdeal.Value.run (F := Ideal) m' g')

theorem algebraic : Cert.algebraic_DownDwIdeal_DownDwRefIdeal := by
  intro m g m' g' _ hag
  refine ⟨fun c => REF (m ((c : Thread nD τ).loc main_arg0)) (m ((c : Thread nD τ).loc main_arg2)), ?_, ?_⟩
  · exact (θ_run Cert.DownDwIdeal.defs _ _).mono (fun r h c => ⟨(h c).1.trans (final m c), (h c).2⟩) (Cert.DownDwIdeal.Value.run_blocks (F := Ideal) m g)
  · refine (θ_run Cert.DownDwRefIdeal.defs _ _).mono (fun r h c => ⟨(h c).1.trans ?_, (h c).2⟩) (Cert.DownDwRefIdeal.Value.run (F := Ideal) m' g')
    rw [(hag c).1, (hag c).2.2]

end Cert.DownDwIdeal.Hand

end
-- ==== Proof.Products.GateUpDx.lean ====
/- `gate_up_dx`: the input gradient `dy · wᵀ` over the kernel's grid of blocks, set beside the reference's one product. -/
module

public import proofs.«01_k».proof.Defs
public import proofs.«01_k».proof.Proof.Gen.GateUpDxIdeal.Value
public import proofs.«01_k».proof.Proof.Gen.GateUpDxRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GateUpDxIdeal.Hand

open Cert.GateUpDxIdeal Cert.GateUpDxIdeal.Gen

variable (m : (ℓ : Loc nD τ sig) → Buf (Elt Ideal) ℓ)

/-- The input gradient `dy · wᵀ`, as the reference composes it. -/
abbrev REF (W : FVec Ideal ⟨2, ![2048, 11264]⟩ .bf16) (Y : FVec Ideal ⟨2, ![4224, 11264]⟩ .bf16) : FVec Ideal ⟨2, ![4224, 2048]⟩ .f32 :=
  Host.dotGeneral Cert.GateUpDxRefIdeal.dot_S4224x11264_S2048x11264_S4224x2048_1_1_0_0_n_n none (extf .f32 Y Cert.GateUpDxRefIdeal.Gen.bitsLt_bf16_f32) (extf .f32 W Cert.GateUpDxRefIdeal.Gen.bitsLt_bf16_f32)

/-- The reference at an index: one sum over the contraction. -/
theorem href (W : FVec Ideal ⟨2, ![2048, 11264]⟩ .bf16) (Y : FVec Ideal ⟨2, ![4224, 11264]⟩ .bf16) (j : S4224x2048.Idx) :
    REF W Y j = ∑ l : Fin 11264, Y (ix2 (j 0) l) * W (ix2 (j 1) l) := by
  pointwise [REF]

/-- The accumulator's first contents. -/
theorem hzero (j : S1408x512.Idx) : k0_pay1 (F := Ideal) j = 0 := by pointwise [k0_pay1]

/-- One accumulation: a block's product added to the accumulator. -/
theorem hpay (acc : Vec Ideal S1408x512 .f32) (x : Vec Ideal S1408x1408 .bf16) (y : Vec Ideal S512x1408 .bf16) (j : S1408x512.Idx) :
    k0_pay2 (F := Ideal) acc x y j = acc j + ∑ k : Fin 1408, x (ix2 (j 0) k) * y (ix2 (j 1) k) := by
  pointwise [k0_pay2]

/-- Which block each window is at, at every grid point. -/
theorem idx : ∀ t : Fin cfg0.N, win0_0.index t = ![t.val / 32, t.val % 8] ∧ win0_1.index t = ![t.val / 8 % 4, t.val % 8] ∧ win0_2.index t = ![t.val / 32, t.val / 8 % 4] :=
  (by decide +kernel : ∀ t : Fin grid0.N, _)

/-- The result array after the run is the reference's. -/
theorem final (c : Dev nD) : (dats m 0 c).arrAt 2 (cfgs 0).N = REF (m ((c : Thread nD τ).loc main_arg1)) (m ((c : Thread nD τ).loc main_arg2)) := by
  refine (dats m 0 c).arrAt_eq_of_covers 2 _ (by decide +kernel) fun t hf y => ?_
  blk_simp
  have hm := (flush0_2 t).mp hf
  have e : (outsAt0 m c t.val t.isLt).1 = (outsAt0 m c t.val t.isLt).2 := by
    rw [outsAt0_C m c t (by omega) hm]
    frame_out
  rw [after0_2, e]
  rw [Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; rw [hpay]; exact congrArg (· + _) (congrFun (Memref.IsWhole.read_unread _ _) j)
      · rw [outsAt0_B m c t h h1]; frame_out; rw [hpay]; exact congrArg (· + _) (congrFun (Memref.IsWhole.read_unread _ _) j))
    t hm _, zero_add, href]
  refine Fin.sum_mul_add_congr fun s k hl => ?_
  blk_point [iblk, V, idx t, idx ⟨_, Pipeline.run_point_lt_of_flush t hm s⟩]

theorem frame_ref : Cert.quiescent_GateUpDxRefIdeal := fun m' g' _ =>
  (θ_run Cert.GateUpDxRefIdeal.defs _ _).mono (fun r h => ⟨fun c => (h c).2, sem_eq_zero_of_no_sems rfl r.2⟩)
    (Cert.GateUpDxRefIdeal.Value.run (F := Ideal) m' g')

theorem algebraic : Cert.algebraic_GateUpDxIdeal_GateUpDxRefIdeal := by
  intro m g m' g' _ hag
  refine ⟨fun c => REF (m ((c : Thread nD τ).loc main_arg1)) (m ((c : Thread nD τ).loc main_arg2)), ?_, ?_⟩
  · exact (θ_run Cert.GateUpDxIdeal.defs _ _).mono (fun r h c => ⟨(h c).1.trans (final m c), (h c).2⟩) (Cert.GateUpDxIdeal.Value.run_blocks (F := Ideal) m g)
  · refine (θ_run Cert.GateUpDxRefIdeal.defs _ _).mono (fun r h c => ⟨(h c).1.trans ?_, (h c).2⟩) (Cert.GateUpDxRefIdeal.Value.run (F := Ideal) m' g')
    rw [(hag c).2.1, (hag c).2.2]

end Cert.GateUpDxIdeal.Hand

end
-- ==== Proof.Products.GateUpDw.lean ====
/- `gate_up_dw`: the weight gradient `xᵀ · dy` over the kernel's grid of blocks, set beside the reference's one product. -/
module

public import proofs.«01_k».proof.Defs
public import proofs.«01_k».proof.Proof.Gen.GateUpDwIdeal.Value
public import proofs.«01_k».proof.Proof.Gen.GateUpDwRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GateUpDwIdeal.Hand

open Cert.GateUpDwIdeal Cert.GateUpDwIdeal.Gen

variable (m : (ℓ : Loc nD τ sig) → Buf (Elt Ideal) ℓ)

/-- The weight gradient `xᵀ · dy`, as the reference composes it. -/
abbrev REF (X : FVec Ideal ⟨2, ![4224, 2048]⟩ .bf16) (Y : FVec Ideal ⟨2, ![4224, 11264]⟩ .bf16) : FVec Ideal ⟨3, ![4, 2048, 2816]⟩ .f32 :=
  transpose Cert.GateUpDwRefIdeal.S4x2048x2816 [1, 0, 2] (shapeCast Cert.GateUpDwRefIdeal.S2048x4x2816 (transpose Cert.GateUpDwRefIdeal.S2048x11264 [1, 0] (Host.dotGeneral Cert.GateUpDwRefIdeal.dot_S4224x11264_S4224x2048_S11264x2048_0_0_1_1_n_n none (extf .f32 Y Cert.GateUpDwRefIdeal.Gen.bitsLt_bf16_f32) (extf .f32 X Cert.GateUpDwRefIdeal.Gen.bitsLt_bf16_f32)) Cert.GateUpDwRefIdeal.Gen.transposes_S11264x2048_S2048x11264_1_0) Cert.GateUpDwRefIdeal.Gen.shapeCasts_S2048x11264_S2048x4x2816) Cert.GateUpDwRefIdeal.Gen.transposes_S2048x4x2816_S4x2048x2816_1_0_2

/-- The reference at an index: one sum over the contraction. -/
theorem href (X : FVec Ideal ⟨2, ![4224, 2048]⟩ .bf16) (Y : FVec Ideal ⟨2, ![4224, 11264]⟩ .bf16) (j : S4x2048x2816.Idx) :
    REF X Y j = ∑ l : Fin 4224, X (ix2 l (j 1)) * Y (ix2 l ⟨(j 0).val * 2816 + (j 2).val, by have h0 : (j 0).val < 4 := (j 0).isLt; have h2 : (j 2).val < 2816 := (j 2).isLt; omega⟩) := by
  pointwise [REF]
  exact Fin.sum_fin_congr fun _ => mul_comm _ _

/-- The accumulator's first contents. -/
theorem hzero (j : S1024x1408.Idx) : k0_pay1 (F := Ideal) j = 0 := by pointwise [k0_pay1]

/-- One accumulation: a block's product added to the accumulator. -/
theorem hpay (acc : Vec Ideal S1024x1408 .f32) (x : Vec Ideal S1408x1024 .bf16) (y : Vec Ideal S1408x1408 .bf16) (j : S1024x1408.Idx) :
    k0_pay2 (F := Ideal) acc x y j = acc j + ∑ k : Fin 1408, x (ix2 k (j 0)) * y (ix2 k (j 1)) := by
  pointwise [k0_pay2]

/-- What is written out: the accumulator, as a block of one of the four column blocks. -/
theorem hout (acc : Vec Ideal S1024x1408 .f32) (j : S1x1024x1408.Idx) : k0_pay3 (F := Ideal) acc j = acc (ix2 (j 1) (j 2)) := by
  pointwise [k0_pay3]

/-- Which block each window is at, at every grid point. -/
theorem idx : ∀ t : Fin cfg0.N, win0_0.index t = ![t.val % 3, t.val / 24] ∧ win0_1.index t = ![t.val % 3, t.val / 3 % 8] ∧ win0_2.index t = ![t.val / 3 % 8 / 2, t.val / 24, t.val / 3 % 8 % 2] :=
  (by decide +kernel : ∀ t : Fin grid0.N, _)

/-- The result array after the run is the reference's. -/
theorem final (c : Dev nD) : (dats m 0 c).arrAt 2 (cfgs 0).N = REF (m ((c : Thread nD τ).loc main_arg0)) (m ((c : Thread nD τ).loc main_arg2)) := by
  refine (dats m 0 c).arrAt_eq_of_covers 2 _ (by decide +kernel) fun t hf y => ?_
  blk_simp
  have hm := (flush0_2 t).mp hf
  have e : (outsAt0 m c t.val t.isLt).1 y = (outsAt0 m c t.val t.isLt).2 (ix2 (y 1) (y 2)) := by
    rw [outsAt0_C m c t (by omega) hm]
    frame_out
    rw [hout]
  rw [after0_2, e]
  rw [Pipeline.eq_sum_fin_of_reset_step_apply_of_flush (fun n h => (outsAt0 m c n h).2) 3 (fun _ => 0) _
    (fun t h j => by rw [outsAt0_A m c t h (by omega)]; frame_out; rw [hpay, hzero])
    (fun t h j => by
      by_cases h1 : t.val % 3 = 2
      · rw [outsAt0_C m c t h h1]; frame_out; rw [hpay]; exact congrArg (· + _) (congrFun (Memref.IsWhole.read_unread _ _) j)
      · rw [outsAt0_B m c t h h1]; frame_out; rw [hpay]; exact congrArg (· + _) (congrFun (Memref.IsWhole.read_unread _ _) j))
    t hm _, zero_add, href]
  refine Fin.sum_mul_add_congr fun s k hl => ?_
  blk_point [iblk, V, idx t, idx ⟨_, Pipeline.run_point_lt_of_flush t hm s⟩]

theorem frame_ref : Cert.quiescent_GateUpDwRefIdeal := fun m' g' _ =>
  (θ_run Cert.GateUpDwRefIdeal.defs _ _).mono (fun r h => ⟨fun c => (h c).2, sem_eq_zero_of_no_sems rfl r.2⟩)
    (Cert.GateUpDwRefIdeal.Value.run (F := Ideal) m' g')

theorem algebraic : Cert.algebraic_GateUpDwIdeal_GateUpDwRefIdeal := by
  intro m g m' g' _ hag
  refine ⟨fun c => REF (m ((c : Thread nD τ).loc main_arg0)) (m ((c : Thread nD τ).loc main_arg2)), ?_, ?_⟩
  · exact (θ_run Cert.GateUpDwIdeal.defs _ _).mono (fun r h c => ⟨(h c).1.trans (final m c), (h c).2⟩) (Cert.GateUpDwIdeal.Value.run_blocks (F := Ideal) m g)
  · refine (θ_run Cert.GateUpDwRefIdeal.defs _ _).mono (fun r h c => ⟨(h c).1.trans ?_, (h c).2⟩) (Cert.GateUpDwRefIdeal.Value.run (F := Ideal) m' g')
    rw [(hag c).1, (hag c).2.2]

end Cert.GateUpDwIdeal.Hand

end
-- ==== Proof.Products.WoDx.lean ====
/- `wo_dx`: the input gradient `dy · wᵀ` over the kernel's grid of blocks, set beside the reference's one product. -/
module

public import proofs.«01_k».proof.Defs
public import proofs.«01_k».proof.Proof.Gen.WoDxIdeal.Value
public import proofs.«01_k».proof.Proof.Gen.WoDxRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WoDxIdeal.Hand

open Cert.WoDxIdeal Cert.WoDxIdeal.Gen

variable (m : (ℓ : Loc nD τ sig) → Buf (Elt Ideal) ℓ)

/-- The input gradient `dy · wᵀ`, as the reference composes it. -/
abbrev REF (W : FVec Ideal ⟨2, ![2048, 2048]⟩ .bf16) (Y : FVec Ideal ⟨2, ![4224, 2048]⟩ .bf16) : FVec Ideal ⟨2, ![4224, 2048]⟩ .f32 :=
  Host.dotGeneral Cert.WoDxRefIdeal.dot_S4224x2048_S2048x2048_S4224x2048_1_1_0_0_n_n none (extf .f32 Y Cert.WoDxRefIdeal.Gen.bitsLt_bf16_f32) (extf .f32 W Cert.WoDxRefIdeal.Gen.bitsLt_bf16_f32)

/-- The reference at an index: one sum over the contraction. -/
theorem href (W : FVec Ideal ⟨2, ![2048, 2048]⟩ .bf16) (Y : FVec Ideal ⟨2, ![4224, 2048]⟩ .bf16) (j : S4224x2048.Idx) :
    REF W Y j = ∑ l : Fin 2048, Y (ix2 (j 0) l) * W (ix2 (j 1) l) := by
  pointwise [REF]

/-- The accumulator's first contents. -/
theorem hzero (j : S1408x512.Idx) : k0_pay1 (F := Ideal) j = 0 := by pointwise [k0_pay1]

/-- One accumulation: a block's product added to the accumulator. -/
theorem hpay (acc : Vec Ideal S1408x512 .f32) (x : Vec Ideal S1408x2048 .bf16) (y : Vec Ideal S512x2048 .bf16) (j : S1408x512.Idx) :
    k0_pay2 (F := Ideal) acc x y j = acc j + ∑ k : Fin 2048, x (ix2 (j 0) k) * y (ix2 (j 1) k) := by
  pointwise [k0_pay2]

/-- Which block each window is at, at every grid point. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The result array after the run is the reference's. -/
theorem final (c : Dev nD) : (dats m 0 c).arrAt 2 (cfgs 0).N = REF (m ((c : Thread nD τ).loc main_arg1)) (m ((c : Thread nD τ).loc main_arg2)) := by
  refine (dats m 0 c).arrAt_eq_of_covers 2 _ (by decide +kernel) fun t hf y => ?_
  blk_simp
  rw [after0_2]
  unfold outsAt0
  frame_out
  rw [hpay, hzero, zero_add, href]
  blk_point [iblk, V, idx t]

theorem frame_ref : Cert.quiescent_WoDxRefIdeal := fun m' g' _ =>
  (θ_run Cert.WoDxRefIdeal.defs _ _).mono (fun r h => ⟨fun c => (h c).2, sem_eq_zero_of_no_sems rfl r.2⟩)
    (Cert.WoDxRefIdeal.Value.run (F := Ideal) m' g')

theorem algebraic : Cert.algebraic_WoDxIdeal_WoDxRefIdeal := by
  intro m g m' g' _ hag
  refine ⟨fun c => REF (m ((c : Thread nD τ).loc main_arg1)) (m ((c : Thread nD τ).loc main_arg2)), ?_, ?_⟩
  · exact (θ_run Cert.WoDxIdeal.defs _ _).mono (fun r h c => ⟨(h c).1.trans (final m c), (h c).2⟩) (Cert.WoDxIdeal.Value.run_blocks (F := Ideal) m g)
  · refine (θ_run Cert.WoDxRefIdeal.defs _ _).mono (fun r h c => ⟨(h c).1.trans ?_, (h c).2⟩) (Cert.WoDxRefIdeal.Value.run (F := Ideal) m' g')
    rw [(hag c).2.1, (hag c).2.2]

end Cert.WoDxIdeal.Hand

end
-- ==== Proof.Products.WoDw.lean ====
/- `wo_dw`: the weight gradient `xᵀ · dy` over the kernel's grid of blocks, set beside the reference's one product. -/
module

public import proofs.«01_k».proof.Defs
public import proofs.«01_k».proof.Proof.Gen.WoDwIdeal.Value
public import proofs.«01_k».proof.Proof.Gen.WoDwRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WoDwIdeal.Hand

open Cert.WoDwIdeal Cert.WoDwIdeal.Gen

variable (m : (ℓ : Loc nD τ sig) → Buf (Elt Ideal) ℓ)

/-- The weight gradient `xᵀ · dy`, as the reference composes it. -/
abbrev REF (X : FVec Ideal ⟨2, ![4224, 2048]⟩ .bf16) (Y : FVec Ideal ⟨2, ![4224, 2048]⟩ .bf16) : FVec Ideal ⟨2, ![2048, 2048]⟩ .f32 :=
  transpose Cert.WoDwRefIdeal.S2048x2048 [1, 0] (Host.dotGeneral Cert.WoDwRefIdeal.dot_S4224x2048_S4224x2048_S2048x2048_0_0_1_1_n_n none (extf .f32 Y Cert.WoDwRefIdeal.Gen.bitsLt_bf16_f32) (extf .f32 X Cert.WoDwRefIdeal.Gen.bitsLt_bf16_f32)) Cert.WoDwRefIdeal.Gen.transposes_S2048x2048_S2048x2048_1_0

/-- The reference at an index: one sum over the contraction. -/
theorem href (X : FVec Ideal ⟨2, ![4224, 2048]⟩ .bf16) (Y : FVec Ideal ⟨2, ![4224, 2048]⟩ .bf16) (j : S2048x2048.Idx) :
    REF X Y j = ∑ l : Fin 4224, X (ix2 l (j 0)) * Y (ix2 l (j 1)) := by
  pointwise [REF]
  exact Fin.sum_fin_congr fun _ => mul_comm _ _

/-- The accumulator's first contents. -/
theorem hzero (j : S1024x1024.Idx) : k0_pay1 (F := Ideal) j = 0 := by pointwise [k0_pay1]

/-- One accumulation: a block's product added to the accumulator. -/
theorem hpay (acc : Vec Ideal S1024x1024 .f32) (x : Vec Ideal S1408x1024 .bf16) (y : Vec Ideal S1408x1024 .bf16) (j : S1024x1024.Idx) :
    k0_pay2 (F := Ideal) acc x y j = acc j + ∑ k : Fin 1408, x (ix2 k (j 0)) * y (ix2 k (j 1)) := by
  pointwise [k0_pay2]

/-- Which block each window is at, at every grid point. -/
theorem idx : ∀ t : Fin cfg0.N, win0_0.index t = ![t.val % 3, t.val / 6] ∧ win0_1.index t = ![t.val % 3, t.val / 3 % 2] ∧ win0_2.index t = ![t.val / 6, t.val / 3 % 2] :=
  (by decide +kernel : ∀ t : Fin grid0.N, _)

/-- The result array after the run is the reference's. -/
theorem final (c : Dev nD) : (dats m 0 c).arrAt 2 (cfgs 0).N = REF (m ((c : Thread nD τ).loc main_arg0)) (m ((c : Thread nD τ).loc main_arg2)) := by
  refine (dats m 0 c).arrAt_eq_of_covers 2 _ (by decide +kernel) fun t hf y => ?_
  blk_simp
  have hm := (flush0_2 t).mp hf
  have e : (outsAt0 m c t.val t.isLt).1 = (outsAt0 m c t.val t.isLt).2 := by
    rw [outsAt0_C m c t (by omega) hm]
    frame_out
  rw [after0_2, e]
  rw [Pipeline.eq_sum_fin_of_reset_step_apply_of_flush (fun n h => (outsAt0 m c n h).2) 3 (fun _ => 0) _
    (fun t h j => by rw [outsAt0_A m c t h (by omega)]; frame_out; rw [hpay, hzero])
    (fun t h j => by
      by_cases h1 : t.val % 3 = 2
      · rw [outsAt0_C m c t h h1]; frame_out; rw [hpay]; exact congrArg (· + _) (congrFun (Memref.IsWhole.read_unread _ _) j)
      · rw [outsAt0_B m c t h h1]; frame_out; rw [hpay]; exact congrArg (· + _) (congrFun (Memref.IsWhole.read_unread _ _) j))
    t hm _, zero_add, href]
  refine Fin.sum_mul_add_congr fun s k hl => ?_
  blk_point [iblk, V, idx t, idx ⟨_, Pipeline.run_point_lt_of_flush t hm s⟩]

theorem frame_ref : Cert.quiescent_WoDwRefIdeal := fun m' g' _ =>
  (θ_run Cert.WoDwRefIdeal.defs _ _).mono (fun r h => ⟨fun c => (h c).2, sem_eq_zero_of_no_sems rfl r.2⟩)
    (Cert.WoDwRefIdeal.Value.run (F := Ideal) m' g')

theorem algebraic : Cert.algebraic_WoDwIdeal_WoDwRefIdeal := by
  intro m g m' g' _ hag
  refine ⟨fun c => REF (m ((c : Thread nD τ).loc main_arg0)) (m ((c : Thread nD τ).loc main_arg2)), ?_, ?_⟩
  · exact (θ_run Cert.WoDwIdeal.defs _ _).mono (fun r h c => ⟨(h c).1.trans (final m c), (h c).2⟩) (Cert.WoDwIdeal.Value.run_blocks (F := Ideal) m g)
  · refine (θ_run Cert.WoDwRefIdeal.defs _ _).mono (fun r h c => ⟨(h c).1.trans ?_, (h c).2⟩) (Cert.WoDwRefIdeal.Value.run (F := Ideal) m' g')
    rw [(hag c).1, (hag c).2.2]

end Cert.WoDwIdeal.Hand

end
-- ==== Proof.Products.BranchDx.lean ====
/- `branch_dx`: the input gradient `dy · wᵀ` over the kernel's grid of blocks, set beside the reference's one product. -/
module

public import proofs.«01_k».proof.Defs
public import proofs.«01_k».proof.Proof.Gen.BranchDxIdeal.Value
public import proofs.«01_k».proof.Proof.Gen.BranchDxRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.BranchDxIdeal.Hand

open Cert.BranchDxIdeal Cert.BranchDxIdeal.Gen

variable (m : (ℓ : Loc nD τ sig) → Buf (Elt Ideal) ℓ)

/-- The input gradient `dy · wᵀ`, as the reference composes it. -/
abbrev REF (W : FVec Ideal ⟨2, ![1024, 2048]⟩ .bf16) (Y : FVec Ideal ⟨2, ![4224, 2048]⟩ .bf16) : FVec Ideal ⟨2, ![4224, 1024]⟩ .f32 :=
  Host.dotGeneral Cert.BranchDxRefIdeal.dot_S4224x2048_S1024x2048_S4224x1024_1_1_0_0_n_n none (extf .f32 Y Cert.BranchDxRefIdeal.Gen.bitsLt_bf16_f32) (extf .f32 W Cert.BranchDxRefIdeal.Gen.bitsLt_bf16_f32)

/-- The reference at an index: one sum over the contraction. -/
theorem href (W : FVec Ideal ⟨2, ![1024, 2048]⟩ .bf16) (Y : FVec Ideal ⟨2, ![4224, 2048]⟩ .bf16) (j : S4224x1024.Idx) :
    REF W Y j = ∑ l : Fin 2048, Y (ix2 (j 0) l) * W (ix2 (j 1) l) := by
  pointwise [REF]

/-- The accumulator's first contents. -/
theorem hzero (j : S1408x512.Idx) : k0_pay1 (F := Ideal) j = 0 := by pointwise [k0_pay1]

/-- One accumulation: a block's product added to the accumulator. -/
theorem hpay (acc : Vec Ideal S1408x512 .f32) (x : Vec Ideal S1408x2048 .bf16) (y : Vec Ideal S512x2048 .bf16) (j : S1408x512.Idx) :
    k0_pay2 (F := Ideal) acc x y j = acc j + ∑ k : Fin 2048, x (ix2 (j 0) k) * y (ix2 (j 1) k) := by
  pointwise [k0_pay2]

/-- Which block each window is at, at every grid point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The result array after the run is the reference's. -/
theorem final (c : Dev nD) : (dats m 0 c).arrAt 2 (cfgs 0).N = REF (m ((c : Thread nD τ).loc main_arg1)) (m ((c : Thread nD τ).loc main_arg2)) := by
  refine (dats m 0 c).arrAt_eq_of_covers 2 _ (by decide +kernel) fun t hf y => ?_
  blk_simp
  rw [after0_2]
  unfold outsAt0
  frame_out
  rw [hpay, hzero, zero_add, href]
  blk_point [iblk, V, idx t]

theorem frame_ref : Cert.quiescent_BranchDxRefIdeal := fun m' g' _ =>
  (θ_run Cert.BranchDxRefIdeal.defs _ _).mono (fun r h => ⟨fun c => (h c).2, sem_eq_zero_of_no_sems rfl r.2⟩)
    (Cert.BranchDxRefIdeal.Value.run (F := Ideal) m' g')

theorem algebraic : Cert.algebraic_BranchDxIdeal_BranchDxRefIdeal := by
  intro m g m' g' _ hag
  refine ⟨fun c => REF (m ((c : Thread nD τ).loc main_arg1)) (m ((c : Thread nD τ).loc main_arg2)), ?_, ?_⟩
  · exact (θ_run Cert.BranchDxIdeal.defs _ _).mono (fun r h c => ⟨(h c).1.trans (final m c), (h c).2⟩) (Cert.BranchDxIdeal.Value.run_blocks (F := Ideal) m g)
  · refine (θ_run Cert.BranchDxRefIdeal.defs _ _).mono (fun r h c => ⟨(h c).1.trans ?_, (h c).2⟩) (Cert.BranchDxRefIdeal.Value.run (F := Ideal) m' g')
    rw [(hag c).2.1, (hag c).2.2]

end Cert.BranchDxIdeal.Hand

end
-- ==== Proof.Products.BranchDw.lean ====
/- `branch_dw`: the weight gradient `xᵀ · dy` over the kernel's grid of blocks, set beside the reference's one product. -/
module

public import proofs.«01_k».proof.Defs
public import proofs.«01_k».proof.Proof.Gen.BranchDwIdeal.Value
public import proofs.«01_k».proof.Proof.Gen.BranchDwRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.BranchDwIdeal.Hand

open Cert.BranchDwIdeal Cert.BranchDwIdeal.Gen

variable (m : (ℓ : Loc nD τ sig) → Buf (Elt Ideal) ℓ)

/-- The weight gradient `xᵀ · dy`, as the reference composes it. -/
abbrev REF (X : FVec Ideal ⟨2, ![4224, 1024]⟩ .bf16) (Y : FVec Ideal ⟨2, ![4224, 2048]⟩ .bf16) : FVec Ideal ⟨3, ![4, 1024, 512]⟩ .f32 :=
  transpose Cert.BranchDwRefIdeal.S4x1024x512 [1, 0, 2] (shapeCast Cert.BranchDwRefIdeal.S1024x4x512 (transpose Cert.BranchDwRefIdeal.S1024x2048 [1, 0] (Host.dotGeneral Cert.BranchDwRefIdeal.dot_S4224x2048_S4224x1024_S2048x1024_0_0_1_1_n_n none (extf .f32 Y Cert.BranchDwRefIdeal.Gen.bitsLt_bf16_f32) (extf .f32 X Cert.BranchDwRefIdeal.Gen.bitsLt_bf16_f32)) Cert.BranchDwRefIdeal.Gen.transposes_S2048x1024_S1024x2048_1_0) Cert.BranchDwRefIdeal.Gen.shapeCasts_S1024x2048_S1024x4x512) Cert.BranchDwRefIdeal.Gen.transposes_S1024x4x512_S4x1024x512_1_0_2

/-- The reference at an index: one sum over the contraction. -/
theorem href (X : FVec Ideal ⟨2, ![4224, 1024]⟩ .bf16) (Y : FVec Ideal ⟨2, ![4224, 2048]⟩ .bf16) (j : S4x1024x512.Idx) :
    REF X Y j = ∑ l : Fin 4224, X (ix2 l (j 1)) * Y (ix2 l ⟨(j 0).val * 512 + (j 2).val, by have h0 : (j 0).val < 4 := (j 0).isLt; have h2 : (j 2).val < 512 := (j 2).isLt; omega⟩) := by
  pointwise [REF]
  exact Fin.sum_fin_congr fun _ => mul_comm _ _

/-- The accumulator's first contents. -/
theorem hzero (j : S1024x512.Idx) : k0_pay1 (F := Ideal) j = 0 := by pointwise [k0_pay1]

/-- One accumulation: a block's product added to the accumulator. -/
theorem hpay (acc : Vec Ideal S1024x512 .f32) (x : Vec Ideal S1408x1024 .bf16) (y : Vec Ideal S1408x512 .bf16) (j : S1024x512.Idx) :
    k0_pay2 (F := Ideal) acc x y j = acc j + ∑ k : Fin 1408, x (ix2 k (j 0)) * y (ix2 k (j 1)) := by
  pointwise [k0_pay2]

/-- What is written out: the accumulator, as a block of one of the four column blocks. -/
theorem hout (acc : Vec Ideal S1024x512 .f32) (j : S1x1024x512.Idx) : k0_pay3 (F := Ideal) acc j = acc (ix2 (j 1) (j 2)) := by
  pointwise [k0_pay3]

/-- Which block each window is at, at every grid point. -/
theorem idx : ∀ t : Fin cfg0.N, win0_0.index t = ![t.val % 3, 0] ∧ win0_1.index t = ![t.val % 3, t.val / 3 % 4] ∧ win0_2.index t = ![t.val / 3 % 4, 0, 0] :=
  (by decide +kernel : ∀ t : Fin grid0.N, _)

/-- The result array after the run is the reference's. -/
theorem final (c : Dev nD) : (dats m 0 c).arrAt 2 (cfgs 0).N = REF (m ((c : Thread nD τ).loc main_arg0)) (m ((c : Thread nD τ).loc main_arg2)) := by
  refine (dats m 0 c).arrAt_eq_of_covers 2 _ (by decide +kernel) fun t hf y => ?_
  blk_simp
  have hm := (flush0_2 t).mp hf
  have e : (outsAt0 m c t.val t.isLt).1 y = (outsAt0 m c t.val t.isLt).2 (ix2 (y 1) (y 2)) := by
    rw [outsAt0_C m c t (by omega) hm]
    frame_out
    rw [hout]
  rw [after0_2, e]
  rw [Pipeline.eq_sum_fin_of_reset_step_apply_of_flush (fun n h => (outsAt0 m c n h).2) 3 (fun _ => 0) _
    (fun t h j => by rw [outsAt0_A m c t h (by omega)]; frame_out; rw [hpay, hzero])
    (fun t h j => by
      by_cases h1 : t.val % 3 = 2
      · rw [outsAt0_C m c t h h1]; frame_out; rw [hpay]; exact congrArg (· + _) (congrFun (Memref.IsWhole.read_unread _ _) j)
      · rw [outsAt0_B m c t h h1]; frame_out; rw [hpay]; exact congrArg (· + _) (congrFun (Memref.IsWhole.read_unread _ _) j))
    t hm _, zero_add, href]
  refine Fin.sum_mul_add_congr fun s k hl => ?_
  blk_point [iblk, V, idx t, idx ⟨_, Pipeline.run_point_lt_of_flush t hm s⟩]

theorem frame_ref : Cert.quiescent_BranchDwRefIdeal := fun m' g' _ =>
  (θ_run Cert.BranchDwRefIdeal.defs _ _).mono (fun r h => ⟨fun c => (h c).2, sem_eq_zero_of_no_sems rfl r.2⟩)
    (Cert.BranchDwRefIdeal.Value.run (F := Ideal) m' g')

theorem algebraic : Cert.algebraic_BranchDwIdeal_BranchDwRefIdeal := by
  intro m g m' g' _ hag
  refine ⟨fun c => REF (m ((c : Thread nD τ).loc main_arg0)) (m ((c : Thread nD τ).loc main_arg2)), ?_, ?_⟩
  · exact (θ_run Cert.BranchDwIdeal.defs _ _).mono (fun r h c => ⟨(h c).1.trans (final m c), (h c).2⟩) (Cert.BranchDwIdeal.Value.run_blocks (F := Ideal) m g)
  · refine (θ_run Cert.BranchDwRefIdeal.defs _ _).mono (fun r h c => ⟨(h c).1.trans ?_, (h c).2⟩) (Cert.BranchDwRefIdeal.Value.run (F := Ideal) m' g')
    rw [(hag c).1, (hag c).2.2]

end Cert.BranchDwIdeal.Hand

end
-- ==== Proof.Products.ProjDx.lean ====
/- `proj_dx`: the input gradient `dy · wᵀ` over the kernel's grid of blocks, set beside the reference's one product. -/
module

public import proofs.«01_k».proof.Defs
public import proofs.«01_k».proof.Proof.Gen.ProjDxIdeal.Value
public import proofs.«01_k».proof.Proof.Gen.ProjDxRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjDxIdeal.Hand

open Cert.ProjDxIdeal Cert.ProjDxIdeal.Gen

variable (m : (ℓ : Loc nD τ sig) → Buf (Elt Ideal) ℓ)

/-- The input gradient `dy · wᵀ`, as the reference composes it. -/
abbrev REF (W : FVec Ideal ⟨2, ![2048, 10752]⟩ .bf16) (Y : FVec Ideal ⟨2, ![4224, 10752]⟩ .bf16) : FVec Ideal ⟨2, ![4224, 2048]⟩ .f32 :=
  Host.dotGeneral Cert.ProjDxRefIdeal.dot_S4224x10752_S2048x10752_S4224x2048_1_1_0_0_n_n none (extf .f32 Y Cert.ProjDxRefIdeal.Gen.bitsLt_bf16_f32) (extf .f32 W Cert.ProjDxRefIdeal.Gen.bitsLt_bf16_f32)

/-- The reference at an index: one sum over the contraction. -/
theorem href (W : FVec Ideal ⟨2, ![2048, 10752]⟩ .bf16) (Y : FVec Ideal ⟨2, ![4224, 10752]⟩ .bf16) (j : S4224x2048.Idx) :
    REF W Y j = ∑ l : Fin 10752, Y (ix2 (j 0) l) * W (ix2 (j 1) l) := by
  pointwise [REF]

/-- The accumulator's first contents. -/
theorem hzero (j : S1408x512.Idx) : k0_pay1 (F := Ideal) j = 0 := by pointwise [k0_pay1]

/-- One accumulation: a block's product added to the accumulator. -/
theorem hpay (acc : Vec Ideal S1408x512 .f32) (x : Vec Ideal S1408x1536 .bf16) (y : Vec Ideal S512x1536 .bf16) (j : S1408x512.Idx) :
    k0_pay2 (F := Ideal) acc x y j = acc j + ∑ k : Fin 1536, x (ix2 (j 0) k) * y (ix2 (j 1) k) := by
  pointwise [k0_pay2]

/-- Which block each window is at, at every grid point. -/
theorem idx : ∀ t : Fin cfg0.N, win0_0.index t = ![t.val / 28, t.val % 7] ∧ win0_1.index t = ![t.val / 7 % 4, t.val % 7] ∧ win0_2.index t = ![t.val / 28, t.val / 7 % 4] :=
  (by decide +kernel : ∀ t : Fin grid0.N, _)

/-- The result array after the run is the reference's. -/
theorem final (c : Dev nD) : (dats m 0 c).arrAt 2 (cfgs 0).N = REF (m ((c : Thread nD τ).loc main_arg1)) (m ((c : Thread nD τ).loc main_arg2)) := by
  refine (dats m 0 c).arrAt_eq_of_covers 2 _ (by decide +kernel) fun t hf y => ?_
  blk_simp
  have hm := (flush0_2 t).mp hf
  have e : (outsAt0 m c t.val t.isLt).1 = (outsAt0 m c t.val t.isLt).2 := by
    rw [outsAt0_C m c t (by omega) hm]
    frame_out
  rw [after0_2, e]
  rw [Pipeline.eq_sum_fin_of_reset_step_apply_of_flush (fun n h => (outsAt0 m c n h).2) 7 (fun _ => 0) _
    (fun t h j => by rw [outsAt0_A m c t h (by omega)]; frame_out; rw [hpay, hzero])
    (fun t h j => by
      by_cases h1 : t.val % 7 = 6
      · rw [outsAt0_C m c t h h1]; frame_out; rw [hpay]; exact congrArg (· + _) (congrFun (Memref.IsWhole.read_unread _ _) j)
      · rw [outsAt0_B m c t h h1]; frame_out; rw [hpay]; exact congrArg (· + _) (congrFun (Memref.IsWhole.read_unread _ _) j))
    t hm _, zero_add, href]
  refine Fin.sum_mul_add_congr fun s k hl => ?_
  blk_point [iblk, V, idx t, idx ⟨_, Pipeline.run_point_lt_of_flush t hm s⟩]

theorem frame_ref : Cert.quiescent_ProjDxRefIdeal := fun m' g' _ =>
  (θ_run Cert.ProjDxRefIdeal.defs _ _).mono (fun r h => ⟨fun c => (h c).2, sem_eq_zero_of_no_sems rfl r.2⟩)
    (Cert.ProjDxRefIdeal.Value.run (F := Ideal) m' g')

theorem algebraic : Cert.algebraic_ProjDxIdeal_ProjDxRefIdeal := by
  intro m g m' g' _ hag
  refine ⟨fun c => REF (m ((c : Thread nD τ).loc main_arg1)) (m ((c : Thread nD τ).loc main_arg2)), ?_, ?_⟩
  · exact (θ_run Cert.ProjDxIdeal.defs _ _).mono (fun r h c => ⟨(h c).1.trans (final m c), (h c).2⟩) (Cert.ProjDxIdeal.Value.run_blocks (F := Ideal) m g)
  · refine (θ_run Cert.ProjDxRefIdeal.defs _ _).mono (fun r h c => ⟨(h c).1.trans ?_, (h c).2⟩) (Cert.ProjDxRefIdeal.Value.run (F := Ideal) m' g')
    rw [(hag c).2.1, (hag c).2.2]

end Cert.ProjDxIdeal.Hand

end
-- ==== Proof.Products.ProjDw.lean ====
/- `proj_dw`: the weight gradient `xᵀ · dy` over the kernel's grid of blocks, set beside the reference's one product. -/
module

public import proofs.«01_k».proof.Defs
public import proofs.«01_k».proof.Proof.Gen.ProjDwIdeal.Value
public import proofs.«01_k».proof.Proof.Gen.ProjDwRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjDwIdeal.Hand

open Cert.ProjDwIdeal Cert.ProjDwIdeal.Gen

variable (m : (ℓ : Loc nD τ sig) → Buf (Elt Ideal) ℓ)

/-- The weight gradient `xᵀ · dy`, as the reference composes it. -/
abbrev REF (X : FVec Ideal ⟨2, ![4224, 2048]⟩ .bf16) (Y : FVec Ideal ⟨2, ![4224, 10752]⟩ .bf16) : FVec Ideal ⟨3, ![4, 2048, 2688]⟩ .f32 :=
  transpose Cert.ProjDwRefIdeal.S4x2048x2688 [1, 0, 2] (shapeCast Cert.ProjDwRefIdeal.S2048x4x2688 (transpose Cert.ProjDwRefIdeal.S2048x10752 [1, 0] (Host.dotGeneral Cert.ProjDwRefIdeal.dot_S4224x10752_S4224x2048_S10752x2048_0_0_1_1_n_n none (extf .f32 Y Cert.ProjDwRefIdeal.Gen.bitsLt_bf16_f32) (extf .f32 X Cert.ProjDwRefIdeal.Gen.bitsLt_bf16_f32)) Cert.ProjDwRefIdeal.Gen.transposes_S10752x2048_S2048x10752_1_0) Cert.ProjDwRefIdeal.Gen.shapeCasts_S2048x10752_S2048x4x2688) Cert.ProjDwRefIdeal.Gen.transposes_S2048x4x2688_S4x2048x2688_1_0_2

/-- The reference at an index: one sum over the contraction. -/
theorem href (X : FVec Ideal ⟨2, ![4224, 2048]⟩ .bf16) (Y : FVec Ideal ⟨2, ![4224, 10752]⟩ .bf16) (j : S4x2048x2688.Idx) :
    REF X Y j = ∑ l : Fin 4224, X (ix2 l (j 1)) * Y (ix2 l ⟨(j 0).val * 2688 + (j 2).val, by have h0 : (j 0).val < 4 := (j 0).isLt; have h2 : (j 2).val < 2688 := (j 2).isLt; omega⟩) := by
  pointwise [REF]
  exact Fin.sum_fin_congr fun _ => mul_comm _ _

/-- The accumulator's first contents. -/
theorem hzero (j : S1024x896.Idx) : k0_pay1 (F := Ideal) j = 0 := by pointwise [k0_pay1]

/-- One accumulation: a block's product added to the accumulator. -/
theorem hpay (acc : Vec Ideal S1024x896 .f32) (x : Vec Ideal S1408x1024 .bf16) (y : Vec Ideal S1408x896 .bf16) (j : S1024x896.Idx) :
    k0_pay2 (F := Ideal) acc x y j = acc j + ∑ k : Fin 1408, x (ix2 k (j 0)) * y (ix2 k (j 1)) := by
  pointwise [k0_pay2]

/-- What is written out: the accumulator, as a block of one of the four column blocks. -/
theorem hout (acc : Vec Ideal S1024x896 .f32) (j : S1x1024x896.Idx) : k0_pay3 (F := Ideal) acc j = acc (ix2 (j 1) (j 2)) := by
  pointwise [k0_pay3]

/-- Which block each window is at, at every grid point. -/
theorem idx : ∀ t : Fin cfg0.N, win0_0.index t = ![t.val % 3, t.val / 36] ∧ win0_1.index t = ![t.val % 3, t.val / 3 % 12] ∧ win0_2.index t = ![t.val / 3 % 12 / 3, t.val / 36, t.val / 3 % 12 % 3] :=
  (by decide +kernel : ∀ t : Fin grid0.N, _)

/-- The result array after the run is the reference's. -/
theorem final (c : Dev nD) : (dats m 0 c).arrAt 2 (cfgs 0).N = REF (m ((c : Thread nD τ).loc main_arg0)) (m ((c : Thread nD τ).loc main_arg2)) := by
  refine (dats m 0 c).arrAt_eq_of_covers 2 _ (by decide +kernel) fun t hf y => ?_
  blk_simp
  have hm := (flush0_2 t).mp hf
  have e : (outsAt0 m c t.val t.isLt).1 y = (outsAt0 m c t.val t.isLt).2 (ix2 (y 1) (y 2)) := by
    rw [outsAt0_C m c t (by omega) hm]
    frame_out
    rw [hout]
  rw [after0_2, e]
  rw [Pipeline.eq_sum_fin_of_reset_step_apply_of_flush (fun n h => (outsAt0 m c n h).2) 3 (fun _ => 0) _
    (fun t h j => by rw [outsAt0_A m c t h (by omega)]; frame_out; rw [hpay, hzero])
    (fun t h j => by
      by_cases h1 : t.val % 3 = 2
      · rw [outsAt0_C m c t h h1]; frame_out; rw [hpay]; exact congrArg (· + _) (congrFun (Memref.IsWhole.read_unread _ _) j)
      · rw [outsAt0_B m c t h h1]; frame_out; rw [hpay]; exact congrArg (· + _) (congrFun (Memref.IsWhole.read_unread _ _) j))
    t hm _, zero_add, href]
  refine Fin.sum_mul_add_congr fun s k hl => ?_
  blk_point [iblk, V, idx t, idx ⟨_, Pipeline.run_point_lt_of_flush t hm s⟩]

theorem frame_ref : Cert.quiescent_ProjDwRefIdeal := fun m' g' _ =>
  (θ_run Cert.ProjDwRefIdeal.defs _ _).mono (fun r h => ⟨fun c => (h c).2, sem_eq_zero_of_no_sems rfl r.2⟩)
    (Cert.ProjDwRefIdeal.Value.run (F := Ideal) m' g')

theorem algebraic : Cert.algebraic_ProjDwIdeal_ProjDwRefIdeal := by
  intro m g m' g' _ hag
  refine ⟨fun c => REF (m ((c : Thread nD τ).loc main_arg0)) (m ((c : Thread nD τ).loc main_arg2)), ?_, ?_⟩
  · exact (θ_run Cert.ProjDwIdeal.defs _ _).mono (fun r h c => ⟨(h c).1.trans (final m c), (h c).2⟩) (Cert.ProjDwIdeal.Value.run_blocks (F := Ideal) m g)
  · refine (θ_run Cert.ProjDwRefIdeal.defs _ _).mono (fun r h c => ⟨(h c).1.trans ?_, (h c).2⟩) (Cert.ProjDwRefIdeal.Value.run (F := Ideal) m' g')
    rw [(hag c).1, (hag c).2.2]

end Cert.ProjDwIdeal.Hand

end
-- ==== Proof.Products.ProjFwd.lean ====
/- `proj_fwd`: the product `x · w` over the kernel's grid of blocks, set beside the reference's one product. -/
module

public import proofs.«01_k».proof.Defs
public import proofs.«01_k».proof.Proof.Gen.ProjFwdIdeal.Value
public import proofs.«01_k».proof.Proof.Gen.ProjFwdRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjFwdIdeal.Hand

open Cert.ProjFwdIdeal Cert.ProjFwdIdeal.Gen

variable (m : (ℓ : Loc nD τ sig) → Buf (Elt Ideal) ℓ)

/-- The product `x · w`, as the reference composes it. -/
abbrev REF (X : FVec Ideal ⟨2, ![4224, 2048]⟩ .bf16) (W : FVec Ideal ⟨2, ![2048, 10752]⟩ .bf16) : FVec Ideal ⟨2, ![4224, 10752]⟩ .f32 :=
  Host.dotGeneral Cert.ProjFwdRefIdeal.dot_S4224x2048_S2048x10752_S4224x10752_1_0_0_1_n_n none (extf .f32 X Cert.ProjFwdRefIdeal.Gen.bitsLt_bf16_f32) (extf .f32 W Cert.ProjFwdRefIdeal.Gen.bitsLt_bf16_f32)

/-- The reference at an index: one sum over the contraction. -/
theorem href (X : FVec Ideal ⟨2, ![4224, 2048]⟩ .bf16) (W : FVec Ideal ⟨2, ![2048, 10752]⟩ .bf16) (j : S4224x10752.Idx) :
    REF X W j = ∑ l : Fin 2048, X (ix2 (j 0) l) * W (ix2 l (j 1)) := by
  pointwise [REF]

/-- The accumulator's first contents. -/
theorem hzero (j : S1408x512.Idx) : k0_pay1 (F := Ideal) j = 0 := by pointwise [k0_pay1]

/-- One accumulation: a block's product added to the accumulator. -/
theorem hpay (acc : Vec Ideal S1408x512 .f32) (x : Vec Ideal S1408x2048 .bf16) (y : Vec Ideal S2048x512 .bf16) (j : S1408x512.Idx) :
    k0_pay2 (F := Ideal) acc x y j = acc j + ∑ k : Fin 2048, x (ix2 (j 0) k) * y (ix2 k (j 1)) := by
  pointwise [k0_pay2]

/-- Which block each window is at, at every grid point. -/
theorem idx : ∀ t : Fin cfg0.N, win0_0.index t = ![t.val / 21, 0] ∧ win0_1.index t = ![0, t.val % 21] ∧ win0_2.index t = ![t.val / 21, t.val % 21] :=
  (by decide +kernel : ∀ t : Fin grid0.N, _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [hpay, hzero, zero_add, href]
  blk_point [iblk, V, idx t]

theorem frame_ref : Cert.quiescent_ProjFwdRefIdeal := fun m' g' _ =>
  (θ_run Cert.ProjFwdRefIdeal.defs _ _).mono (fun r h => ⟨fun c => (h c).2, sem_eq_zero_of_no_sems rfl r.2⟩)
    (Cert.ProjFwdRefIdeal.Value.run (F := Ideal) m' g')

theorem algebraic : Cert.algebraic_ProjFwdIdeal_ProjFwdRefIdeal := by
  intro m g m' g' _ hag
  refine ⟨fun c => REF (m ((c : Thread nD τ).loc main_arg0)) (m ((c : Thread nD τ).loc main_arg1)), ?_, ?_⟩
  · exact (θ_run Cert.ProjFwdIdeal.defs _ _).mono (fun r h c => ⟨(h c).1.trans (final m c), (h c).2⟩) (Cert.ProjFwdIdeal.Value.run_blocks (F := Ideal) m g)
  · refine (θ_run Cert.ProjFwdRefIdeal.defs _ _).mono (fun r h c => ⟨(h c).1.trans ?_, (h c).2⟩) (Cert.ProjFwdRefIdeal.Value.run (F := Ideal) m' g')
    rw [(hag c).1, (hag c).2]

end Cert.ProjFwdIdeal.Hand

end
-- ==== Proof.Products.BranchFwd.lean ====
/- `branch_fwd`: the product `x · w` over the kernel's grid of blocks, set beside the reference's one product. -/
module

public import proofs.«01_k».proof.Defs
public import proofs.«01_k».proof.Proof.Gen.BranchFwdIdeal.Value
public import proofs.«01_k».proof.Proof.Gen.BranchFwdRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.BranchFwdIdeal.Hand

open Cert.BranchFwdIdeal Cert.BranchFwdIdeal.Gen

variable (m : (ℓ : Loc nD τ sig) → Buf (Elt Ideal) ℓ)

/-- The product `x · w`, as the reference composes it. -/
abbrev REF (X : FVec Ideal ⟨2, ![4224, 1024]⟩ .bf16) (W : FVec Ideal ⟨2, ![1024, 2048]⟩ .bf16) : FVec Ideal ⟨2, ![4224, 2048]⟩ .f32 :=
  Host.dotGeneral Cert.BranchFwdRefIdeal.dot_S4224x1024_S1024x2048_S4224x2048_1_0_0_1_n_n none (extf .f32 X Cert.BranchFwdRefIdeal.Gen.bitsLt_bf16_f32) (extf .f32 W Cert.BranchFwdRefIdeal.Gen.bitsLt_bf16_f32)

/-- The reference at an index: one sum over the contraction. -/
theorem href (X : FVec Ideal ⟨2, ![4224, 1024]⟩ .bf16) (W : FVec Ideal ⟨2, ![1024, 2048]⟩ .bf16) (j : S4224x2048.Idx) :
    REF X W j = ∑ l : Fin 1024, X (ix2 (j 0) l) * W (ix2 l (j 1)) := by
  pointwise [REF]

/-- The accumulator's first contents. -/
theorem hzero (j : S1408x512.Idx) : k0_pay1 (F := Ideal) j = 0 := by pointwise [k0_pay1]

/-- One accumulation: a block's product added to the accumulator. -/
theorem hpay (acc : Vec Ideal S1408x512 .f32) (x : Vec Ideal S1408x1024 .bf16) (y : Vec Ideal S1024x512 .bf16) (j : S1408x512.Idx) :
    k0_pay2 (F := Ideal) acc x y j = acc j + ∑ k : Fin 1024, x (ix2 (j 0) k) * y (ix2 k (j 1)) := by
  pointwise [k0_pay2]

/-- Which block each window is at, at every grid point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [hpay, hzero, zero_add, href]
  blk_point [iblk, V, idx t]

theorem frame_ref : Cert.quiescent_BranchFwdRefIdeal := fun m' g' _ =>
  (θ_run Cert.BranchFwdRefIdeal.defs _ _).mono (fun r h => ⟨fun c => (h c).2, sem_eq_zero_of_no_sems rfl r.2⟩)
    (Cert.BranchFwdRefIdeal.Value.run (F := Ideal) m' g')

theorem algebraic : Cert.algebraic_BranchFwdIdeal_BranchFwdRefIdeal := by
  intro m g m' g' _ hag
  refine ⟨fun c => REF (m ((c : Thread nD τ).loc main_arg0)) (m ((c : Thread nD τ).loc main_arg1)), ?_, ?_⟩
  · exact (θ_run Cert.BranchFwdIdeal.defs _ _).mono (fun r h c => ⟨(h c).1.trans (final m c), (h c).2⟩) (Cert.BranchFwdIdeal.Value.run_blocks (F := Ideal) m g)
  · refine (θ_run Cert.BranchFwdRefIdeal.defs _ _).mono (fun r h c => ⟨(h c).1.trans ?_, (h c).2⟩) (Cert.BranchFwdRefIdeal.Value.run (F := Ideal) m' g')
    rw [(hag c).1, (hag c).2]

end Cert.BranchFwdIdeal.Hand

end
-- ==== Proof.Products.WoFwd.lean ====
/- `wo_fwd`: the product `x · w` over the kernel's grid of blocks, set beside the reference's one product. -/
module

public import proofs.«01_k».proof.Defs
public import proofs.«01_k».proof.Proof.Gen.WoFwdIdeal.Value
public import proofs.«01_k».proof.Proof.Gen.WoFwdRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WoFwdIdeal.Hand

open Cert.WoFwdIdeal Cert.WoFwdIdeal.Gen

variable (m : (ℓ : Loc nD τ sig) → Buf (Elt Ideal) ℓ)

/-- The product `x · w`, as the reference composes it. -/
abbrev REF (X : FVec Ideal ⟨2, ![4224, 2048]⟩ .bf16) (W : FVec Ideal ⟨2, ![2048, 2048]⟩ .bf16) (Y : FVec Ideal ⟨2, ![4224, 2048]⟩ .f32) : FVec Ideal ⟨2, ![4224, 2048]⟩ .f32 :=
  addf Y (Host.dotGeneral Cert.WoFwdRefIdeal.dot_S4224x2048_S2048x2048_S4224x2048_1_0_0_1_n_n none (extf .f32 X Cert.WoFwdRefIdeal.Gen.bitsLt_bf16_f32) (extf .f32 W Cert.WoFwdRefIdeal.Gen.bitsLt_bf16_f32))

/-- The reference at an index: one sum over the contraction. -/
theorem href (X : FVec Ideal ⟨2, ![4224, 2048]⟩ .bf16) (W : FVec Ideal ⟨2, ![2048, 2048]⟩ .bf16) (Y : FVec Ideal ⟨2, ![4224, 2048]⟩ .f32) (j : S4224x2048.Idx) :
    REF X W Y j = Y j + ∑ l : Fin 2048, X (ix2 (j 0) l) * W (ix2 l (j 1)) := by
  pointwise [REF]

/-- The accumulator's first contents. -/
theorem hzero (j : S1408x512.Idx) : k0_pay1 (F := Ideal) j = 0 := by pointwise [k0_pay1]

/-- One accumulation: a block's product added to the accumulator. -/
theorem hpay (acc : Vec Ideal S1408x512 .f32) (x : Vec Ideal S1408x2048 .bf16) (y : Vec Ideal S2048x512 .bf16) (j : S1408x512.Idx) :
    k0_pay2 (F := Ideal) acc x y j = acc j + ∑ k : Fin 2048, x (ix2 (j 0) k) * y (ix2 k (j 1)) := by
  pointwise [k0_pay2]

/-- What is written out: the accumulator and the block added. -/
theorem hadd (acc h : Vec Ideal S1408x512 .f32) (j : S1408x512.Idx) : k0_pay3 (F := Ideal) acc h j = acc j + h j := by
  pointwise [k0_pay3]

/-- Which block each window is at, at every grid point. -/
theorem idx : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, _)

/-- The result array after the run is the reference's. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  rw [hadd, hpay, hzero, zero_add, href, add_comm]
  blk_point [iblk, V, idx t]

theorem frame_ref : Cert.quiescent_WoFwdRefIdeal := fun m' g' _ =>
  (θ_run Cert.WoFwdRefIdeal.defs _ _).mono (fun r h => ⟨fun c => (h c).2, sem_eq_zero_of_no_sems rfl r.2⟩)
    (Cert.WoFwdRefIdeal.Value.run (F := Ideal) m' g')

theorem algebraic : Cert.algebraic_WoFwdIdeal_WoFwdRefIdeal := by
  intro m g m' g' _ hag
  refine ⟨fun c => REF (m ((c : Thread nD τ).loc main_arg0)) (m ((c : Thread nD τ).loc main_arg1)) (m ((c : Thread nD τ).loc main_arg2)), ?_, ?_⟩
  · exact (θ_run Cert.WoFwdIdeal.defs _ _).mono (fun r h c => ⟨(h c).1.trans (final m c), (h c).2⟩) (Cert.WoFwdIdeal.Value.run_blocks (F := Ideal) m g)
  · refine (θ_run Cert.WoFwdRefIdeal.defs _ _).mono (fun r h c => ⟨(h c).1.trans ?_, (h c).2⟩) (Cert.WoFwdRefIdeal.Value.run (F := Ideal) m' g')
    rw [(hag c).1, (hag c).2.1, (hag c).2.2]

end Cert.WoFwdIdeal.Hand

end
-- ==== Proof.Products.GateUpFwd.lean ====
/- `gate_up_fwd`: the product `x · w` over the kernel's grid of blocks, set beside the reference's one product. -/
module

public import proofs.«01_k».proof.Defs
public import proofs.«01_k».proof.Proof.Gen.GateUpFwdIdeal.Value
public import proofs.«01_k».proof.Proof.Gen.GateUpFwdRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GateUpFwdIdeal.Hand

open Cert.GateUpFwdIdeal Cert.GateUpFwdIdeal.Gen

variable (m : (ℓ : Loc nD τ sig) → Buf (Elt Ideal) ℓ)

/-- The product `x · w`, as the reference composes it. -/
abbrev REF (X : FVec Ideal ⟨2, ![4224, 2048]⟩ .bf16) (W : FVec Ideal ⟨2, ![2048, 11264]⟩ .bf16) : FVec Ideal ⟨2, ![4224, 11264]⟩ .f32 :=
  Host.dotGeneral Cert.GateUpFwdRefIdeal.dot_S4224x2048_S2048x11264_S4224x11264_1_0_0_1_n_n none (extf .f32 X Cert.GateUpFwdRefIdeal.Gen.bitsLt_bf16_f32) (extf .f32 W Cert.GateUpFwdRefIdeal.Gen.bitsLt_bf16_f32)

/-- The reference at an index: one sum over the contraction. -/
theorem href (X : FVec Ideal ⟨2, ![4224, 2048]⟩ .bf16) (W : FVec Ideal ⟨2, ![2048, 11264]⟩ .bf16) (j : S4224x11264.Idx) :
    REF X W j = ∑ l : Fin 2048, X (ix2 (j 0) l) * W (ix2 l (j 1)) := by
  pointwise [REF]

/-- The accumulator's first contents. -/
theorem hzero (j : S1408x512.Idx) : k0_pay1 (F := Ideal) j = 0 := by pointwise [k0_pay1]

/-- One accumulation: a block's product added to the accumulator. -/
theorem hpay (acc : Vec Ideal S1408x512 .f32) (x : Vec Ideal S1408x2048 .bf16) (y : Vec Ideal S2048x512 .bf16) (j : S1408x512.Idx) :
    k0_pay2 (F := Ideal) acc x y j = acc j + ∑ k : Fin 2048, x (ix2 (j 0) k) * y (ix2 k (j 1)) := by
  pointwise [k0_pay2]

/-- Which block each window is at, at every grid point. -/
theorem idx : ∀ t : Fin cfg0.N, win0_0.index t = ![t.val / 22, 0] ∧ win0_1.index t = ![0, t.val % 22] ∧ win0_2.index t = ![t.val / 22, t.val % 22] :=
  (by decide +kernel : ∀ t : Fin grid0.N, _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [hpay, hzero, zero_add, href]
  blk_point [iblk, V, idx t]

theorem frame_ref : Cert.quiescent_GateUpFwdRefIdeal := fun m' g' _ =>
  (θ_run Cert.GateUpFwdRefIdeal.defs _ _).mono (fun r h => ⟨fun c => (h c).2, sem_eq_zero_of_no_sems rfl r.2⟩)
    (Cert.GateUpFwdRefIdeal.Value.run (F := Ideal) m' g')

theorem algebraic : Cert.algebraic_GateUpFwdIdeal_GateUpFwdRefIdeal := by
  intro m g m' g' _ hag
  refine ⟨fun c => REF (m ((c : Thread nD τ).loc main_arg0)) (m ((c : Thread nD τ).loc main_arg1)), ?_, ?_⟩
  · exact (θ_run Cert.GateUpFwdIdeal.defs _ _).mono (fun r h c => ⟨(h c).1.trans (final m c), (h c).2⟩) (Cert.GateUpFwdIdeal.Value.run_blocks (F := Ideal) m g)
  · refine (θ_run Cert.GateUpFwdRefIdeal.defs _ _).mono (fun r h c => ⟨(h c).1.trans ?_, (h c).2⟩) (Cert.GateUpFwdRefIdeal.Value.run (F := Ideal) m' g')
    rw [(hag c).1, (hag c).2]

end Cert.GateUpFwdIdeal.Hand

end
-- ==== Proof.Products.DownFwd.lean ====
/- `down_fwd`: the product `x · w` over the kernel's grid of blocks, set beside the reference's one product. -/
module

public import proofs.«01_k».proof.Defs
public import proofs.«01_k».proof.Proof.Gen.DownFwdIdeal.Value
public import proofs.«01_k».proof.Proof.Gen.DownFwdRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DownFwdIdeal.Hand

open Cert.DownFwdIdeal Cert.DownFwdIdeal.Gen

variable (m : (ℓ : Loc nD τ sig) → Buf (Elt Ideal) ℓ)

/-- The product `x · w`, as the reference composes it. -/
abbrev REF (X : FVec Ideal ⟨2, ![4224, 5632]⟩ .bf16) (W : FVec Ideal ⟨2, ![5632, 2048]⟩ .bf16) (Y : FVec Ideal ⟨2, ![4224, 2048]⟩ .f32) : FVec Ideal ⟨2, ![4224, 2048]⟩ .f32 :=
  addf Y (Host.dotGeneral Cert.DownFwdRefIdeal.dot_S4224x5632_S5632x2048_S4224x2048_1_0_0_1_n_n none (extf .f32 X Cert.DownFwdRefIdeal.Gen.bitsLt_bf16_f32) (extf .f32 W Cert.DownFwdRefIdeal.Gen.bitsLt_bf16_f32))

/-- The reference at an index: one sum over the contraction. -/
theorem href (X : FVec Ideal ⟨2, ![4224, 5632]⟩ .bf16) (W : FVec Ideal ⟨2, ![5632, 2048]⟩ .bf16) (Y : FVec Ideal ⟨2, ![4224, 2048]⟩ .f32) (j : S4224x2048.Idx) :
    REF X W Y j = Y j + ∑ l : Fin 5632, X (ix2 (j 0) l) * W (ix2 l (j 1)) := by
  pointwise [REF]

/-- The accumulator's first contents. -/
theorem hzero (j : S1408x512.Idx) : k0_pay1 (F := Ideal) j = 0 := by pointwise [k0_pay1]

/-- One accumulation: a block's product added to the accumulator. -/
theorem hpay (acc : Vec Ideal S1408x512 .f32) (x : Vec Ideal S1408x1408 .bf16) (y : Vec Ideal S1408x512 .bf16) (j : S1408x512.Idx) :
    k0_pay2 (F := Ideal) acc x y j = acc j + ∑ k : Fin 1408, x (ix2 (j 0) k) * y (ix2 k (j 1)) := by
  pointwise [k0_pay2]

/-- What is written out: the accumulator and the block added. -/
theorem hadd (acc h : Vec Ideal S1408x512 .f32) (j : S1408x512.Idx) : k0_pay3 (F := Ideal) acc h j = acc j + h j := by
  pointwise [k0_pay3]

/-- Which block each window is at, at every grid point. -/
theorem idx : ∀ t : Fin cfg0.N, win0_0.index t = ![t.val / 16, t.val % 4] ∧ win0_1.index t = ![t.val % 4, t.val / 4 % 4] ∧ win0_2.index t = ![t.val / 16, t.val / 4 % 4] ∧ win0_3.index t = ![t.val / 16, t.val / 4 % 4] :=
  (by decide +kernel : ∀ t : Fin grid0.N, _)

/-- The result array after the run is the reference's. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hm := (flush0_3 t).mp hf
  have e : (outsAt0 m c t.val t.isLt).1 y = (outsAt0 m c t.val t.isLt).2 y + iblk m c 2 t y := by
    rw [outsAt0_C m c t (by omega) hm]
    frame_out
    rw [hadd]
  rw [after0_3, e]
  rw [Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay]; exact congrArg (· + _) (congrFun (Memref.IsWhole.read_unread _ _) j)
      · rw [outsAt0_B m c t h h1]; frame_out; rw [hpay]; exact congrArg (· + _) (congrFun (Memref.IsWhole.read_unread _ _) j))
    t hm _, zero_add, href]
  rw [add_comm]
  have hs : ∀ a b a' b' : EReal, a = a' → b = b' → a + b = a' + b' := fun _ _ _ _ h h' => h ▸ h' ▸ rfl
  refine hs _ _ _ _ ?_ ?_
  · blk_point [iblk, V, idx t]
  · refine Fin.sum_mul_add_congr fun s k hl => ?_
    blk_point [iblk, V, idx t, idx ⟨_, Pipeline.run_point_lt_of_flush t hm s⟩]

theorem frame_ref : Cert.quiescent_DownFwdRefIdeal := fun m' g' _ =>
  (θ_run Cert.DownFwdRefIdeal.defs _ _).mono (fun r h => ⟨fun c => (h c).2, sem_eq_zero_of_no_sems rfl r.2⟩)
    (Cert.DownFwdRefIdeal.Value.run (F := Ideal) m' g')

theorem algebraic : Cert.algebraic_DownFwdIdeal_DownFwdRefIdeal := by
  intro m g m' g' _ hag
  refine ⟨fun c => REF (m ((c : Thread nD τ).loc main_arg0)) (m ((c : Thread nD τ).loc main_arg1)) (m ((c : Thread nD τ).loc main_arg2)), ?_, ?_⟩
  · exact (θ_run Cert.DownFwdIdeal.defs _ _).mono (fun r h c => ⟨(h c).1.trans (final m c), (h c).2⟩) (Cert.DownFwdIdeal.Value.run_blocks (F := Ideal) m g)
  · refine (θ_run Cert.DownFwdRefIdeal.defs _ _).mono (fun r h c => ⟨(h c).1.trans ?_, (h c).2⟩) (Cert.DownFwdRefIdeal.Value.run (F := Ideal) m' g')
    rw [(hag c).1, (hag c).2.1, (hag c).2.2]

end Cert.DownFwdIdeal.Hand

end
-- ==== Proof.Gates.SwigluBwd.lean ====
/- `swiglu_bwd`: the gradient of `silu(gate) · up`, set beside the reference's gradient on the whole arrays. -/
module

public import proofs.«01_k».proof.Defs
public import proofs.«01_k».proof.Proof.Gen.SwigluBwdIdeal.Value
public import proofs.«01_k».proof.Proof.Gen.SwigluBwdRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.SwigluBwdRefIdeal.Hand

open Cert.SwigluBwdRefIdeal Cert.SwigluBwdRefIdeal.Gen

variable (X : FVec Ideal S4224x11264 .f32) (Y : FVec Ideal S4224x5632 .f32)

abbrev one : FVec Ideal S4224x5632 .f32 := broadcastInDim S4224x5632 ![] bcast_S_S4224x5632 (constant S_ .f32 0x3F800000#32)
abbrev gate : FVec Ideal S4224x5632 .f32 := extractStridedSlice S4224x5632 ![0, 0] X slices_S4224x11264_S4224x5632_0_0
abbrev up : FVec Ideal S4224x5632 .f32 := extractStridedSlice S4224x5632 ![0, 5632] X slices_S4224x11264_S4224x5632_0_5632
abbrev sigmoid : FVec Ideal S4224x5632 .f32 := Host.divf one (addf one (Host.exp (Host.negf (gate X))))

/-- The gradient of the gate and of what it multiplies, side by side, as the reference composes them. -/
abbrev both : FVec Ideal S4224x11264 .f32 :=
  concatenate S4224x11264 1
    [⟨S4224x5632, addf (mulf (mulf Y (up X)) (sigmoid X)) (mulf (mulf (gate X) (mulf Y (up X))) (mulf (sigmoid X) (subf one (sigmoid X))))⟩,
      ⟨S4224x5632, mulf (mulf (gate X) (sigmoid X)) Y⟩] concatenates_S4224x5632_S4224x5632_S4224x11264_d1

abbrev dGate : FVec Ideal S4224x5632 .bf16 :=
  truncf .bf16 (extractStridedSlice S4224x5632 ![0, 0] (both X Y) slices_S4224x11264_S4224x5632_0_0) bitsLt_bf16_f32
abbrev dUp : FVec Ideal S4224x5632 .bf16 :=
  truncf .bf16 (extractStridedSlice S4224x5632 ![0, 5632] (both X Y) slices_S4224x11264_S4224x5632_0_5632) bitsLt_bf16_f32

theorem dGate_eq : dGate X Y = Cert.SwigluBwdIdeal.Value.G3 (F := Ideal) X X Y := by
  funext j
  obtain ⟨a, l, rfl⟩ : ∃ (a : Fin 4224) (l : Fin 5632), j = ix2 a l := ⟨j 0, j 1, eq_ix2 (n0 := 4224) (n1 := 5632) j⟩
  have h0 : Cert.SwigluBwdIdeal.Value.inIdx3_0 (ix2 a l) = ix2 a (⟨l, by omega⟩ : Fin 11264) := by
    funext d; match d with | ⟨0, _⟩ => rfl | ⟨1, _⟩ => rfl
  have h1 : Cert.SwigluBwdIdeal.Value.inIdx3_1 (ix2 a l) = ix2 a (⟨5632 + l, by omega⟩ : Fin 11264) := by
    funext d; match d with | ⟨0, _⟩ => rfl | ⟨1, _⟩ => exact Fin.ext (Nat.add_comm _ _)
  pointwise [dGate, Cert.SwigluBwdIdeal.Value.G3, h0, h1]
  rfl

theorem dUp_eq : dUp X Y = Cert.SwigluBwdIdeal.Value.G4 (F := Ideal) X Y := by
  funext j
  obtain ⟨a, l, rfl⟩ : ∃ (a : Fin 4224) (l : Fin 5632), j = ix2 a l := ⟨j 0, j 1, eq_ix2 (n0 := 4224) (n1 := 5632) j⟩
  have h0 : Cert.SwigluBwdIdeal.Value.inIdx4_0 (ix2 a l) = ix2 a (⟨l, by omega⟩ : Fin 11264) := by
    funext d; match d with | ⟨0, _⟩ => rfl | ⟨1, _⟩ => rfl
  pointwise [dUp, Cert.SwigluBwdIdeal.Value.G4, h0]
  rfl

theorem frame_ref : Cert.quiescent_SwigluBwdRefIdeal := fun m' g' _ =>
  (θ_run defs _ _).mono (fun r h => ⟨fun c => (h c).2.2, sem_eq_zero_of_no_sems rfl r.2⟩) (Value.run (F := Ideal) m' g')

theorem algebraic : Cert.algebraic_SwigluBwdIdeal_SwigluBwdRefIdeal := fun m g m' g' _ hag =>
  ⟨_, _, Cert.SwigluBwdIdeal.Value.run (F := Ideal) m g,
    (θ_run defs _ _).mono (fun r h c => by
      obtain ⟨h0, h1, hk⟩ := h c
      obtain ⟨e0, e1⟩ := hag c
      rw [e0, e1] at h0 h1
      exact ⟨h0.trans (dGate_eq ..), h1.trans (dUp_eq ..), hk⟩) (Value.run (F := Ideal) m' g')⟩

end Cert.SwigluBwdRefIdeal.Hand

end
-- ==== Proof.Gates.MergeBwd.lean ====
/- `merge_bwd`: the gradient of `sigmoid(za) · pa + sigmoid(zb) · pb`, set beside the reference's gradient on the whole arrays. -/
module

public import proofs.«01_k».proof.Defs
public import proofs.«01_k».proof.Proof.Gen.MergeBwdIdeal.Value
public import proofs.«01_k».proof.Proof.Gen.MergeBwdRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

/-! ## The reference -/

namespace Cert.MergeBwdRefIdeal.Hand

open Cert.MergeBwdRefIdeal Cert.MergeBwdRefIdeal.Gen

/-- The gradient of a gate's logit at an element: `d` the cotangent, `p` what the gate multiplies. -/
abbrev logit (z p d : Ideal .f32) : Ideal .f32 :=
  FloatOps.mulf (FloatOps.mulf d p) (FloatOps.mulf (FloatOps.logistic z) (FloatOps.subf (Scalar.ofBits .f32 0x3F800000#32) (FloatOps.logistic z)))

/-- The gradient of what a gate multiplies at an element. -/
abbrev gated (z d : Ideal .f32) : Ideal .f32 := FloatOps.mulf (FloatOps.logistic z) d

variable (X : FVec Ideal S4224x10752 .f32) (A B Y : FVec Ideal S4224x2048 .f32)

abbrev one : FVec Ideal S4224x4096 .f32 := broadcastInDim S4224x4096 ![] bcast_S_S4224x4096 (constant S_ .f32 0x3F800000#32)
abbrev sigmoid : FVec Ideal S4224x4096 .f32 :=
  Host.divf one (addf one (Host.exp (Host.negf (extractStridedSlice S4224x4096 ![0, 6144] X slices_S4224x10752_S4224x4096_0_6144))))
abbrev cot : FVec Ideal S4224x2048 .f32 := shapeCast _ Y shapeCasts_S4224x2048_S4224x2048
abbrev both : FVec Ideal S4224x4096 .f32 :=
  mulf (concatenate S4224x4096 1 [⟨S4224x2048, mulf (cot Y) A⟩, ⟨S4224x2048, mulf (cot Y) B⟩] concatenates_S4224x2048_S4224x2048_S4224x4096_d1)
    (mulf (sigmoid X) (subf one (sigmoid X)))
abbrev dZa : FVec Ideal S4224x2048 .bf16 :=
  truncf .bf16 (extractStridedSlice S4224x2048 ![0, 0] (both X A B Y) slices_S4224x4096_S4224x2048_0_0) bitsLt_bf16_f32
abbrev dZb : FVec Ideal S4224x2048 .bf16 :=
  truncf .bf16 (extractStridedSlice S4224x2048 ![0, 2048] (both X A B Y) slices_S4224x4096_S4224x2048_0_2048) bitsLt_bf16_f32
abbrev dA : FVec Ideal S4224x2048 .bf16 :=
  truncf .bf16 (mulf (extractStridedSlice S4224x2048 ![0, 0] (sigmoid X) slices_S4224x4096_S4224x2048_0_0) (cot Y)) bitsLt_bf16_f32
abbrev dB : FVec Ideal S4224x2048 .bf16 :=
  truncf .bf16 (mulf (extractStridedSlice S4224x2048 ![0, 2048] (sigmoid X) slices_S4224x4096_S4224x2048_0_2048) (cot Y)) bitsLt_bf16_f32

variable (i : Fin 4224) (l : Fin 2048)

theorem dZa_at : dZa X A B Y (ix2 i l) = logit (X (ix2 i ⟨6144 + l, by omega⟩)) (A (ix2 i l)) (Y (ix2 i l)) := by
  pointwise [dZa, logit]
  rfl

theorem dZb_at : dZb X A B Y (ix2 i l) = logit (X (ix2 i ⟨6144 + (2048 + l), by omega⟩)) (B (ix2 i l)) (Y (ix2 i l)) := by
  pointwise [dZb, logit]
  rfl

theorem dA_at : dA X Y (ix2 i l) = gated (X (ix2 i ⟨6144 + l, by omega⟩)) (Y (ix2 i l)) := by
  pointwise [dA, gated]
  rfl

theorem dB_at : dB X Y (ix2 i l) = gated (X (ix2 i ⟨6144 + (2048 + l), by omega⟩)) (Y (ix2 i l)) := by
  pointwise [dB, gated]
  rfl

end Cert.MergeBwdRefIdeal.Hand

/-! ## The kernel -/

namespace Cert.MergeBwdIdeal.Hand

open Cert.MergeBwdIdeal Cert.MergeBwdIdeal.Gen
open Cert.MergeBwdRefIdeal.Hand (logit gated dZa dZb dA dB dZa_at dZb_at dA_at dB_at)

theorem pay5 (v0 v2 v4 : Vec Ideal S128x2048 .f32) (j : S128x2048.Idx) : k0_pay5 (F := Ideal) v0 v2 v4 j = logit (v0 j) (v2 j) (v4 j) := by
  pointwise [k0_pay5, k0_pay1, k0_pay3, logit]

theorem pay6 (v1 v3 v4 : Vec Ideal S128x2048 .f32) (j : S128x2048.Idx) : k0_pay6 (F := Ideal) v1 v3 v4 j = logit (v1 j) (v3 j) (v4 j) := by
  pointwise [k0_pay6, k0_pay2, k0_pay4, logit]

theorem pay7 (v0 v4 : Vec Ideal S128x2048 .f32) (j : S128x2048.Idx) : k0_pay7 (F := Ideal) v0 v4 j = gated (v0 j) (v4 j) := by
  pointwise [k0_pay7, k0_pay1, k0_pay3, gated]

theorem pay8 (v1 v4 : Vec Ideal S128x2048 .f32) (j : S128x2048.Idx) : k0_pay8 (F := Ideal) v1 v4 j = gated (v1 j) (v4 j) := by
  pointwise [k0_pay8, k0_pay2, k0_pay4, gated]

/-- Which block each window is at, at every grid point. -/
theorem idx : ∀ t : Fin cfg0.N, win0_0.index t = ![t.val, 3] ∧ win0_1.index t = ![t.val, 4] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem tlt (t : Fin cfg0.N) : t.val < 33 := t.isLt

section
variable (m : (ℓ : Loc nD τ sig) → Buf (Elt Ideal) ℓ) (c : Dev nD) (t : Fin cfg0.N) (b : Fin 128) (l : Fin 2048)

/-- The row of the whole array that a block's row is. -/
abbrev row : Fin 4224 := ⟨128 * t.val + b, by have := tlt t; omega⟩

abbrev argX : FVec Ideal S4224x10752 .f32 := m ((c : Thread nD τ).loc main_arg0)
abbrev argA : FVec Ideal S4224x2048 .f32 := m ((c : Thread nD τ).loc main_arg1)
abbrev argB : FVec Ideal S4224x2048 .f32 := m ((c : Thread nD τ).loc main_arg2)
abbrev argY : FVec Ideal S4224x2048 .f32 := m ((c : Thread nD τ).loc main_arg3)

theorem blk0 : X0_0 m c t (ix2 b l : S128x2048.Idx) = argX m c (ix2 (row t b) ⟨6144 + l, by omega⟩) := by
  have e := idx t
  have hN := tlt t
  unfold X0_0 Pipeline.Window.fill
  rw [dif_pos (moved0_0 t _)]
  refine congrArg (argX m c) ?_
  blk_ext [e]

theorem blk1 : X0_1 m c t (ix2 b l : S128x2048.Idx) = argX m c (ix2 (row t b) ⟨6144 + (2048 + l), by omega⟩) := by
  have e := idx t
  have hN := tlt t
  unfold X0_1 Pipeline.Window.fill
  rw [dif_pos (moved0_1 t _)]
  refine congrArg (argX m c) ?_
  blk_ext [e]

theorem blk2 : iblk m c 2 t (ix2 b l : S128x2048.Idx) = argA m c (ix2 (row t b) l) := by
  have e := idx t
  have hN := tlt t
  refine congrArg (argA m c) ?_
  blk_ext [e]

theorem blk3 : iblk m c 3 t (ix2 b l : S128x2048.Idx) = argB m c (ix2 (row t b) l) := by
  have e := idx t
  have hN := tlt t
  refine congrArg (argB m c) ?_
  blk_ext [e]

theorem blk4 : iblk m c 4 t (ix2 b l : S128x2048.Idx) = argY m c (ix2 (row t b) l) := by
  have e := idx t
  have hN := tlt t
  refine congrArg (argY m c) ?_
  blk_ext [e]

theorem final_za : (dats m 0 c).arrAt 5 cfg0.N = dZa (argX m c) (argA m c) (argB m c) (argY m c) := by
  refine (dats m 0 c).arrAt_eq_of_covers 5 _ (by decide +kernel) fun t hf y => ?_
  blk_simp
  have e := idx t
  have hN := tlt t
  obtain ⟨b, l, rfl⟩ : ∃ (b : Fin 128) (l : Fin 2048), y = ix2 b l := ⟨y 0, y 1, eq_ix2 (n0 := 128) (n1 := 2048) y⟩
  have hp : ((win0_5.blk t).view.emb (ix2 b l : S128x2048.Idx) : S4224x2048.Idx) = ix2 (row t b) l := by blk_ext [e]
  rw [after0_5]
  unfold outsAt0
  frame_out
  refine Eq.trans ?_ (congrArg _ hp).symm
  rw [pay5, blk0, blk2, blk4, dZa_at]

theorem final_zb : (dats m 0 c).arrAt 6 cfg0.N = dZb (argX m c) (argA m c) (argB m c) (argY m c) := by
  refine (dats m 0 c).arrAt_eq_of_covers 6 _ (by decide +kernel) fun t hf y => ?_
  blk_simp
  have e := idx t
  have hN := tlt t
  obtain ⟨b, l, rfl⟩ : ∃ (b : Fin 128) (l : Fin 2048), y = ix2 b l := ⟨y 0, y 1, eq_ix2 (n0 := 128) (n1 := 2048) y⟩
  have hp : ((win0_6.blk t).view.emb (ix2 b l : S128x2048.Idx) : S4224x2048.Idx) = ix2 (row t b) l := by blk_ext [e]
  rw [after0_6]
  unfold outsAt0
  frame_out
  refine Eq.trans ?_ (congrArg _ hp).symm
  rw [pay6, blk1, blk3, blk4, dZb_at]

theorem final_a : (dats m 0 c).arrAt 7 cfg0.N = dA (argX m c) (argY m c) := by
  refine (dats m 0 c).arrAt_eq_of_covers 7 _ (by decide +kernel) fun t hf y => ?_
  blk_simp
  have e := idx t
  have hN := tlt t
  obtain ⟨b, l, rfl⟩ : ∃ (b : Fin 128) (l : Fin 2048), y = ix2 b l := ⟨y 0, y 1, eq_ix2 (n0 := 128) (n1 := 2048) y⟩
  have hp : ((win0_7.blk t).view.emb (ix2 b l : S128x2048.Idx) : S4224x2048.Idx) = ix2 (row t b) l := by blk_ext [e]
  rw [after0_7]
  unfold outsAt0
  frame_out
  refine Eq.trans ?_ (congrArg _ hp).symm
  rw [pay7, blk0, blk4, dA_at]

theorem final_b : (dats m 0 c).arrAt 8 cfg0.N = dB (argX m c) (argY m c) := by
  refine (dats m 0 c).arrAt_eq_of_covers 8 _ (by decide +kernel) fun t hf y => ?_
  blk_simp
  have e := idx t
  have hN := tlt t
  obtain ⟨b, l, rfl⟩ : ∃ (b : Fin 128) (l : Fin 2048), y = ix2 b l := ⟨y 0, y 1, eq_ix2 (n0 := 128) (n1 := 2048) y⟩
  have hp : ((win0_8.blk t).view.emb (ix2 b l : S128x2048.Idx) : S4224x2048.Idx) = ix2 (row t b) l := by blk_ext [e]
  rw [after0_8]
  unfold outsAt0
  frame_out
  refine Eq.trans ?_ (congrArg _ hp).symm
  rw [pay8, blk1, blk4, dB_at]

end

theorem frame_ref : Cert.quiescent_MergeBwdRefIdeal := fun m' g' _ =>
  (θ_run Cert.MergeBwdRefIdeal.defs _ _).mono (fun r h => ⟨fun c => (h c).2.2.2.2, sem_eq_zero_of_no_sems rfl r.2⟩)
    (Cert.MergeBwdRefIdeal.Value.run (F := Ideal) m' g')

theorem algebraic : Cert.algebraic_MergeBwdIdeal_MergeBwdRefIdeal := fun m g m' g' _ hag =>
  ⟨fun c => dZa (argX m c) (argA m c) (argB m c) (argY m c), fun c => dZb (argX m c) (argA m c) (argB m c) (argY m c),
    fun c => dA (argX m c) (argY m c), fun c => dB (argX m c) (argY m c),
    (θ_run defs _ _).mono (fun r h c => by
      obtain ⟨h0, h1, h2, h3, hk⟩ := h c
      exact ⟨h0.trans (final_za m c), h1.trans (final_zb m c), h2.trans (final_a m c), h3.trans (final_b m c), hk⟩)
      (Value.run_blocks (F := Ideal) m g),
    (θ_run Cert.MergeBwdRefIdeal.defs _ _).mono (fun r h c => by
      obtain ⟨h0, h1, h2, h3, hk⟩ := h c
      obtain ⟨e0, e1, e2, e3⟩ := hag c
      rw [e0, e1, e2, e3] at h0 h1
      rw [e0, e3] at h2 h3
      exact ⟨h0, h1, h2, h3, hk⟩) (Cert.MergeBwdRefIdeal.Value.run (F := Ideal) m' g')⟩

end Cert.MergeBwdIdeal.Hand

end
-- ==== Proof.Gates.RmsBwd.lean ====
/- `rms_bwd`: the gradient of the norm `h · g / √(mean h² + ε)`, set beside the reference's gradient on the whole arrays. -/
module

public import proofs.«01_k».proof.Defs
public import proofs.«01_k».proof.Proof.Gen.RmsBwdIdeal.Value
public import proofs.«01_k».proof.Proof.Gen.RmsBwdRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

/-! ## The reference -/

namespace Cert.RmsBwdRefIdeal.Hand

open Cert.RmsBwdRefIdeal Cert.RmsBwdRefIdeal.Gen

/-- A row's mean square and the small number added. -/
abbrev sq (h : Fin 2048 → EReal) : EReal :=
  Ideal.div (∑ x, h x * h x) (Ideal.ofBits FTy.f32 1157627904#32) + Ideal.ofBits FTy.f32 897988541#32

/-- The gradient of the mean square's terms: `y` the cotangent's row, `g` the gains. -/
abbrev dsq (h y g : Fin 2048 → EReal) : EReal :=
  ∑ _ : Fin 1, Ideal.div ((∑ x, h x * (y x * g x)) * (Ideal.ofBits FTy.f32 3204448256#32 * Ideal.div (Ideal.rsqrt (sq h)) (sq h)))
    (Ideal.ofBits FTy.f32 1157627904#32)

/-- The row's gradient at a lane, `e` added. -/
abbrev dh (h y g : Fin 2048 → EReal) (e : EReal) (l : Fin 2048) : EReal :=
  y l * g l * Ideal.rsqrt (sq h) + h l * dsq h y g + dsq h y g * h l + e

/-- A row's part of a gain's gradient. -/
abbrev dg (h y : Fin 2048 → EReal) (l : Fin 2048) : EReal := h l * Ideal.rsqrt (sq h) * y l

variable (H Y E : FVec Ideal S4224x2048 .f32) (G : FVec Ideal S1x2048 .f32)

abbrev col (v : BitVec 32) : FVec Ideal S4224x1 .f32 := broadcastInDim S4224x1 ![] bcast_S_S4224x1 (constant S_ .f32 v)
abbrev rows (x : FVec Ideal S4224x2048 .f32) : FVec Ideal S4224 .f32 :=
  Host.reduceAdd x (constant S_ .f32 0x00000000#32) reducesTo_S4224x2048_S4224_d1 h_S_
abbrev meanSq : FVec Ideal S4224x1 .f32 :=
  addf (Host.divf (broadcastInDim S4224x1 ![0] bcast_S4224_S4224x1_0 (rows (mulf H H))) (col 0x45000000#32)) (col 0x358637BD#32)
abbrev scale : FVec Ideal S4224x2048 .f32 := broadcastInDim S4224x2048 ![0, 1] bcast_S4224x1_S4224x2048_0_1 (Host.rsqrt (meanSq H))
abbrev dXg : FVec Ideal S4224x2048 .f32 := mulf Y (broadcastInDim S4224x2048 ![0, 1] bcast_S1x2048_S4224x2048_0_1 G)
abbrev dSq : FVec Ideal S4224x2048 .f32 :=
  broadcastInDim S4224x2048 ![0] bcast_S4224_S4224x2048_0 (Host.reduceAdd
    (Host.divf (mulf (shapeCast _ (rows (mulf H (dXg Y G))) shapeCasts_S4224_S4224x1)
      (mulf (col 0xBF000000#32) (Host.divf (Host.rsqrt (meanSq H)) (meanSq H)))) (col 0x45000000#32))
    (constant S_ .f32 0x00000000#32) reducesTo_S4224x1_S4224_d1 h_S_)
abbrev dH : FVec Ideal S4224x2048 .f32 :=
  addf (addf (addf (mulf (dXg Y G) (scale H)) (mulf H (dSq H Y G))) (mulf (dSq H Y G) H)) E
abbrev dG : FVec Ideal S1x2048 .f32 :=
  shapeCast _ (Host.reduceAdd (mulf (mulf H (scale H)) Y) (constant S_ .f32 0x00000000#32) reducesTo_S4224x2048_S2048_d0 h_S_)
    shapeCasts_S2048_S1x2048

variable (i : Fin 4224) (l : Fin 2048)

theorem dH_at : dH H Y E G (ix2 i l) = dh (fun x => H (ix2 i x)) (fun x => Y (ix2 i x)) (fun x => G (ix2 0 x)) (E (ix2 i l)) l := by
  pointwise [dH]

theorem dG_at : dG H Y (ix2 0 l) = ∑ i : Fin 4224, dg (fun x => H (ix2 i x)) (fun x => Y (ix2 i x)) l := by
  pointwise [dG]

end Cert.RmsBwdRefIdeal.Hand

/-! ## The kernel -/

namespace Cert.RmsBwdIdeal.Hand

open Cert.RmsBwdIdeal Cert.RmsBwdIdeal.Gen
open Cert.RmsBwdRefIdeal.Hand (sq dsq dh dg dH dG dH_at dG_at)

theorem pay6 (v0 v1 v2 : Vec Ideal S128x2048 .f32) (v3 : Vec Ideal S1x2048 .f32) (b : Fin 128) (l : Fin 2048) :
    k0_pay6 (F := Ideal) v0 v1 v2 v3 (ix2 b l)
      = dh (fun x => v0 (ix2 b x)) (fun x => v1 (ix2 b x)) (fun x => v3 (ix2 0 x)) (v2 (ix2 b l)) l := by
  pointwise [k0_pay6, k0_pay4, k0_pay3]

theorem pay5 (v0 v1 : Vec Ideal S128x2048 .f32) (l : Fin 2048) :
    k0_pay5 (F := Ideal) v0 v1 (ix2 0 l) = ∑ b : Fin 128, dg (fun x => v0 (ix2 b x)) (fun x => v1 (ix2 b x)) l := by
  pointwise [k0_pay5, k0_pay4, k0_pay3]

theorem pay2 (v0 : FVec Ideal S1x2048 .f32) (v1 : Vec Ideal S1x2048 .f32) (j : S1x2048.Idx) :
    k0_pay2 (F := Ideal) v0 v1 j = v1 j + v0 j := by
  pointwise [k0_pay2]

theorem pay1 (j : S1x2048.Idx) : k0_pay1 (F := Ideal) j = 0 := by
  pointwise [k0_pay1]

/-- Which block each window is at, at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

theorem tlt (t : Fin cfg0.N) : t.val < 33 := t.isLt

section
variable (m : (ℓ : Loc nD τ sig) → Buf (Elt Ideal) ℓ) (c : Dev nD) (t : Fin cfg0.N) (b : Fin 128) (l : Fin 2048)

/-- The row of the whole array that a block's row is. -/
abbrev row : Fin 4224 := ⟨128 * t.val + b, by have := tlt t; omega⟩

abbrev argH : FVec Ideal S4224x2048 .f32 := m ((c : Thread nD τ).loc main_arg0)
abbrev argY : FVec Ideal S4224x2048 .f32 := m ((c : Thread nD τ).loc main_arg1)
abbrev argE : FVec Ideal S4224x2048 .f32 := m ((c : Thread nD τ).loc main_arg2)
abbrev argG : FVec Ideal S1x2048 .f32 := m ((c : Thread nD τ).loc main_arg3)

theorem blk0 : iblk m c 0 t (ix2 b l : S128x2048.Idx) = argH m c (ix2 (row t b) l) := by
  have e := idx t
  refine congrArg (argH m c) ?_
  blk_ext [e]

theorem blk1 : iblk m c 1 t (ix2 b l : S128x2048.Idx) = argY m c (ix2 (row t b) l) := by
  have e := idx t
  refine congrArg (argY m c) ?_
  blk_ext [e]

theorem blk2 : iblk m c 2 t (ix2 b l : S128x2048.Idx) = argE m c (ix2 (row t b) l) := by
  have e := idx t
  refine congrArg (argE m c) ?_
  blk_ext [e]

theorem blk3 : iblk m c 3 t (ix2 0 l : S1x2048.Idx) = argG m c (ix2 0 l) := by
  have e := idx t
  refine congrArg (argG m c) ?_
  blk_ext [e]

theorem final_h : (dats m 0 c).arrAt 4 cfg0.N = dH (argH m c) (argY m c) (argE m c) (argG m c) := by
  refine (dats m 0 c).arrAt_eq_of_covers 4 _ (by decide +kernel) fun t hf y => ?_
  blk_simp
  have e := idx t
  have hN := tlt t
  obtain ⟨b, l, rfl⟩ : ∃ (b : Fin 128) (l : Fin 2048), y = ix2 b l := ⟨y 0, y 1, eq_ix2 (n0 := 128) (n1 := 2048) y⟩
  have hp : ((win0_4.blk t).view.emb (ix2 b l : S128x2048.Idx) : S4224x2048.Idx) = ix2 (row t b) l := by blk_ext [e]
  have hX : (outsAt0 m c t.val t.isLt).1 (ix2 b l) = k0_pay6 (F := Ideal) (iblk m c 0 t) (iblk m c 1 t) (iblk m c 2 t) (iblk m c 3 t) (ix2 b l) := by
    by_cases h : t.val % 33 = 0
    · rw [outsAt0_A m c t h]; frame_out
    · rw [outsAt0_B m c t h]; frame_out
  rw [after0_4]
  refine hX.trans (Eq.trans ?_ (congrArg _ hp).symm)
  simp only [pay6, blk0, blk1, blk2, blk3, dH_at]

theorem final_g : (dats m 0 c).arrAt 5 cfg0.N = dG (argH m c) (argY m c) := by
  refine (dats m 0 c).arrAt_eq_of_covers 5 _ (by decide +kernel) fun t hf y => ?_
  blk_simp
  have e := idx t
  have hm := (flush0_5 t).mp hf
  obtain ⟨z, l, rfl⟩ : ∃ (z : Fin 1) (l : Fin 2048), y = ix2 z l := ⟨y 0, y 1, eq_ix2 (n0 := 1) (n1 := 2048) y⟩
  obtain rfl : z = 0 := Subsingleton.elim _ _
  have hp : ((win0_5.blk t).view.emb (ix2 0 l : S1x2048.Idx) : S1x2048.Idx) = ix2 0 l := by blk_ext [e]
  rw [after0_5]
  refine Eq.trans ?_ (congrArg _ hp).symm
  rw [Pipeline.eq_sum_fin_of_reset_step_apply_of_flush (fun n h => (outsAt0 m c n h).2) 33 (fun _ => 0) _
    (fun t h j => by rw [outsAt0_A m c t h]; frame_out; rw [pay2, pay1])
    (fun t h j => by rw [outsAt0_B m c t h]; frame_out; rw [pay2])
    t hm _, zero_add, dG_at]
  have h33 : t.val = 32 := by have := tlt t; omega
  simp only [pay5, blk0, blk1]
  refine Fin.sum_mul_add_congr fun s k hl => ?_
  have hr : row ⟨33 * (t.val / 33) + s, Pipeline.run_point_lt_of_flush t hm s⟩ k = ⟨_, hl⟩ := Fin.ext (by simp only [row]; omega)
  rw [← hr]

end

theorem frame_ref : Cert.quiescent_RmsBwdRefIdeal := fun m' g' _ =>
  (θ_run Cert.RmsBwdRefIdeal.defs _ _).mono (fun r h => ⟨fun c => (h c).2.2, sem_eq_zero_of_no_sems rfl r.2⟩)
    (Cert.RmsBwdRefIdeal.Value.run (F := Ideal) m' g')

theorem algebraic : Cert.algebraic_RmsBwdIdeal_RmsBwdRefIdeal := fun m g m' g' _ hag =>
  ⟨fun c => dH (argH m c) (argY m c) (argE m c) (argG m c), fun c => dG (argH m c) (argY m c),
    (θ_run defs _ _).mono (fun r h c => by
      obtain ⟨h0, h1, hk⟩ := h c
      exact ⟨h0.trans (final_h m c), h1.trans (final_g m c), hk⟩) (Value.run_blocks (F := Ideal) m g),
    (θ_run Cert.RmsBwdRefIdeal.defs _ _).mono (fun r h c => by
      obtain ⟨h0, h1, hk⟩ := h c
      obtain ⟨e0, e1, e2, e3⟩ := hag c
      rw [e0, e1, e2, e3] at h0
      rw [e0, e1] at h1
      exact ⟨h0, h1, hk⟩) (Cert.RmsBwdRefIdeal.Value.run (F := Ideal) m' g')⟩

end Cert.RmsBwdIdeal.Hand

end
-- ==== Proof.Gates.SwigluFwd.lean ====
/- `swiglu_fwd`: `silu(gate) · up`, set beside the reference's operations on the whole array. -/
module

public import proofs.«01_k».proof.Defs
public import proofs.«01_k».proof.Proof.Gen.SwigluFwdIdeal.Value
public import proofs.«01_k».proof.Proof.Gen.SwigluFwdRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.SwigluFwdRefIdeal.Hand

open Cert.SwigluFwdRefIdeal Cert.SwigluFwdRefIdeal.Gen

variable (X : FVec Ideal S4224x11264 .f32)

abbrev one : FVec Ideal S4224x5632 .f32 := broadcastInDim S4224x5632 ![] bcast_S_S4224x5632 (constant S_ .f32 0x3F800000#32)
abbrev gate : FVec Ideal S4224x5632 .f32 := extractStridedSlice S4224x5632 ![0, 0] X slices_S4224x11264_S4224x5632_0_0
abbrev up : FVec Ideal S4224x5632 .f32 := extractStridedSlice S4224x5632 ![0, 5632] X slices_S4224x11264_S4224x5632_0_5632

/-- The gated product, as the reference composes it. -/
abbrev act : FVec Ideal S4224x5632 .bf16 :=
  truncf .bf16 (mulf (mulf (gate X) (Host.divf one (addf one (Host.exp (Host.negf (gate X)))))) (up X)) bitsLt_bf16_f32

theorem act_eq : act X = Cert.SwigluFwdIdeal.Value.G2 (F := Ideal) X X := by
  funext j
  obtain ⟨a, l, rfl⟩ : ∃ (a : Fin 4224) (l : Fin 5632), j = ix2 a l := ⟨j 0, j 1, eq_ix2 (n0 := 4224) (n1 := 5632) j⟩
  have h0 : Cert.SwigluFwdIdeal.Value.inIdx2_0 (ix2 a l) = ix2 a (⟨l, by omega⟩ : Fin 11264) := by
    funext d; match d with | ⟨0, _⟩ => rfl | ⟨1, _⟩ => rfl
  have h1 : Cert.SwigluFwdIdeal.Value.inIdx2_1 (ix2 a l) = ix2 a (⟨5632 + l, by omega⟩ : Fin 11264) := by
    funext d; match d with | ⟨0, _⟩ => rfl | ⟨1, _⟩ => exact Fin.ext (Nat.add_comm _ _)
  pointwise [act, Cert.SwigluFwdIdeal.Value.G2, h0, h1]
  rfl

theorem frame_ref : Cert.quiescent_SwigluFwdRefIdeal := fun m' g' _ =>
  (θ_run defs _ _).mono (fun r h => ⟨fun c => (h c).2, sem_eq_zero_of_no_sems rfl r.2⟩) (Value.run (F := Ideal) m' g')

theorem algebraic : Cert.algebraic_SwigluFwdIdeal_SwigluFwdRefIdeal := fun m g m' g' _ hag =>
  ⟨_, Cert.SwigluFwdIdeal.Value.run (F := Ideal) m g,
    (θ_run defs _ _).mono (fun r h c => by
      obtain ⟨h0, hk⟩ := h c
      have e0 := hag c
      rw [e0] at h0
      exact ⟨h0.trans (act_eq ..), hk⟩) (Value.run (F := Ideal) m' g')⟩

end Cert.SwigluFwdRefIdeal.Hand

end
-- ==== Proof.Gates.MergeFwd.lean ====
/- `merge_fwd`: `sigmoid(za) · pa + sigmoid(zb) · pb`, set beside the reference's operations on the whole arrays. -/
module

public import proofs.«01_k».proof.Defs
public import proofs.«01_k».proof.Proof.Gen.MergeFwdIdeal.Value
public import proofs.«01_k».proof.Proof.Gen.MergeFwdRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

/-! ## The reference -/

namespace Cert.MergeFwdRefIdeal.Hand

open Cert.MergeFwdRefIdeal Cert.MergeFwdRefIdeal.Gen

/-- The merged branches at an element: `z`, `w` the gates' logits. -/
abbrev both (z w p q : Ideal .f32) : Ideal .f32 :=
  FloatOps.addf (FloatOps.mulf (FloatOps.logistic z) p) (FloatOps.mulf (FloatOps.logistic w) q)

variable (X : FVec Ideal S4224x10752 .f32) (A B : FVec Ideal S4224x2048 .f32)

abbrev one : FVec Ideal S4224x4096 .f32 := broadcastInDim S4224x4096 ![] bcast_S_S4224x4096 (constant S_ .f32 0x3F800000#32)
abbrev sigmoid : FVec Ideal S4224x4096 .f32 :=
  Host.divf one (addf one (Host.exp (Host.negf (extractStridedSlice S4224x4096 ![0, 6144] X slices_S4224x10752_S4224x4096_0_6144))))
abbrev merged : FVec Ideal S4224x2048 .bf16 :=
  truncf .bf16 (addf (mulf (extractStridedSlice S4224x2048 ![0, 0] (sigmoid X) slices_S4224x4096_S4224x2048_0_0) A)
    (mulf (extractStridedSlice S4224x2048 ![0, 2048] (sigmoid X) slices_S4224x4096_S4224x2048_0_2048) B)) bitsLt_bf16_f32

theorem merged_at (i : Fin 4224) (l : Fin 2048) : merged X A B (ix2 i l)
    = both (X (ix2 i ⟨6144 + l, by omega⟩)) (X (ix2 i ⟨6144 + (2048 + l), by omega⟩)) (A (ix2 i l)) (B (ix2 i l)) := by
  pointwise [merged, both]
  rfl

end Cert.MergeFwdRefIdeal.Hand

/-! ## The kernel -/

namespace Cert.MergeFwdIdeal.Hand

open Cert.MergeFwdIdeal Cert.MergeFwdIdeal.Gen
open Cert.MergeFwdRefIdeal.Hand (both merged merged_at)

theorem pay1 (v0 v1 v2 v3 : Vec Ideal S128x2048 .f32) (j : S128x2048.Idx) :
    k0_pay1 (F := Ideal) v0 v1 v2 v3 j = both (v0 j) (v1 j) (v2 j) (v3 j) := by
  pointwise [k0_pay1, both]

/-- Which block each window is at, at every grid point. -/
theorem idx : ∀ t : Fin cfg0.N, win0_0.index t = ![t.val, 3] ∧ win0_1.index t = ![t.val, 4] ∧ win0_2.index t = ![t.val, 0]
    ∧ win0_3.index t = ![t.val, 0] ∧ win0_4.index t = ![t.val, 0] :=
  (by decide +kernel : ∀ t : Fin grid0.N, _)

theorem tlt (t : Fin cfg0.N) : t.val < 33 := t.isLt

section
variable (m : (ℓ : Loc nD τ sig) → Buf (Elt Ideal) ℓ) (c : Dev nD) (t : Fin cfg0.N) (b : Fin 128) (l : Fin 2048)

/-- The row of the whole array that a block's row is. -/
abbrev row : Fin 4224 := ⟨128 * t.val + b, by have := tlt t; omega⟩

abbrev argX : FVec Ideal S4224x10752 .f32 := m ((c : Thread nD τ).loc main_arg0)
abbrev argA : FVec Ideal S4224x2048 .f32 := m ((c : Thread nD τ).loc main_arg1)
abbrev argB : FVec Ideal S4224x2048 .f32 := m ((c : Thread nD τ).loc main_arg2)

theorem blk0 : X0_0 m c t (ix2 b l : S128x2048.Idx) = argX m c (ix2 (row t b) ⟨6144 + l, by omega⟩) := by
  have e := idx t
  have hN := tlt t
  unfold X0_0 Pipeline.Window.fill
  rw [dif_pos (moved0_0 t _)]
  refine congrArg (argX m c) ?_
  blk_ext [e]

theorem blk1 : X0_1 m c t (ix2 b l : S128x2048.Idx) = argX m c (ix2 (row t b) ⟨6144 + (2048 + l), by omega⟩) := by
  have e := idx t
  have hN := tlt t
  unfold X0_1 Pipeline.Window.fill
  rw [dif_pos (moved0_1 t _)]
  refine congrArg (argX m c) ?_
  blk_ext [e]

theorem blk2 : iblk m c 2 t (ix2 b l : S128x2048.Idx) = argA m c (ix2 (row t b) l) := by
  have e := idx t
  refine congrArg (argA m c) ?_
  blk_ext [e]

theorem blk3 : iblk m c 3 t (ix2 b l : S128x2048.Idx) = argB m c (ix2 (row t b) l) := by
  have e := idx t
  refine congrArg (argB m c) ?_
  blk_ext [e]

theorem final : (dats m 0 c).arrAt 4 cfg0.N = merged (argX m c) (argA m c) (argB m c) := by
  refine (dats m 0 c).arrAt_eq_of_covers 4 _ (by decide +kernel) fun t hf y => ?_
  blk_simp
  have e := idx t
  have hN := tlt t
  obtain ⟨b, l, rfl⟩ : ∃ (b : Fin 128) (l : Fin 2048), y = ix2 b l := ⟨y 0, y 1, eq_ix2 (n0 := 128) (n1 := 2048) y⟩
  have hp : ((win0_4.blk t).view.emb (ix2 b l : S128x2048.Idx) : S4224x2048.Idx) = ix2 (row t b) l := by blk_ext [e]
  rw [after0_4]
  unfold outsAt0
  frame_out
  refine Eq.trans ?_ (congrArg _ hp).symm
  rw [pay1, blk0, blk1, blk2, blk3, merged_at]

end

theorem frame_ref : Cert.quiescent_MergeFwdRefIdeal := fun m' g' _ =>
  (θ_run Cert.MergeFwdRefIdeal.defs _ _).mono (fun r h => ⟨fun c => (h c).2, sem_eq_zero_of_no_sems rfl r.2⟩)
    (Cert.MergeFwdRefIdeal.Value.run (F := Ideal) m' g')

theorem algebraic : Cert.algebraic_MergeFwdIdeal_MergeFwdRefIdeal := fun m g m' g' _ hag =>
  ⟨fun c => merged (argX m c) (argA m c) (argB m c),
    (θ_run defs _ _).mono (fun r h c => ⟨(h c).1.trans (final m c), (h c).2⟩) (Value.run_blocks (F := Ideal) m g),
    (θ_run Cert.MergeFwdRefIdeal.defs _ _).mono (fun r h c => by
      obtain ⟨h0, hk⟩ := h c
      obtain ⟨e0, e1, e2⟩ := hag c
      rw [e0, e1, e2] at h0
      exact ⟨h0, hk⟩) (Cert.MergeFwdRefIdeal.Value.run (F := Ideal) m' g')⟩

end Cert.MergeFwdIdeal.Hand

end
-- ==== Proof.Gates.RmsFwd.lean ====
/- `rms_fwd`: the norm `h · g / √(mean h² + ε)`, set beside the reference's operations on the whole arrays. -/
module

public import proofs.«01_k».proof.Defs
public import proofs.«01_k».proof.Proof.Gen.RmsFwdIdeal.Value
public import proofs.«01_k».proof.Proof.Gen.RmsFwdRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

/-! ## The reference -/

namespace Cert.RmsFwdRefIdeal.Hand

open Cert.RmsFwdRefIdeal Cert.RmsFwdRefIdeal.Gen

/-- A row of the norm at a lane: `g` the gains. -/
abbrev norm (h g : Fin 2048 → EReal) (l : Fin 2048) : EReal :=
  h l * Ideal.rsqrt (Ideal.div (∑ x, h x * h x) (Ideal.ofBits FTy.f32 1157627904#32) + Ideal.ofBits FTy.f32 897988541#32) * g l

variable (H : FVec Ideal S4224x2048 .f32) (G : FVec Ideal S1x2048 .f32)

abbrev col (v : BitVec 32) : FVec Ideal S4224x1 .f32 := broadcastInDim S4224x1 ![] bcast_S_S4224x1 (constant S_ .f32 v)
abbrev meanSq : FVec Ideal S4224x1 .f32 :=
  addf (Host.divf (broadcastInDim S4224x1 ![0] bcast_S4224_S4224x1_0
    (Host.reduceAdd (mulf H H) (constant S_ .f32 0x00000000#32) reducesTo_S4224x2048_S4224_d1 h_S_)) (col 0x45000000#32)) (col 0x358637BD#32)
abbrev xn : FVec Ideal S4224x2048 .bf16 :=
  truncf .bf16 (mulf (mulf H (broadcastInDim S4224x2048 ![0, 1] bcast_S4224x1_S4224x2048_0_1 (Host.rsqrt (meanSq H))))
    (broadcastInDim S4224x2048 ![0, 1] bcast_S1x2048_S4224x2048_0_1 G)) bitsLt_bf16_f32

theorem xn_at (i : Fin 4224) (l : Fin 2048) : xn H G (ix2 i l) = norm (fun x => H (ix2 i x)) (fun x => G (ix2 0 x)) l := by
  pointwise [xn]

end Cert.RmsFwdRefIdeal.Hand

/-! ## The kernel -/

namespace Cert.RmsFwdIdeal.Hand

open Cert.RmsFwdIdeal Cert.RmsFwdIdeal.Gen
open Cert.RmsFwdRefIdeal.Hand (norm xn xn_at)

theorem pay1 (v0 : Vec Ideal S128x2048 .f32) (v1 : Vec Ideal S1x2048 .f32) (b : Fin 128) (l : Fin 2048) :
    k0_pay1 (F := Ideal) v0 v1 (ix2 b l) = norm (fun x => v0 (ix2 b x)) (fun x => v1 (ix2 0 x)) l := by
  pointwise [k0_pay1]

/-- Which block each window is at, at every grid point. -/
theorem idx : ∀ t : Fin cfg0.N, win0_0.index t = ![t.val, 0] ∧ win0_1.index t = ![0, 0] ∧ win0_2.index t = ![t.val, 0] :=
  (by decide +kernel : ∀ t : Fin grid0.N, _)

theorem tlt (t : Fin cfg0.N) : t.val < 33 := t.isLt

section
variable (m : (ℓ : Loc nD τ sig) → Buf (Elt Ideal) ℓ) (c : Dev nD) (t : Fin cfg0.N) (b : Fin 128) (l : Fin 2048)

/-- The row of the whole array that a block's row is. -/
abbrev row : Fin 4224 := ⟨128 * t.val + b, by have := tlt t; omega⟩

abbrev argH : FVec Ideal S4224x2048 .f32 := m ((c : Thread nD τ).loc main_arg0)
abbrev argG : FVec Ideal S1x2048 .f32 := m ((c : Thread nD τ).loc main_arg1)

theorem blk0 : iblk m c 0 t (ix2 b l : S128x2048.Idx) = argH m c (ix2 (row t b) l) := by
  have e := idx t
  refine congrArg (argH m c) ?_
  blk_ext [e]

theorem blk1 : iblk m c 1 t (ix2 0 l : S1x2048.Idx) = argG m c (ix2 0 l) := by
  have e := idx t
  refine congrArg (argG m c) ?_
  blk_ext [e]

theorem final : (dats m 0 c).arrAt 2 cfg0.N = xn (argH m c) (argG m c) := by
  refine (dats m 0 c).arrAt_eq_of_covers 2 _ (by decide +kernel) fun t hf y => ?_
  blk_simp
  have e := idx t
  have hN := tlt t
  obtain ⟨b, l, rfl⟩ : ∃ (b : Fin 128) (l : Fin 2048), y = ix2 b l := ⟨y 0, y 1, eq_ix2 (n0 := 128) (n1 := 2048) y⟩
  have hp : ((win0_2.blk t).view.emb (ix2 b l : S128x2048.Idx) : S4224x2048.Idx) = ix2 (row t b) l := by blk_ext [e]
  rw [after0_2]
  unfold out0_2
  frame_out
  refine Eq.trans ?_ (congrArg _ hp).symm
  simp only [pay1, blk0, blk1, xn_at]

end

theorem frame_ref : Cert.quiescent_RmsFwdRefIdeal := fun m' g' _ =>
  (θ_run Cert.RmsFwdRefIdeal.defs _ _).mono (fun r h => ⟨fun c => (h c).2, sem_eq_zero_of_no_sems rfl r.2⟩)
    (Cert.RmsFwdRefIdeal.Value.run (F := Ideal) m' g')

theorem algebraic : Cert.algebraic_RmsFwdIdeal_RmsFwdRefIdeal := fun m g m' g' _ hag =>
  ⟨fun c => xn (argH m c) (argG m c),
    (θ_run defs _ _).mono (fun r h c => ⟨(h c).1.trans (final m c), (h c).2⟩) (Value.run_blocks (F := Ideal) m g),
    (θ_run Cert.RmsFwdRefIdeal.defs _ _).mono (fun r h c => by
      obtain ⟨h0, hk⟩ := h c
      obtain ⟨e0, e1⟩ := hag c
      rw [e0, e1] at h0
      exact ⟨h0, hk⟩) (Cert.RmsFwdRefIdeal.Value.run (F := Ideal) m' g')⟩

end Cert.RmsFwdIdeal.Hand

end
-- ==== Proof.Gates.Loss.lean ====
/- The loss head: the squared error's sum and its gradient, the rows before the tokens left out, set beside the reference's
   value and gradient on the whole arrays. -/
module

public import proofs.«01_k».proof.Defs
public import proofs.«01_k».proof.Proof.Gen.LossIdeal.Value
public import proofs.«01_k».proof.Proof.Gen.LossRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.LossRefIdeal.Hand

open Cert.LossRefIdeal Cert.LossRefIdeal.Gen

variable (H : FVec Ideal S4224x2048 .f32) (T : FVec Ideal S4096x2048 .f32)

abbrev err : FVec Ideal S4096x2048 .f32 := subf (extractStridedSlice S4096x2048 ![128, 0] H slices_S4224x2048_S4096x2048_128_0) T
abbrev dH : FVec Ideal S4224x2048 .f32 :=
  pad S4224x2048 ![128, 0] ![0, 0] ![0, 0]
    (mulf (broadcastInDim S4096x2048 ![0] bcast_S4096_S4096x2048_0
        (Host.divf (broadcastInDim S4096 ![] bcast_S_S4096 (mulf (constant S_ .f32 0x3F000000#32) (constant S_ .f32 0x3F800000#32)))
          (broadcastInDim S4096 ![] bcast_S_S4096 (constant S_ .f32 0x45000000#32))))
      (mulf (broadcastInDim S4096x2048 ![] bcast_S_S4096x2048 (constant S_ .f32 0x40000000#32)) (err H T)))
    (constant S_ .f32 0x00000000#32) pads_S4096x2048_S4224x2048_12800_000 h_S_
abbrev value : FVec Ideal S8x128 .f32 :=
  broadcastInDim S8x128 ![] bcast_S_S8x128 (mulf (constant S_ .f32 0x3F000000#32) (Host.reduceAdd
    (Host.divf (Host.reduceAdd (mulf (err H T) (err H T)) (constant S_ .f32 0x00000000#32) reducesTo_S4096x2048_S4096_d1 h_S_)
      (broadcastInDim S4096 ![] bcast_S_S4096 (constant S_ .f32 0x45000000#32)))
    (constant S_ .f32 0x00000000#32) reducesTo_S4096_S_d0 h_S_))

/-! ### The constants, and sums of squares -/

theorem half : Ideal.ofBits .f32 0x3F000000#32 = (((1 : ℝ) / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem lanes : Ideal.ofBits .f32 0x45000000#32 = ((2048 : ℝ) : EReal) := by
  simp [Ideal.ofBits, Ideal.ieee, -EReal.coe_mul]; norm_num

theorem per_lane : Ideal.ofBits .f32 0x3A000000#32 = (((1 : ℝ) / 2048 : ℝ) : EReal) := by
  simp [Ideal.ofBits, Ideal.ieee, -EReal.coe_mul]; norm_num

theorem half_per_lane : Ideal.ofBits .f32 0x39800000#32 = (((1 : ℝ) / 4096 : ℝ) : EReal) := by
  simp [Ideal.ofBits, Ideal.ieee, -EReal.coe_mul]; norm_num

theorem div_lanes (x : EReal) : Ideal.div x ((2048 : ℝ) : EReal) = x * (((1 : ℝ) / 2048 : ℝ) : EReal) := by
  unfold Ideal.div
  rw [if_neg (by simp), ← EReal.coe_inv, one_div]

theorem self_nonneg (x : EReal) : 0 ≤ x * x := by
  induction x with
  | bot => simp
  | top => simp
  | coe r => rw [← EReal.coe_mul]; exact EReal.coe_nonneg.2 (mul_self_nonneg r)

theorem sum_mul_of_nonneg {ι : Type} (s : Finset ι) (f : ι → EReal) (hf : ∀ i, 0 ≤ f i) (k : EReal) :
    (∑ i ∈ s, f i) * k = ∑ i ∈ s, f i * k := by
  classical
  induction s using Finset.induction with
  | empty => simp
  | insert a s ha ih =>
    rw [Finset.sum_insert ha, Finset.sum_insert ha, EReal.right_distrib_of_nonneg (hf a) (Finset.sum_nonneg fun i _ => hf i), ih]

/-! ### The reference at an index -/

/-- The error at a padded row: zero before the tokens. -/
def er (r : Fin 4224) (l : Fin 2048) : EReal := if h : 128 ≤ r.val then H (ix2 r l) - T (ix2 ⟨r.val - 128, by omega⟩ l) else 0

/-- A padded row's part of the loss. -/
def part (r : Fin 4224) : EReal := (∑ l, er H T r l * er H T r l) * (((1 : ℝ) / 4096 : ℝ) : EReal)

theorem sq_nonneg (r : Fin 4224) : 0 ≤ ∑ l, er H T r l * er H T r l := Finset.sum_nonneg fun l _ => self_nonneg _

theorem dH_at (i : Fin 4224) (l : Fin 2048) : dH H T (ix2 i l) = er H T i l * (((1 : ℝ) / 2048 : ℝ) : EReal) := by
  pointwise [dH]
  unfold er
  by_cases h : 128 ≤ i.val
  · have hi : (⟨128 + (i.val - 128), by omega⟩ : Fin 4224) = i := Fin.ext (by simp only []; omega)
    rw [dif_pos ⟨h, by omega⟩, dif_pos h, half, two, lanes, div_lanes, ← mul_assoc, ← EReal.coe_mul, ← EReal.coe_mul, mul_comm, hi]
    norm_num
  · rw [dif_neg (fun h' => h h'.1), dif_neg h, zero_mul]

theorem value_at (i : Fin 8) (l : Fin 128) : value H T (ix2 i l) = ∑ r, part H T r := by
  pointwise [value]
  have split : ∑ r : Fin 4224, part H T r = ∑ r : Fin 128, part H T (Fin.castAdd 4096 r) + ∑ r : Fin 4096, part H T (Fin.natAdd 128 r) :=
    Fin.sum_univ_add (a := 128) (b := 4096) (part H T)
  have pre : ∀ r : Fin 128, part H T (Fin.castAdd 4096 r) = 0 := fun r => by
    simp [part, er, Fin.castAdd, Fin.castLE, Nat.not_le.2 r.isLt]
  have post : ∀ r : Fin 4096, part H T (Fin.natAdd 128 r)
      = (∑ x, (H (ix2 ⟨128 + r.val, by omega⟩ x) - T (ix2 r x)) * (H (ix2 ⟨128 + r.val, by omega⟩ x) - T (ix2 r x)))
        * (((1 : ℝ) / 4096 : ℝ) : EReal) := fun r => by
    unfold part
    refine congrArg (· * _) (Finset.sum_congr rfl fun x _ => ?_)
    have e : er H T (Fin.natAdd 128 r) x = H (ix2 ⟨128 + r.val, by omega⟩ x) - T (ix2 r x) := by
      unfold er
      rw [dif_pos (by simp [Fin.natAdd])]
      exact congrArg₂ (· - ·) rfl (congrArg T (congrArg (ix2 · x) (Fin.ext (by simp [Fin.natAdd]))))
    rw [e]
  rw [split, Finset.sum_congr rfl (fun r _ => pre r), Finset.sum_const_zero, zero_add, Finset.sum_congr rfl (fun r _ => post r), half, lanes, mul_comm]
  simp only [div_lanes]
  rw [sum_mul_of_nonneg _ _ (fun r => mul_nonneg (Finset.sum_nonneg fun x _ => self_nonneg _) (EReal.coe_nonneg.2 (by norm_num)))]
  refine Finset.sum_congr rfl fun r _ => ?_
  rw [mul_assoc, ← EReal.coe_mul]
  norm_num

end Cert.LossRefIdeal.Hand

/-! ## The kernel -/

namespace Cert.LossIdeal.Hand

open Cert.LossIdeal Cert.LossIdeal.Gen
open Cert.LossRefIdeal.Hand (er part dH value dH_at value_at per_lane half_per_lane sum_mul_of_nonneg self_nonneg)

theorem pay1 (i : grid0.Coords) (v0 v1 : Vec Ideal S128x2048 .f32) (j : S128x2048.Idx) : k0_pay1 (F := Ideal) i v0 v1 j
    = Scalar.select (Scalar.cmpi .eq (BitVec.ofNat 32 (i 0).val) 0#32) (0 : EReal) (v0 j - v1 j : EReal) := by
  pointwise [k0_pay1]

theorem pay2 (i : grid0.Coords) (v0 v1 : Vec Ideal S128x2048 .f32) (j : S128x2048.Idx) :
    k0_pay2 (F := Ideal) i v0 v1 j = k0_pay1 (F := Ideal) i v0 v1 j * (((1 : ℝ) / 2048 : ℝ) : EReal) := by
  pointwise [k0_pay2]
  rw [per_lane]

theorem pay3 (j : S8x128.Idx) : k0_pay3 (F := Ideal) j = 0 := by
  pointwise [k0_pay3]

theorem pay4 (i : grid0.Coords) (v0 v1 : Vec Ideal S128x2048 .f32) (v : Vec Ideal S8x128 .f32) (j : S8x128.Idx) :
    k0_pay4 (F := Ideal) i v0 v1 v j = v j + ∑ b : Fin 128, (∑ l : Fin 2048,
      k0_pay1 (F := Ideal) i v0 v1 (ix2 b l) * k0_pay1 (F := Ideal) i v0 v1 (ix2 b l)) * (((1 : ℝ) / 4096 : ℝ) : EReal) := by
  rw [← sum_mul_of_nonneg _ _ (fun b => Finset.sum_nonneg fun l _ => self_nonneg _), mul_comm, ← half_per_lane]
  pointwise [k0_pay4]

/-- Which block each window is at, at every grid point, and whether the point is the first. -/
theorem idx : ∀ t : Fin cfg0.N, win0_0.index t = ![t.val, 0] ∧ win0_1.index t = ![t.val - 1, 0] ∧ win0_2.index t = ![t.val, 0]
    ∧ win0_3.index t = ![0, 0] ∧ (grid0.coords t 0).val = t.val :=
  (by decide +kernel : ∀ t : Fin grid0.N, _)

theorem first : ∀ t : Fin cfg0.N, Scalar.cmpi .eq (BitVec.ofNat 32 (grid0.coords t 0).val) 0#32 = if t.val = 0 then 1#1 else 0#1 :=
  (by decide +kernel : ∀ t : Fin grid0.N, _)

theorem tlt (t : Fin cfg0.N) : t.val < 33 := t.isLt

section
variable (m : (ℓ : Loc nD τ sig) → Buf (Elt Ideal) ℓ) (c : Dev nD) (t : Fin cfg0.N) (b : Fin 128) (l : Fin 2048)

/-- The row of the whole array that a block's row is. -/
abbrev row : Fin 4224 := ⟨128 * t.val + b, by have := tlt t; omega⟩

abbrev argH : FVec Ideal S4224x2048 .f32 := m ((c : Thread nD τ).loc main_arg0)
abbrev argT : FVec Ideal S4096x2048 .f32 := m ((c : Thread nD τ).loc main_arg1)

theorem blk0 : iblk m c 0 t (ix2 b l : S128x2048.Idx) = argH m c (ix2 (row t b) l) := by
  have e := idx t
  refine congrArg (argH m c) ?_
  blk_ext [e]

theorem blk1 : iblk m c 1 t (ix2 b l : S128x2048.Idx) = argT m c (ix2 ⟨128 * (t.val - 1) + b, by have := tlt t; omega⟩ l) := by
  have e := idx t
  refine congrArg (argT m c) ?_
  blk_ext [e]

/-- The error the body computes is the whole array's at the block's row. -/
theorem er_at : k0_pay1 (F := Ideal) (grid0.coords t) (iblk m c 0 t) (iblk m c 1 t) (ix2 b l) = er (argH m c) (argT m c) (row t b) l := by
  rw [pay1, first, blk0, blk1]
  unfold er
  by_cases h : t.val = 0
  · rw [if_pos h, dif_neg (by simp only [row]; omega)]
    rfl
  · rw [if_neg h, dif_pos (by simp only [row]; omega)]
    exact congrArg₂ (· - ·) rfl (congrArg (argT m c) (congrArg (ix2 · l) (Fin.ext (by simp only [row]; omega))))

theorem final_h : (dats m 0 c).arrAt 2 cfg0.N = dH (argH m c) (argT m c) := by
  refine (dats m 0 c).arrAt_eq_of_covers 2 _ (by decide +kernel) fun t hf y => ?_
  blk_simp
  have e := idx t
  have hN := tlt t
  obtain ⟨b, l, rfl⟩ : ∃ (b : Fin 128) (l : Fin 2048), y = ix2 b l := ⟨y 0, y 1, eq_ix2 (n0 := 128) (n1 := 2048) y⟩
  have hp : ((win0_2.blk t).view.emb (ix2 b l : S128x2048.Idx) : S4224x2048.Idx) = ix2 (row t b) l := by blk_ext [e]
  have hX : (outsAt0 m c t.val t.isLt).1 (ix2 b l) = k0_pay2 (F := Ideal) (grid0.coords t) (iblk m c 0 t) (iblk m c 1 t) (ix2 b l) := by
    by_cases h : t.val % 33 = 0
    · rw [outsAt0_A m c t h]; frame_out
    · rw [outsAt0_B m c t h]; frame_out
  rw [after0_2]
  refine hX.trans (Eq.trans ?_ (congrArg _ hp).symm)
  rw [pay2, er_at, dH_at]

theorem final_value : (dats m 0 c).arrAt 3 cfg0.N = value (argH m c) (argT m c) := by
  refine (dats m 0 c).arrAt_eq_of_covers 3 _ (by decide +kernel) fun t hf y => ?_
  blk_simp
  have e := idx t
  have hm := (flush0_3 t).mp hf
  obtain ⟨i, l, rfl⟩ : ∃ (i : Fin 8) (l : Fin 128), y = ix2 i l := ⟨y 0, y 1, eq_ix2 (n0 := 8) (n1 := 128) y⟩
  have hp : ((win0_3.blk t).view.emb (ix2 i l : S8x128.Idx) : S8x128.Idx) = ix2 i l := by blk_ext [e]
  rw [after0_3]
  refine Eq.trans ?_ (congrArg _ hp).symm
  rw [Pipeline.eq_sum_fin_of_reset_step_apply_of_flush (fun n h => (outsAt0 m c n h).2) 33 (fun _ => 0)
    (fun t _ => ∑ b : Fin 128, part (argH m c) (argT m c) (row t b))
    (fun t h j => by rw [outsAt0_A m c t h]; frame_out; rw [pay4, pay3]; simp only [er_at]; rfl)
    (fun t h j => by rw [outsAt0_B m c t h]; frame_out; rw [pay4]; simp only [er_at]; rfl)
    t hm _, zero_add, value_at]
  have h33 : t.val = 32 := by have := tlt t; omega
  refine Fin.sum_mul_add_congr fun s k hl => ?_
  have hr : row ⟨33 * (t.val / 33) + s, Pipeline.run_point_lt_of_flush t hm s⟩ k = ⟨_, hl⟩ := Fin.ext (by simp only [row]; omega)
  rw [← hr]

end

theorem frame_ref : Cert.quiescent_LossRefIdeal := fun m' g' _ =>
  (θ_run Cert.LossRefIdeal.defs _ _).mono (fun r h => ⟨fun c => (h c).2.2, sem_eq_zero_of_no_sems rfl r.2⟩)
    (Cert.LossRefIdeal.Value.run (F := Ideal) m' g')

theorem algebraic : Cert.algebraic_LossIdeal_LossRefIdeal := fun m g m' g' _ hag =>
  ⟨fun c => dH (argH m c) (argT m c), fun c => value (argH m c) (argT m c),
    (θ_run defs _ _).mono (fun r h c => ⟨(h c).1.trans (final_h m c), (h c).2.1.trans (final_value m c), (h c).2.2⟩)
      (Value.run_blocks (F := Ideal) m g),
    (θ_run Cert.LossRefIdeal.defs _ _).mono (fun r h c => by
      obtain ⟨h0, h1, hk⟩ := h c
      obtain ⟨e0, e1⟩ := hag c
      rw [e0, e1] at h0 h1
      exact ⟨h0, h1, hk⟩) (Cert.LossRefIdeal.Value.run (F := Ideal) m' g')⟩

end Cert.LossIdeal.Hand

end
-- ==== Proof.Adam.Step.lean ====
/- One step of the optimiser, element by element: the host's operations over whole arrays of any shape, read at an index.
   Every weight's update (`Adam/Weights.lean`) is an instance. -/
module

public import Idealize.ShloMosaic.Lib.Pipeline.ValueKit

@[expose] public section

noncomputable section

open Idealize.ShloMosaic

namespace Cert.Adam

/-- The first moment's new value at an element: `g` the gradient, `a` the moment. -/
abbrev first (g a : Ideal .f32) : Ideal .f32 :=
  FloatOps.addf (FloatOps.mulf (Scalar.ofBits .f32 0x3F666666#32) a) (FloatOps.mulf (Scalar.ofBits .f32 0x3DCCCCCD#32) g)

/-- The second moment's new value at an element. -/
abbrev second (g b : Ideal .f32) : Ideal .f32 :=
  FloatOps.addf (FloatOps.mulf (Scalar.ofBits .f32 0x3F7FBE77#32) b)
    (FloatOps.mulf (Scalar.ofBits .f32 0x3A83126F#32) (FloatOps.mulf g g))

/-- The weight's change at an element: the corrected first moment over the corrected second moment's root, the decay added. -/
abbrev change (g a b w : Ideal .f32) : Ideal .f32 :=
  FloatOps.mulf (Scalar.ofBits .f32 0xBA83126F#32) (FloatOps.addf
    (FloatOps.divf (FloatOps.divf (first g a) (Scalar.ofBits .f32 0x3F26BD02#32))
      (FloatOps.addf (FloatOps.sqrt (FloatOps.divf (second g b) (Scalar.ofBits .f32 0x3C231ACC#32))) (Scalar.ofBits .f32 0x322BCC77#32)))
    (FloatOps.mulf (Scalar.ofBits .f32 0x3C23D70A#32) w))

variable {S : Shape} (h : (⟨0, ![]⟩ : Shape).BroadcastsInDim S (![] : Fin 0 → Fin S.rank)) (w g a b : FVec Ideal S .f32)

/-- A constant at every index. -/
abbrev all (v : BitVec 32) : FVec Ideal S .f32 := broadcastInDim S ![] h (constant ⟨0, ![]⟩ .f32 v)

/-- The first moment, as the reference composes it. -/
abbrev FIRST : FVec Ideal S .f32 := addf (mulf (all h 0x3F666666#32) a) (mulf (all h 0x3DCCCCCD#32) g)

/-- The second moment, as the reference composes it. -/
abbrev SECOND : FVec Ideal S .f32 := addf (mulf (all h 0x3F7FBE77#32) b) (mulf (all h 0x3A83126F#32) (mulf g g))

/-- The change, as the reference composes it. -/
abbrev CHANGE : FVec Ideal S .f32 :=
  mulf (all h 0xBA83126F#32) (addf
    (Host.divf (Host.divf (FIRST h g a) (all h 0x3F26BD02#32))
      (addf (Host.sqrt (Host.divf (SECOND h g b) (all h 0x3C231ACC#32))) (all h 0x322BCC77#32)))
    (mulf (all h 0x3C23D70A#32) w))

theorem first_eq : FIRST h g a = fun i => first (g i) (a i) := rfl

theorem second_eq : SECOND h g b = fun i => second (g i) (b i) := rfl

theorem change_eq : CHANGE h w g a b = fun i => change (g i) (a i) (b i) (w i) := rfl

/-- The reference's three results are the kernel's: `w' g' a' b'` the reference's arguments, `K` what each run leaves unchanged. -/
theorem ends {w' g' a' b' x y z : FVec Ideal S .f32} {K : Prop}
    (hr : x = CHANGE h w' g' a' b' ∧ y = FIRST h g' a' ∧ z = SECOND h g' b' ∧ K) (he : w' = w ∧ g' = g ∧ a' = a ∧ b' = b) :
    x = (fun i => change (g i) (a i) (b i) (w i)) ∧ y = (fun i => first (g i) (a i)) ∧ z = (fun i => second (g i) (b i)) ∧ K := by
  obtain ⟨rfl, rfl, rfl, rfl⟩ := he
  exact ⟨hr.1.trans (change_eq ..), hr.2.1.trans (first_eq ..), hr.2.2.1.trans (second_eq ..), hr.2.2.2⟩

end Cert.Adam

end
-- ==== Proof.Adam.Weights.lean ====
/- `adamw`: each weight's update over the kernel's grid of rows, set beside the reference's whole-array operations. -/
module

public import proofs.«01_k».proof.Defs
public import proofs.«01_k».proof.Proof.Adam.Step
public import proofs.«01_k».proof.Proof.Gen.AdamInIdeal.Value
public import proofs.«01_k».proof.Proof.Gen.AdamInRefIdeal.Run
public import proofs.«01_k».proof.Proof.Gen.AdamGateUpIdeal.Value
public import proofs.«01_k».proof.Proof.Gen.AdamGateUpRefIdeal.Run
public import proofs.«01_k».proof.Proof.Gen.AdamDownIdeal.Value
public import proofs.«01_k».proof.Proof.Gen.AdamDownRefIdeal.Run
public import proofs.«01_k».proof.Proof.Gen.AdamWoIdeal.Value
public import proofs.«01_k».proof.Proof.Gen.AdamWoRefIdeal.Run
public import proofs.«01_k».proof.Proof.Gen.AdamBranchIdeal.Value
public import proofs.«01_k».proof.Proof.Gen.AdamBranchRefIdeal.Run
public import proofs.«01_k».proof.Proof.Gen.AdamLoraIdeal.Value
public import proofs.«01_k».proof.Proof.Gen.AdamLoraRefIdeal.Run
public import proofs.«01_k».proof.Proof.Gen.AdamGateIdeal.Value
public import proofs.«01_k».proof.Proof.Gen.AdamGateRefIdeal.Run
public import proofs.«01_k».proof.Proof.Gen.AdamMetaIdeal.Value
public import proofs.«01_k».proof.Proof.Gen.AdamMetaRefIdeal.Run
public import proofs.«01_k».proof.Proof.Gen.AdamSmallIdeal.Value
public import proofs.«01_k».proof.Proof.Gen.AdamSmallRefIdeal.Run
public import Idealize.ShloMosaic.Lib.Quiescent

@[expose] public section

set_option maxRecDepth 16384

noncomputable section

open Idealize.ShloMosaic Idealize.ShloMosaic.TcCoe Idealize.SL.Sem

namespace Cert.Adam

theorem frame_In : Cert.quiescent_AdamInRefIdeal := fun m' g' _ =>
  (θ_run Cert.AdamInRefIdeal.defs _ _).mono (fun r h => ⟨fun c => (h c).2.2.2, sem_eq_zero_of_no_sems rfl r.2⟩)
    (Cert.AdamInRefIdeal.Value.run (F := Ideal) m' g')

theorem algebraic_In : Cert.algebraic_AdamInIdeal_AdamInRefIdeal := fun m g m' g' _ hag =>
  ⟨_, _, _, Cert.AdamInIdeal.Value.run (F := Ideal) m g,
    (θ_run Cert.AdamInRefIdeal.defs _ _).mono (fun r h c => ends _ _ _ _ _ (h c) (hag c)) (Cert.AdamInRefIdeal.Value.run (F := Ideal) m' g')⟩

theorem frame_GateUp : Cert.quiescent_AdamGateUpRefIdeal := fun m' g' _ =>
  (θ_run Cert.AdamGateUpRefIdeal.defs _ _).mono (fun r h => ⟨fun c => (h c).2.2.2, sem_eq_zero_of_no_sems rfl r.2⟩)
    (Cert.AdamGateUpRefIdeal.Value.run (F := Ideal) m' g')

theorem algebraic_GateUp : Cert.algebraic_AdamGateUpIdeal_AdamGateUpRefIdeal := fun m g m' g' _ hag =>
  ⟨_, _, _, Cert.AdamGateUpIdeal.Value.run (F := Ideal) m g,
    (θ_run Cert.AdamGateUpRefIdeal.defs _ _).mono (fun r h c => ends _ _ _ _ _ (h c) (hag c)) (Cert.AdamGateUpRefIdeal.Value.run (F := Ideal) m' g')⟩

theorem frame_Down : Cert.quiescent_AdamDownRefIdeal := fun m' g' _ =>
  (θ_run Cert.AdamDownRefIdeal.defs _ _).mono (fun r h => ⟨fun c => (h c).2.2.2, sem_eq_zero_of_no_sems rfl r.2⟩)
    (Cert.AdamDownRefIdeal.Value.run (F := Ideal) m' g')

theorem algebraic_Down : Cert.algebraic_AdamDownIdeal_AdamDownRefIdeal := fun m g m' g' _ hag =>
  ⟨_, _, _, Cert.AdamDownIdeal.Value.run (F := Ideal) m g,
    (θ_run Cert.AdamDownRefIdeal.defs _ _).mono (fun r h c => ends _ _ _ _ _ (h c) (hag c)) (Cert.AdamDownRefIdeal.Value.run (F := Ideal) m' g')⟩

theorem frame_Wo : Cert.quiescent_AdamWoRefIdeal := fun m' g' _ =>
  (θ_run Cert.AdamWoRefIdeal.defs _ _).mono (fun r h => ⟨fun c => (h c).2.2.2, sem_eq_zero_of_no_sems rfl r.2⟩)
    (Cert.AdamWoRefIdeal.Value.run (F := Ideal) m' g')

theorem algebraic_Wo : Cert.algebraic_AdamWoIdeal_AdamWoRefIdeal := fun m g m' g' _ hag =>
  ⟨_, _, _, Cert.AdamWoIdeal.Value.run (F := Ideal) m g,
    (θ_run Cert.AdamWoRefIdeal.defs _ _).mono (fun r h c => ends _ _ _ _ _ (h c) (hag c)) (Cert.AdamWoRefIdeal.Value.run (F := Ideal) m' g')⟩

theorem frame_Branch : Cert.quiescent_AdamBranchRefIdeal := fun m' g' _ =>
  (θ_run Cert.AdamBranchRefIdeal.defs _ _).mono (fun r h => ⟨fun c => (h c).2.2.2, sem_eq_zero_of_no_sems rfl r.2⟩)
    (Cert.AdamBranchRefIdeal.Value.run (F := Ideal) m' g')

theorem algebraic_Branch : Cert.algebraic_AdamBranchIdeal_AdamBranchRefIdeal := fun m g m' g' _ hag =>
  ⟨_, _, _, Cert.AdamBranchIdeal.Value.run (F := Ideal) m g,
    (θ_run Cert.AdamBranchRefIdeal.defs _ _).mono (fun r h c => ends _ _ _ _ _ (h c) (hag c)) (Cert.AdamBranchRefIdeal.Value.run (F := Ideal) m' g')⟩

theorem frame_Lora : Cert.quiescent_AdamLoraRefIdeal := fun m' g' _ =>
  (θ_run Cert.AdamLoraRefIdeal.defs _ _).mono (fun r h => ⟨fun c => (h c).2.2.2, sem_eq_zero_of_no_sems rfl r.2⟩)
    (Cert.AdamLoraRefIdeal.Value.run (F := Ideal) m' g')

theorem algebraic_Lora : Cert.algebraic_AdamLoraIdeal_AdamLoraRefIdeal := fun m g m' g' _ hag =>
  ⟨_, _, _, Cert.AdamLoraIdeal.Value.run (F := Ideal) m g,
    (θ_run Cert.AdamLoraRefIdeal.defs _ _).mono (fun r h c => ends _ _ _ _ _ (h c) (hag c)) (Cert.AdamLoraRefIdeal.Value.run (F := Ideal) m' g')⟩

theorem frame_Gate : Cert.quiescent_AdamGateRefIdeal := fun m' g' _ =>
  (θ_run Cert.AdamGateRefIdeal.defs _ _).mono (fun r h => ⟨fun c => (h c).2.2.2, sem_eq_zero_of_no_sems rfl r.2⟩)
    (Cert.AdamGateRefIdeal.Value.run (F := Ideal) m' g')

theorem algebraic_Gate : Cert.algebraic_AdamGateIdeal_AdamGateRefIdeal := fun m g m' g' _ hag =>
  ⟨_, _, _, Cert.AdamGateIdeal.Value.run (F := Ideal) m g,
    (θ_run Cert.AdamGateRefIdeal.defs _ _).mono (fun r h c => ends _ _ _ _ _ (h c) (hag c)) (Cert.AdamGateRefIdeal.Value.run (F := Ideal) m' g')⟩

theorem frame_Meta : Cert.quiescent_AdamMetaRefIdeal := fun m' g' _ =>
  (θ_run Cert.AdamMetaRefIdeal.defs _ _).mono (fun r h => ⟨fun c => (h c).2.2.2, sem_eq_zero_of_no_sems rfl r.2⟩)
    (Cert.AdamMetaRefIdeal.Value.run (F := Ideal) m' g')

theorem algebraic_Meta : Cert.algebraic_AdamMetaIdeal_AdamMetaRefIdeal := fun m g m' g' _ hag =>
  ⟨_, _, _, Cert.AdamMetaIdeal.Value.run (F := Ideal) m g,
    (θ_run Cert.AdamMetaRefIdeal.defs _ _).mono (fun r h c => ends _ _ _ _ _ (h c) (hag c)) (Cert.AdamMetaRefIdeal.Value.run (F := Ideal) m' g')⟩

theorem frame_Small : Cert.quiescent_AdamSmallRefIdeal := fun m' g' _ =>
  (θ_run Cert.AdamSmallRefIdeal.defs _ _).mono (fun r h => ⟨fun c => (h c).2.2.2, sem_eq_zero_of_no_sems rfl r.2⟩)
    (Cert.AdamSmallRefIdeal.Value.run (F := Ideal) m' g')

theorem algebraic_Small : Cert.algebraic_AdamSmallIdeal_AdamSmallRefIdeal := fun m g m' g' _ hag =>
  ⟨_, _, _, Cert.AdamSmallIdeal.Value.run (F := Ideal) m g,
    (θ_run Cert.AdamSmallRefIdeal.defs _ _).mono (fun r h c => ends _ _ _ _ _ (h c) (hag c)) (Cert.AdamSmallRefIdeal.Value.run (F := Ideal) m' g')⟩

end Cert.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxRefIdeal
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwRefIdeal
public import proofs.«01_k».proof.Proof.Gen.GateUpDx
public import proofs.«01_k».proof.Proof.Gen.GateUpDx.Skeleton
public import proofs.«01_k».proof.Proof.Gen.GateUpDx.Launch
public import proofs.«01_k».proof.Proof.Gen.GateUpDx.Points
public import proofs.«01_k».proof.Proof.Gen.GateUpDx.Frame
public import proofs.«01_k».proof.Proof.Gen.GateUpDxIdeal
public import proofs.«01_k».proof.Proof.Gen.GateUpDxIdeal.Skeleton
public import proofs.«01_k».proof.Proof.Gen.GateUpDxIdeal.Launch
public import proofs.«01_k».proof.Proof.Gen.GateUpDxIdeal.Points
public import proofs.«01_k».proof.Proof.Gen.GateUpDxIdeal.Frame
public import proofs.«01_k».proof.Proof.Gen.GateUpDxRefIdeal
public import proofs.«01_k».proof.Proof.Gen.GateUpDw
public import proofs.«01_k».proof.Proof.Gen.GateUpDw.Skeleton
public import proofs.«01_k».proof.Proof.Gen.GateUpDw.Launch
public import proofs.«01_k».proof.Proof.Gen.GateUpDw.Points
public import proofs.«01_k».proof.Proof.Gen.GateUpDw.Frame
public import proofs.«01_k».proof.Proof.Gen.GateUpDwIdeal
public import proofs.«01_k».proof.Proof.Gen.GateUpDwIdeal.Skeleton
public import proofs.«01_k».proof.Proof.Gen.GateUpDwIdeal.Launch
public import proofs.«01_k».proof.Proof.Gen.GateUpDwIdeal.Points
public import proofs.«01_k».proof.Proof.Gen.GateUpDwIdeal.Frame
public import proofs.«01_k».proof.Proof.Gen.GateUpDwRefIdeal
public import proofs.«01_k».proof.Proof.Gen.WoDx
public import proofs.«01_k».proof.Proof.Gen.WoDx.Skeleton
public import proofs.«01_k».proof.Proof.Gen.WoDx.Launch
public import proofs.«01_k».proof.Proof.Gen.WoDx.Points
public import proofs.«01_k».proof.Proof.Gen.WoDx.Frame
public import proofs.«01_k».proof.Proof.Gen.WoDxIdeal
public import proofs.«01_k».proof.Proof.Gen.WoDxIdeal.Skeleton
public import proofs.«01_k».proof.Proof.Gen.WoDxIdeal.Launch
public import proofs.«01_k».proof.Proof.Gen.WoDxIdeal.Points
public import proofs.«01_k».proof.Proof.Gen.WoDxIdeal.Frame
public import proofs.«01_k».proof.Proof.Gen.WoDxRefIdeal
public import proofs.«01_k».proof.Proof.Gen.WoDw
public import proofs.«01_k».proof.Proof.Gen.WoDw.Skeleton
public import proofs.«01_k».proof.Proof.Gen.WoDw.Launch
public import proofs.«01_k».proof.Proof.Gen.WoDw.Points
public import proofs.«01_k».proof.Proof.Gen.WoDw.Frame
public import proofs.«01_k».proof.Proof.Gen.WoDwIdeal
public import proofs.«01_k».proof.Proof.Gen.WoDwIdeal.Skeleton
public import proofs.«01_k».proof.Proof.Gen.WoDwIdeal.Launch
public import proofs.«01_k».proof.Proof.Gen.WoDwIdeal.Points
public import proofs.«01_k».proof.Proof.Gen.WoDwIdeal.Frame
public import proofs.«01_k».proof.Proof.Gen.WoDwRefIdeal
public import proofs.«01_k».proof.Proof.Gen.BranchDx
public import proofs.«01_k».proof.Proof.Gen.BranchDx.Skeleton
public import proofs.«01_k».proof.Proof.Gen.BranchDx.Launch
public import proofs.«01_k».proof.Proof.Gen.BranchDx.Points
public import proofs.«01_k».proof.Proof.Gen.BranchDx.Frame
public import proofs.«01_k».proof.Proof.Gen.BranchDxIdeal
public import proofs.«01_k».proof.Proof.Gen.BranchDxIdeal.Skeleton
public import proofs.«01_k».proof.Proof.Gen.BranchDxIdeal.Launch
public import proofs.«01_k».proof.Proof.Gen.BranchDxIdeal.Points
public import proofs.«01_k».proof.Proof.Gen.BranchDxIdeal.Frame
public import proofs.«01_k».proof.Proof.Gen.BranchDxRefIdeal
public import proofs.«01_k».proof.Proof.Gen.BranchDw
public import proofs.«01_k».proof.Proof.Gen.BranchDw.Skeleton
public import proofs.«01_k».proof.Proof.Gen.BranchDw.Launch
public import proofs.«01_k».proof.Proof.Gen.BranchDw.Points
public import proofs.«01_k».proof.Proof.Gen.BranchDw.Frame
public import proofs.«01_k».proof.Proof.Gen.BranchDwIdeal
public import proofs.«01_k».proof.Proof.Gen.BranchDwIdeal.Skeleton
public import proofs.«01_k».proof.Proof.Gen.BranchDwIdeal.Launch
public import proofs.«01_k».proof.Proof.Gen.BranchDwIdeal.Points
public import proofs.«01_k».proof.Proof.Gen.BranchDwIdeal.Frame
public import proofs.«01_k».proof.Proof.Gen.BranchDwRefIdeal
public import proofs.«01_k».proof.Proof.Gen.ProjDx
public import proofs.«01_k».proof.Proof.Gen.ProjDx.Skeleton
public import proofs.«01_k».proof.Proof.Gen.ProjDx.Launch
public import proofs.«01_k».proof.Proof.Gen.ProjDx.Points
public import proofs.«01_k».proof.Proof.Gen.ProjDx.Frame
public import proofs.«01_k».proof.Proof.Gen.ProjDxIdeal
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjDxIdeal.Frame
public import proofs.«01_k».proof.Proof.Gen.ProjDxRefIdeal
public import proofs.«01_k».proof.Proof.Gen.ProjDw
public import proofs.«01_k».proof.Proof.Gen.ProjDw.Skeleton
public import proofs.«01_k».proof.Proof.Gen.ProjDw.Launch
public import proofs.«01_k».proof.Proof.Gen.ProjDw.Points
public import proofs.«01_k».proof.Proof.Gen.ProjDw.Frame
public import proofs.«01_k».proof.Proof.Gen.ProjDwIdeal
public import proofs.«01_k».proof.Proof.Gen.ProjDwIdeal.Skeleton
public import proofs.«01_k».proof.Proof.Gen.ProjDwIdeal.Launch
public import proofs.«01_k».proof.Proof.Gen.ProjDwIdeal.Points
public import proofs.«01_k».proof.Proof.Gen.ProjDwIdeal.Frame
public import proofs.«01_k».proof.Proof.Gen.ProjDwRefIdeal
public import proofs.«01_k».proof.Proof.Gen.ProjFwd
public import proofs.«01_k».proof.Proof.Gen.ProjFwd.Skeleton
public import proofs.«01_k».proof.Proof.Gen.ProjFwd.Launch
public import proofs.«01_k».proof.Proof.Gen.ProjFwd.Points
public import proofs.«01_k».proof.Proof.Gen.ProjFwd.Frame
public import proofs.«01_k».proof.Proof.Gen.ProjFwdIdeal
public import proofs.«01_k».proof.Proof.Gen.ProjFwdIdeal.Skeleton
public import proofs.«01_k».proof.Proof.Gen.ProjFwdIdeal.Launch
public import proofs.«01_k».proof.Proof.Gen.ProjFwdIdeal.Points
public import proofs.«01_k».proof.Proof.Gen.ProjFwdIdeal.Frame
public import proofs.«01_k».proof.Proof.Gen.ProjFwdRefIdeal
public import proofs.«01_k».proof.Proof.Gen.BranchFwd
public import proofs.«01_k».proof.Proof.Gen.BranchFwd.Skeleton
public import proofs.«01_k».proof.Proof.Gen.BranchFwd.Launch
public import proofs.«01_k».proof.Proof.Gen.BranchFwd.Points
public import proofs.«01_k».proof.Proof.Gen.BranchFwd.Frame
public import proofs.«01_k».proof.Proof.Gen.BranchFwdIdeal
public import proofs.«01_k».proof.Proof.Gen.BranchFwdIdeal.Skeleton
public import proofs.«01_k».proof.Proof.Gen.BranchFwdIdeal.Launch
public import proofs.«01_k».proof.Proof.Gen.BranchFwdIdeal.Points
public import proofs.«01_k».proof.Proof.Gen.BranchFwdIdeal.Frame
public import proofs.«01_k».proof.Proof.Gen.BranchFwdRefIdeal
public import proofs.«01_k».proof.Proof.Gen.WoFwd
public import proofs.«01_k».proof.Proof.Gen.WoFwd.Skeleton
public import proofs.«01_k».proof.Proof.Gen.WoFwd.Launch
public import proofs.«01_k».proof.Proof.Gen.WoFwd.Points
public import proofs.«01_k».proof.Proof.Gen.WoFwd.Frame
public import proofs.«01_k».proof.Proof.Gen.WoFwdIdeal
public import proofs.«01_k».proof.Proof.Gen.WoFwdIdeal.Skeleton
public import proofs.«01_k».proof.Proof.Gen.WoFwdIdeal.Launch
public import proofs.«01_k».proof.Proof.Gen.WoFwdIdeal.Points
public import proofs.«01_k».proof.Proof.Gen.WoFwdIdeal.Frame
public import proofs.«01_k».proof.Proof.Gen.WoFwdRefIdeal
public import proofs.«01_k».proof.Proof.Gen.GateUpFwd
public import proofs.«01_k».proof.Proof.Gen.GateUpFwd.Skeleton
public import proofs.«01_k».proof.Proof.Gen.GateUpFwd.Launch
public import proofs.«01_k».proof.Proof.Gen.GateUpFwd.Points
public import proofs.«01_k».proof.Proof.Gen.GateUpFwd.Frame
public import proofs.«01_k».proof.Proof.Gen.GateUpFwdIdeal
public import proofs.«01_k».proof.Proof.Gen.GateUpFwdIdeal.Skeleton
public import proofs.«01_k».proof.Proof.Gen.GateUpFwdIdeal.Launch
public import proofs.«01_k».proof.Proof.Gen.GateUpFwdIdeal.Points
public import proofs.«01_k».proof.Proof.Gen.GateUpFwdIdeal.Frame
public import proofs.«01_k».proof.Proof.Gen.GateUpFwdRefIdeal
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdRefIdeal
public import proofs.«01_k».proof.Proof.Gen.SwigluBwd
public import proofs.«01_k».proof.Proof.Gen.SwigluBwd.Skeleton
public import proofs.«01_k».proof.Proof.Gen.SwigluBwd.Launch
public import proofs.«01_k».proof.Proof.Gen.SwigluBwd.Points
public import proofs.«01_k».proof.Proof.Gen.SwigluBwd.Frame
public import proofs.«01_k».proof.Proof.Gen.SwigluBwdIdeal
public import proofs.«01_k».proof.Proof.Gen.SwigluBwdIdeal.Skeleton
public import proofs.«01_k».proof.Proof.Gen.SwigluBwdIdeal.Launch
public import proofs.«01_k».proof.Proof.Gen.SwigluBwdIdeal.Points
public import proofs.«01_k».proof.Proof.Gen.SwigluBwdIdeal.Frame
public import proofs.«01_k».proof.Proof.Gen.SwigluBwdRefIdeal
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdRefIdeal
public import proofs.«01_k».proof.Proof.Gen.RmsBwd
public import proofs.«01_k».proof.Proof.Gen.RmsBwd.Skeleton
public import proofs.«01_k».proof.Proof.Gen.RmsBwd.Launch
public import proofs.«01_k».proof.Proof.Gen.RmsBwd.Points
public import proofs.«01_k».proof.Proof.Gen.RmsBwd.Frame
public import proofs.«01_k».proof.Proof.Gen.RmsBwdIdeal
public import proofs.«01_k».proof.Proof.Gen.RmsBwdIdeal.Skeleton
public import proofs.«01_k».proof.Proof.Gen.RmsBwdIdeal.Launch
public import proofs.«01_k».proof.Proof.Gen.RmsBwdIdeal.Points
public import proofs.«01_k».proof.Proof.Gen.RmsBwdIdeal.Frame
public import proofs.«01_k».proof.Proof.Gen.RmsBwdRefIdeal
public import proofs.«01_k».proof.Proof.Gen.SwigluFwd
public import proofs.«01_k».proof.Proof.Gen.SwigluFwd.Skeleton
public import proofs.«01_k».proof.Proof.Gen.SwigluFwd.Launch
public import proofs.«01_k».proof.Proof.Gen.SwigluFwd.Points
public import proofs.«01_k».proof.Proof.Gen.SwigluFwd.Frame
public import proofs.«01_k».proof.Proof.Gen.SwigluFwdIdeal
public import proofs.«01_k».proof.Proof.Gen.SwigluFwdIdeal.Skeleton
public import proofs.«01_k».proof.Proof.Gen.SwigluFwdIdeal.Launch
public import proofs.«01_k».proof.Proof.Gen.SwigluFwdIdeal.Points
public import proofs.«01_k».proof.Proof.Gen.SwigluFwdIdeal.Frame
public import proofs.«01_k».proof.Proof.Gen.SwigluFwdRefIdeal
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdRefIdeal
public import proofs.«01_k».proof.Proof.Gen.RmsFwd
public import proofs.«01_k».proof.Proof.Gen.RmsFwd.Skeleton
public import proofs.«01_k».proof.Proof.Gen.RmsFwd.Launch
public import proofs.«01_k».proof.Proof.Gen.RmsFwd.Points
public import proofs.«01_k».proof.Proof.Gen.RmsFwd.Frame
public import proofs.«01_k».proof.Proof.Gen.RmsFwdIdeal
public import proofs.«01_k».proof.Proof.Gen.RmsFwdIdeal.Skeleton
public import proofs.«01_k».proof.Proof.Gen.RmsFwdIdeal.Launch
public import proofs.«01_k».proof.Proof.Gen.RmsFwdIdeal.Points
public import proofs.«01_k».proof.Proof.Gen.RmsFwdIdeal.Frame
public import proofs.«01_k».proof.Proof.Gen.RmsFwdRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamGateUp
public import proofs.«01_k».proof.Proof.Gen.AdamGateUp.Skeleton
public import proofs.«01_k».proof.Proof.Gen.AdamGateUp.Launch
public import proofs.«01_k».proof.Proof.Gen.AdamGateUp.Points
public import proofs.«01_k».proof.Proof.Gen.AdamGateUp.Frame
public import proofs.«01_k».proof.Proof.Gen.AdamGateUpIdeal
public import proofs.«01_k».proof.Proof.Gen.AdamGateUpIdeal.Skeleton
public import proofs.«01_k».proof.Proof.Gen.AdamGateUpIdeal.Launch
public import proofs.«01_k».proof.Proof.Gen.AdamGateUpIdeal.Points
public import proofs.«01_k».proof.Proof.Gen.AdamGateUpIdeal.Frame
public import proofs.«01_k».proof.Proof.Gen.AdamGateUpRefIdeal
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamWo
public import proofs.«01_k».proof.Proof.Gen.AdamWo.Skeleton
public import proofs.«01_k».proof.Proof.Gen.AdamWo.Launch
public import proofs.«01_k».proof.Proof.Gen.AdamWo.Points
public import proofs.«01_k».proof.Proof.Gen.AdamWo.Frame
public import proofs.«01_k».proof.Proof.Gen.AdamWoIdeal
public import proofs.«01_k».proof.Proof.Gen.AdamWoIdeal.Skeleton
public import proofs.«01_k».proof.Proof.Gen.AdamWoIdeal.Launch
public import proofs.«01_k».proof.Proof.Gen.AdamWoIdeal.Points
public import proofs.«01_k».proof.Proof.Gen.AdamWoIdeal.Frame
public import proofs.«01_k».proof.Proof.Gen.AdamWoRefIdeal
public import proofs.«01_k».proof.Proof.Gen.AdamBranch
public import proofs.«01_k».proof.Proof.Gen.AdamBranch.Skeleton
public import proofs.«01_k».proof.Proof.Gen.AdamBranch.Launch
public import proofs.«01_k».proof.Proof.Gen.AdamBranch.Points
public import proofs.«01_k».proof.Proof.Gen.AdamBranch.Frame
public import proofs.«01_k».proof.Proof.Gen.AdamBranchIdeal
public import proofs.«01_k».proof.Proof.Gen.AdamBranchIdeal.Skeleton
public import proofs.«01_k».proof.Proof.Gen.AdamBranchIdeal.Launch
public import proofs.«01_k».proof.Proof.Gen.AdamBranchIdeal.Points
public import proofs.«01_k».proof.Proof.Gen.AdamBranchIdeal.Frame
public import proofs.«01_k».proof.Proof.Gen.AdamBranchRefIdeal
public import proofs.«01_k».proof.Proof.Gen.AdamLora
public import proofs.«01_k».proof.Proof.Gen.AdamLora.Skeleton
public import proofs.«01_k».proof.Proof.Gen.AdamLora.Launch
public import proofs.«01_k».proof.Proof.Gen.AdamLora.Points
public import proofs.«01_k».proof.Proof.Gen.AdamLora.Frame
public import proofs.«01_k».proof.Proof.Gen.AdamLoraIdeal
public import proofs.«01_k».proof.Proof.Gen.AdamLoraIdeal.Skeleton
public import proofs.«01_k».proof.Proof.Gen.AdamLoraIdeal.Launch
public import proofs.«01_k».proof.Proof.Gen.AdamLoraIdeal.Points
public import proofs.«01_k».proof.Proof.Gen.AdamLoraIdeal.Frame
public import proofs.«01_k».proof.Proof.Gen.AdamLoraRefIdeal
public import proofs.«01_k».proof.Proof.Gen.AdamGate
public import proofs.«01_k».proof.Proof.Gen.AdamGate.Skeleton
public import proofs.«01_k».proof.Proof.Gen.AdamGate.Launch
public import proofs.«01_k».proof.Proof.Gen.AdamGate.Points
public import proofs.«01_k».proof.Proof.Gen.AdamGate.Frame
public import proofs.«01_k».proof.Proof.Gen.AdamGateIdeal
public import proofs.«01_k».proof.Proof.Gen.AdamGateIdeal.Skeleton
public import proofs.«01_k».proof.Proof.Gen.AdamGateIdeal.Launch
public import proofs.«01_k».proof.Proof.Gen.AdamGateIdeal.Points
public import proofs.«01_k».proof.Proof.Gen.AdamGateIdeal.Frame
public import proofs.«01_k».proof.Proof.Gen.AdamGateRefIdeal
public import proofs.«01_k».proof.Proof.Gen.AdamMeta
public import proofs.«01_k».proof.Proof.Gen.AdamMeta.Skeleton
public import proofs.«01_k».proof.Proof.Gen.AdamMeta.Launch
public import proofs.«01_k».proof.Proof.Gen.AdamMeta.Points
public import proofs.«01_k».proof.Proof.Gen.AdamMeta.Frame
public import proofs.«01_k».proof.Proof.Gen.AdamMetaIdeal
public import proofs.«01_k».proof.Proof.Gen.AdamMetaIdeal.Skeleton
public import proofs.«01_k».proof.Proof.Gen.AdamMetaIdeal.Launch
public import proofs.«01_k».proof.Proof.Gen.AdamMetaIdeal.Points
public import proofs.«01_k».proof.Proof.Gen.AdamMetaIdeal.Frame
public import proofs.«01_k».proof.Proof.Gen.AdamMetaRefIdeal
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallRefIdeal
public import proofs.«01_k».proof.Proof.Gen.Pre_finite
public import proofs.«01_k».proof.Proof.Gen.ReferenceIdeal.Run
public import proofs.«01_k».proof.Proof.Gen.DownDxIdeal.Value
public import proofs.«01_k».proof.Proof.Gen.DownDxRefIdeal.Run
public import proofs.«01_k».proof.Proof.Gen.DownDwIdeal.Value
public import proofs.«01_k».proof.Proof.Gen.DownDwRefIdeal.Run
public import proofs.«01_k».proof.Proof.Gen.GateUpDxIdeal.Value
public import proofs.«01_k».proof.Proof.Gen.GateUpDxRefIdeal.Run
public import proofs.«01_k».proof.Proof.Gen.GateUpDwIdeal.Value
public import proofs.«01_k».proof.Proof.Gen.GateUpDwRefIdeal.Run
public import proofs.«01_k».proof.Proof.Gen.WoDxIdeal.Value
public import proofs.«01_k».proof.Proof.Gen.WoDxRefIdeal.Run
public import proofs.«01_k».proof.Proof.Gen.WoDwIdeal.Value
public import proofs.«01_k».proof.Proof.Gen.WoDwRefIdeal.Run
public import proofs.«01_k».proof.Proof.Gen.BranchDxIdeal.Value
public import proofs.«01_k».proof.Proof.Gen.BranchDxRefIdeal.Run
public import proofs.«01_k».proof.Proof.Gen.BranchDwIdeal.Value
public import proofs.«01_k».proof.Proof.Gen.BranchDwRefIdeal.Run
public import proofs.«01_k».proof.Proof.Gen.ProjDxIdeal.Value
public import proofs.«01_k».proof.Proof.Gen.ProjDxRefIdeal.Run
public import proofs.«01_k».proof.Proof.Gen.ProjDwIdeal.Value
public import proofs.«01_k».proof.Proof.Gen.ProjDwRefIdeal.Run
public import proofs.«01_k».proof.Proof.Gen.ProjFwdIdeal.Value
public import proofs.«01_k».proof.Proof.Gen.ProjFwdRefIdeal.Run
public import proofs.«01_k».proof.Proof.Gen.BranchFwdIdeal.Value
public import proofs.«01_k».proof.Proof.Gen.BranchFwdRefIdeal.Run
public import proofs.«01_k».proof.Proof.Gen.WoFwdIdeal.Value
public import proofs.«01_k».proof.Proof.Gen.WoFwdRefIdeal.Run
public import proofs.«01_k».proof.Proof.Gen.GateUpFwdIdeal.Value
public import proofs.«01_k».proof.Proof.Gen.GateUpFwdRefIdeal.Run
public import proofs.«01_k».proof.Proof.Gen.DownFwdIdeal.Value
public import proofs.«01_k».proof.Proof.Gen.DownFwdRefIdeal.Run
public import proofs.«01_k».proof.Proof.Gen.SwigluBwdIdeal.Value
public import proofs.«01_k».proof.Proof.Gen.SwigluBwdRefIdeal.Run
public import proofs.«01_k».proof.Proof.Gen.MergeBwdIdeal.Value
public import proofs.«01_k».proof.Proof.Gen.MergeBwdRefIdeal.Run
public import proofs.«01_k».proof.Proof.Gen.RmsBwdIdeal.Value
public import proofs.«01_k».proof.Proof.Gen.RmsBwdRefIdeal.Run
public import proofs.«01_k».proof.Proof.Gen.SwigluFwdIdeal.Value
public import proofs.«01_k».proof.Proof.Gen.SwigluFwdRefIdeal.Run
public import proofs.«01_k».proof.Proof.Gen.MergeFwdIdeal.Value
public import proofs.«01_k».proof.Proof.Gen.MergeFwdRefIdeal.Run
public import proofs.«01_k».proof.Proof.Gen.RmsFwdIdeal.Value
public import proofs.«01_k».proof.Proof.Gen.RmsFwdRefIdeal.Run
public import proofs.«01_k».proof.Proof.Gen.LossIdeal.Value
public import proofs.«01_k».proof.Proof.Gen.LossRefIdeal.Run
public import proofs.«01_k».proof.Proof.Gen.AdamInIdeal.Value
public import proofs.«01_k».proof.Proof.Gen.AdamInRefIdeal.Run
public import proofs.«01_k».proof.Proof.Gen.AdamGateUpIdeal.Value
public import proofs.«01_k».proof.Proof.Gen.AdamGateUpRefIdeal.Run
public import proofs.«01_k».proof.Proof.Gen.AdamDownIdeal.Value
public import proofs.«01_k».proof.Proof.Gen.AdamDownRefIdeal.Run
public import proofs.«01_k».proof.Proof.Gen.AdamWoIdeal.Value
public import proofs.«01_k».proof.Proof.Gen.AdamWoRefIdeal.Run
public import proofs.«01_k».proof.Proof.Gen.AdamBranchIdeal.Value
public import proofs.«01_k».proof.Proof.Gen.AdamBranchRefIdeal.Run
public import proofs.«01_k».proof.Proof.Gen.AdamLoraIdeal.Value
public import proofs.«01_k».proof.Proof.Gen.AdamLoraRefIdeal.Run
public import proofs.«01_k».proof.Proof.Gen.AdamGateIdeal.Value
public import proofs.«01_k».proof.Proof.Gen.AdamGateRefIdeal.Run
public import proofs.«01_k».proof.Proof.Gen.AdamMetaIdeal.Value
public import proofs.«01_k».proof.Proof.Gen.AdamMetaRefIdeal.Run
public import proofs.«01_k».proof.Proof.Gen.AdamSmallIdeal.Value
public import proofs.«01_k».proof.Proof.Gen.AdamSmallRefIdeal.Run
public import proofs.«01_k».proof.Proof.Attention.Claims
public import proofs.«01_k».proof.Proof.Attention.Reference
public import proofs.«01_k».proof.Proof.Attention.Value
public import proofs.«01_k».proof.Proof.Products.DownDx
public import proofs.«01_k».proof.Proof.Products.DownDw
public import proofs.«01_k».proof.Proof.Products.GateUpDx
public import proofs.«01_k».proof.Proof.Products.GateUpDw
public import proofs.«01_k».proof.Proof.Products.WoDx
public import proofs.«01_k».proof.Proof.Products.WoDw
public import proofs.«01_k».proof.Proof.Products.BranchDx
public import proofs.«01_k».proof.Proof.Products.BranchDw
public import proofs.«01_k».proof.Proof.Products.ProjDx
public import proofs.«01_k».proof.Proof.Products.ProjDw
public import proofs.«01_k».proof.Proof.Products.ProjFwd
public import proofs.«01_k».proof.Proof.Products.BranchFwd
public import proofs.«01_k».proof.Proof.Products.WoFwd
public import proofs.«01_k».proof.Proof.Products.GateUpFwd
public import proofs.«01_k».proof.Proof.Products.DownFwd
public import proofs.«01_k».proof.Proof.Gates.SwigluBwd
public import proofs.«01_k».proof.Proof.Gates.MergeBwd
public import proofs.«01_k».proof.Proof.Gates.RmsBwd
public import proofs.«01_k».proof.Proof.Gates.SwigluFwd
public import proofs.«01_k».proof.Proof.Gates.MergeFwd
public import proofs.«01_k».proof.Proof.Gates.RmsFwd
public import proofs.«01_k».proof.Proof.Gates.Loss
public import proofs.«01_k».proof.Proof.Adam.Weights
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.DownDx.Gen.facts, Cert.DownDxIdeal.Gen.facts, Cert.DownDxRefIdeal.Gen.facts, Cert.DownDw.Gen.facts, Cert.DownDwIdeal.Gen.facts, Cert.DownDwRefIdeal.Gen.facts, Cert.GateUpDx.Gen.facts, Cert.GateUpDxIdeal.Gen.facts, Cert.GateUpDxRefIdeal.Gen.facts, Cert.GateUpDw.Gen.facts, Cert.GateUpDwIdeal.Gen.facts, Cert.GateUpDwRefIdeal.Gen.facts, Cert.WoDx.Gen.facts, Cert.WoDxIdeal.Gen.facts, Cert.WoDxRefIdeal.Gen.facts, Cert.WoDw.Gen.facts, Cert.WoDwIdeal.Gen.facts, Cert.WoDwRefIdeal.Gen.facts, Cert.BranchDx.Gen.facts, Cert.BranchDxIdeal.Gen.facts, Cert.BranchDxRefIdeal.Gen.facts, Cert.BranchDw.Gen.facts, Cert.BranchDwIdeal.Gen.facts, Cert.BranchDwRefIdeal.Gen.facts, Cert.ProjDx.Gen.facts, Cert.ProjDxIdeal.Gen.facts, Cert.ProjDxRefIdeal.Gen.facts, Cert.ProjDw.Gen.facts, Cert.ProjDwIdeal.Gen.facts, Cert.ProjDwRefIdeal.Gen.facts, Cert.ProjFwd.Gen.facts, Cert.ProjFwdIdeal.Gen.facts, Cert.ProjFwdRefIdeal.Gen.facts, Cert.BranchFwd.Gen.facts, Cert.BranchFwdIdeal.Gen.facts, Cert.BranchFwdRefIdeal.Gen.facts, Cert.WoFwd.Gen.facts, Cert.WoFwdIdeal.Gen.facts, Cert.WoFwdRefIdeal.Gen.facts, Cert.GateUpFwd.Gen.facts, Cert.GateUpFwdIdeal.Gen.facts, Cert.GateUpFwdRefIdeal.Gen.facts, Cert.DownFwd.Gen.facts, Cert.DownFwdIdeal.Gen.facts, Cert.DownFwdRefIdeal.Gen.facts, Cert.SwigluBwd.Gen.facts, Cert.SwigluBwdIdeal.Gen.facts, Cert.SwigluBwdRefIdeal.Gen.facts, Cert.MergeBwd.Gen.facts, Cert.MergeBwdIdeal.Gen.facts, Cert.MergeBwdRefIdeal.Gen.facts, Cert.RmsBwd.Gen.facts, Cert.RmsBwdIdeal.Gen.facts, Cert.RmsBwdRefIdeal.Gen.facts, Cert.SwigluFwd.Gen.facts, Cert.SwigluFwdIdeal.Gen.facts, Cert.SwigluFwdRefIdeal.Gen.facts, Cert.MergeFwd.Gen.facts, Cert.MergeFwdIdeal.Gen.facts, Cert.MergeFwdRefIdeal.Gen.facts, Cert.RmsFwd.Gen.facts, Cert.RmsFwdIdeal.Gen.facts, Cert.RmsFwdRefIdeal.Gen.facts, Cert.Loss.Gen.facts, Cert.LossIdeal.Gen.facts, Cert.LossRefIdeal.Gen.facts, Cert.AdamIn.Gen.facts, Cert.AdamInIdeal.Gen.facts, Cert.AdamInRefIdeal.Gen.facts, Cert.AdamGateUp.Gen.facts, Cert.AdamGateUpIdeal.Gen.facts, Cert.AdamGateUpRefIdeal.Gen.facts, Cert.AdamDown.Gen.facts, Cert.AdamDownIdeal.Gen.facts, Cert.AdamDownRefIdeal.Gen.facts, Cert.AdamWo.Gen.facts, Cert.AdamWoIdeal.Gen.facts, Cert.AdamWoRefIdeal.Gen.facts, Cert.AdamBranch.Gen.facts, Cert.AdamBranchIdeal.Gen.facts, Cert.AdamBranchRefIdeal.Gen.facts, Cert.AdamLora.Gen.facts, Cert.AdamLoraIdeal.Gen.facts, Cert.AdamLoraRefIdeal.Gen.facts, Cert.AdamGate.Gen.facts, Cert.AdamGateIdeal.Gen.facts, Cert.AdamGateRefIdeal.Gen.facts, Cert.AdamMeta.Gen.facts, Cert.AdamMetaIdeal.Gen.facts, Cert.AdamMetaRefIdeal.Gen.facts, Cert.AdamSmall.Gen.facts, Cert.AdamSmallIdeal.Gen.facts, Cert.AdamSmallRefIdeal.Gen.facts, Cert.Pre_finite.Gen.facts, by
  exact ⟨Cert.KernelIdeal.Attn.frame_kernel,
    Cert.KernelIdeal.Attn.frame_ideal,
    Cert.KernelIdeal.Attn.frame_ideal_finite,
    Cert.KernelIdeal.Attn.frame_ref,
    Cert.KernelIdeal.Attn.frame_ref_finite,
    fun m ρ _ => Cert.DownDx.Gen.frame m ρ,
    fun m ρ _ => Cert.DownDxIdeal.Gen.frame m ρ,
    Cert.DownDxIdeal.Hand.frame_ref,
    fun m ρ _ => Cert.DownDw.Gen.frame m ρ,
    fun m ρ _ => Cert.DownDwIdeal.Gen.frame m ρ,
    Cert.DownDwIdeal.Hand.frame_ref,
    fun m ρ _ => Cert.GateUpDx.Gen.frame m ρ,
    fun m ρ _ => Cert.GateUpDxIdeal.Gen.frame m ρ,
    Cert.GateUpDxIdeal.Hand.frame_ref,
    fun m ρ _ => Cert.GateUpDw.Gen.frame m ρ,
    fun m ρ _ => Cert.GateUpDwIdeal.Gen.frame m ρ,
    Cert.GateUpDwIdeal.Hand.frame_ref,
    fun m ρ _ => Cert.WoDx.Gen.frame m ρ,
    fun m ρ _ => Cert.WoDxIdeal.Gen.frame m ρ,
    Cert.WoDxIdeal.Hand.frame_ref,
    fun m ρ _ => Cert.WoDw.Gen.frame m ρ,
    fun m ρ _ => Cert.WoDwIdeal.Gen.frame m ρ,
    Cert.WoDwIdeal.Hand.frame_ref,
    fun m ρ _ => Cert.BranchDx.Gen.frame m ρ,
    fun m ρ _ => Cert.BranchDxIdeal.Gen.frame m ρ,
    Cert.BranchDxIdeal.Hand.frame_ref,
    fun m ρ _ => Cert.BranchDw.Gen.frame m ρ,
    fun m ρ _ => Cert.BranchDwIdeal.Gen.frame m ρ,
    Cert.BranchDwIdeal.Hand.frame_ref,
    fun m ρ _ => Cert.ProjDx.Gen.frame m ρ,
    fun m ρ _ => Cert.ProjDxIdeal.Gen.frame m ρ,
    Cert.ProjDxIdeal.Hand.frame_ref,
    fun m ρ _ => Cert.ProjDw.Gen.frame m ρ,
    fun m ρ _ => Cert.ProjDwIdeal.Gen.frame m ρ,
    Cert.ProjDwIdeal.Hand.frame_ref,
    fun m ρ _ => Cert.ProjFwd.Gen.frame m ρ,
    fun m ρ _ => Cert.ProjFwdIdeal.Gen.frame m ρ,
    Cert.ProjFwdIdeal.Hand.frame_ref,
    fun m ρ _ => Cert.BranchFwd.Gen.frame m ρ,
    fun m ρ _ => Cert.BranchFwdIdeal.Gen.frame m ρ,
    Cert.BranchFwdIdeal.Hand.frame_ref,
    fun m ρ _ => Cert.WoFwd.Gen.frame m ρ,
    fun m ρ _ => Cert.WoFwdIdeal.Gen.frame m ρ,
    Cert.WoFwdIdeal.Hand.frame_ref,
    fun m ρ _ => Cert.GateUpFwd.Gen.frame m ρ,
    fun m ρ _ => Cert.GateUpFwdIdeal.Gen.frame m ρ,
    Cert.GateUpFwdIdeal.Hand.frame_ref,
    fun m ρ _ => Cert.DownFwd.Gen.frame m ρ,
    fun m ρ _ => Cert.DownFwdIdeal.Gen.frame m ρ,
    Cert.DownFwdIdeal.Hand.frame_ref,
    fun m ρ _ => Cert.SwigluBwd.Gen.frame m ρ,
    fun m ρ _ => Cert.SwigluBwdIdeal.Gen.frame m ρ,
    Cert.SwigluBwdRefIdeal.Hand.frame_ref,
    fun m ρ _ => Cert.MergeBwd.Gen.frame m ρ,
    fun m ρ _ => Cert.MergeBwdIdeal.Gen.frame m ρ,
    Cert.MergeBwdIdeal.Hand.frame_ref,
    fun m ρ _ => Cert.RmsBwd.Gen.frame m ρ,
    fun m ρ _ => Cert.RmsBwdIdeal.Gen.frame m ρ,
    Cert.RmsBwdIdeal.Hand.frame_ref,
    fun m ρ _ => Cert.SwigluFwd.Gen.frame m ρ,
    fun m ρ _ => Cert.SwigluFwdIdeal.Gen.frame m ρ,
    Cert.SwigluFwdRefIdeal.Hand.frame_ref,
    fun m ρ _ => Cert.MergeFwd.Gen.frame m ρ,
    fun m ρ _ => Cert.MergeFwdIdeal.Gen.frame m ρ,
    Cert.MergeFwdIdeal.Hand.frame_ref,
    fun m ρ _ => Cert.RmsFwd.Gen.frame m ρ,
    fun m ρ _ => Cert.RmsFwdIdeal.Gen.frame m ρ,
    Cert.RmsFwdIdeal.Hand.frame_ref,
    fun m ρ _ => Cert.Loss.Gen.frame m ρ,
    fun m ρ _ => Cert.LossIdeal.Gen.frame m ρ,
    Cert.LossIdeal.Hand.frame_ref,
    fun m ρ _ => Cert.AdamIn.Gen.frame m ρ,
    fun m ρ _ => Cert.AdamInIdeal.Gen.frame m ρ,
    Cert.Adam.frame_In,
    fun m ρ _ => Cert.AdamGateUp.Gen.frame m ρ,
    fun m ρ _ => Cert.AdamGateUpIdeal.Gen.frame m ρ,
    Cert.Adam.frame_GateUp,
    fun m ρ _ => Cert.AdamDown.Gen.frame m ρ,
    fun m ρ _ => Cert.AdamDownIdeal.Gen.frame m ρ,
    Cert.Adam.frame_Down,
    fun m ρ _ => Cert.AdamWo.Gen.frame m ρ,
    fun m ρ _ => Cert.AdamWoIdeal.Gen.frame m ρ,
    Cert.Adam.frame_Wo,
    fun m ρ _ => Cert.AdamBranch.Gen.frame m ρ,
    fun m ρ _ => Cert.AdamBranchIdeal.Gen.frame m ρ,
    Cert.Adam.frame_Branch,
    fun m ρ _ => Cert.AdamLora.Gen.frame m ρ,
    fun m ρ _ => Cert.AdamLoraIdeal.Gen.frame m ρ,
    Cert.Adam.frame_Lora,
    fun m ρ _ => Cert.AdamGate.Gen.frame m ρ,
    fun m ρ _ => Cert.AdamGateIdeal.Gen.frame m ρ,
    Cert.Adam.frame_Gate,
    fun m ρ _ => Cert.AdamMeta.Gen.frame m ρ,
    fun m ρ _ => Cert.AdamMetaIdeal.Gen.frame m ρ,
    Cert.Adam.frame_Meta,
    fun m ρ _ => Cert.AdamSmall.Gen.frame m ρ,
    fun m ρ _ => Cert.AdamSmallIdeal.Gen.frame m ρ,
    Cert.Adam.frame_Small,
    trivial,
    Cert.KernelIdeal.Attn.algebraic,
    trivial,
    Cert.DownDxIdeal.Hand.algebraic,
    trivial,
    Cert.DownDwIdeal.Hand.algebraic,
    trivial,
    Cert.GateUpDxIdeal.Hand.algebraic,
    trivial,
    Cert.GateUpDwIdeal.Hand.algebraic,
    trivial,
    Cert.WoDxIdeal.Hand.algebraic,
    trivial,
    Cert.WoDwIdeal.Hand.algebraic,
    trivial,
    Cert.BranchDxIdeal.Hand.algebraic,
    trivial,
    Cert.BranchDwIdeal.Hand.algebraic,
    trivial,
    Cert.ProjDxIdeal.Hand.algebraic,
    trivial,
    Cert.ProjDwIdeal.Hand.algebraic,
    trivial,
    Cert.ProjFwdIdeal.Hand.algebraic,
    trivial,
    Cert.BranchFwdIdeal.Hand.algebraic,
    trivial,
    Cert.WoFwdIdeal.Hand.algebraic,
    trivial,
    Cert.GateUpFwdIdeal.Hand.algebraic,
    trivial,
    Cert.DownFwdIdeal.Hand.algebraic,
    trivial,
    Cert.SwigluBwdRefIdeal.Hand.algebraic,
    trivial,
    Cert.MergeBwdIdeal.Hand.algebraic,
    trivial,
    Cert.RmsBwdIdeal.Hand.algebraic,
    trivial,
    Cert.SwigluFwdRefIdeal.Hand.algebraic,
    trivial,
    Cert.MergeFwdIdeal.Hand.algebraic,
    trivial,
    Cert.RmsFwdIdeal.Hand.algebraic,
    trivial,
    Cert.LossIdeal.Hand.algebraic,
    trivial,
    Cert.Adam.algebraic_In,
    trivial,
    Cert.Adam.algebraic_GateUp,
    trivial,
    Cert.Adam.algebraic_Down,
    trivial,
    Cert.Adam.algebraic_Wo,
    trivial,
    Cert.Adam.algebraic_Branch,
    trivial,
    Cert.Adam.algebraic_Lora,
    trivial,
    Cert.Adam.algebraic_Gate,
    trivial,
    Cert.Adam.algebraic_Meta,
    trivial,
    Cert.Adam.algebraic_Small⟩⟩

end Cert.Proof
